-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_KernelQkv (m : (ℓ : Loc Cert.KernelQkv.nD Cert.KernelQkv.τ Cert.KernelQkv.sig) → Buf (Elt Bits) ℓ) : Prop :=
  True

def Pre_KernelQkvIdeal (m : (ℓ : Loc Cert.KernelQkvIdeal.nD Cert.KernelQkvIdeal.τ Cert.KernelQkvIdeal.sig) → Buf (Elt Ideal) ℓ) : Prop :=
  True

def Pre_ReferenceQkvIdeal (m : (ℓ : Loc Cert.ReferenceQkvIdeal.nD Cert.ReferenceQkvIdeal.τ Cert.ReferenceQkvIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelCd (m : (ℓ : Loc Cert.KernelCd.nD Cert.KernelCd.τ Cert.KernelCd.sig) → Buf (Elt Bits) ℓ) : Prop :=
  True

def Pre_KernelCdIdeal (m : (ℓ : Loc Cert.KernelCdIdeal.nD Cert.KernelCdIdeal.τ Cert.KernelCdIdeal.sig) → Buf (Elt Ideal) ℓ) : Prop :=
  True

def Pre_ReferenceCdIdeal (m : (ℓ : Loc Cert.ReferenceCdIdeal.nD Cert.ReferenceCdIdeal.τ Cert.ReferenceCdIdeal.sig) → Buf (Elt Ideal) ℓ) : Prop :=
  True

def Pre_KernelQt (m : (ℓ : Loc Cert.KernelQt.nD Cert.KernelQt.τ Cert.KernelQt.sig) → Buf (Elt Bits) ℓ) : Prop :=
  True

def Pre_KernelQtIdeal (m : (ℓ : Loc Cert.KernelQtIdeal.nD Cert.KernelQtIdeal.τ Cert.KernelQtIdeal.sig) → Buf (Elt Ideal) ℓ) : Prop :=
  True

def Pre_ReferenceQtIdeal (m : (ℓ : Loc Cert.ReferenceQtIdeal.nD Cert.ReferenceQtIdeal.τ Cert.ReferenceQtIdeal.sig) → Buf (Elt Ideal) ℓ) : Prop :=
  True

def Pre_KernelLat (m : (ℓ : Loc Cert.KernelLat.nD Cert.KernelLat.τ Cert.KernelLat.sig) → Buf (Elt Bits) ℓ) : Prop :=
  True

def Pre_KernelLatIdeal (m : (ℓ : Loc Cert.KernelLatIdeal.nD Cert.KernelLatIdeal.τ Cert.KernelLatIdeal.sig) → Buf (Elt Ideal) ℓ) : Prop :=
  True

def Pre_ReferenceLatIdeal (m : (ℓ : Loc Cert.ReferenceLatIdeal.nD Cert.ReferenceLatIdeal.τ Cert.ReferenceLatIdeal.sig) → Buf (Elt Ideal) ℓ) : Prop :=
  True

def Pre_KernelUkv (m : (ℓ : Loc Cert.KernelUkv.nD Cert.KernelUkv.τ Cert.KernelUkv.sig) → Buf (Elt Bits) ℓ) : Prop :=
  True

def Pre_KernelUkvIdeal (m : (ℓ : Loc Cert.KernelUkvIdeal.nD Cert.KernelUkvIdeal.τ Cert.KernelUkvIdeal.sig) → Buf (Elt Ideal) ℓ) : Prop :=
  True

def Pre_ReferenceUkvIdeal (m : (ℓ : Loc Cert.ReferenceUkvIdeal.nD Cert.ReferenceUkvIdeal.τ Cert.ReferenceUkvIdeal.sig) → Buf (Elt Ideal) ℓ) : Prop :=
  True

def Pre_KernelMq (m : (ℓ : Loc Cert.KernelMq.nD Cert.KernelMq.τ Cert.KernelMq.sig) → Buf (Elt Bits) ℓ) : Prop :=
  True

def Pre_KernelMqIdeal (m : (ℓ : Loc Cert.KernelMqIdeal.nD Cert.KernelMqIdeal.τ Cert.KernelMqIdeal.sig) → Buf (Elt Ideal) ℓ) : Prop :=
  True

def Pre_ReferenceMqIdeal (m : (ℓ : Loc Cert.ReferenceMqIdeal.nD Cert.ReferenceMqIdeal.τ Cert.ReferenceMqIdeal.sig) → Buf (Elt Ideal) ℓ) : Prop :=
  True

def Pre_KernelMkv (m : (ℓ : Loc Cert.KernelMkv.nD Cert.KernelMkv.τ Cert.KernelMkv.sig) → Buf (Elt Bits) ℓ) : Prop :=
  True

def Pre_KernelMkvIdeal (m : (ℓ : Loc Cert.KernelMkvIdeal.nD Cert.KernelMkvIdeal.τ Cert.KernelMkvIdeal.sig) → Buf (Elt Ideal) ℓ) : Prop :=
  True

def Pre_ReferenceMkvIdeal (m : (ℓ : Loc Cert.ReferenceMkvIdeal.nD Cert.ReferenceMkvIdeal.τ Cert.ReferenceMkvIdeal.sig) → Buf (Elt Ideal) ℓ) : Prop :=
  True

def Pre_KernelQi (m : (ℓ : Loc Cert.KernelQi.nD Cert.KernelQi.τ Cert.KernelQi.sig) → Buf (Elt Bits) ℓ) : Prop :=
  True

def Pre_KernelQiIdeal (m : (ℓ : Loc Cert.KernelQiIdeal.nD Cert.KernelQiIdeal.τ Cert.KernelQiIdeal.sig) → Buf (Elt Ideal) ℓ) : Prop :=
  True

def Pre_ReferenceQiIdeal (m : (ℓ : Loc Cert.ReferenceQiIdeal.nD Cert.ReferenceQiIdeal.τ Cert.ReferenceQiIdeal.sig) → Buf (Elt Ideal) ℓ) : Prop :=
  True

def Pre_KernelMo (m : (ℓ : Loc Cert.KernelMo.nD Cert.KernelMo.τ Cert.KernelMo.sig) → Buf (Elt Bits) ℓ) : Prop :=
  True

def Pre_KernelMoIdeal (m : (ℓ : Loc Cert.KernelMoIdeal.nD Cert.KernelMoIdeal.τ Cert.KernelMoIdeal.sig) → Buf (Elt Ideal) ℓ) : Prop :=
  True

def Pre_ReferenceMoIdeal (m : (ℓ : Loc Cert.ReferenceMoIdeal.nD Cert.ReferenceMoIdeal.τ Cert.ReferenceMoIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelUq (m : (ℓ : Loc Cert.KernelUq.nD Cert.KernelUq.τ Cert.KernelUq.sig) → Buf (Elt Bits) ℓ) : Prop :=
  True

def Pre_KernelUqIdeal (m : (ℓ : Loc Cert.KernelUqIdeal.nD Cert.KernelUqIdeal.τ Cert.KernelUqIdeal.sig) → Buf (Elt Ideal) ℓ) : Prop :=
  True

def Pre_ReferenceUqIdeal (m : (ℓ : Loc Cert.ReferenceUqIdeal.nD Cert.ReferenceUqIdeal.τ Cert.ReferenceUqIdeal.sig) → Buf (Elt Ideal) ℓ) : Prop :=
  True

def Pre_KernelPb (m : (ℓ : Loc Cert.KernelPb.nD Cert.KernelPb.τ Cert.KernelPb.sig) → Buf (Elt Bits) ℓ) : Prop :=
  True

def Pre_KernelPbIdeal (m : (ℓ : Loc Cert.KernelPbIdeal.nD Cert.KernelPbIdeal.τ Cert.KernelPbIdeal.sig) → Buf (Elt Ideal) ℓ) : Prop :=
  True

def Pre_ReferencePbIdeal (m : (ℓ : Loc Cert.ReferencePbIdeal.nD Cert.ReferencePbIdeal.τ Cert.ReferencePbIdeal.sig) → Buf (Elt Ideal) ℓ) : Prop :=
  True

def Pre_KernelRk (m : (ℓ : Loc Cert.KernelRk.nD Cert.KernelRk.τ Cert.KernelRk.sig) → Buf (Elt Bits) ℓ) : Prop :=
  True

def Pre_KernelRkIdeal (m : (ℓ : Loc Cert.KernelRkIdeal.nD Cert.KernelRkIdeal.τ Cert.KernelRkIdeal.sig) → Buf (Elt Ideal) ℓ) : Prop :=
  True

def Pre_ReferenceRkIdeal (m : (ℓ : Loc Cert.ReferenceRkIdeal.nD Cert.ReferenceRkIdeal.τ Cert.ReferenceRkIdeal.sig) → Buf (Elt Ideal) ℓ) : Prop :=
  True

def Pre_KernelKi (m : (ℓ : Loc Cert.KernelKi.nD Cert.KernelKi.τ Cert.KernelKi.sig) → Buf (Elt Bits) ℓ) : Prop :=
  True

def Pre_KernelKiIdeal (m : (ℓ : Loc Cert.KernelKiIdeal.nD Cert.KernelKiIdeal.τ Cert.KernelKiIdeal.sig) → Buf (Elt Ideal) ℓ) : Prop :=
  True

def Pre_ReferenceKiIdeal (m : (ℓ : Loc Cert.ReferenceKiIdeal.nD Cert.ReferenceKiIdeal.τ Cert.ReferenceKiIdeal.sig) → Buf (Elt Ideal) ℓ) : Prop :=
  True

def Pre_KernelEx (m : (ℓ : Loc Cert.KernelEx.nD Cert.KernelEx.τ Cert.KernelEx.sig) → Buf (Elt Bits) ℓ) : Prop :=
  True

def Pre_KernelExIdeal (m : (ℓ : Loc Cert.KernelExIdeal.nD Cert.KernelExIdeal.τ Cert.KernelExIdeal.sig) → Buf (Elt Ideal) ℓ) : Prop :=
  True

def Pre_ReferenceExIdeal (m : (ℓ : Loc Cert.ReferenceExIdeal.nD Cert.ReferenceExIdeal.τ Cert.ReferenceExIdeal.sig) → Buf (Elt Ideal) ℓ) : Prop :=
  True

def Pre_KernelEy (m : (ℓ : Loc Cert.KernelEy.nD Cert.KernelEy.τ Cert.KernelEy.sig) → Buf (Elt Bits) ℓ) : Prop :=
  True

def Pre_KernelEyIdeal (m : (ℓ : Loc Cert.KernelEyIdeal.nD Cert.KernelEyIdeal.τ Cert.KernelEyIdeal.sig) → Buf (Elt Ideal) ℓ) : Prop :=
  True

def Pre_ReferenceEyIdeal (m : (ℓ : Loc Cert.ReferenceEyIdeal.nD Cert.ReferenceEyIdeal.τ Cert.ReferenceEyIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelQkv [hKernelQkv : Cert.KernelQkv.Facts] : Prop :=
  ∀ (m : (ℓ : Loc Cert.KernelQkv.nD Cert.KernelQkv.τ Cert.KernelQkv.sig) → Buf (Elt Bits) ℓ) (g : Dev Cert.KernelQkv.nD → PrngReg), Pre_KernelQkv m →
    θ_run (Cert.KernelQkv.defs (F := Bits)) (onTc (τ := Cert.KernelQkv.τ) (Cert.KernelQkv.main (F := Bits))) ⟨m, fun _ => 0, g⟩ (fun r => (∀ c : Dev Cert.KernelQkv.nD,
      r.2.mem ((c.tc : Thread Cert.KernelQkv.nD Cert.KernelQkv.τ).loc Cert.KernelQkv.main_arg0) = m ((c.tc : Thread Cert.KernelQkv.nD Cert.KernelQkv.τ).loc Cert.KernelQkv.main_arg0)
      ∧ r.2.mem ((c.tc : Thread Cert.KernelQkv.nD Cert.KernelQkv.τ).loc Cert.KernelQkv.main_arg1) = m ((c.tc : Thread Cert.KernelQkv.nD Cert.KernelQkv.τ).loc Cert.KernelQkv.main_arg1))
      ∧ r.2.sem = fun _ => 0)

def quiescent_KernelQkvIdeal [hKernelQkvIdeal : Cert.KernelQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg), Pre_KernelQkvIdeal m →
    θ_run (Cert.KernelQkvIdeal.defs (F := Ideal)) (onTc (τ := Cert.KernelQkvIdeal.τ) (Cert.KernelQkvIdeal.main (F := Ideal))) ⟨m, fun _ => 0, g⟩ (fun r => (∀ c : Dev Cert.KernelQkvIdeal.nD,
      r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
      ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ r.2.sem = fun _ => 0)

def quiescent_ReferenceQkvIdeal [hReferenceQkvIdeal : Cert.ReferenceQkvIdeal.Facts] : Prop :=
  ∀ (m : (ℓ : Loc Cert.ReferenceQkvIdeal.nD Cert.ReferenceQkvIdeal.τ Cert.ReferenceQkvIdeal.sig) → Buf (Elt Ideal) ℓ) (g : Dev Cert.ReferenceQkvIdeal.nD → PrngReg), Pre_ReferenceQkvIdeal m →
    θ_run (Cert.ReferenceQkvIdeal.defs (F := Ideal)) (onTc (τ := Cert.ReferenceQkvIdeal.τ) (Cert.ReferenceQkvIdeal.main (F := Ideal))) ⟨m, fun _ => 0, g⟩ (fun r => (∀ c : Dev Cert.ReferenceQkvIdeal.nD,
      r.2.mem ((c.tc : Thread Cert.ReferenceQkvIdeal.nD Cert.ReferenceQkvIdeal.τ).loc Cert.ReferenceQkvIdeal.main_arg0) = m ((c.tc : Thread Cert.ReferenceQkvIdeal.nD Cert.ReferenceQkvIdeal.τ).loc Cert.ReferenceQkvIdeal.main_arg0)
      ∧ r.2.mem ((c.tc : Thread Cert.ReferenceQkvIdeal.nD Cert.ReferenceQkvIdeal.τ).loc Cert.ReferenceQkvIdeal.main_arg1) = m ((c.tc : Thread Cert.ReferenceQkvIdeal.nD Cert.ReferenceQkvIdeal.τ).loc Cert.ReferenceQkvIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelCd [hKernelCd : Cert.KernelCd.Facts] : Prop :=
  ∀ (m : (ℓ : Loc Cert.KernelCd.nD Cert.KernelCd.τ Cert.KernelCd.sig) → Buf (Elt Bits) ℓ) (g : Dev Cert.KernelCd.nD → PrngReg), Pre_KernelCd m →
    θ_run (Cert.KernelCd.defs (F := Bits)) (onTc (τ := Cert.KernelCd.τ) (Cert.KernelCd.main (F := Bits))) ⟨m, fun _ => 0, g⟩ (fun r => (∀ c : Dev Cert.KernelCd.nD,
      r.2.mem ((c.tc : Thread Cert.KernelCd.nD Cert.KernelCd.τ).loc Cert.KernelCd.main_arg0) = m ((c.tc : Thread Cert.KernelCd.nD Cert.KernelCd.τ).loc Cert.KernelCd.main_arg0)
      ∧ r.2.mem ((c.tc : Thread Cert.KernelCd.nD Cert.KernelCd.τ).loc Cert.KernelCd.main_arg1) = m ((c.tc : Thread Cert.KernelCd.nD Cert.KernelCd.τ).loc Cert.KernelCd.main_arg1))
      ∧ r.2.sem = fun _ => 0)

def quiescent_KernelCdIdeal [hKernelCdIdeal : Cert.KernelCdIdeal.Facts] : Prop :=
  ∀ (m : (ℓ : Loc Cert.KernelCdIdeal.nD Cert.KernelCdIdeal.τ Cert.KernelCdIdeal.sig) → Buf (Elt Ideal) ℓ) (g : Dev Cert.KernelCdIdeal.nD → PrngReg), Pre_KernelCdIdeal m →
    θ_run (Cert.KernelCdIdeal.defs (F := Ideal)) (onTc (τ := Cert.KernelCdIdeal.τ) (Cert.KernelCdIdeal.main (F := Ideal))) ⟨m, fun _ => 0, g⟩ (fun r => (∀ c : Dev Cert.KernelCdIdeal.nD,
      r.2.mem ((c.tc : Thread Cert.KernelCdIdeal.nD Cert.KernelCdIdeal.τ).loc Cert.KernelCdIdeal.main_arg0) = m ((c.tc : Thread Cert.KernelCdIdeal.nD Cert.KernelCdIdeal.τ).loc Cert.KernelCdIdeal.main_arg0)
      ∧ r.2.mem ((c.tc : Thread Cert.KernelCdIdeal.nD Cert.KernelCdIdeal.τ).loc Cert.KernelCdIdeal.main_arg1) = m ((c.tc : Thread Cert.KernelCdIdeal.nD Cert.KernelCdIdeal.τ).loc Cert.KernelCdIdeal.main_arg1))
      ∧ r.2.sem = fun _ => 0)

def quiescent_ReferenceCdIdeal [hReferenceCdIdeal : Cert.ReferenceCdIdeal.Facts] : Prop :=
  ∀ (m : (ℓ : Loc Cert.ReferenceCdIdeal.nD Cert.ReferenceCdIdeal.τ Cert.ReferenceCdIdeal.sig) → Buf (Elt Ideal) ℓ) (g : Dev Cert.ReferenceCdIdeal.nD → PrngReg), Pre_ReferenceCdIdeal m →
    θ_run (Cert.ReferenceCdIdeal.defs (F := Ideal)) (onTc (τ := Cert.ReferenceCdIdeal.τ) (Cert.ReferenceCdIdeal.main (F := Ideal))) ⟨m, fun _ => 0, g⟩ (fun r => (∀ c : Dev Cert.ReferenceCdIdeal.nD,
      r.2.mem ((c.tc : Thread Cert.ReferenceCdIdeal.nD Cert.ReferenceCdIdeal.τ).loc Cert.ReferenceCdIdeal.main_arg0) = m ((c.tc : Thread Cert.ReferenceCdIdeal.nD Cert.ReferenceCdIdeal.τ).loc Cert.ReferenceCdIdeal.main_arg0)
      ∧ r.2.mem ((c.tc : Thread Cert.ReferenceCdIdeal.nD Cert.ReferenceCdIdeal.τ).loc Cert.ReferenceCdIdeal.main_arg1) = m ((c.tc : Thread Cert.ReferenceCdIdeal.nD Cert.ReferenceCdIdeal.τ).loc Cert.ReferenceCdIdeal.main_arg1))
      ∧ r.2.sem = fun _ => 0)

def quiescent_KernelQt [hKernelQt : Cert.KernelQt.Facts] : Prop :=
  ∀ (m : (ℓ : Loc Cert.KernelQt.nD Cert.KernelQt.τ Cert.KernelQt.sig) → Buf (Elt Bits) ℓ) (g : Dev Cert.KernelQt.nD → PrngReg), Pre_KernelQt m →
    θ_run (Cert.KernelQt.defs (F := Bits)) (onTc (τ := Cert.KernelQt.τ) (Cert.KernelQt.main (F := Bits))) ⟨m, fun _ => 0, g⟩ (fun r => (∀ c : Dev Cert.KernelQt.nD,
      r.2.mem ((c.tc : Thread Cert.KernelQt.nD Cert.KernelQt.τ).loc Cert.KernelQt.main_arg0) = m ((c.tc : Thread Cert.KernelQt.nD Cert.KernelQt.τ).loc Cert.KernelQt.main_arg0)
      ∧ r.2.mem ((c.tc : Thread Cert.KernelQt.nD Cert.KernelQt.τ).loc Cert.KernelQt.main_arg1) = m ((c.tc : Thread Cert.KernelQt.nD Cert.KernelQt.τ).loc Cert.KernelQt.main_arg1))
      ∧ r.2.sem = fun _ => 0)

def quiescent_KernelQtIdeal [hKernelQtIdeal : Cert.KernelQtIdeal.Facts] : Prop :=
  ∀ (m : (ℓ : Loc Cert.KernelQtIdeal.nD Cert.KernelQtIdeal.τ Cert.KernelQtIdeal.sig) → Buf (Elt Ideal) ℓ) (g : Dev Cert.KernelQtIdeal.nD → PrngReg), Pre_KernelQtIdeal m →
    θ_run (Cert.KernelQtIdeal.defs (F := Ideal)) (onTc (τ := Cert.KernelQtIdeal.τ) (Cert.KernelQtIdeal.main (F := Ideal))) ⟨m, fun _ => 0, g⟩ (fun r => (∀ c : Dev Cert.KernelQtIdeal.nD,
      r.2.mem ((c.tc : Thread Cert.KernelQtIdeal.nD Cert.KernelQtIdeal.τ).loc Cert.KernelQtIdeal.main_arg0) = m ((c.tc : Thread Cert.KernelQtIdeal.nD Cert.KernelQtIdeal.τ).loc Cert.KernelQtIdeal.main_arg0)
      ∧ r.2.mem ((c.tc : Thread Cert.KernelQtIdeal.nD Cert.KernelQtIdeal.τ).loc Cert.KernelQtIdeal.main_arg1) = m ((c.tc : Thread Cert.KernelQtIdeal.nD Cert.KernelQtIdeal.τ).loc Cert.KernelQtIdeal.main_arg1))
      ∧ r.2.sem = fun _ => 0)

def quiescent_ReferenceQtIdeal [hReferenceQtIdeal : Cert.ReferenceQtIdeal.Facts] : Prop :=
  ∀ (m : (ℓ : Loc Cert.ReferenceQtIdeal.nD Cert.ReferenceQtIdeal.τ Cert.ReferenceQtIdeal.sig) → Buf (Elt Ideal) ℓ) (g : Dev Cert.ReferenceQtIdeal.nD → PrngReg), Pre_ReferenceQtIdeal m →
    θ_run (Cert.ReferenceQtIdeal.defs (F := Ideal)) (onTc (τ := Cert.ReferenceQtIdeal.τ) (Cert.ReferenceQtIdeal.main (F := Ideal))) ⟨m, fun _ => 0, g⟩ (fun r => (∀ c : Dev Cert.ReferenceQtIdeal.nD,
      r.2.mem ((c.tc : Thread Cert.ReferenceQtIdeal.nD Cert.ReferenceQtIdeal.τ).loc Cert.ReferenceQtIdeal.main_arg0) = m ((c.tc : Thread Cert.ReferenceQtIdeal.nD Cert.ReferenceQtIdeal.τ).loc Cert.ReferenceQtIdeal.main_arg0)
      ∧ r.2.mem ((c.tc : Thread Cert.ReferenceQtIdeal.nD Cert.ReferenceQtIdeal.τ).loc Cert.ReferenceQtIdeal.main_arg1) = m ((c.tc : Thread Cert.ReferenceQtIdeal.nD Cert.ReferenceQtIdeal.τ).loc Cert.ReferenceQtIdeal.main_arg1))
      ∧ r.2.sem = fun _ => 0)

def quiescent_KernelLat [hKernelLat : Cert.KernelLat.Facts] : Prop :=
  ∀ (m : (ℓ : Loc Cert.KernelLat.nD Cert.KernelLat.τ Cert.KernelLat.sig) → Buf (Elt Bits) ℓ) (g : Dev Cert.KernelLat.nD → PrngReg), Pre_KernelLat m →
    θ_run (Cert.KernelLat.defs (F := Bits)) (onTc (τ := Cert.KernelLat.τ) (Cert.KernelLat.main (F := Bits))) ⟨m, fun _ => 0, g⟩ (fun r => (∀ c : Dev Cert.KernelLat.nD,
      r.2.mem ((c.tc : Thread Cert.KernelLat.nD Cert.KernelLat.τ).loc Cert.KernelLat.main_arg0) = m ((c.tc : Thread Cert.KernelLat.nD Cert.KernelLat.τ).loc Cert.KernelLat.main_arg0)
      ∧ r.2.mem ((c.tc : Thread Cert.KernelLat.nD Cert.KernelLat.τ).loc Cert.KernelLat.main_arg1) = m ((c.tc : Thread Cert.KernelLat.nD Cert.KernelLat.τ).loc Cert.KernelLat.main_arg1))
      ∧ r.2.sem = fun _ => 0)

def quiescent_KernelLatIdeal [hKernelLatIdeal : Cert.KernelLatIdeal.Facts] : Prop :=
  ∀ (m : (ℓ : Loc Cert.KernelLatIdeal.nD Cert.KernelLatIdeal.τ Cert.KernelLatIdeal.sig) → Buf (Elt Ideal) ℓ) (g : Dev Cert.KernelLatIdeal.nD → PrngReg), Pre_KernelLatIdeal m →
    θ_run (Cert.KernelLatIdeal.defs (F := Ideal)) (onTc (τ := Cert.KernelLatIdeal.τ) (Cert.KernelLatIdeal.main (F := Ideal))) ⟨m, fun _ => 0, g⟩ (fun r => (∀ c : Dev Cert.KernelLatIdeal.nD,
      r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
      ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1))
      ∧ r.2.sem = fun _ => 0)

def quiescent_ReferenceLatIdeal [hReferenceLatIdeal : Cert.ReferenceLatIdeal.Facts] : Prop :=
  ∀ (m : (ℓ : Loc Cert.ReferenceLatIdeal.nD Cert.ReferenceLatIdeal.τ Cert.ReferenceLatIdeal.sig) → Buf (Elt Ideal) ℓ) (g : Dev Cert.ReferenceLatIdeal.nD → PrngReg), Pre_ReferenceLatIdeal m →
    θ_run (Cert.ReferenceLatIdeal.defs (F := Ideal)) (onTc (τ := Cert.ReferenceLatIdeal.τ) (Cert.ReferenceLatIdeal.main (F := Ideal))) ⟨m, fun _ => 0, g⟩ (fun r => (∀ c : Dev Cert.ReferenceLatIdeal.nD,
      r.2.mem ((c.tc : Thread Cert.ReferenceLatIdeal.nD Cert.ReferenceLatIdeal.τ).loc Cert.ReferenceLatIdeal.main_arg0) = m ((c.tc : Thread Cert.ReferenceLatIdeal.nD Cert.ReferenceLatIdeal.τ).loc Cert.ReferenceLatIdeal.main_arg0)
      ∧ r.2.mem ((c.tc : Thread Cert.ReferenceLatIdeal.nD Cert.ReferenceLatIdeal.τ).loc Cert.ReferenceLatIdeal.main_arg1) = m ((c.tc : Thread Cert.ReferenceLatIdeal.nD Cert.ReferenceLatIdeal.τ).loc Cert.ReferenceLatIdeal.main_arg1))
      ∧ r.2.sem = fun _ => 0)

def quiescent_KernelUkv [hKernelUkv : Cert.KernelUkv.Facts] : Prop :=
  ∀ (m : (ℓ : Loc Cert.KernelUkv.nD Cert.KernelUkv.τ Cert.KernelUkv.sig) → Buf (Elt Bits) ℓ) (g : Dev Cert.KernelUkv.nD → PrngReg), Pre_KernelUkv m →
    θ_run (Cert.KernelUkv.defs (F := Bits)) (onTc (τ := Cert.KernelUkv.τ) (Cert.KernelUkv.main (F := Bits))) ⟨m, fun _ => 0, g⟩ (fun r => (∀ c : Dev Cert.KernelUkv.nD,
      r.2.mem ((c.tc : Thread Cert.KernelUkv.nD Cert.KernelUkv.τ).loc Cert.KernelUkv.main_arg0) = m ((c.tc : Thread Cert.KernelUkv.nD Cert.KernelUkv.τ).loc Cert.KernelUkv.main_arg0)
      ∧ r.2.mem ((c.tc : Thread Cert.KernelUkv.nD Cert.KernelUkv.τ).loc Cert.KernelUkv.main_arg1) = m ((c.tc : Thread Cert.KernelUkv.nD Cert.KernelUkv.τ).loc Cert.KernelUkv.main_arg1))
      ∧ r.2.sem = fun _ => 0)

def quiescent_KernelUkvIdeal [hKernelUkvIdeal : Cert.KernelUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg), Pre_KernelUkvIdeal m →
    θ_run (Cert.KernelUkvIdeal.defs (F := Ideal)) (onTc (τ := Cert.KernelUkvIdeal.τ) (Cert.KernelUkvIdeal.main (F := Ideal))) ⟨m, fun _ => 0, g⟩ (fun r => (∀ c : Dev Cert.KernelUkvIdeal.nD,
      r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
      ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ r.2.sem = fun _ => 0)

def quiescent_ReferenceUkvIdeal [hReferenceUkvIdeal : Cert.ReferenceUkvIdeal.Facts] : Prop :=
  ∀ (m : (ℓ : Loc Cert.ReferenceUkvIdeal.nD Cert.ReferenceUkvIdeal.τ Cert.ReferenceUkvIdeal.sig) → Buf (Elt Ideal) ℓ) (g : Dev Cert.ReferenceUkvIdeal.nD → PrngReg), Pre_ReferenceUkvIdeal m →
    θ_run (Cert.ReferenceUkvIdeal.defs (F := Ideal)) (onTc (τ := Cert.ReferenceUkvIdeal.τ) (Cert.ReferenceUkvIdeal.main (F := Ideal))) ⟨m, fun _ => 0, g⟩ (fun r => (∀ c : Dev Cert.ReferenceUkvIdeal.nD,
      r.2.mem ((c.tc : Thread Cert.ReferenceUkvIdeal.nD Cert.ReferenceUkvIdeal.τ).loc Cert.ReferenceUkvIdeal.main_arg0) = m ((c.tc : Thread Cert.ReferenceUkvIdeal.nD Cert.ReferenceUkvIdeal.τ).loc Cert.ReferenceUkvIdeal.main_arg0)
      ∧ r.2.mem ((c.tc : Thread Cert.ReferenceUkvIdeal.nD Cert.ReferenceUkvIdeal.τ).loc Cert.ReferenceUkvIdeal.main_arg1) = m ((c.tc : Thread Cert.ReferenceUkvIdeal.nD Cert.ReferenceUkvIdeal.τ).loc Cert.ReferenceUkvIdeal.main_arg1))
      ∧ r.2.sem = fun _ => 0)

def quiescent_KernelMq [hKernelMq : Cert.KernelMq.Facts] : Prop :=
  ∀ (m : (ℓ : Loc Cert.KernelMq.nD Cert.KernelMq.τ Cert.KernelMq.sig) → Buf (Elt Bits) ℓ) (g : Dev Cert.KernelMq.nD → PrngReg), Pre_KernelMq m →
    θ_run (Cert.KernelMq.defs (F := Bits)) (onTc (τ := Cert.KernelMq.τ) (Cert.KernelMq.main (F := Bits))) ⟨m, fun _ => 0, g⟩ (fun r => (∀ c : Dev Cert.KernelMq.nD,
      r.2.mem ((c.tc : Thread Cert.KernelMq.nD Cert.KernelMq.τ).loc Cert.KernelMq.main_arg0) = m ((c.tc : Thread Cert.KernelMq.nD Cert.KernelMq.τ).loc Cert.KernelMq.main_arg0)
      ∧ r.2.mem ((c.tc : Thread Cert.KernelMq.nD Cert.KernelMq.τ).loc Cert.KernelMq.main_arg1) = m ((c.tc : Thread Cert.KernelMq.nD Cert.KernelMq.τ).loc Cert.KernelMq.main_arg1))
      ∧ r.2.sem = fun _ => 0)

def quiescent_KernelMqIdeal [hKernelMqIdeal : Cert.KernelMqIdeal.Facts] : Prop :=
  ∀ (m : (ℓ : Loc Cert.KernelMqIdeal.nD Cert.KernelMqIdeal.τ Cert.KernelMqIdeal.sig) → Buf (Elt Ideal) ℓ) (g : Dev Cert.KernelMqIdeal.nD → PrngReg), Pre_KernelMqIdeal m →
    θ_run (Cert.KernelMqIdeal.defs (F := Ideal)) (onTc (τ := Cert.KernelMqIdeal.τ) (Cert.KernelMqIdeal.main (F := Ideal))) ⟨m, fun _ => 0, g⟩ (fun r => (∀ c : Dev Cert.KernelMqIdeal.nD,
      r.2.mem ((c.tc : Thread Cert.KernelMqIdeal.nD Cert.KernelMqIdeal.τ).loc Cert.KernelMqIdeal.main_arg0) = m ((c.tc : Thread Cert.KernelMqIdeal.nD Cert.KernelMqIdeal.τ).loc Cert.KernelMqIdeal.main_arg0)
      ∧ r.2.mem ((c.tc : Thread Cert.KernelMqIdeal.nD Cert.KernelMqIdeal.τ).loc Cert.KernelMqIdeal.main_arg1) = m ((c.tc : Thread Cert.KernelMqIdeal.nD Cert.KernelMqIdeal.τ).loc Cert.KernelMqIdeal.main_arg1))
      ∧ r.2.sem = fun _ => 0)

def quiescent_ReferenceMqIdeal [hReferenceMqIdeal : Cert.ReferenceMqIdeal.Facts] : Prop :=
  ∀ (m : (ℓ : Loc Cert.ReferenceMqIdeal.nD Cert.ReferenceMqIdeal.τ Cert.ReferenceMqIdeal.sig) → Buf (Elt Ideal) ℓ) (g : Dev Cert.ReferenceMqIdeal.nD → PrngReg), Pre_ReferenceMqIdeal m →
    θ_run (Cert.ReferenceMqIdeal.defs (F := Ideal)) (onTc (τ := Cert.ReferenceMqIdeal.τ) (Cert.ReferenceMqIdeal.main (F := Ideal))) ⟨m, fun _ => 0, g⟩ (fun r => (∀ c : Dev Cert.ReferenceMqIdeal.nD,
      r.2.mem ((c.tc : Thread Cert.ReferenceMqIdeal.nD Cert.ReferenceMqIdeal.τ).loc Cert.ReferenceMqIdeal.main_arg0) = m ((c.tc : Thread Cert.ReferenceMqIdeal.nD Cert.ReferenceMqIdeal.τ).loc Cert.ReferenceMqIdeal.main_arg0)
      ∧ r.2.mem ((c.tc : Thread Cert.ReferenceMqIdeal.nD Cert.ReferenceMqIdeal.τ).loc Cert.ReferenceMqIdeal.main_arg1) = m ((c.tc : Thread Cert.ReferenceMqIdeal.nD Cert.ReferenceMqIdeal.τ).loc Cert.ReferenceMqIdeal.main_arg1))
      ∧ r.2.sem = fun _ => 0)

def quiescent_KernelMkv [hKernelMkv : Cert.KernelMkv.Facts] : Prop :=
  ∀ (m : (ℓ : Loc Cert.KernelMkv.nD Cert.KernelMkv.τ Cert.KernelMkv.sig) → Buf (Elt Bits) ℓ) (g : Dev Cert.KernelMkv.nD → PrngReg), Pre_KernelMkv m →
    θ_run (Cert.KernelMkv.defs (F := Bits)) (onTc (τ := Cert.KernelMkv.τ) (Cert.KernelMkv.main (F := Bits))) ⟨m, fun _ => 0, g⟩ (fun r => (∀ c : Dev Cert.KernelMkv.nD,
      r.2.mem ((c.tc : Thread Cert.KernelMkv.nD Cert.KernelMkv.τ).loc Cert.KernelMkv.main_arg0) = m ((c.tc : Thread Cert.KernelMkv.nD Cert.KernelMkv.τ).loc Cert.KernelMkv.main_arg0)
      ∧ r.2.mem ((c.tc : Thread Cert.KernelMkv.nD Cert.KernelMkv.τ).loc Cert.KernelMkv.main_arg1) = m ((c.tc : Thread Cert.KernelMkv.nD Cert.KernelMkv.τ).loc Cert.KernelMkv.main_arg1))
      ∧ r.2.sem = fun _ => 0)

def quiescent_KernelMkvIdeal [hKernelMkvIdeal : Cert.KernelMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg), Pre_KernelMkvIdeal m →
    θ_run (Cert.KernelMkvIdeal.defs (F := Ideal)) (onTc (τ := Cert.KernelMkvIdeal.τ) (Cert.KernelMkvIdeal.main (F := Ideal))) ⟨m, fun _ => 0, g⟩ (fun r => (∀ c : Dev Cert.KernelMkvIdeal.nD,
      r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
      ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1))
      ∧ r.2.sem = fun _ => 0)

def quiescent_ReferenceMkvIdeal [hReferenceMkvIdeal : Cert.ReferenceMkvIdeal.Facts] : Prop :=
  ∀ (m : (ℓ : Loc Cert.ReferenceMkvIdeal.nD Cert.ReferenceMkvIdeal.τ Cert.ReferenceMkvIdeal.sig) → Buf (Elt Ideal) ℓ) (g : Dev Cert.ReferenceMkvIdeal.nD → PrngReg), Pre_ReferenceMkvIdeal m →
    θ_run (Cert.ReferenceMkvIdeal.defs (F := Ideal)) (onTc (τ := Cert.ReferenceMkvIdeal.τ) (Cert.ReferenceMkvIdeal.main (F := Ideal))) ⟨m, fun _ => 0, g⟩ (fun r => (∀ c : Dev Cert.ReferenceMkvIdeal.nD,
      r.2.mem ((c.tc : Thread Cert.ReferenceMkvIdeal.nD Cert.ReferenceMkvIdeal.τ).loc Cert.ReferenceMkvIdeal.main_arg0) = m ((c.tc : Thread Cert.ReferenceMkvIdeal.nD Cert.ReferenceMkvIdeal.τ).loc Cert.ReferenceMkvIdeal.main_arg0)
      ∧ r.2.mem ((c.tc : Thread Cert.ReferenceMkvIdeal.nD Cert.ReferenceMkvIdeal.τ).loc Cert.ReferenceMkvIdeal.main_arg1) = m ((c.tc : Thread Cert.ReferenceMkvIdeal.nD Cert.ReferenceMkvIdeal.τ).loc Cert.ReferenceMkvIdeal.main_arg1))
      ∧ r.2.sem = fun _ => 0)

def quiescent_KernelQi [hKernelQi : Cert.KernelQi.Facts] : Prop :=
  ∀ (m : (ℓ : Loc Cert.KernelQi.nD Cert.KernelQi.τ Cert.KernelQi.sig) → Buf (Elt Bits) ℓ) (g : Dev Cert.KernelQi.nD → PrngReg), Pre_KernelQi m →
    θ_run (Cert.KernelQi.defs (F := Bits)) (onTc (τ := Cert.KernelQi.τ) (Cert.KernelQi.main (F := Bits))) ⟨m, fun _ => 0, g⟩ (fun r => (∀ c : Dev Cert.KernelQi.nD,
      r.2.mem ((c.tc : Thread Cert.KernelQi.nD Cert.KernelQi.τ).loc Cert.KernelQi.main_arg0) = m ((c.tc : Thread Cert.KernelQi.nD Cert.KernelQi.τ).loc Cert.KernelQi.main_arg0)
      ∧ r.2.mem ((c.tc : Thread Cert.KernelQi.nD Cert.KernelQi.τ).loc Cert.KernelQi.main_arg1) = m ((c.tc : Thread Cert.KernelQi.nD Cert.KernelQi.τ).loc Cert.KernelQi.main_arg1))
      ∧ r.2.sem = fun _ => 0)

def quiescent_KernelQiIdeal [hKernelQiIdeal : Cert.KernelQiIdeal.Facts] : Prop :=
  ∀ (m : (ℓ : Loc Cert.KernelQiIdeal.nD Cert.KernelQiIdeal.τ Cert.KernelQiIdeal.sig) → Buf (Elt Ideal) ℓ) (g : Dev Cert.KernelQiIdeal.nD → PrngReg), Pre_KernelQiIdeal m →
    θ_run (Cert.KernelQiIdeal.defs (F := Ideal)) (onTc (τ := Cert.KernelQiIdeal.τ) (Cert.KernelQiIdeal.main (F := Ideal))) ⟨m, fun _ => 0, g⟩ (fun r => (∀ c : Dev Cert.KernelQiIdeal.nD,
      r.2.mem ((c.tc : Thread Cert.KernelQiIdeal.nD Cert.KernelQiIdeal.τ).loc Cert.KernelQiIdeal.main_arg0) = m ((c.tc : Thread Cert.KernelQiIdeal.nD Cert.KernelQiIdeal.τ).loc Cert.KernelQiIdeal.main_arg0)
      ∧ r.2.mem ((c.tc : Thread Cert.KernelQiIdeal.nD Cert.KernelQiIdeal.τ).loc Cert.KernelQiIdeal.main_arg1) = m ((c.tc : Thread Cert.KernelQiIdeal.nD Cert.KernelQiIdeal.τ).loc Cert.KernelQiIdeal.main_arg1))
      ∧ r.2.sem = fun _ => 0)

def quiescent_ReferenceQiIdeal [hReferenceQiIdeal : Cert.ReferenceQiIdeal.Facts] : Prop :=
  ∀ (m : (ℓ : Loc Cert.ReferenceQiIdeal.nD Cert.ReferenceQiIdeal.τ Cert.ReferenceQiIdeal.sig) → Buf (Elt Ideal) ℓ) (g : Dev Cert.ReferenceQiIdeal.nD → PrngReg), Pre_ReferenceQiIdeal m →
    θ_run (Cert.ReferenceQiIdeal.defs (F := Ideal)) (onTc (τ := Cert.ReferenceQiIdeal.τ) (Cert.ReferenceQiIdeal.main (F := Ideal))) ⟨m, fun _ => 0, g⟩ (fun r => (∀ c : Dev Cert.ReferenceQiIdeal.nD,
      r.2.mem ((c.tc : Thread Cert.ReferenceQiIdeal.nD Cert.ReferenceQiIdeal.τ).loc Cert.ReferenceQiIdeal.main_arg0) = m ((c.tc : Thread Cert.ReferenceQiIdeal.nD Cert.ReferenceQiIdeal.τ).loc Cert.ReferenceQiIdeal.main_arg0)
      ∧ r.2.mem ((c.tc : Thread Cert.ReferenceQiIdeal.nD Cert.ReferenceQiIdeal.τ).loc Cert.ReferenceQiIdeal.main_arg1) = m ((c.tc : Thread Cert.ReferenceQiIdeal.nD Cert.ReferenceQiIdeal.τ).loc Cert.ReferenceQiIdeal.main_arg1))
      ∧ r.2.sem = fun _ => 0)

def quiescent_KernelMo [hKernelMo : Cert.KernelMo.Facts] : Prop :=
  ∀ (m : (ℓ : Loc Cert.KernelMo.nD Cert.KernelMo.τ Cert.KernelMo.sig) → Buf (Elt Bits) ℓ) (g : Dev Cert.KernelMo.nD → PrngReg), Pre_KernelMo m →
    θ_run (Cert.KernelMo.defs (F := Bits)) (onTc (τ := Cert.KernelMo.τ) (Cert.KernelMo.main (F := Bits))) ⟨m, fun _ => 0, g⟩ (fun r => (∀ c : Dev Cert.KernelMo.nD,
      r.2.mem ((c.tc : Thread Cert.KernelMo.nD Cert.KernelMo.τ).loc Cert.KernelMo.main_arg0) = m ((c.tc : Thread Cert.KernelMo.nD Cert.KernelMo.τ).loc Cert.KernelMo.main_arg0)
      ∧ r.2.mem ((c.tc : Thread Cert.KernelMo.nD Cert.KernelMo.τ).loc Cert.KernelMo.main_arg1) = m ((c.tc : Thread Cert.KernelMo.nD Cert.KernelMo.τ).loc Cert.KernelMo.main_arg1)
      ∧ r.2.mem ((c.tc : Thread Cert.KernelMo.nD Cert.KernelMo.τ).loc Cert.KernelMo.main_arg2) = m ((c.tc : Thread Cert.KernelMo.nD Cert.KernelMo.τ).loc Cert.KernelMo.main_arg2)
      ∧ r.2.mem ((c.tc : Thread Cert.KernelMo.nD Cert.KernelMo.τ).loc Cert.KernelMo.main_arg3) = m ((c.tc : Thread Cert.KernelMo.nD Cert.KernelMo.τ).loc Cert.KernelMo.main_arg3)
      ∧ r.2.mem ((c.tc : Thread Cert.KernelMo.nD Cert.KernelMo.τ).loc Cert.KernelMo.main_arg4) = m ((c.tc : Thread Cert.KernelMo.nD Cert.KernelMo.τ).loc Cert.KernelMo.main_arg4))
      ∧ r.2.sem = fun _ => 0)

def quiescent_KernelMoIdeal [hKernelMoIdeal : Cert.KernelMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg), Pre_KernelMoIdeal m →
    θ_run (Cert.KernelMoIdeal.defs (F := Ideal)) (onTc (τ := Cert.KernelMoIdeal.τ) (Cert.KernelMoIdeal.main (F := Ideal))) ⟨m, fun _ => 0, g⟩ (fun r => (∀ c : Dev Cert.KernelMoIdeal.nD,
      r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
      ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
      ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
      ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3)
      ∧ r.2.mem ((c.tc : Thread Cert.KernelMoIdeal.nD Cert.KernelMoIdeal.τ).loc Cert.KernelMoIdeal.main_arg4) = m ((c.tc : Thread Cert.KernelMoIdeal.nD Cert.KernelMoIdeal.τ).loc Cert.KernelMoIdeal.main_arg4))
      ∧ r.2.sem = fun _ => 0)

def quiescent_ReferenceMoIdeal [hReferenceMoIdeal : Cert.ReferenceMoIdeal.Facts] : Prop :=
  ∀ (m : (ℓ : Loc Cert.ReferenceMoIdeal.nD Cert.ReferenceMoIdeal.τ Cert.ReferenceMoIdeal.sig) → Buf (Elt Ideal) ℓ) (g : Dev Cert.ReferenceMoIdeal.nD → PrngReg), Pre_ReferenceMoIdeal m →
    θ_run (Cert.ReferenceMoIdeal.defs (F := Ideal)) (onTc (τ := Cert.ReferenceMoIdeal.τ) (Cert.ReferenceMoIdeal.main (F := Ideal))) ⟨m, fun _ => 0, g⟩ (fun r => (∀ c : Dev Cert.ReferenceMoIdeal.nD,
      r.2.mem ((c.tc : Thread Cert.ReferenceMoIdeal.nD Cert.ReferenceMoIdeal.τ).loc Cert.ReferenceMoIdeal.main_arg0) = m ((c.tc : Thread Cert.ReferenceMoIdeal.nD Cert.ReferenceMoIdeal.τ).loc Cert.ReferenceMoIdeal.main_arg0)
      ∧ r.2.mem ((c.tc : Thread Cert.ReferenceMoIdeal.nD Cert.ReferenceMoIdeal.τ).loc Cert.ReferenceMoIdeal.main_arg1) = m ((c.tc : Thread Cert.ReferenceMoIdeal.nD Cert.ReferenceMoIdeal.τ).loc Cert.ReferenceMoIdeal.main_arg1)
      ∧ r.2.mem ((c.tc : Thread Cert.ReferenceMoIdeal.nD Cert.ReferenceMoIdeal.τ).loc Cert.ReferenceMoIdeal.main_arg2) = m ((c.tc : Thread Cert.ReferenceMoIdeal.nD Cert.ReferenceMoIdeal.τ).loc Cert.ReferenceMoIdeal.main_arg2)
      ∧ r.2.mem ((c.tc : Thread Cert.ReferenceMoIdeal.nD Cert.ReferenceMoIdeal.τ).loc Cert.ReferenceMoIdeal.main_arg3) = m ((c.tc : Thread Cert.ReferenceMoIdeal.nD Cert.ReferenceMoIdeal.τ).loc Cert.ReferenceMoIdeal.main_arg3)
      ∧ r.2.mem ((c.tc : Thread Cert.ReferenceMoIdeal.nD Cert.ReferenceMoIdeal.τ).loc Cert.ReferenceMoIdeal.main_arg4) = m ((c.tc : Thread Cert.ReferenceMoIdeal.nD Cert.ReferenceMoIdeal.τ).loc Cert.ReferenceMoIdeal.main_arg4))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3))
      ∧ r.2.sem = fun _ => 0)

def quiescent_KernelUq [hKernelUq : Cert.KernelUq.Facts] : Prop :=
  ∀ (m : (ℓ : Loc Cert.KernelUq.nD Cert.KernelUq.τ Cert.KernelUq.sig) → Buf (Elt Bits) ℓ) (g : Dev Cert.KernelUq.nD → PrngReg), Pre_KernelUq m →
    θ_run (Cert.KernelUq.defs (F := Bits)) (onTc (τ := Cert.KernelUq.τ) (Cert.KernelUq.main (F := Bits))) ⟨m, fun _ => 0, g⟩ (fun r => (∀ c : Dev Cert.KernelUq.nD,
      r.2.mem ((c.tc : Thread Cert.KernelUq.nD Cert.KernelUq.τ).loc Cert.KernelUq.main_arg0) = m ((c.tc : Thread Cert.KernelUq.nD Cert.KernelUq.τ).loc Cert.KernelUq.main_arg0)
      ∧ r.2.mem ((c.tc : Thread Cert.KernelUq.nD Cert.KernelUq.τ).loc Cert.KernelUq.main_arg1) = m ((c.tc : Thread Cert.KernelUq.nD Cert.KernelUq.τ).loc Cert.KernelUq.main_arg1))
      ∧ r.2.sem = fun _ => 0)

def quiescent_KernelUqIdeal [hKernelUqIdeal : Cert.KernelUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg), Pre_KernelUqIdeal m →
    θ_run (Cert.KernelUqIdeal.defs (F := Ideal)) (onTc (τ := Cert.KernelUqIdeal.τ) (Cert.KernelUqIdeal.main (F := Ideal))) ⟨m, fun _ => 0, g⟩ (fun r => (∀ c : Dev Cert.KernelUqIdeal.nD,
      r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
      ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ r.2.sem = fun _ => 0)

def quiescent_ReferenceUqIdeal [hReferenceUqIdeal : Cert.ReferenceUqIdeal.Facts] : Prop :=
  ∀ (m : (ℓ : Loc Cert.ReferenceUqIdeal.nD Cert.ReferenceUqIdeal.τ Cert.ReferenceUqIdeal.sig) → Buf (Elt Ideal) ℓ) (g : Dev Cert.ReferenceUqIdeal.nD → PrngReg), Pre_ReferenceUqIdeal m →
    θ_run (Cert.ReferenceUqIdeal.defs (F := Ideal)) (onTc (τ := Cert.ReferenceUqIdeal.τ) (Cert.ReferenceUqIdeal.main (F := Ideal))) ⟨m, fun _ => 0, g⟩ (fun r => (∀ c : Dev Cert.ReferenceUqIdeal.nD,
      r.2.mem ((c.tc : Thread Cert.ReferenceUqIdeal.nD Cert.ReferenceUqIdeal.τ).loc Cert.ReferenceUqIdeal.main_arg0) = m ((c.tc : Thread Cert.ReferenceUqIdeal.nD Cert.ReferenceUqIdeal.τ).loc Cert.ReferenceUqIdeal.main_arg0)
      ∧ r.2.mem ((c.tc : Thread Cert.ReferenceUqIdeal.nD Cert.ReferenceUqIdeal.τ).loc Cert.ReferenceUqIdeal.main_arg1) = m ((c.tc : Thread Cert.ReferenceUqIdeal.nD Cert.ReferenceUqIdeal.τ).loc Cert.ReferenceUqIdeal.main_arg1))
      ∧ r.2.sem = fun _ => 0)

def quiescent_KernelPb [hKernelPb : Cert.KernelPb.Facts] : Prop :=
  ∀ (m : (ℓ : Loc Cert.KernelPb.nD Cert.KernelPb.τ Cert.KernelPb.sig) → Buf (Elt Bits) ℓ) (g : Dev Cert.KernelPb.nD → PrngReg), Pre_KernelPb m →
    θ_run (Cert.KernelPb.defs (F := Bits)) (onTc (τ := Cert.KernelPb.τ) (Cert.KernelPb.main (F := Bits))) ⟨m, fun _ => 0, g⟩ (fun r => (∀ c : Dev Cert.KernelPb.nD,
      r.2.mem ((c.tc : Thread Cert.KernelPb.nD Cert.KernelPb.τ).loc Cert.KernelPb.main_arg0) = m ((c.tc : Thread Cert.KernelPb.nD Cert.KernelPb.τ).loc Cert.KernelPb.main_arg0)
      ∧ r.2.mem ((c.tc : Thread Cert.KernelPb.nD Cert.KernelPb.τ).loc Cert.KernelPb.main_arg1) = m ((c.tc : Thread Cert.KernelPb.nD Cert.KernelPb.τ).loc Cert.KernelPb.main_arg1))
      ∧ r.2.sem = fun _ => 0)

def quiescent_KernelPbIdeal [hKernelPbIdeal : Cert.KernelPbIdeal.Facts] : Prop :=
  ∀ (m : (ℓ : Loc Cert.KernelPbIdeal.nD Cert.KernelPbIdeal.τ Cert.KernelPbIdeal.sig) → Buf (Elt Ideal) ℓ) (g : Dev Cert.KernelPbIdeal.nD → PrngReg), Pre_KernelPbIdeal m →
    θ_run (Cert.KernelPbIdeal.defs (F := Ideal)) (onTc (τ := Cert.KernelPbIdeal.τ) (Cert.KernelPbIdeal.main (F := Ideal))) ⟨m, fun _ => 0, g⟩ (fun r => (∀ c : Dev Cert.KernelPbIdeal.nD,
      r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
      ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1))
      ∧ r.2.sem = fun _ => 0)

def quiescent_ReferencePbIdeal [hReferencePbIdeal : Cert.ReferencePbIdeal.Facts] : Prop :=
  ∀ (m : (ℓ : Loc Cert.ReferencePbIdeal.nD Cert.ReferencePbIdeal.τ Cert.ReferencePbIdeal.sig) → Buf (Elt Ideal) ℓ) (g : Dev Cert.ReferencePbIdeal.nD → PrngReg), Pre_ReferencePbIdeal m →
    θ_run (Cert.ReferencePbIdeal.defs (F := Ideal)) (onTc (τ := Cert.ReferencePbIdeal.τ) (Cert.ReferencePbIdeal.main (F := Ideal))) ⟨m, fun _ => 0, g⟩ (fun r => (∀ c : Dev Cert.ReferencePbIdeal.nD,
      r.2.mem ((c.tc : Thread Cert.ReferencePbIdeal.nD Cert.ReferencePbIdeal.τ).loc Cert.ReferencePbIdeal.main_arg0) = m ((c.tc : Thread Cert.ReferencePbIdeal.nD Cert.ReferencePbIdeal.τ).loc Cert.ReferencePbIdeal.main_arg0)
      ∧ r.2.mem ((c.tc : Thread Cert.ReferencePbIdeal.nD Cert.ReferencePbIdeal.τ).loc Cert.ReferencePbIdeal.main_arg1) = m ((c.tc : Thread Cert.ReferencePbIdeal.nD Cert.ReferencePbIdeal.τ).loc Cert.ReferencePbIdeal.main_arg1))
      ∧ r.2.sem = fun _ => 0)

def quiescent_KernelRk [hKernelRk : Cert.KernelRk.Facts] : Prop :=
  ∀ (m : (ℓ : Loc Cert.KernelRk.nD Cert.KernelRk.τ Cert.KernelRk.sig) → Buf (Elt Bits) ℓ) (g : Dev Cert.KernelRk.nD → PrngReg), Pre_KernelRk m →
    θ_run (Cert.KernelRk.defs (F := Bits)) (onTc (τ := Cert.KernelRk.τ) (Cert.KernelRk.main (F := Bits))) ⟨m, fun _ => 0, g⟩ (fun r => (∀ c : Dev Cert.KernelRk.nD,
      r.2.mem ((c.tc : Thread Cert.KernelRk.nD Cert.KernelRk.τ).loc Cert.KernelRk.main_arg0) = m ((c.tc : Thread Cert.KernelRk.nD Cert.KernelRk.τ).loc Cert.KernelRk.main_arg0)
      ∧ r.2.mem ((c.tc : Thread Cert.KernelRk.nD Cert.KernelRk.τ).loc Cert.KernelRk.main_arg1) = m ((c.tc : Thread Cert.KernelRk.nD Cert.KernelRk.τ).loc Cert.KernelRk.main_arg1))
      ∧ r.2.sem = fun _ => 0)

def quiescent_KernelRkIdeal [hKernelRkIdeal : Cert.KernelRkIdeal.Facts] : Prop :=
  ∀ (m : (ℓ : Loc Cert.KernelRkIdeal.nD Cert.KernelRkIdeal.τ Cert.KernelRkIdeal.sig) → Buf (Elt Ideal) ℓ) (g : Dev Cert.KernelRkIdeal.nD → PrngReg), Pre_KernelRkIdeal m →
    θ_run (Cert.KernelRkIdeal.defs (F := Ideal)) (onTc (τ := Cert.KernelRkIdeal.τ) (Cert.KernelRkIdeal.main (F := Ideal))) ⟨m, fun _ => 0, g⟩ (fun r => (∀ c : Dev Cert.KernelRkIdeal.nD,
      r.2.mem ((c.tc : Thread Cert.KernelRkIdeal.nD Cert.KernelRkIdeal.τ).loc Cert.KernelRkIdeal.main_arg0) = m ((c.tc : Thread Cert.KernelRkIdeal.nD Cert.KernelRkIdeal.τ).loc Cert.KernelRkIdeal.main_arg0)
      ∧ r.2.mem ((c.tc : Thread Cert.KernelRkIdeal.nD Cert.KernelRkIdeal.τ).loc Cert.KernelRkIdeal.main_arg1) = m ((c.tc : Thread Cert.KernelRkIdeal.nD Cert.KernelRkIdeal.τ).loc Cert.KernelRkIdeal.main_arg1))
      ∧ r.2.sem = fun _ => 0)

def quiescent_ReferenceRkIdeal [hReferenceRkIdeal : Cert.ReferenceRkIdeal.Facts] : Prop :=
  ∀ (m : (ℓ : Loc Cert.ReferenceRkIdeal.nD Cert.ReferenceRkIdeal.τ Cert.ReferenceRkIdeal.sig) → Buf (Elt Ideal) ℓ) (g : Dev Cert.ReferenceRkIdeal.nD → PrngReg), Pre_ReferenceRkIdeal m →
    θ_run (Cert.ReferenceRkIdeal.defs (F := Ideal)) (onTc (τ := Cert.ReferenceRkIdeal.τ) (Cert.ReferenceRkIdeal.main (F := Ideal))) ⟨m, fun _ => 0, g⟩ (fun r => (∀ c : Dev Cert.ReferenceRkIdeal.nD,
      r.2.mem ((c.tc : Thread Cert.ReferenceRkIdeal.nD Cert.ReferenceRkIdeal.τ).loc Cert.ReferenceRkIdeal.main_arg0) = m ((c.tc : Thread Cert.ReferenceRkIdeal.nD Cert.ReferenceRkIdeal.τ).loc Cert.ReferenceRkIdeal.main_arg0)
      ∧ r.2.mem ((c.tc : Thread Cert.ReferenceRkIdeal.nD Cert.ReferenceRkIdeal.τ).loc Cert.ReferenceRkIdeal.main_arg1) = m ((c.tc : Thread Cert.ReferenceRkIdeal.nD Cert.ReferenceRkIdeal.τ).loc Cert.ReferenceRkIdeal.main_arg1))
      ∧ r.2.sem = fun _ => 0)

def quiescent_KernelKi [hKernelKi : Cert.KernelKi.Facts] : Prop :=
  ∀ (m : (ℓ : Loc Cert.KernelKi.nD Cert.KernelKi.τ Cert.KernelKi.sig) → Buf (Elt Bits) ℓ) (g : Dev Cert.KernelKi.nD → PrngReg), Pre_KernelKi m →
    θ_run (Cert.KernelKi.defs (F := Bits)) (onTc (τ := Cert.KernelKi.τ) (Cert.KernelKi.main (F := Bits))) ⟨m, fun _ => 0, g⟩ (fun r => (∀ c : Dev Cert.KernelKi.nD,
      r.2.mem ((c.tc : Thread Cert.KernelKi.nD Cert.KernelKi.τ).loc Cert.KernelKi.main_arg0) = m ((c.tc : Thread Cert.KernelKi.nD Cert.KernelKi.τ).loc Cert.KernelKi.main_arg0))
      ∧ r.2.sem = fun _ => 0)

def quiescent_KernelKiIdeal [hKernelKiIdeal : Cert.KernelKiIdeal.Facts] : Prop :=
  ∀ (m : (ℓ : Loc Cert.KernelKiIdeal.nD Cert.KernelKiIdeal.τ Cert.KernelKiIdeal.sig) → Buf (Elt Ideal) ℓ) (g : Dev Cert.KernelKiIdeal.nD → PrngReg), Pre_KernelKiIdeal m →
    θ_run (Cert.KernelKiIdeal.defs (F := Ideal)) (onTc (τ := Cert.KernelKiIdeal.τ) (Cert.KernelKiIdeal.main (F := Ideal))) ⟨m, fun _ => 0, g⟩ (fun r => (∀ c : Dev Cert.KernelKiIdeal.nD,
      r.2.mem ((c.tc : Thread Cert.KernelKiIdeal.nD Cert.KernelKiIdeal.τ).loc Cert.KernelKiIdeal.main_arg0) = m ((c.tc : Thread Cert.KernelKiIdeal.nD Cert.KernelKiIdeal.τ).loc Cert.KernelKiIdeal.main_arg0))
      ∧ r.2.sem = fun _ => 0)

def quiescent_ReferenceKiIdeal [hReferenceKiIdeal : Cert.ReferenceKiIdeal.Facts] : Prop :=
  ∀ (m : (ℓ : Loc Cert.ReferenceKiIdeal.nD Cert.ReferenceKiIdeal.τ Cert.ReferenceKiIdeal.sig) → Buf (Elt Ideal) ℓ) (g : Dev Cert.ReferenceKiIdeal.nD → PrngReg), Pre_ReferenceKiIdeal m →
    θ_run (Cert.ReferenceKiIdeal.defs (F := Ideal)) (onTc (τ := Cert.ReferenceKiIdeal.τ) (Cert.ReferenceKiIdeal.main (F := Ideal))) ⟨m, fun _ => 0, g⟩ (fun r => (∀ c : Dev Cert.ReferenceKiIdeal.nD,
      r.2.mem ((c.tc : Thread Cert.ReferenceKiIdeal.nD Cert.ReferenceKiIdeal.τ).loc Cert.ReferenceKiIdeal.main_arg0) = m ((c.tc : Thread Cert.ReferenceKiIdeal.nD Cert.ReferenceKiIdeal.τ).loc Cert.ReferenceKiIdeal.main_arg0))
      ∧ r.2.sem = fun _ => 0)

def quiescent_KernelEx [hKernelEx : Cert.KernelEx.Facts] : Prop :=
  ∀ (m : (ℓ : Loc Cert.KernelEx.nD Cert.KernelEx.τ Cert.KernelEx.sig) → Buf (Elt Bits) ℓ) (g : Dev Cert.KernelEx.nD → PrngReg), Pre_KernelEx m →
    θ_run (Cert.KernelEx.defs (F := Bits)) (onTc (τ := Cert.KernelEx.τ) (Cert.KernelEx.main (F := Bits))) ⟨m, fun _ => 0, g⟩ (fun r => (∀ c : Dev Cert.KernelEx.nD,
      r.2.mem ((c.tc : Thread Cert.KernelEx.nD Cert.KernelEx.τ).loc Cert.KernelEx.main_arg0) = m ((c.tc : Thread Cert.KernelEx.nD Cert.KernelEx.τ).loc Cert.KernelEx.main_arg0)
      ∧ r.2.mem ((c.tc : Thread Cert.KernelEx.nD Cert.KernelEx.τ).loc Cert.KernelEx.main_arg1) = m ((c.tc : Thread Cert.KernelEx.nD Cert.KernelEx.τ).loc Cert.KernelEx.main_arg1))
      ∧ r.2.sem = fun _ => 0)

def quiescent_KernelExIdeal [hKernelExIdeal : Cert.KernelExIdeal.Facts] : Prop :=
  ∀ (m : (ℓ : Loc Cert.KernelExIdeal.nD Cert.KernelExIdeal.τ Cert.KernelExIdeal.sig) → Buf (Elt Ideal) ℓ) (g : Dev Cert.KernelExIdeal.nD → PrngReg), Pre_KernelExIdeal m →
    θ_run (Cert.KernelExIdeal.defs (F := Ideal)) (onTc (τ := Cert.KernelExIdeal.τ) (Cert.KernelExIdeal.main (F := Ideal))) ⟨m, fun _ => 0, g⟩ (fun r => (∀ c : Dev Cert.KernelExIdeal.nD,
      r.2.mem ((c.tc : Thread Cert.KernelExIdeal.nD Cert.KernelExIdeal.τ).loc Cert.KernelExIdeal.main_arg0) = m ((c.tc : Thread Cert.KernelExIdeal.nD Cert.KernelExIdeal.τ).loc Cert.KernelExIdeal.main_arg0)
      ∧ r.2.mem ((c.tc : Thread Cert.KernelExIdeal.nD Cert.KernelExIdeal.τ).loc Cert.KernelExIdeal.main_arg1) = m ((c.tc : Thread Cert.KernelExIdeal.nD Cert.KernelExIdeal.τ).loc Cert.KernelExIdeal.main_arg1))
      ∧ r.2.sem = fun _ => 0)

def quiescent_ReferenceExIdeal [hReferenceExIdeal : Cert.ReferenceExIdeal.Facts] : Prop :=
  ∀ (m : (ℓ : Loc Cert.ReferenceExIdeal.nD Cert.ReferenceExIdeal.τ Cert.ReferenceExIdeal.sig) → Buf (Elt Ideal) ℓ) (g : Dev Cert.ReferenceExIdeal.nD → PrngReg), Pre_ReferenceExIdeal m →
    θ_run (Cert.ReferenceExIdeal.defs (F := Ideal)) (onTc (τ := Cert.ReferenceExIdeal.τ) (Cert.ReferenceExIdeal.main (F := Ideal))) ⟨m, fun _ => 0, g⟩ (fun r => (∀ c : Dev Cert.ReferenceExIdeal.nD,
      r.2.mem ((c.tc : Thread Cert.ReferenceExIdeal.nD Cert.ReferenceExIdeal.τ).loc Cert.ReferenceExIdeal.main_arg0) = m ((c.tc : Thread Cert.ReferenceExIdeal.nD Cert.ReferenceExIdeal.τ).loc Cert.ReferenceExIdeal.main_arg0)
      ∧ r.2.mem ((c.tc : Thread Cert.ReferenceExIdeal.nD Cert.ReferenceExIdeal.τ).loc Cert.ReferenceExIdeal.main_arg1) = m ((c.tc : Thread Cert.ReferenceExIdeal.nD Cert.ReferenceExIdeal.τ).loc Cert.ReferenceExIdeal.main_arg1))
      ∧ r.2.sem = fun _ => 0)

def quiescent_KernelEy [hKernelEy : Cert.KernelEy.Facts] : Prop :=
  ∀ (m : (ℓ : Loc Cert.KernelEy.nD Cert.KernelEy.τ Cert.KernelEy.sig) → Buf (Elt Bits) ℓ) (g : Dev Cert.KernelEy.nD → PrngReg), Pre_KernelEy m →
    θ_run (Cert.KernelEy.defs (F := Bits)) (onTc (τ := Cert.KernelEy.τ) (Cert.KernelEy.main (F := Bits))) ⟨m, fun _ => 0, g⟩ (fun r => (∀ c : Dev Cert.KernelEy.nD,
      r.2.mem ((c.tc : Thread Cert.KernelEy.nD Cert.KernelEy.τ).loc Cert.KernelEy.main_arg0) = m ((c.tc : Thread Cert.KernelEy.nD Cert.KernelEy.τ).loc Cert.KernelEy.main_arg0)
      ∧ r.2.mem ((c.tc : Thread Cert.KernelEy.nD Cert.KernelEy.τ).loc Cert.KernelEy.main_arg1) = m ((c.tc : Thread Cert.KernelEy.nD Cert.KernelEy.τ).loc Cert.KernelEy.main_arg1))
      ∧ r.2.sem = fun _ => 0)

def quiescent_KernelEyIdeal [hKernelEyIdeal : Cert.KernelEyIdeal.Facts] : Prop :=
  ∀ (m : (ℓ : Loc Cert.KernelEyIdeal.nD Cert.KernelEyIdeal.τ Cert.KernelEyIdeal.sig) → Buf (Elt Ideal) ℓ) (g : Dev Cert.KernelEyIdeal.nD → PrngReg), Pre_KernelEyIdeal m →
    θ_run (Cert.KernelEyIdeal.defs (F := Ideal)) (onTc (τ := Cert.KernelEyIdeal.τ) (Cert.KernelEyIdeal.main (F := Ideal))) ⟨m, fun _ => 0, g⟩ (fun r => (∀ c : Dev Cert.KernelEyIdeal.nD,
      r.2.mem ((c.tc : Thread Cert.KernelEyIdeal.nD Cert.KernelEyIdeal.τ).loc Cert.KernelEyIdeal.main_arg0) = m ((c.tc : Thread Cert.KernelEyIdeal.nD Cert.KernelEyIdeal.τ).loc Cert.KernelEyIdeal.main_arg0)
      ∧ r.2.mem ((c.tc : Thread Cert.KernelEyIdeal.nD Cert.KernelEyIdeal.τ).loc Cert.KernelEyIdeal.main_arg1) = m ((c.tc : Thread Cert.KernelEyIdeal.nD Cert.KernelEyIdeal.τ).loc Cert.KernelEyIdeal.main_arg1))
      ∧ r.2.sem = fun _ => 0)

def quiescent_ReferenceEyIdeal [hReferenceEyIdeal : Cert.ReferenceEyIdeal.Facts] : Prop :=
  ∀ (m : (ℓ : Loc Cert.ReferenceEyIdeal.nD Cert.ReferenceEyIdeal.τ Cert.ReferenceEyIdeal.sig) → Buf (Elt Ideal) ℓ) (g : Dev Cert.ReferenceEyIdeal.nD → PrngReg), Pre_ReferenceEyIdeal m →
    θ_run (Cert.ReferenceEyIdeal.defs (F := Ideal)) (onTc (τ := Cert.ReferenceEyIdeal.τ) (Cert.ReferenceEyIdeal.main (F := Ideal))) ⟨m, fun _ => 0, g⟩ (fun r => (∀ c : Dev Cert.ReferenceEyIdeal.nD,
      r.2.mem ((c.tc : Thread Cert.ReferenceEyIdeal.nD Cert.ReferenceEyIdeal.τ).loc Cert.ReferenceEyIdeal.main_arg0) = m ((c.tc : Thread Cert.ReferenceEyIdeal.nD Cert.ReferenceEyIdeal.τ).loc Cert.ReferenceEyIdeal.main_arg0)
      ∧ r.2.mem ((c.tc : Thread Cert.ReferenceEyIdeal.nD Cert.ReferenceEyIdeal.τ).loc Cert.ReferenceEyIdeal.main_arg1) = m ((c.tc : Thread Cert.ReferenceEyIdeal.nD Cert.ReferenceEyIdeal.τ).loc Cert.ReferenceEyIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def preserves_Kernel_KernelIdeal : Prop :=
  IdealRules.named_const.Statement Cert.KernelIdeal.κ "scale" .f32 0x3E0293EE#32 (((11863283 / 134217728) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelQkv_KernelQkvIdeal : Prop :=
  True

def algebraic_KernelQkvIdeal_ReferenceQkvIdeal [hKernelQkvIdeal : Cert.KernelQkvIdeal.Facts] [hReferenceQkvIdeal : Cert.ReferenceQkvIdeal.Facts] : Prop :=
  ∀ (m : (ℓ : Loc Cert.KernelQkvIdeal.nD Cert.KernelQkvIdeal.τ Cert.KernelQkvIdeal.sig) → Buf (Elt Ideal) ℓ) (g : Dev Cert.KernelQkvIdeal.nD → PrngReg)
    (m' : (ℓ : Loc Cert.ReferenceQkvIdeal.nD Cert.ReferenceQkvIdeal.τ Cert.ReferenceQkvIdeal.sig) → Buf (Elt Ideal) ℓ) (g' : Dev Cert.ReferenceQkvIdeal.nD → PrngReg), Pre_KernelQkvIdeal m →
    (∀ c : Dev Cert.KernelQkvIdeal.nD,
      m' ((c.tc : Thread Cert.ReferenceQkvIdeal.nD Cert.ReferenceQkvIdeal.τ).loc Cert.ReferenceQkvIdeal.main_arg0) = m ((c.tc : Thread Cert.KernelQkvIdeal.nD Cert.KernelQkvIdeal.τ).loc Cert.KernelQkvIdeal.main_arg0)
      ∧ m' ((c.tc : Thread Cert.ReferenceQkvIdeal.nD Cert.ReferenceQkvIdeal.τ).loc Cert.ReferenceQkvIdeal.main_arg1) = m ((c.tc : Thread Cert.KernelQkvIdeal.nD Cert.KernelQkvIdeal.τ).loc Cert.KernelQkvIdeal.main_arg1)) →
    ∃ (v0 : (c : Dev Cert.KernelQkvIdeal.nD) → Buf (Elt Ideal) ((c.tc : Thread Cert.KernelQkvIdeal.nD Cert.KernelQkvIdeal.τ).loc Cert.KernelQkvIdeal.main_v8)),
      θ_run (Cert.KernelQkvIdeal.defs (F := Ideal)) (onTc (τ := Cert.KernelQkvIdeal.τ) (Cert.KernelQkvIdeal.main (F := Ideal))) ⟨m, fun _ => 0, g⟩ (fun r => ∀ c : Dev Cert.KernelQkvIdeal.nD,
          r.2.mem ((c.tc : Thread Cert.KernelQkvIdeal.nD Cert.KernelQkvIdeal.τ).loc Cert.KernelQkvIdeal.main_v8) = v0 c
          ∧ r.2.mem ((c.tc : Thread Cert.KernelQkvIdeal.nD Cert.KernelQkvIdeal.τ).loc Cert.KernelQkvIdeal.main_arg0) = m ((c.tc : Thread Cert.KernelQkvIdeal.nD Cert.KernelQkvIdeal.τ).loc Cert.KernelQkvIdeal.main_arg0)
          ∧ r.2.mem ((c.tc : Thread Cert.KernelQkvIdeal.nD Cert.KernelQkvIdeal.τ).loc Cert.KernelQkvIdeal.main_arg1) = m ((c.tc : Thread Cert.KernelQkvIdeal.nD Cert.KernelQkvIdeal.τ).loc Cert.KernelQkvIdeal.main_arg1))
      ∧ θ_run (Cert.ReferenceQkvIdeal.defs (F := Ideal)) (onTc (τ := Cert.ReferenceQkvIdeal.τ) (Cert.ReferenceQkvIdeal.main (F := Ideal))) ⟨m', fun _ => 0, g'⟩ (fun r => ∀ c : Dev Cert.ReferenceQkvIdeal.nD,
          r.2.mem ((c.tc : Thread Cert.ReferenceQkvIdeal.nD Cert.ReferenceQkvIdeal.τ).loc Cert.ReferenceQkvIdeal.main_v11) = v0 c
          ∧ r.2.mem ((c.tc : Thread Cert.ReferenceQkvIdeal.nD Cert.ReferenceQkvIdeal.τ).loc Cert.ReferenceQkvIdeal.main_arg0) = m' ((c.tc : Thread Cert.ReferenceQkvIdeal.nD Cert.ReferenceQkvIdeal.τ).loc Cert.ReferenceQkvIdeal.main_arg0)
          ∧ r.2.mem ((c.tc : Thread Cert.ReferenceQkvIdeal.nD Cert.ReferenceQkvIdeal.τ).loc Cert.ReferenceQkvIdeal.main_arg1) = m' ((c.tc : Thread Cert.ReferenceQkvIdeal.nD Cert.ReferenceQkvIdeal.τ).loc Cert.ReferenceQkvIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v5)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v5) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v2) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelCd_KernelCdIdeal : Prop :=
  True

def algebraic_KernelCdIdeal_ReferenceCdIdeal [hKernelCdIdeal : Cert.KernelCdIdeal.Facts] [hReferenceCdIdeal : Cert.ReferenceCdIdeal.Facts] : Prop :=
  ∀ (m : (ℓ : Loc Cert.KernelCdIdeal.nD Cert.KernelCdIdeal.τ Cert.KernelCdIdeal.sig) → Buf (Elt Ideal) ℓ) (g : Dev Cert.KernelCdIdeal.nD → PrngReg)
    (m' : (ℓ : Loc Cert.ReferenceCdIdeal.nD Cert.ReferenceCdIdeal.τ Cert.ReferenceCdIdeal.sig) → Buf (Elt Ideal) ℓ) (g' : Dev Cert.ReferenceCdIdeal.nD → PrngReg), Pre_KernelCdIdeal m →
    (∀ c : Dev Cert.KernelCdIdeal.nD,
      m' ((c.tc : Thread Cert.ReferenceCdIdeal.nD Cert.ReferenceCdIdeal.τ).loc Cert.ReferenceCdIdeal.main_arg0) = m ((c.tc : Thread Cert.KernelCdIdeal.nD Cert.KernelCdIdeal.τ).loc Cert.KernelCdIdeal.main_arg0)
      ∧ m' ((c.tc : Thread Cert.ReferenceCdIdeal.nD Cert.ReferenceCdIdeal.τ).loc Cert.ReferenceCdIdeal.main_arg1) = m ((c.tc : Thread Cert.KernelCdIdeal.nD Cert.KernelCdIdeal.τ).loc Cert.KernelCdIdeal.main_arg1)) →
    ∃ (v0 : (c : Dev Cert.KernelCdIdeal.nD) → Buf (Elt Ideal) ((c.tc : Thread Cert.KernelCdIdeal.nD Cert.KernelCdIdeal.τ).loc Cert.KernelCdIdeal.main_v44)),
      θ_run (Cert.KernelCdIdeal.defs (F := Ideal)) (onTc (τ := Cert.KernelCdIdeal.τ) (Cert.KernelCdIdeal.main (F := Ideal))) ⟨m, fun _ => 0, g⟩ (fun r => ∀ c : Dev Cert.KernelCdIdeal.nD,
          r.2.mem ((c.tc : Thread Cert.KernelCdIdeal.nD Cert.KernelCdIdeal.τ).loc Cert.KernelCdIdeal.main_v44) = v0 c
          ∧ r.2.mem ((c.tc : Thread Cert.KernelCdIdeal.nD Cert.KernelCdIdeal.τ).loc Cert.KernelCdIdeal.main_arg0) = m ((c.tc : Thread Cert.KernelCdIdeal.nD Cert.KernelCdIdeal.τ).loc Cert.KernelCdIdeal.main_arg0)
          ∧ r.2.mem ((c.tc : Thread Cert.KernelCdIdeal.nD Cert.KernelCdIdeal.τ).loc Cert.KernelCdIdeal.main_arg1) = m ((c.tc : Thread Cert.KernelCdIdeal.nD Cert.KernelCdIdeal.τ).loc Cert.KernelCdIdeal.main_arg1))
      ∧ θ_run (Cert.ReferenceCdIdeal.defs (F := Ideal)) (onTc (τ := Cert.ReferenceCdIdeal.τ) (Cert.ReferenceCdIdeal.main (F := Ideal))) ⟨m', fun _ => 0, g'⟩ (fun r => ∀ c : Dev Cert.ReferenceCdIdeal.nD,
          r.2.mem ((c.tc : Thread Cert.ReferenceCdIdeal.nD Cert.ReferenceCdIdeal.τ).loc Cert.ReferenceCdIdeal.main_v83) = v0 c
          ∧ r.2.mem ((c.tc : Thread Cert.ReferenceCdIdeal.nD Cert.ReferenceCdIdeal.τ).loc Cert.ReferenceCdIdeal.main_arg0) = m' ((c.tc : Thread Cert.ReferenceCdIdeal.nD Cert.ReferenceCdIdeal.τ).loc Cert.ReferenceCdIdeal.main_arg0)
          ∧ r.2.mem ((c.tc : Thread Cert.ReferenceCdIdeal.nD Cert.ReferenceCdIdeal.τ).loc Cert.ReferenceCdIdeal.main_arg1) = m' ((c.tc : Thread Cert.ReferenceCdIdeal.nD Cert.ReferenceCdIdeal.τ).loc Cert.ReferenceCdIdeal.main_arg1))

def preserves_KernelQt_KernelQtIdeal : Prop :=
  True

def algebraic_KernelQtIdeal_ReferenceQtIdeal [hKernelQtIdeal : Cert.KernelQtIdeal.Facts] [hReferenceQtIdeal : Cert.ReferenceQtIdeal.Facts] : Prop :=
  ∀ (m : (ℓ : Loc Cert.KernelQtIdeal.nD Cert.KernelQtIdeal.τ Cert.KernelQtIdeal.sig) → Buf (Elt Ideal) ℓ) (g : Dev Cert.KernelQtIdeal.nD → PrngReg)
    (m' : (ℓ : Loc Cert.ReferenceQtIdeal.nD Cert.ReferenceQtIdeal.τ Cert.ReferenceQtIdeal.sig) → Buf (Elt Ideal) ℓ) (g' : Dev Cert.ReferenceQtIdeal.nD → PrngReg), Pre_KernelQtIdeal m →
    (∀ c : Dev Cert.KernelQtIdeal.nD,
      m' ((c.tc : Thread Cert.ReferenceQtIdeal.nD Cert.ReferenceQtIdeal.τ).loc Cert.ReferenceQtIdeal.main_arg0) = m ((c.tc : Thread Cert.KernelQtIdeal.nD Cert.KernelQtIdeal.τ).loc Cert.KernelQtIdeal.main_arg0)
      ∧ m' ((c.tc : Thread Cert.ReferenceQtIdeal.nD Cert.ReferenceQtIdeal.τ).loc Cert.ReferenceQtIdeal.main_arg1) = m ((c.tc : Thread Cert.KernelQtIdeal.nD Cert.KernelQtIdeal.τ).loc Cert.KernelQtIdeal.main_arg1)) →
    ∃ (v0 : (c : Dev Cert.KernelQtIdeal.nD) → Buf (Elt Ideal) ((c.tc : Thread Cert.KernelQtIdeal.nD Cert.KernelQtIdeal.τ).loc Cert.KernelQtIdeal.main_v5)),
      θ_run (Cert.KernelQtIdeal.defs (F := Ideal)) (onTc (τ := Cert.KernelQtIdeal.τ) (Cert.KernelQtIdeal.main (F := Ideal))) ⟨m, fun _ => 0, g⟩ (fun r => ∀ c : Dev Cert.KernelQtIdeal.nD,
          r.2.mem ((c.tc : Thread Cert.KernelQtIdeal.nD Cert.KernelQtIdeal.τ).loc Cert.KernelQtIdeal.main_v5) = v0 c
          ∧ r.2.mem ((c.tc : Thread Cert.KernelQtIdeal.nD Cert.KernelQtIdeal.τ).loc Cert.KernelQtIdeal.main_arg0) = m ((c.tc : Thread Cert.KernelQtIdeal.nD Cert.KernelQtIdeal.τ).loc Cert.KernelQtIdeal.main_arg0)
          ∧ r.2.mem ((c.tc : Thread Cert.KernelQtIdeal.nD Cert.KernelQtIdeal.τ).loc Cert.KernelQtIdeal.main_arg1) = m ((c.tc : Thread Cert.KernelQtIdeal.nD Cert.KernelQtIdeal.τ).loc Cert.KernelQtIdeal.main_arg1))
      ∧ θ_run (Cert.ReferenceQtIdeal.defs (F := Ideal)) (onTc (τ := Cert.ReferenceQtIdeal.τ) (Cert.ReferenceQtIdeal.main (F := Ideal))) ⟨m', fun _ => 0, g'⟩ (fun r => ∀ c : Dev Cert.ReferenceQtIdeal.nD,
          r.2.mem ((c.tc : Thread Cert.ReferenceQtIdeal.nD Cert.ReferenceQtIdeal.τ).loc Cert.ReferenceQtIdeal.main_v2) = v0 c
          ∧ r.2.mem ((c.tc : Thread Cert.ReferenceQtIdeal.nD Cert.ReferenceQtIdeal.τ).loc Cert.ReferenceQtIdeal.main_arg0) = m' ((c.tc : Thread Cert.ReferenceQtIdeal.nD Cert.ReferenceQtIdeal.τ).loc Cert.ReferenceQtIdeal.main_arg0)
          ∧ r.2.mem ((c.tc : Thread Cert.ReferenceQtIdeal.nD Cert.ReferenceQtIdeal.τ).loc Cert.ReferenceQtIdeal.main_arg1) = m' ((c.tc : Thread Cert.ReferenceQtIdeal.nD Cert.ReferenceQtIdeal.τ).loc Cert.ReferenceQtIdeal.main_arg1))

def preserves_KernelLat_KernelLatIdeal : Prop :=
  True

def algebraic_KernelLatIdeal_ReferenceLatIdeal [hKernelLatIdeal : Cert.KernelLatIdeal.Facts] [hReferenceLatIdeal : Cert.ReferenceLatIdeal.Facts] : Prop :=
  ∀ (m : (ℓ : Loc Cert.KernelLatIdeal.nD Cert.KernelLatIdeal.τ Cert.KernelLatIdeal.sig) → Buf (Elt Ideal) ℓ) (g : Dev Cert.KernelLatIdeal.nD → PrngReg)
    (m' : (ℓ : Loc Cert.ReferenceLatIdeal.nD Cert.ReferenceLatIdeal.τ Cert.ReferenceLatIdeal.sig) → Buf (Elt Ideal) ℓ) (g' : Dev Cert.ReferenceLatIdeal.nD → PrngReg), Pre_KernelLatIdeal m →
    (∀ c : Dev Cert.KernelLatIdeal.nD,
      m' ((c.tc : Thread Cert.ReferenceLatIdeal.nD Cert.ReferenceLatIdeal.τ).loc Cert.ReferenceLatIdeal.main_arg0) = m ((c.tc : Thread Cert.KernelLatIdeal.nD Cert.KernelLatIdeal.τ).loc Cert.KernelLatIdeal.main_arg0)
      ∧ m' ((c.tc : Thread Cert.ReferenceLatIdeal.nD Cert.ReferenceLatIdeal.τ).loc Cert.ReferenceLatIdeal.main_arg1) = m ((c.tc : Thread Cert.KernelLatIdeal.nD Cert.KernelLatIdeal.τ).loc Cert.KernelLatIdeal.main_arg1)) →
    ∃ (v0 : (c : Dev Cert.KernelLatIdeal.nD) → Buf (Elt Ideal) ((c.tc : Thread Cert.KernelLatIdeal.nD Cert.KernelLatIdeal.τ).loc Cert.KernelLatIdeal.main_v5)),
      θ_run (Cert.KernelLatIdeal.defs (F := Ideal)) (onTc (τ := Cert.KernelLatIdeal.τ) (Cert.KernelLatIdeal.main (F := Ideal))) ⟨m, fun _ => 0, g⟩ (fun r => ∀ c : Dev Cert.KernelLatIdeal.nD,
          r.2.mem ((c.tc : Thread Cert.KernelLatIdeal.nD Cert.KernelLatIdeal.τ).loc Cert.KernelLatIdeal.main_v5) = v0 c
          ∧ r.2.mem ((c.tc : Thread Cert.KernelLatIdeal.nD Cert.KernelLatIdeal.τ).loc Cert.KernelLatIdeal.main_arg0) = m ((c.tc : Thread Cert.KernelLatIdeal.nD Cert.KernelLatIdeal.τ).loc Cert.KernelLatIdeal.main_arg0)
          ∧ r.2.mem ((c.tc : Thread Cert.KernelLatIdeal.nD Cert.KernelLatIdeal.τ).loc Cert.KernelLatIdeal.main_arg1) = m ((c.tc : Thread Cert.KernelLatIdeal.nD Cert.KernelLatIdeal.τ).loc Cert.KernelLatIdeal.main_arg1))
      ∧ θ_run (Cert.ReferenceLatIdeal.defs (F := Ideal)) (onTc (τ := Cert.ReferenceLatIdeal.τ) (Cert.ReferenceLatIdeal.main (F := Ideal))) ⟨m', fun _ => 0, g'⟩ (fun r => ∀ c : Dev Cert.ReferenceLatIdeal.nD,
          r.2.mem ((c.tc : Thread Cert.ReferenceLatIdeal.nD Cert.ReferenceLatIdeal.τ).loc Cert.ReferenceLatIdeal.main_v9) = v0 c
          ∧ r.2.mem ((c.tc : Thread Cert.ReferenceLatIdeal.nD Cert.ReferenceLatIdeal.τ).loc Cert.ReferenceLatIdeal.main_arg0) = m' ((c.tc : Thread Cert.ReferenceLatIdeal.nD Cert.ReferenceLatIdeal.τ).loc Cert.ReferenceLatIdeal.main_arg0)
          ∧ r.2.mem ((c.tc : Thread Cert.ReferenceLatIdeal.nD Cert.ReferenceLatIdeal.τ).loc Cert.ReferenceLatIdeal.main_arg1) = m' ((c.tc : Thread Cert.ReferenceLatIdeal.nD Cert.ReferenceLatIdeal.τ).loc Cert.ReferenceLatIdeal.main_arg1))

def preserves_KernelUkv_KernelUkvIdeal : Prop :=
  True

def algebraic_KernelUkvIdeal_ReferenceUkvIdeal [hKernelUkvIdeal : Cert.KernelUkvIdeal.Facts] [hReferenceUkvIdeal : Cert.ReferenceUkvIdeal.Facts] : Prop :=
  ∀ (m : (ℓ : Loc Cert.KernelUkvIdeal.nD Cert.KernelUkvIdeal.τ Cert.KernelUkvIdeal.sig) → Buf (Elt Ideal) ℓ) (g : Dev Cert.KernelUkvIdeal.nD → PrngReg)
    (m' : (ℓ : Loc Cert.ReferenceUkvIdeal.nD Cert.ReferenceUkvIdeal.τ Cert.ReferenceUkvIdeal.sig) → Buf (Elt Ideal) ℓ) (g' : Dev Cert.ReferenceUkvIdeal.nD → PrngReg), Pre_KernelUkvIdeal m →
    (∀ c : Dev Cert.KernelUkvIdeal.nD,
      m' ((c.tc : Thread Cert.ReferenceUkvIdeal.nD Cert.ReferenceUkvIdeal.τ).loc Cert.ReferenceUkvIdeal.main_arg0) = m ((c.tc : Thread Cert.KernelUkvIdeal.nD Cert.KernelUkvIdeal.τ).loc Cert.KernelUkvIdeal.main_arg0)
      ∧ m' ((c.tc : Thread Cert.ReferenceUkvIdeal.nD Cert.ReferenceUkvIdeal.τ).loc Cert.ReferenceUkvIdeal.main_arg1) = m ((c.tc : Thread Cert.KernelUkvIdeal.nD Cert.KernelUkvIdeal.τ).loc Cert.KernelUkvIdeal.main_arg1)) →
    ∃ (v0 : (c : Dev Cert.KernelUkvIdeal.nD) → Buf (Elt Ideal) ((c.tc : Thread Cert.KernelUkvIdeal.nD Cert.KernelUkvIdeal.τ).loc Cert.KernelUkvIdeal.main_v3)),
      θ_run (Cert.KernelUkvIdeal.defs (F := Ideal)) (onTc (τ := Cert.KernelUkvIdeal.τ) (Cert.KernelUkvIdeal.main (F := Ideal))) ⟨m, fun _ => 0, g⟩ (fun r => ∀ c : Dev Cert.KernelUkvIdeal.nD,
          r.2.mem ((c.tc : Thread Cert.KernelUkvIdeal.nD Cert.KernelUkvIdeal.τ).loc Cert.KernelUkvIdeal.main_v3) = v0 c
          ∧ r.2.mem ((c.tc : Thread Cert.KernelUkvIdeal.nD Cert.KernelUkvIdeal.τ).loc Cert.KernelUkvIdeal.main_arg0) = m ((c.tc : Thread Cert.KernelUkvIdeal.nD Cert.KernelUkvIdeal.τ).loc Cert.KernelUkvIdeal.main_arg0)
          ∧ r.2.mem ((c.tc : Thread Cert.KernelUkvIdeal.nD Cert.KernelUkvIdeal.τ).loc Cert.KernelUkvIdeal.main_arg1) = m ((c.tc : Thread Cert.KernelUkvIdeal.nD Cert.KernelUkvIdeal.τ).loc Cert.KernelUkvIdeal.main_arg1))
      ∧ θ_run (Cert.ReferenceUkvIdeal.defs (F := Ideal)) (onTc (τ := Cert.ReferenceUkvIdeal.τ) (Cert.ReferenceUkvIdeal.main (F := Ideal))) ⟨m', fun _ => 0, g'⟩ (fun r => ∀ c : Dev Cert.ReferenceUkvIdeal.nD,
          r.2.mem ((c.tc : Thread Cert.ReferenceUkvIdeal.nD Cert.ReferenceUkvIdeal.τ).loc Cert.ReferenceUkvIdeal.main_v2) = v0 c
          ∧ r.2.mem ((c.tc : Thread Cert.ReferenceUkvIdeal.nD Cert.ReferenceUkvIdeal.τ).loc Cert.ReferenceUkvIdeal.main_arg0) = m' ((c.tc : Thread Cert.ReferenceUkvIdeal.nD Cert.ReferenceUkvIdeal.τ).loc Cert.ReferenceUkvIdeal.main_arg0)
          ∧ r.2.mem ((c.tc : Thread Cert.ReferenceUkvIdeal.nD Cert.ReferenceUkvIdeal.τ).loc Cert.ReferenceUkvIdeal.main_arg1) = m' ((c.tc : Thread Cert.ReferenceUkvIdeal.nD Cert.ReferenceUkvIdeal.τ).loc Cert.ReferenceUkvIdeal.main_arg1))

def preserves_KernelMq_KernelMqIdeal : Prop :=
  True

def algebraic_KernelMqIdeal_ReferenceMqIdeal [hKernelMqIdeal : Cert.KernelMqIdeal.Facts] [hReferenceMqIdeal : Cert.ReferenceMqIdeal.Facts] : Prop :=
  ∀ (m : (ℓ : Loc Cert.KernelMqIdeal.nD Cert.KernelMqIdeal.τ Cert.KernelMqIdeal.sig) → Buf (Elt Ideal) ℓ) (g : Dev Cert.KernelMqIdeal.nD → PrngReg)
    (m' : (ℓ : Loc Cert.ReferenceMqIdeal.nD Cert.ReferenceMqIdeal.τ Cert.ReferenceMqIdeal.sig) → Buf (Elt Ideal) ℓ) (g' : Dev Cert.ReferenceMqIdeal.nD → PrngReg), Pre_KernelMqIdeal m →
    (∀ c : Dev Cert.KernelMqIdeal.nD,
      m' ((c.tc : Thread Cert.ReferenceMqIdeal.nD Cert.ReferenceMqIdeal.τ).loc Cert.ReferenceMqIdeal.main_arg0) = m ((c.tc : Thread Cert.KernelMqIdeal.nD Cert.KernelMqIdeal.τ).loc Cert.KernelMqIdeal.main_arg0)
      ∧ m' ((c.tc : Thread Cert.ReferenceMqIdeal.nD Cert.ReferenceMqIdeal.τ).loc Cert.ReferenceMqIdeal.main_arg1) = m ((c.tc : Thread Cert.KernelMqIdeal.nD Cert.KernelMqIdeal.τ).loc Cert.KernelMqIdeal.main_arg1)) →
    ∃ (v0 : (c : Dev Cert.KernelMqIdeal.nD) → Buf (Elt Ideal) ((c.tc : Thread Cert.KernelMqIdeal.nD Cert.KernelMqIdeal.τ).loc Cert.KernelMqIdeal.main_v5)),
      θ_run (Cert.KernelMqIdeal.defs (F := Ideal)) (onTc (τ := Cert.KernelMqIdeal.τ) (Cert.KernelMqIdeal.main (F := Ideal))) ⟨m, fun _ => 0, g⟩ (fun r => ∀ c : Dev Cert.KernelMqIdeal.nD,
          r.2.mem ((c.tc : Thread Cert.KernelMqIdeal.nD Cert.KernelMqIdeal.τ).loc Cert.KernelMqIdeal.main_v5) = v0 c
          ∧ r.2.mem ((c.tc : Thread Cert.KernelMqIdeal.nD Cert.KernelMqIdeal.τ).loc Cert.KernelMqIdeal.main_arg0) = m ((c.tc : Thread Cert.KernelMqIdeal.nD Cert.KernelMqIdeal.τ).loc Cert.KernelMqIdeal.main_arg0)
          ∧ r.2.mem ((c.tc : Thread Cert.KernelMqIdeal.nD Cert.KernelMqIdeal.τ).loc Cert.KernelMqIdeal.main_arg1) = m ((c.tc : Thread Cert.KernelMqIdeal.nD Cert.KernelMqIdeal.τ).loc Cert.KernelMqIdeal.main_arg1))
      ∧ θ_run (Cert.ReferenceMqIdeal.defs (F := Ideal)) (onTc (τ := Cert.ReferenceMqIdeal.τ) (Cert.ReferenceMqIdeal.main (F := Ideal))) ⟨m', fun _ => 0, g'⟩ (fun r => ∀ c : Dev Cert.ReferenceMqIdeal.nD,
          r.2.mem ((c.tc : Thread Cert.ReferenceMqIdeal.nD Cert.ReferenceMqIdeal.τ).loc Cert.ReferenceMqIdeal.main_v4) = v0 c
          ∧ r.2.mem ((c.tc : Thread Cert.ReferenceMqIdeal.nD Cert.ReferenceMqIdeal.τ).loc Cert.ReferenceMqIdeal.main_arg0) = m' ((c.tc : Thread Cert.ReferenceMqIdeal.nD Cert.ReferenceMqIdeal.τ).loc Cert.ReferenceMqIdeal.main_arg0)
          ∧ r.2.mem ((c.tc : Thread Cert.ReferenceMqIdeal.nD Cert.ReferenceMqIdeal.τ).loc Cert.ReferenceMqIdeal.main_arg1) = m' ((c.tc : Thread Cert.ReferenceMqIdeal.nD Cert.ReferenceMqIdeal.τ).loc Cert.ReferenceMqIdeal.main_arg1))

def preserves_KernelMkv_KernelMkvIdeal : Prop :=
  True

def algebraic_KernelMkvIdeal_ReferenceMkvIdeal [hKernelMkvIdeal : Cert.KernelMkvIdeal.Facts] [hReferenceMkvIdeal : Cert.ReferenceMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg)
    (m' : (ℓ : Loc Cert.ReferenceMkvIdeal.nD Cert.ReferenceMkvIdeal.τ Cert.ReferenceMkvIdeal.sig) → Buf (Elt Ideal) ℓ) (g' : Dev Cert.ReferenceMkvIdeal.nD → PrngReg), Pre_KernelMkvIdeal m →
    (∀ c : Dev Cert.KernelMkvIdeal.nD,
      m' ((c.tc : Thread Cert.ReferenceMkvIdeal.nD Cert.ReferenceMkvIdeal.τ).loc Cert.ReferenceMkvIdeal.main_arg0) = m ((c.tc : Thread Cert.KernelMkvIdeal.nD Cert.KernelMkvIdeal.τ).loc Cert.KernelMkvIdeal.main_arg0)
      ∧ m' ((c.tc : Thread Cert.ReferenceMkvIdeal.nD Cert.ReferenceMkvIdeal.τ).loc Cert.ReferenceMkvIdeal.main_arg1) = m ((c.tc : Thread Cert.KernelMkvIdeal.nD Cert.KernelMkvIdeal.τ).loc Cert.KernelMkvIdeal.main_arg1)) →
    ∃ (v0 : (c : Dev Cert.KernelMkvIdeal.nD) → Buf (Elt Ideal) ((c.tc : Thread Cert.KernelMkvIdeal.nD Cert.KernelMkvIdeal.τ).loc Cert.KernelMkvIdeal.main_v3)),
      θ_run (Cert.KernelMkvIdeal.defs (F := Ideal)) (onTc (τ := Cert.KernelMkvIdeal.τ) (Cert.KernelMkvIdeal.main (F := Ideal))) ⟨m, fun _ => 0, g⟩ (fun r => ∀ c : Dev Cert.KernelMkvIdeal.nD,
          r.2.mem ((c.tc : Thread Cert.KernelMkvIdeal.nD Cert.KernelMkvIdeal.τ).loc Cert.KernelMkvIdeal.main_v3) = v0 c
          ∧ r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
          ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1))
      ∧ θ_run (Cert.ReferenceMkvIdeal.defs (F := Ideal)) (onTc (τ := Cert.ReferenceMkvIdeal.τ) (Cert.ReferenceMkvIdeal.main (F := Ideal))) ⟨m', fun _ => 0, g'⟩ (fun r => ∀ c : Dev Cert.ReferenceMkvIdeal.nD,
          r.2.mem ((c.tc : Thread Cert.ReferenceMkvIdeal.nD Cert.ReferenceMkvIdeal.τ).loc Cert.ReferenceMkvIdeal.main_v2) = v0 c
          ∧ r.2.mem ((c.tc : Thread Cert.ReferenceMkvIdeal.nD Cert.ReferenceMkvIdeal.τ).loc Cert.ReferenceMkvIdeal.main_arg0) = m' ((c.tc : Thread Cert.ReferenceMkvIdeal.nD Cert.ReferenceMkvIdeal.τ).loc Cert.ReferenceMkvIdeal.main_arg0)
          ∧ r.2.mem ((c.tc : Thread Cert.ReferenceMkvIdeal.nD Cert.ReferenceMkvIdeal.τ).loc Cert.ReferenceMkvIdeal.main_arg1) = m' ((c.tc : Thread Cert.ReferenceMkvIdeal.nD Cert.ReferenceMkvIdeal.τ).loc Cert.ReferenceMkvIdeal.main_arg1))

def preserves_KernelQi_KernelQiIdeal : Prop :=
  True

def algebraic_KernelQiIdeal_ReferenceQiIdeal [hKernelQiIdeal : Cert.KernelQiIdeal.Facts] [hReferenceQiIdeal : Cert.ReferenceQiIdeal.Facts] : Prop :=
  ∀ (m : (ℓ : Loc Cert.KernelQiIdeal.nD Cert.KernelQiIdeal.τ Cert.KernelQiIdeal.sig) → Buf (Elt Ideal) ℓ) (g : Dev Cert.KernelQiIdeal.nD → PrngReg)
    (m' : (ℓ : Loc Cert.ReferenceQiIdeal.nD Cert.ReferenceQiIdeal.τ Cert.ReferenceQiIdeal.sig) → Buf (Elt Ideal) ℓ) (g' : Dev Cert.ReferenceQiIdeal.nD → PrngReg), Pre_KernelQiIdeal m →
    (∀ c : Dev Cert.KernelQiIdeal.nD,
      m' ((c.tc : Thread Cert.ReferenceQiIdeal.nD Cert.ReferenceQiIdeal.τ).loc Cert.ReferenceQiIdeal.main_arg0) = m ((c.tc : Thread Cert.KernelQiIdeal.nD Cert.KernelQiIdeal.τ).loc Cert.KernelQiIdeal.main_arg0)
      ∧ m' ((c.tc : Thread Cert.ReferenceQiIdeal.nD Cert.ReferenceQiIdeal.τ).loc Cert.ReferenceQiIdeal.main_arg1) = m ((c.tc : Thread Cert.KernelQiIdeal.nD Cert.KernelQiIdeal.τ).loc Cert.KernelQiIdeal.main_arg1)) →
    ∃ (v0 : (c : Dev Cert.KernelQiIdeal.nD) → Buf (Elt Ideal) ((c.tc : Thread Cert.KernelQiIdeal.nD Cert.KernelQiIdeal.τ).loc Cert.KernelQiIdeal.main_v43)),
      θ_run (Cert.KernelQiIdeal.defs (F := Ideal)) (onTc (τ := Cert.KernelQiIdeal.τ) (Cert.KernelQiIdeal.main (F := Ideal))) ⟨m, fun _ => 0, g⟩ (fun r => ∀ c : Dev Cert.KernelQiIdeal.nD,
          r.2.mem ((c.tc : Thread Cert.KernelQiIdeal.nD Cert.KernelQiIdeal.τ).loc Cert.KernelQiIdeal.main_v43) = v0 c
          ∧ r.2.mem ((c.tc : Thread Cert.KernelQiIdeal.nD Cert.KernelQiIdeal.τ).loc Cert.KernelQiIdeal.main_arg0) = m ((c.tc : Thread Cert.KernelQiIdeal.nD Cert.KernelQiIdeal.τ).loc Cert.KernelQiIdeal.main_arg0)
          ∧ r.2.mem ((c.tc : Thread Cert.KernelQiIdeal.nD Cert.KernelQiIdeal.τ).loc Cert.KernelQiIdeal.main_arg1) = m ((c.tc : Thread Cert.KernelQiIdeal.nD Cert.KernelQiIdeal.τ).loc Cert.KernelQiIdeal.main_arg1))
      ∧ θ_run (Cert.ReferenceQiIdeal.defs (F := Ideal)) (onTc (τ := Cert.ReferenceQiIdeal.τ) (Cert.ReferenceQiIdeal.main (F := Ideal))) ⟨m', fun _ => 0, g'⟩ (fun r => ∀ c : Dev Cert.ReferenceQiIdeal.nD,
          r.2.mem ((c.tc : Thread Cert.ReferenceQiIdeal.nD Cert.ReferenceQiIdeal.τ).loc Cert.ReferenceQiIdeal.main_v44) = v0 c
          ∧ r.2.mem ((c.tc : Thread Cert.ReferenceQiIdeal.nD Cert.ReferenceQiIdeal.τ).loc Cert.ReferenceQiIdeal.main_arg0) = m' ((c.tc : Thread Cert.ReferenceQiIdeal.nD Cert.ReferenceQiIdeal.τ).loc Cert.ReferenceQiIdeal.main_arg0)
          ∧ r.2.mem ((c.tc : Thread Cert.ReferenceQiIdeal.nD Cert.ReferenceQiIdeal.τ).loc Cert.ReferenceQiIdeal.main_arg1) = m' ((c.tc : Thread Cert.ReferenceQiIdeal.nD Cert.ReferenceQiIdeal.τ).loc Cert.ReferenceQiIdeal.main_arg1))

def preserves_KernelMo_KernelMoIdeal : Prop :=
  True

def algebraic_KernelMoIdeal_ReferenceMoIdeal [hKernelMoIdeal : Cert.KernelMoIdeal.Facts] [hReferenceMoIdeal : Cert.ReferenceMoIdeal.Facts] : Prop :=
  ∀ (m : (ℓ : Loc Cert.KernelMoIdeal.nD Cert.KernelMoIdeal.τ Cert.KernelMoIdeal.sig) → Buf (Elt Ideal) ℓ) (g : Dev Cert.KernelMoIdeal.nD → PrngReg)
    (m' : (ℓ : Loc Cert.ReferenceMoIdeal.nD Cert.ReferenceMoIdeal.τ Cert.ReferenceMoIdeal.sig) → Buf (Elt Ideal) ℓ) (g' : Dev Cert.ReferenceMoIdeal.nD → PrngReg), Pre_KernelMoIdeal m →
    (∀ c : Dev Cert.KernelMoIdeal.nD,
      m' ((c.tc : Thread Cert.ReferenceMoIdeal.nD Cert.ReferenceMoIdeal.τ).loc Cert.ReferenceMoIdeal.main_arg0) = m ((c.tc : Thread Cert.KernelMoIdeal.nD Cert.KernelMoIdeal.τ).loc Cert.KernelMoIdeal.main_arg0)
      ∧ m' ((c.tc : Thread Cert.ReferenceMoIdeal.nD Cert.ReferenceMoIdeal.τ).loc Cert.ReferenceMoIdeal.main_arg1) = m ((c.tc : Thread Cert.KernelMoIdeal.nD Cert.KernelMoIdeal.τ).loc Cert.KernelMoIdeal.main_arg1)
      ∧ m' ((c.tc : Thread Cert.ReferenceMoIdeal.nD Cert.ReferenceMoIdeal.τ).loc Cert.ReferenceMoIdeal.main_arg2) = m ((c.tc : Thread Cert.KernelMoIdeal.nD Cert.KernelMoIdeal.τ).loc Cert.KernelMoIdeal.main_arg2)
      ∧ m' ((c.tc : Thread Cert.ReferenceMoIdeal.nD Cert.ReferenceMoIdeal.τ).loc Cert.ReferenceMoIdeal.main_arg3) = m ((c.tc : Thread Cert.KernelMoIdeal.nD Cert.KernelMoIdeal.τ).loc Cert.KernelMoIdeal.main_arg3)
      ∧ m' ((c.tc : Thread Cert.ReferenceMoIdeal.nD Cert.ReferenceMoIdeal.τ).loc Cert.ReferenceMoIdeal.main_arg4) = m ((c.tc : Thread Cert.KernelMoIdeal.nD Cert.KernelMoIdeal.τ).loc Cert.KernelMoIdeal.main_arg4)) →
    ∃ (v0 : (c : Dev Cert.KernelMoIdeal.nD) → Buf (Elt Ideal) ((c.tc : Thread Cert.KernelMoIdeal.nD Cert.KernelMoIdeal.τ).loc Cert.KernelMoIdeal.main_v6_0)) (v1 : (c : Dev Cert.KernelMoIdeal.nD) → Buf (Elt Ideal) ((c.tc : Thread Cert.KernelMoIdeal.nD Cert.KernelMoIdeal.τ).loc Cert.KernelMoIdeal.main_v6_1)),
      θ_run (Cert.KernelMoIdeal.defs (F := Ideal)) (onTc (τ := Cert.KernelMoIdeal.τ) (Cert.KernelMoIdeal.main (F := Ideal))) ⟨m, fun _ => 0, g⟩ (fun r => ∀ c : Dev Cert.KernelMoIdeal.nD,
          r.2.mem ((c.tc : Thread Cert.KernelMoIdeal.nD Cert.KernelMoIdeal.τ).loc Cert.KernelMoIdeal.main_v6_0) = v0 c
          ∧ r.2.mem ((c.tc : Thread Cert.KernelMoIdeal.nD Cert.KernelMoIdeal.τ).loc Cert.KernelMoIdeal.main_v6_1) = v1 c
          ∧ r.2.mem ((c.tc : Thread Cert.KernelMoIdeal.nD Cert.KernelMoIdeal.τ).loc Cert.KernelMoIdeal.main_arg0) = m ((c.tc : Thread Cert.KernelMoIdeal.nD Cert.KernelMoIdeal.τ).loc Cert.KernelMoIdeal.main_arg0)
          ∧ r.2.mem ((c.tc : Thread Cert.KernelMoIdeal.nD Cert.KernelMoIdeal.τ).loc Cert.KernelMoIdeal.main_arg1) = m ((c.tc : Thread Cert.KernelMoIdeal.nD Cert.KernelMoIdeal.τ).loc Cert.KernelMoIdeal.main_arg1)
          ∧ r.2.mem ((c.tc : Thread Cert.KernelMoIdeal.nD Cert.KernelMoIdeal.τ).loc Cert.KernelMoIdeal.main_arg2) = m ((c.tc : Thread Cert.KernelMoIdeal.nD Cert.KernelMoIdeal.τ).loc Cert.KernelMoIdeal.main_arg2)
          ∧ r.2.mem ((c.tc : Thread Cert.KernelMoIdeal.nD Cert.KernelMoIdeal.τ).loc Cert.KernelMoIdeal.main_arg3) = m ((c.tc : Thread Cert.KernelMoIdeal.nD Cert.KernelMoIdeal.τ).loc Cert.KernelMoIdeal.main_arg3)
          ∧ r.2.mem ((c.tc : Thread Cert.KernelMoIdeal.nD Cert.KernelMoIdeal.τ).loc Cert.KernelMoIdeal.main_arg4) = m ((c.tc : Thread Cert.KernelMoIdeal.nD Cert.KernelMoIdeal.τ).loc Cert.KernelMoIdeal.main_arg4))
      ∧ θ_run (Cert.ReferenceMoIdeal.defs (F := Ideal)) (onTc (τ := Cert.ReferenceMoIdeal.τ) (Cert.ReferenceMoIdeal.main (F := Ideal))) ⟨m', fun _ => 0, g'⟩ (fun r => ∀ c : Dev Cert.ReferenceMoIdeal.nD,
          r.2.mem ((c.tc : Thread Cert.ReferenceMoIdeal.nD Cert.ReferenceMoIdeal.τ).loc Cert.ReferenceMoIdeal.main_v26) = v0 c
          ∧ r.2.mem ((c.tc : Thread Cert.ReferenceMoIdeal.nD Cert.ReferenceMoIdeal.τ).loc Cert.ReferenceMoIdeal.main_v28) = v1 c
          ∧ r.2.mem ((c.tc : Thread Cert.ReferenceMoIdeal.nD Cert.ReferenceMoIdeal.τ).loc Cert.ReferenceMoIdeal.main_arg0) = m' ((c.tc : Thread Cert.ReferenceMoIdeal.nD Cert.ReferenceMoIdeal.τ).loc Cert.ReferenceMoIdeal.main_arg0)
          ∧ r.2.mem ((c.tc : Thread Cert.ReferenceMoIdeal.nD Cert.ReferenceMoIdeal.τ).loc Cert.ReferenceMoIdeal.main_arg1) = m' ((c.tc : Thread Cert.ReferenceMoIdeal.nD Cert.ReferenceMoIdeal.τ).loc Cert.ReferenceMoIdeal.main_arg1)
          ∧ r.2.mem ((c.tc : Thread Cert.ReferenceMoIdeal.nD Cert.ReferenceMoIdeal.τ).loc Cert.ReferenceMoIdeal.main_arg2) = m' ((c.tc : Thread Cert.ReferenceMoIdeal.nD Cert.ReferenceMoIdeal.τ).loc Cert.ReferenceMoIdeal.main_arg2)
          ∧ r.2.mem ((c.tc : Thread Cert.ReferenceMoIdeal.nD Cert.ReferenceMoIdeal.τ).loc Cert.ReferenceMoIdeal.main_arg3) = m' ((c.tc : Thread Cert.ReferenceMoIdeal.nD Cert.ReferenceMoIdeal.τ).loc Cert.ReferenceMoIdeal.main_arg3)
          ∧ r.2.mem ((c.tc : Thread Cert.ReferenceMoIdeal.nD Cert.ReferenceMoIdeal.τ).loc Cert.ReferenceMoIdeal.main_arg4) = m' ((c.tc : Thread Cert.ReferenceMoIdeal.nD Cert.ReferenceMoIdeal.τ).loc Cert.ReferenceMoIdeal.main_arg4))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)) →
    ∃ (v0 : (c : Dev Cert.KernelLnIdeal.nD) → Buf (Elt Ideal) ((c.tc : Thread Cert.KernelLnIdeal.nD Cert.KernelLnIdeal.τ).loc Cert.KernelLnIdeal.main_v4_0)) (v1 : (c : Dev Cert.KernelLnIdeal.nD) → Buf (Elt Ideal) ((c.tc : Thread Cert.KernelLnIdeal.nD Cert.KernelLnIdeal.τ).loc Cert.KernelLnIdeal.main_v4_1)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v4_0) = v0 c
          ∧ r.2.mem ((c.tc : Thread Cert.KernelLnIdeal.nD Cert.KernelLnIdeal.τ).loc Cert.KernelLnIdeal.main_v4_1) = v1 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v25) = v0 c
          ∧ r.2.mem ((c.tc : Thread Cert.ReferenceLnIdeal.nD Cert.ReferenceLnIdeal.τ).loc Cert.ReferenceLnIdeal.main_v26) = v1 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3))

def preserves_KernelUq_KernelUqIdeal : Prop :=
  True

def algebraic_KernelUqIdeal_ReferenceUqIdeal [hKernelUqIdeal : Cert.KernelUqIdeal.Facts] [hReferenceUqIdeal : Cert.ReferenceUqIdeal.Facts] : Prop :=
  ∀ (m : (ℓ : Loc Cert.KernelUqIdeal.nD Cert.KernelUqIdeal.τ Cert.KernelUqIdeal.sig) → Buf (Elt Ideal) ℓ) (g : Dev Cert.KernelUqIdeal.nD → PrngReg)
    (m' : (ℓ : Loc Cert.ReferenceUqIdeal.nD Cert.ReferenceUqIdeal.τ Cert.ReferenceUqIdeal.sig) → Buf (Elt Ideal) ℓ) (g' : Dev Cert.ReferenceUqIdeal.nD → PrngReg), Pre_KernelUqIdeal m →
    (∀ c : Dev Cert.KernelUqIdeal.nD,
      m' ((c.tc : Thread Cert.ReferenceUqIdeal.nD Cert.ReferenceUqIdeal.τ).loc Cert.ReferenceUqIdeal.main_arg0) = m ((c.tc : Thread Cert.KernelUqIdeal.nD Cert.KernelUqIdeal.τ).loc Cert.KernelUqIdeal.main_arg0)
      ∧ m' ((c.tc : Thread Cert.ReferenceUqIdeal.nD Cert.ReferenceUqIdeal.τ).loc Cert.ReferenceUqIdeal.main_arg1) = m ((c.tc : Thread Cert.KernelUqIdeal.nD Cert.KernelUqIdeal.τ).loc Cert.KernelUqIdeal.main_arg1)) →
    ∃ (v0 : (c : Dev Cert.KernelUqIdeal.nD) → Buf (Elt Ideal) ((c.tc : Thread Cert.KernelUqIdeal.nD Cert.KernelUqIdeal.τ).loc Cert.KernelUqIdeal.main_v36)),
      θ_run (Cert.KernelUqIdeal.defs (F := Ideal)) (onTc (τ := Cert.KernelUqIdeal.τ) (Cert.KernelUqIdeal.main (F := Ideal))) ⟨m, fun _ => 0, g⟩ (fun r => ∀ c : Dev Cert.KernelUqIdeal.nD,
          r.2.mem ((c.tc : Thread Cert.KernelUqIdeal.nD Cert.KernelUqIdeal.τ).loc Cert.KernelUqIdeal.main_v36) = v0 c
          ∧ r.2.mem ((c.tc : Thread Cert.KernelUqIdeal.nD Cert.KernelUqIdeal.τ).loc Cert.KernelUqIdeal.main_arg0) = m ((c.tc : Thread Cert.KernelUqIdeal.nD Cert.KernelUqIdeal.τ).loc Cert.KernelUqIdeal.main_arg0)
          ∧ r.2.mem ((c.tc : Thread Cert.KernelUqIdeal.nD Cert.KernelUqIdeal.τ).loc Cert.KernelUqIdeal.main_arg1) = m ((c.tc : Thread Cert.KernelUqIdeal.nD Cert.KernelUqIdeal.τ).loc Cert.KernelUqIdeal.main_arg1))
      ∧ θ_run (Cert.ReferenceUqIdeal.defs (F := Ideal)) (onTc (τ := Cert.ReferenceUqIdeal.τ) (Cert.ReferenceUqIdeal.main (F := Ideal))) ⟨m', fun _ => 0, g'⟩ (fun r => ∀ c : Dev Cert.ReferenceUqIdeal.nD,
          r.2.mem ((c.tc : Thread Cert.ReferenceUqIdeal.nD Cert.ReferenceUqIdeal.τ).loc Cert.ReferenceUqIdeal.main_v40) = v0 c
          ∧ r.2.mem ((c.tc : Thread Cert.ReferenceUqIdeal.nD Cert.ReferenceUqIdeal.τ).loc Cert.ReferenceUqIdeal.main_arg0) = m' ((c.tc : Thread Cert.ReferenceUqIdeal.nD Cert.ReferenceUqIdeal.τ).loc Cert.ReferenceUqIdeal.main_arg0)
          ∧ r.2.mem ((c.tc : Thread Cert.ReferenceUqIdeal.nD Cert.ReferenceUqIdeal.τ).loc Cert.ReferenceUqIdeal.main_arg1) = m' ((c.tc : Thread Cert.ReferenceUqIdeal.nD Cert.ReferenceUqIdeal.τ).loc Cert.ReferenceUqIdeal.main_arg1))

def preserves_KernelPb_KernelPbIdeal : Prop :=
  True

def algebraic_KernelPbIdeal_ReferencePbIdeal [hKernelPbIdeal : Cert.KernelPbIdeal.Facts] [hReferencePbIdeal : Cert.ReferencePbIdeal.Facts] : Prop :=
  ∀ (m : (ℓ : Loc Cert.KernelPbIdeal.nD Cert.KernelPbIdeal.τ Cert.KernelPbIdeal.sig) → Buf (Elt Ideal) ℓ) (g : Dev Cert.KernelPbIdeal.nD → PrngReg)
    (m' : (ℓ : Loc Cert.ReferencePbIdeal.nD Cert.ReferencePbIdeal.τ Cert.ReferencePbIdeal.sig) → Buf (Elt Ideal) ℓ) (g' : Dev Cert.ReferencePbIdeal.nD → PrngReg), Pre_KernelPbIdeal m →
    (∀ c : Dev Cert.KernelPbIdeal.nD,
      m' ((c.tc : Thread Cert.ReferencePbIdeal.nD Cert.ReferencePbIdeal.τ).loc Cert.ReferencePbIdeal.main_arg0) = m ((c.tc : Thread Cert.KernelPbIdeal.nD Cert.KernelPbIdeal.τ).loc Cert.KernelPbIdeal.main_arg0)
      ∧ m' ((c.tc : Thread Cert.ReferencePbIdeal.nD Cert.ReferencePbIdeal.τ).loc Cert.ReferencePbIdeal.main_arg1) = m ((c.tc : Thread Cert.KernelPbIdeal.nD Cert.KernelPbIdeal.τ).loc Cert.KernelPbIdeal.main_arg1)) →
    ∃ (v0 : (c : Dev Cert.KernelPbIdeal.nD) → Buf (Elt Ideal) ((c.tc : Thread Cert.KernelPbIdeal.nD Cert.KernelPbIdeal.τ).loc Cert.KernelPbIdeal.main_v13)),
      θ_run (Cert.KernelPbIdeal.defs (F := Ideal)) (onTc (τ := Cert.KernelPbIdeal.τ) (Cert.KernelPbIdeal.main (F := Ideal))) ⟨m, fun _ => 0, g⟩ (fun r => ∀ c : Dev Cert.KernelPbIdeal.nD,
          r.2.mem ((c.tc : Thread Cert.KernelPbIdeal.nD Cert.KernelPbIdeal.τ).loc Cert.KernelPbIdeal.main_v13) = v0 c
          ∧ r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
          ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1))
      ∧ θ_run (Cert.ReferencePbIdeal.defs (F := Ideal)) (onTc (τ := Cert.ReferencePbIdeal.τ) (Cert.ReferencePbIdeal.main (F := Ideal))) ⟨m', fun _ => 0, g'⟩ (fun r => ∀ c : Dev Cert.ReferencePbIdeal.nD,
          r.2.mem ((c.tc : Thread Cert.ReferencePbIdeal.nD Cert.ReferencePbIdeal.τ).loc Cert.ReferencePbIdeal.main_v15) = v0 c
          ∧ r.2.mem ((c.tc : Thread Cert.ReferencePbIdeal.nD Cert.ReferencePbIdeal.τ).loc Cert.ReferencePbIdeal.main_arg0) = m' ((c.tc : Thread Cert.ReferencePbIdeal.nD Cert.ReferencePbIdeal.τ).loc Cert.ReferencePbIdeal.main_arg0)
          ∧ r.2.mem ((c.tc : Thread Cert.ReferencePbIdeal.nD Cert.ReferencePbIdeal.τ).loc Cert.ReferencePbIdeal.main_arg1) = m' ((c.tc : Thread Cert.ReferencePbIdeal.nD Cert.ReferencePbIdeal.τ).loc Cert.ReferencePbIdeal.main_arg1))

def preserves_KernelRk_KernelRkIdeal : Prop :=
  True

def algebraic_KernelRkIdeal_ReferenceRkIdeal [hKernelRkIdeal : Cert.KernelRkIdeal.Facts] [hReferenceRkIdeal : Cert.ReferenceRkIdeal.Facts] : Prop :=
  ∀ (m : (ℓ : Loc Cert.KernelRkIdeal.nD Cert.KernelRkIdeal.τ Cert.KernelRkIdeal.sig) → Buf (Elt Ideal) ℓ) (g : Dev Cert.KernelRkIdeal.nD → PrngReg)
    (m' : (ℓ : Loc Cert.ReferenceRkIdeal.nD Cert.ReferenceRkIdeal.τ Cert.ReferenceRkIdeal.sig) → Buf (Elt Ideal) ℓ) (g' : Dev Cert.ReferenceRkIdeal.nD → PrngReg), Pre_KernelRkIdeal m →
    (∀ c : Dev Cert.KernelRkIdeal.nD,
      m' ((c.tc : Thread Cert.ReferenceRkIdeal.nD Cert.ReferenceRkIdeal.τ).loc Cert.ReferenceRkIdeal.main_arg0) = m ((c.tc : Thread Cert.KernelRkIdeal.nD Cert.KernelRkIdeal.τ).loc Cert.KernelRkIdeal.main_arg0)
      ∧ m' ((c.tc : Thread Cert.ReferenceRkIdeal.nD Cert.ReferenceRkIdeal.τ).loc Cert.ReferenceRkIdeal.main_arg1) = m ((c.tc : Thread Cert.KernelRkIdeal.nD Cert.KernelRkIdeal.τ).loc Cert.KernelRkIdeal.main_arg1)) →
    ∃ (v0 : (c : Dev Cert.KernelRkIdeal.nD) → Buf (Elt Ideal) ((c.tc : Thread Cert.KernelRkIdeal.nD Cert.KernelRkIdeal.τ).loc Cert.KernelRkIdeal.main_v2)),
      θ_run (Cert.KernelRkIdeal.defs (F := Ideal)) (onTc (τ := Cert.KernelRkIdeal.τ) (Cert.KernelRkIdeal.main (F := Ideal))) ⟨m, fun _ => 0, g⟩ (fun r => ∀ c : Dev Cert.KernelRkIdeal.nD,
          r.2.mem ((c.tc : Thread Cert.KernelRkIdeal.nD Cert.KernelRkIdeal.τ).loc Cert.KernelRkIdeal.main_v2) = v0 c
          ∧ r.2.mem ((c.tc : Thread Cert.KernelRkIdeal.nD Cert.KernelRkIdeal.τ).loc Cert.KernelRkIdeal.main_arg0) = m ((c.tc : Thread Cert.KernelRkIdeal.nD Cert.KernelRkIdeal.τ).loc Cert.KernelRkIdeal.main_arg0)
          ∧ r.2.mem ((c.tc : Thread Cert.KernelRkIdeal.nD Cert.KernelRkIdeal.τ).loc Cert.KernelRkIdeal.main_arg1) = m ((c.tc : Thread Cert.KernelRkIdeal.nD Cert.KernelRkIdeal.τ).loc Cert.KernelRkIdeal.main_arg1))
      ∧ θ_run (Cert.ReferenceRkIdeal.defs (F := Ideal)) (onTc (τ := Cert.ReferenceRkIdeal.τ) (Cert.ReferenceRkIdeal.main (F := Ideal))) ⟨m', fun _ => 0, g'⟩ (fun r => ∀ c : Dev Cert.ReferenceRkIdeal.nD,
          r.2.mem ((c.tc : Thread Cert.ReferenceRkIdeal.nD Cert.ReferenceRkIdeal.τ).loc Cert.ReferenceRkIdeal.main_v15) = v0 c
          ∧ r.2.mem ((c.tc : Thread Cert.ReferenceRkIdeal.nD Cert.ReferenceRkIdeal.τ).loc Cert.ReferenceRkIdeal.main_arg0) = m' ((c.tc : Thread Cert.ReferenceRkIdeal.nD Cert.ReferenceRkIdeal.τ).loc Cert.ReferenceRkIdeal.main_arg0)
          ∧ r.2.mem ((c.tc : Thread Cert.ReferenceRkIdeal.nD Cert.ReferenceRkIdeal.τ).loc Cert.ReferenceRkIdeal.main_arg1) = m' ((c.tc : Thread Cert.ReferenceRkIdeal.nD Cert.ReferenceRkIdeal.τ).loc Cert.ReferenceRkIdeal.main_arg1))

def preserves_KernelKi_KernelKiIdeal : Prop :=
  True

def algebraic_KernelKiIdeal_ReferenceKiIdeal [hKernelKiIdeal : Cert.KernelKiIdeal.Facts] [hReferenceKiIdeal : Cert.ReferenceKiIdeal.Facts] : Prop :=
  ∀ (m : (ℓ : Loc Cert.KernelKiIdeal.nD Cert.KernelKiIdeal.τ Cert.KernelKiIdeal.sig) → Buf (Elt Ideal) ℓ) (g : Dev Cert.KernelKiIdeal.nD → PrngReg)
    (m' : (ℓ : Loc Cert.ReferenceKiIdeal.nD Cert.ReferenceKiIdeal.τ Cert.ReferenceKiIdeal.sig) → Buf (Elt Ideal) ℓ) (g' : Dev Cert.ReferenceKiIdeal.nD → PrngReg), Pre_KernelKiIdeal m →
    (∀ c : Dev Cert.KernelKiIdeal.nD,
      m' ((c.tc : Thread Cert.ReferenceKiIdeal.nD Cert.ReferenceKiIdeal.τ).loc Cert.ReferenceKiIdeal.main_arg0) = m ((c.tc : Thread Cert.KernelKiIdeal.nD Cert.KernelKiIdeal.τ).loc Cert.KernelKiIdeal.main_arg0)) →
    ∃ (v0 : (c : Dev Cert.KernelKiIdeal.nD) → Buf (Elt Ideal) ((c.tc : Thread Cert.KernelKiIdeal.nD Cert.KernelKiIdeal.τ).loc Cert.KernelKiIdeal.main_v31)),
      θ_run (Cert.KernelKiIdeal.defs (F := Ideal)) (onTc (τ := Cert.KernelKiIdeal.τ) (Cert.KernelKiIdeal.main (F := Ideal))) ⟨m, fun _ => 0, g⟩ (fun r => ∀ c : Dev Cert.KernelKiIdeal.nD,
          r.2.mem ((c.tc : Thread Cert.KernelKiIdeal.nD Cert.KernelKiIdeal.τ).loc Cert.KernelKiIdeal.main_v31) = v0 c
          ∧ r.2.mem ((c.tc : Thread Cert.KernelKiIdeal.nD Cert.KernelKiIdeal.τ).loc Cert.KernelKiIdeal.main_arg0) = m ((c.tc : Thread Cert.KernelKiIdeal.nD Cert.KernelKiIdeal.τ).loc Cert.KernelKiIdeal.main_arg0))
      ∧ θ_run (Cert.ReferenceKiIdeal.defs (F := Ideal)) (onTc (τ := Cert.ReferenceKiIdeal.τ) (Cert.ReferenceKiIdeal.main (F := Ideal))) ⟨m', fun _ => 0, g'⟩ (fun r => ∀ c : Dev Cert.ReferenceKiIdeal.nD,
          r.2.mem ((c.tc : Thread Cert.ReferenceKiIdeal.nD Cert.ReferenceKiIdeal.τ).loc Cert.ReferenceKiIdeal.main_v36) = v0 c
          ∧ r.2.mem ((c.tc : Thread Cert.ReferenceKiIdeal.nD Cert.ReferenceKiIdeal.τ).loc Cert.ReferenceKiIdeal.main_arg0) = m' ((c.tc : Thread Cert.ReferenceKiIdeal.nD Cert.ReferenceKiIdeal.τ).loc Cert.ReferenceKiIdeal.main_arg0))

def preserves_KernelEx_KernelExIdeal : Prop :=
  True

def algebraic_KernelExIdeal_ReferenceExIdeal [hKernelExIdeal : Cert.KernelExIdeal.Facts] [hReferenceExIdeal : Cert.ReferenceExIdeal.Facts] : Prop :=
  ∀ (m : (ℓ : Loc Cert.KernelExIdeal.nD Cert.KernelExIdeal.τ Cert.KernelExIdeal.sig) → Buf (Elt Ideal) ℓ) (g : Dev Cert.KernelExIdeal.nD → PrngReg)
    (m' : (ℓ : Loc Cert.ReferenceExIdeal.nD Cert.ReferenceExIdeal.τ Cert.ReferenceExIdeal.sig) → Buf (Elt Ideal) ℓ) (g' : Dev Cert.ReferenceExIdeal.nD → PrngReg), Pre_KernelExIdeal m →
    (∀ c : Dev Cert.KernelExIdeal.nD,
      m' ((c.tc : Thread Cert.ReferenceExIdeal.nD Cert.ReferenceExIdeal.τ).loc Cert.ReferenceExIdeal.main_arg0) = m ((c.tc : Thread Cert.KernelExIdeal.nD Cert.KernelExIdeal.τ).loc Cert.KernelExIdeal.main_arg0)
      ∧ m' ((c.tc : Thread Cert.ReferenceExIdeal.nD Cert.ReferenceExIdeal.τ).loc Cert.ReferenceExIdeal.main_arg1) = m ((c.tc : Thread Cert.KernelExIdeal.nD Cert.KernelExIdeal.τ).loc Cert.KernelExIdeal.main_arg1)) →
    ∃ (v0 : (c : Dev Cert.KernelExIdeal.nD) → Buf (Elt Ideal) ((c.tc : Thread Cert.KernelExIdeal.nD Cert.KernelExIdeal.τ).loc Cert.KernelExIdeal.main_v0_0)) (v1 : (c : Dev Cert.KernelExIdeal.nD) → Buf (Elt Ideal) ((c.tc : Thread Cert.KernelExIdeal.nD Cert.KernelExIdeal.τ).loc Cert.KernelExIdeal.main_v0_1)),
      θ_run (Cert.KernelExIdeal.defs (F := Ideal)) (onTc (τ := Cert.KernelExIdeal.τ) (Cert.KernelExIdeal.main (F := Ideal))) ⟨m, fun _ => 0, g⟩ (fun r => ∀ c : Dev Cert.KernelExIdeal.nD,
          r.2.mem ((c.tc : Thread Cert.KernelExIdeal.nD Cert.KernelExIdeal.τ).loc Cert.KernelExIdeal.main_v0_0) = v0 c
          ∧ r.2.mem ((c.tc : Thread Cert.KernelExIdeal.nD Cert.KernelExIdeal.τ).loc Cert.KernelExIdeal.main_v0_1) = v1 c
          ∧ r.2.mem ((c.tc : Thread Cert.KernelExIdeal.nD Cert.KernelExIdeal.τ).loc Cert.KernelExIdeal.main_arg0) = m ((c.tc : Thread Cert.KernelExIdeal.nD Cert.KernelExIdeal.τ).loc Cert.KernelExIdeal.main_arg0)
          ∧ r.2.mem ((c.tc : Thread Cert.KernelExIdeal.nD Cert.KernelExIdeal.τ).loc Cert.KernelExIdeal.main_arg1) = m ((c.tc : Thread Cert.KernelExIdeal.nD Cert.KernelExIdeal.τ).loc Cert.KernelExIdeal.main_arg1))
      ∧ θ_run (Cert.ReferenceExIdeal.defs (F := Ideal)) (onTc (τ := Cert.ReferenceExIdeal.τ) (Cert.ReferenceExIdeal.main (F := Ideal))) ⟨m', fun _ => 0, g'⟩ (fun r => ∀ c : Dev Cert.ReferenceExIdeal.nD,
          r.2.mem ((c.tc : Thread Cert.ReferenceExIdeal.nD Cert.ReferenceExIdeal.τ).loc Cert.ReferenceExIdeal.main_v2) = v0 c
          ∧ r.2.mem ((c.tc : Thread Cert.ReferenceExIdeal.nD Cert.ReferenceExIdeal.τ).loc Cert.ReferenceExIdeal.main_v5) = v1 c
          ∧ r.2.mem ((c.tc : Thread Cert.ReferenceExIdeal.nD Cert.ReferenceExIdeal.τ).loc Cert.ReferenceExIdeal.main_arg0) = m' ((c.tc : Thread Cert.ReferenceExIdeal.nD Cert.ReferenceExIdeal.τ).loc Cert.ReferenceExIdeal.main_arg0)
          ∧ r.2.mem ((c.tc : Thread Cert.ReferenceExIdeal.nD Cert.ReferenceExIdeal.τ).loc Cert.ReferenceExIdeal.main_arg1) = m' ((c.tc : Thread Cert.ReferenceExIdeal.nD Cert.ReferenceExIdeal.τ).loc Cert.ReferenceExIdeal.main_arg1))

def preserves_KernelEy_KernelEyIdeal : Prop :=
  True

def algebraic_KernelEyIdeal_ReferenceEyIdeal [hKernelEyIdeal : Cert.KernelEyIdeal.Facts] [hReferenceEyIdeal : Cert.ReferenceEyIdeal.Facts] : Prop :=
  ∀ (m : (ℓ : Loc Cert.KernelEyIdeal.nD Cert.KernelEyIdeal.τ Cert.KernelEyIdeal.sig) → Buf (Elt Ideal) ℓ) (g : Dev Cert.KernelEyIdeal.nD → PrngReg)
    (m' : (ℓ : Loc Cert.ReferenceEyIdeal.nD Cert.ReferenceEyIdeal.τ Cert.ReferenceEyIdeal.sig) → Buf (Elt Ideal) ℓ) (g' : Dev Cert.ReferenceEyIdeal.nD → PrngReg), Pre_KernelEyIdeal m →
    (∀ c : Dev Cert.KernelEyIdeal.nD,
      m' ((c.tc : Thread Cert.ReferenceEyIdeal.nD Cert.ReferenceEyIdeal.τ).loc Cert.ReferenceEyIdeal.main_arg0) = m ((c.tc : Thread Cert.KernelEyIdeal.nD Cert.KernelEyIdeal.τ).loc Cert.KernelEyIdeal.main_arg0)
      ∧ m' ((c.tc : Thread Cert.ReferenceEyIdeal.nD Cert.ReferenceEyIdeal.τ).loc Cert.ReferenceEyIdeal.main_arg1) = m ((c.tc : Thread Cert.KernelEyIdeal.nD Cert.KernelEyIdeal.τ).loc Cert.KernelEyIdeal.main_arg1)) →
    ∃ (v0 : (c : Dev Cert.KernelEyIdeal.nD) → Buf (Elt Ideal) ((c.tc : Thread Cert.KernelEyIdeal.nD Cert.KernelEyIdeal.τ).loc Cert.KernelEyIdeal.main_v0_0)) (v1 : (c : Dev Cert.KernelEyIdeal.nD) → Buf (Elt Ideal) ((c.tc : Thread Cert.KernelEyIdeal.nD Cert.KernelEyIdeal.τ).loc Cert.KernelEyIdeal.main_v0_1)),
      θ_run (Cert.KernelEyIdeal.defs (F := Ideal)) (onTc (τ := Cert.KernelEyIdeal.τ) (Cert.KernelEyIdeal.main (F := Ideal))) ⟨m, fun _ => 0, g⟩ (fun r => ∀ c : Dev Cert.KernelEyIdeal.nD,
          r.2.mem ((c.tc : Thread Cert.KernelEyIdeal.nD Cert.KernelEyIdeal.τ).loc Cert.KernelEyIdeal.main_v0_0) = v0 c
          ∧ r.2.mem ((c.tc : Thread Cert.KernelEyIdeal.nD Cert.KernelEyIdeal.τ).loc Cert.KernelEyIdeal.main_v0_1) = v1 c
          ∧ r.2.mem ((c.tc : Thread Cert.KernelEyIdeal.nD Cert.KernelEyIdeal.τ).loc Cert.KernelEyIdeal.main_arg0) = m ((c.tc : Thread Cert.KernelEyIdeal.nD Cert.KernelEyIdeal.τ).loc Cert.KernelEyIdeal.main_arg0)
          ∧ r.2.mem ((c.tc : Thread Cert.KernelEyIdeal.nD Cert.KernelEyIdeal.τ).loc Cert.KernelEyIdeal.main_arg1) = m ((c.tc : Thread Cert.KernelEyIdeal.nD Cert.KernelEyIdeal.τ).loc Cert.KernelEyIdeal.main_arg1))
      ∧ θ_run (Cert.ReferenceEyIdeal.defs (F := Ideal)) (onTc (τ := Cert.ReferenceEyIdeal.τ) (Cert.ReferenceEyIdeal.main (F := Ideal))) ⟨m', fun _ => 0, g'⟩ (fun r => ∀ c : Dev Cert.ReferenceEyIdeal.nD,
          r.2.mem ((c.tc : Thread Cert.ReferenceEyIdeal.nD Cert.ReferenceEyIdeal.τ).loc Cert.ReferenceEyIdeal.main_v2) = v0 c
          ∧ r.2.mem ((c.tc : Thread Cert.ReferenceEyIdeal.nD Cert.ReferenceEyIdeal.τ).loc Cert.ReferenceEyIdeal.main_v5) = v1 c
          ∧ r.2.mem ((c.tc : Thread Cert.ReferenceEyIdeal.nD Cert.ReferenceEyIdeal.τ).loc Cert.ReferenceEyIdeal.main_arg0) = m' ((c.tc : Thread Cert.ReferenceEyIdeal.nD Cert.ReferenceEyIdeal.τ).loc Cert.ReferenceEyIdeal.main_arg0)
          ∧ r.2.mem ((c.tc : Thread Cert.ReferenceEyIdeal.nD Cert.ReferenceEyIdeal.τ).loc Cert.ReferenceEyIdeal.main_arg1) = m' ((c.tc : Thread Cert.ReferenceEyIdeal.nD Cert.ReferenceEyIdeal.τ).loc Cert.ReferenceEyIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v33_0)) (v1 : (c : Dev Cert.KernelKvIdeal.nD) → Buf (Elt Ideal) ((c.tc : Thread Cert.KernelKvIdeal.nD Cert.KernelKvIdeal.τ).loc Cert.KernelKvIdeal.main_v33_1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v33_0) = v0 c
          ∧ r.2.mem ((c.tc : Thread Cert.KernelKvIdeal.nD Cert.KernelKvIdeal.τ).loc Cert.KernelKvIdeal.main_v33_1) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v39) = v0 c
          ∧ r.2.mem ((c.tc : Thread Cert.ReferenceKvIdeal.nD Cert.ReferenceKvIdeal.τ).loc Cert.ReferenceKvIdeal.main_v42) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def Claim : Prop :=
  ∃ (hKernel : Cert.Kernel.Facts) (hKernelIdeal : Cert.KernelIdeal.Facts) (hReferenceIdeal : Cert.ReferenceIdeal.Facts) (hKernelQkv : Cert.KernelQkv.Facts) (hKernelQkvIdeal : Cert.KernelQkvIdeal.Facts) (hReferenceQkvIdeal : Cert.ReferenceQkvIdeal.Facts) (hKernelOut : Cert.KernelOut.Facts) (hKernelOutIdeal : Cert.KernelOutIdeal.Facts) (hReferenceOutIdeal : Cert.ReferenceOutIdeal.Facts) (hKernelCd : Cert.KernelCd.Facts) (hKernelCdIdeal : Cert.KernelCdIdeal.Facts) (hReferenceCdIdeal : Cert.ReferenceCdIdeal.Facts) (hKernelQt : Cert.KernelQt.Facts) (hKernelQtIdeal : Cert.KernelQtIdeal.Facts) (hReferenceQtIdeal : Cert.ReferenceQtIdeal.Facts) (hKernelLat : Cert.KernelLat.Facts) (hKernelLatIdeal : Cert.KernelLatIdeal.Facts) (hReferenceLatIdeal : Cert.ReferenceLatIdeal.Facts) (hKernelUkv : Cert.KernelUkv.Facts) (hKernelUkvIdeal : Cert.KernelUkvIdeal.Facts) (hReferenceUkvIdeal : Cert.ReferenceUkvIdeal.Facts) (hKernelMq : Cert.KernelMq.Facts) (hKernelMqIdeal : Cert.KernelMqIdeal.Facts) (hReferenceMqIdeal : Cert.ReferenceMqIdeal.Facts) (hKernelMkv : Cert.KernelMkv.Facts) (hKernelMkvIdeal : Cert.KernelMkvIdeal.Facts) (hReferenceMkvIdeal : Cert.ReferenceMkvIdeal.Facts) (hKernelQi : Cert.KernelQi.Facts) (hKernelQiIdeal : Cert.KernelQiIdeal.Facts) (hReferenceQiIdeal : Cert.ReferenceQiIdeal.Facts) (hKernelMo : Cert.KernelMo.Facts) (hKernelMoIdeal : Cert.KernelMoIdeal.Facts) (hReferenceMoIdeal : Cert.ReferenceMoIdeal.Facts) (hKernelLn : Cert.KernelLn.Facts) (hKernelLnIdeal : Cert.KernelLnIdeal.Facts) (hReferenceLnIdeal : Cert.ReferenceLnIdeal.Facts) (hKernelUq : Cert.KernelUq.Facts) (hKernelUqIdeal : Cert.KernelUqIdeal.Facts) (hReferenceUqIdeal : Cert.ReferenceUqIdeal.Facts) (hKernelPb : Cert.KernelPb.Facts) (hKernelPbIdeal : Cert.KernelPbIdeal.Facts) (hReferencePbIdeal : Cert.ReferencePbIdeal.Facts) (hKernelRk : Cert.KernelRk.Facts) (hKernelRkIdeal : Cert.KernelRkIdeal.Facts) (hReferenceRkIdeal : Cert.ReferenceRkIdeal.Facts) (hKernelKi : Cert.KernelKi.Facts) (hKernelKiIdeal : Cert.KernelKiIdeal.Facts) (hReferenceKiIdeal : Cert.ReferenceKiIdeal.Facts) (hKernelEx : Cert.KernelEx.Facts) (hKernelExIdeal : Cert.KernelExIdeal.Facts) (hReferenceExIdeal : Cert.ReferenceExIdeal.Facts) (hKernelEy : Cert.KernelEy.Facts) (hKernelEyIdeal : Cert.KernelEyIdeal.Facts) (hReferenceEyIdeal : Cert.ReferenceEyIdeal.Facts) (hKernelKv : Cert.KernelKv.Facts) (hKernelKvIdeal : Cert.KernelKvIdeal.Facts) (hReferenceKvIdeal : Cert.ReferenceKvIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelQkv (hKernelQkv := hKernelQkv)
    ∧ quiescent_KernelQkvIdeal (hKernelQkvIdeal := hKernelQkvIdeal)
    ∧ quiescent_ReferenceQkvIdeal (hReferenceQkvIdeal := hReferenceQkvIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelCd (hKernelCd := hKernelCd)
    ∧ quiescent_KernelCdIdeal (hKernelCdIdeal := hKernelCdIdeal)
    ∧ quiescent_ReferenceCdIdeal (hReferenceCdIdeal := hReferenceCdIdeal)
    ∧ quiescent_KernelQt (hKernelQt := hKernelQt)
    ∧ quiescent_KernelQtIdeal (hKernelQtIdeal := hKernelQtIdeal)
    ∧ quiescent_ReferenceQtIdeal (hReferenceQtIdeal := hReferenceQtIdeal)
    ∧ quiescent_KernelLat (hKernelLat := hKernelLat)
    ∧ quiescent_KernelLatIdeal (hKernelLatIdeal := hKernelLatIdeal)
    ∧ quiescent_ReferenceLatIdeal (hReferenceLatIdeal := hReferenceLatIdeal)
    ∧ quiescent_KernelUkv (hKernelUkv := hKernelUkv)
    ∧ quiescent_KernelUkvIdeal (hKernelUkvIdeal := hKernelUkvIdeal)
    ∧ quiescent_ReferenceUkvIdeal (hReferenceUkvIdeal := hReferenceUkvIdeal)
    ∧ quiescent_KernelMq (hKernelMq := hKernelMq)
    ∧ quiescent_KernelMqIdeal (hKernelMqIdeal := hKernelMqIdeal)
    ∧ quiescent_ReferenceMqIdeal (hReferenceMqIdeal := hReferenceMqIdeal)
    ∧ quiescent_KernelMkv (hKernelMkv := hKernelMkv)
    ∧ quiescent_KernelMkvIdeal (hKernelMkvIdeal := hKernelMkvIdeal)
    ∧ quiescent_ReferenceMkvIdeal (hReferenceMkvIdeal := hReferenceMkvIdeal)
    ∧ quiescent_KernelQi (hKernelQi := hKernelQi)
    ∧ quiescent_KernelQiIdeal (hKernelQiIdeal := hKernelQiIdeal)
    ∧ quiescent_ReferenceQiIdeal (hReferenceQiIdeal := hReferenceQiIdeal)
    ∧ quiescent_KernelMo (hKernelMo := hKernelMo)
    ∧ quiescent_KernelMoIdeal (hKernelMoIdeal := hKernelMoIdeal)
    ∧ quiescent_ReferenceMoIdeal (hReferenceMoIdeal := hReferenceMoIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelUq (hKernelUq := hKernelUq)
    ∧ quiescent_KernelUqIdeal (hKernelUqIdeal := hKernelUqIdeal)
    ∧ quiescent_ReferenceUqIdeal (hReferenceUqIdeal := hReferenceUqIdeal)
    ∧ quiescent_KernelPb (hKernelPb := hKernelPb)
    ∧ quiescent_KernelPbIdeal (hKernelPbIdeal := hKernelPbIdeal)
    ∧ quiescent_ReferencePbIdeal (hReferencePbIdeal := hReferencePbIdeal)
    ∧ quiescent_KernelRk (hKernelRk := hKernelRk)
    ∧ quiescent_KernelRkIdeal (hKernelRkIdeal := hKernelRkIdeal)
    ∧ quiescent_ReferenceRkIdeal (hReferenceRkIdeal := hReferenceRkIdeal)
    ∧ quiescent_KernelKi (hKernelKi := hKernelKi)
    ∧ quiescent_KernelKiIdeal (hKernelKiIdeal := hKernelKiIdeal)
    ∧ quiescent_ReferenceKiIdeal (hReferenceKiIdeal := hReferenceKiIdeal)
    ∧ quiescent_KernelEx (hKernelEx := hKernelEx)
    ∧ quiescent_KernelExIdeal (hKernelExIdeal := hKernelExIdeal)
    ∧ quiescent_ReferenceExIdeal (hReferenceExIdeal := hReferenceExIdeal)
    ∧ quiescent_KernelEy (hKernelEy := hKernelEy)
    ∧ quiescent_KernelEyIdeal (hKernelEyIdeal := hKernelEyIdeal)
    ∧ quiescent_ReferenceEyIdeal (hReferenceEyIdeal := hReferenceEyIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelQkv_KernelQkvIdeal
    ∧ algebraic_KernelQkvIdeal_ReferenceQkvIdeal (hKernelQkvIdeal := hKernelQkvIdeal) (hReferenceQkvIdeal := hReferenceQkvIdeal)
    ∧ preserves_KernelOut_KernelOutIdeal
    ∧ algebraic_KernelOutIdeal_ReferenceOutIdeal (hKernelOutIdeal := hKernelOutIdeal) (hReferenceOutIdeal := hReferenceOutIdeal)
    ∧ preserves_KernelCd_KernelCdIdeal
    ∧ algebraic_KernelCdIdeal_ReferenceCdIdeal (hKernelCdIdeal := hKernelCdIdeal) (hReferenceCdIdeal := hReferenceCdIdeal)
    ∧ preserves_KernelQt_KernelQtIdeal
    ∧ algebraic_KernelQtIdeal_ReferenceQtIdeal (hKernelQtIdeal := hKernelQtIdeal) (hReferenceQtIdeal := hReferenceQtIdeal)
    ∧ preserves_KernelLat_KernelLatIdeal
    ∧ algebraic_KernelLatIdeal_ReferenceLatIdeal (hKernelLatIdeal := hKernelLatIdeal) (hReferenceLatIdeal := hReferenceLatIdeal)
    ∧ preserves_KernelUkv_KernelUkvIdeal
    ∧ algebraic_KernelUkvIdeal_ReferenceUkvIdeal (hKernelUkvIdeal := hKernelUkvIdeal) (hReferenceUkvIdeal := hReferenceUkvIdeal)
    ∧ preserves_KernelMq_KernelMqIdeal
    ∧ algebraic_KernelMqIdeal_ReferenceMqIdeal (hKernelMqIdeal := hKernelMqIdeal) (hReferenceMqIdeal := hReferenceMqIdeal)
    ∧ preserves_KernelMkv_KernelMkvIdeal
    ∧ algebraic_KernelMkvIdeal_ReferenceMkvIdeal (hKernelMkvIdeal := hKernelMkvIdeal) (hReferenceMkvIdeal := hReferenceMkvIdeal)
    ∧ preserves_KernelQi_KernelQiIdeal
    ∧ algebraic_KernelQiIdeal_ReferenceQiIdeal (hKernelQiIdeal := hKernelQiIdeal) (hReferenceQiIdeal := hReferenceQiIdeal)
    ∧ preserves_KernelMo_KernelMoIdeal
    ∧ algebraic_KernelMoIdeal_ReferenceMoIdeal (hKernelMoIdeal := hKernelMoIdeal) (hReferenceMoIdeal := hReferenceMoIdeal)
    ∧ preserves_KernelLn_KernelLnIdeal
    ∧ algebraic_KernelLnIdeal_ReferenceLnIdeal (hKernelLnIdeal := hKernelLnIdeal) (hReferenceLnIdeal := hReferenceLnIdeal)
    ∧ preserves_KernelUq_KernelUqIdeal
    ∧ algebraic_KernelUqIdeal_ReferenceUqIdeal (hKernelUqIdeal := hKernelUqIdeal) (hReferenceUqIdeal := hReferenceUqIdeal)
    ∧ preserves_KernelPb_KernelPbIdeal
    ∧ algebraic_KernelPbIdeal_ReferencePbIdeal (hKernelPbIdeal := hKernelPbIdeal) (hReferencePbIdeal := hReferencePbIdeal)
    ∧ preserves_KernelRk_KernelRkIdeal
    ∧ algebraic_KernelRkIdeal_ReferenceRkIdeal (hKernelRkIdeal := hKernelRkIdeal) (hReferenceRkIdeal := hReferenceRkIdeal)
    ∧ preserves_KernelKi_KernelKiIdeal
    ∧ algebraic_KernelKiIdeal_ReferenceKiIdeal (hKernelKiIdeal := hKernelKiIdeal) (hReferenceKiIdeal := hReferenceKiIdeal)
    ∧ preserves_KernelEx_KernelExIdeal
    ∧ algebraic_KernelExIdeal_ReferenceExIdeal (hKernelExIdeal := hKernelExIdeal) (hReferenceExIdeal := hReferenceExIdeal)
    ∧ preserves_KernelEy_KernelEyIdeal
    ∧ algebraic_KernelEyIdeal_ReferenceEyIdeal (hKernelEyIdeal := hKernelEyIdeal) (hReferenceEyIdeal := hReferenceEyIdeal)
    ∧ preserves_KernelKv_KernelKvIdeal
    ∧ algebraic_KernelKvIdeal_ReferenceKvIdeal (hKernelKvIdeal := hKernelKvIdeal) (hReferenceKvIdeal := hReferenceKvIdeal)
-- ==== Pre_finite.lean ====
abbrev S2x4096x512 : Shape := ⟨3, ![2, 4096, 512]⟩
abbrev S2x256x1024 : Shape := ⟨3, ![2, 256, 1024]⟩
abbrev S_ : Shape := ⟨0, ![]⟩

class Facts : Prop where
  bcast_S_S2x4096x512 : S_.BroadcastsInDim S2x4096x512 (![] : Fin 0 → Fin S2x4096x512.rank)
  bcast_S_S2x256x1024 : S_.BroadcastsInDim S2x256x1024 (![] : Fin 0 → Fin S2x256x1024.rank)

variable [Facts]

def fn {F : FTy → Type} [FloatOps F] (main_arg0 : FVec F S2x4096x512 .f32) (main_arg1 : FVec F S2x256x1024 .f32) : IVec S2x4096x512 1 × IVec S2x256x1024 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_v3 : FVec F S2x256x1024 .f32 := Host.absf main_arg1
  let main_cst_0 : FVec F S_ .f32 := constant S_ .f32 0x7F800000#32
  let main_v4 : FVec F S2x256x1024 .f32 := broadcastInDim S2x256x1024 ![] bcast_S_S2x256x1024 main_cst_0
  let main_v5 : IVec S2x256x1024 1 := cmpf .olt main_v3 main_v4
  (main_v2, main_v5)
-- ==== Kernel.lean ====
abbrev S2x4096x512 : Shape := ⟨3, ![2, 4096, 512]⟩
abbrev S2x256x1024 : Shape := ⟨3, ![2, 256, 1024]⟩
abbrev S1x512x512 : Shape := ⟨3, ![1, 512, 512]⟩
abbrev S1x256x512 : Shape := ⟨3, ![1, 256, 512]⟩
abbrev S4x512x128 : Shape := ⟨3, ![4, 512, 128]⟩
abbrev S4x512x256 : Shape := ⟨3, ![4, 512, 256]⟩
abbrev S1x256x128 : Shape := ⟨3, ![1, 256, 128]⟩
abbrev S256x128 : Shape := ⟨2, ![256, 128]⟩
abbrev S1x512x128 : Shape := ⟨3, ![1, 512, 128]⟩
abbrev S512x128 : Shape := ⟨2, ![512, 128]⟩
abbrev S512x256 : Shape := ⟨2, ![512, 256]⟩
abbrev S128x256 : Shape := ⟨2, ![128, 256]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S1x512x256 : Shape := ⟨3, ![1, 512, 256]⟩
abbrev S512 : Shape := ⟨1, ![512]⟩
abbrev S512x1 : Shape := ⟨2, ![512, 1]⟩

abbrev nBuf : Space → Nat
  | .hbm => 5
  | .vmem => 13
  | .smem => 0
  | _ => 0

abbrev bufTy : (tb : Table) → Fin (tcTables nBuf tb) → BufTy
  | .hbm, ⟨0, _⟩ => ⟨S2x4096x512, .f32⟩
  | .hbm, ⟨1, _⟩ => ⟨S2x256x1024, .f32⟩
  | .hbm, ⟨2, _⟩ => ⟨S2x256x1024, .bf16⟩
  | .hbm, ⟨3, _⟩ => ⟨S2x4096x512, .bf16⟩
  | .hbm, ⟨4, _⟩ => ⟨S2x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x512x512, .bf16⟩
  | .local _ .vmem, ⟨7, _⟩ => ⟨S1x512x512, .bf16⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x256, .bf16⟩
  | .local _ .vmem, ⟨12, _⟩ => ⟨S4x512x128, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 8], ![false, false, false]⟩

def k0_mult1 : BitVec 32 :=
  let c0_i32 : BitVec 32 := 0#32
  let c256_i32 : BitVec 32 := 256#32
  let v12 : BitVec 32 := Scalar.muli c0_i32 c256_i32
  v12
def k0_off1 : Fin 3 → Nat :=
  let c0_10 : Index := 0#32
  let c0_i32 : BitVec 32 := 0#32
  let c256_i32 : BitVec 32 := 256#32
  let v12 : BitVec 32 := Scalar.muli c0_i32 c256_i32
  let v13 : BitVec 32 := v12
  let v14 : Index := Scalar.indexCast v13
  let c0_11 : Index := 0#32
  ![0, v14.toNat, 0]
def k0_off2 : Fin 3 → Nat :=
  let c0_117 : Index := 0#32
  let c0_i32 : BitVec 32 := 0#32
  let c256_i32 : BitVec 32 := 256#32
  let v12 : BitVec 32 := Scalar.muli c0_i32 c256_i32
  let v13 : BitVec 32 := v12
  let v191 : Index := Scalar.indexCast v13
  let c128_118 : Index := 128#32
  ![0, v191.toNat, 128]
def k0_off3 : Fin 3 → Nat :=
  let c0_226 : Index := 0#32
  let c0_i32 : BitVec 32 := 0#32
  let c256_i32 : BitVec 32 := 256#32
  let v12 : BitVec 32 := Scalar.muli c0_i32 c256_i32
  let v13 : BitVec 32 := v12
  let v368 : Index := Scalar.indexCast v13
  let c256_227 : Index := 256#32
  ![0, v368.toNat, 256]
def k0_off4 : Fin 3 → Nat :=
  let c0_335 : Index := 0#32
  let c0_i32 : BitVec 32 := 0#32
  let c256_i32 : BitVec 32 := 256#32
  let v12 : BitVec 32 := Scalar.muli c0_i32 c256_i32
  let v13 : BitVec 32 := v12
  let v545 : Index := Scalar.indexCast v13
  let c384_336 : Index := 384#32
  ![0, v545.toNat, 384]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "scale" => some (((11863283 / 134217728) * (Real.log 2)⁻¹ : ℝ) : EReal)
  | _ => none
-- ==== ReferenceIdeal.lean ====
abbrev S2x4096x512 : Shape := ⟨3, ![2, 4096, 512]⟩
abbrev S2x256x1024 : Shape := ⟨3, ![2, 256, 1024]⟩
abbrev S2x4096x4x128 : Shape := ⟨4, ![2, 4096, 4, 128]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 30
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x256x1024, .f32⟩
  | .hbm, ⟨2, _⟩ => ⟨S2x4096x4x128, .f32⟩
  | .hbm, ⟨3, _⟩ => ⟨S2x256x2x4x128, .f32⟩
  | .hbm, ⟨4, _⟩ => ⟨S2x256x1x4x128, .f32⟩
  | .hbm, ⟨5, _⟩ => ⟨S2x256x4x128, .f32⟩
  | .hbm, ⟨6, _⟩ => ⟨S2x4x4096x256, .f32⟩
  | .hbm, ⟨7, _⟩ => ⟨S_, .f32⟩
  | .hbm, ⟨8, _⟩ => ⟨S2x4x4096x256, .f32⟩
  | .hbm, ⟨9, _⟩ => ⟨S2x4x4096x256, .f32⟩
  | .hbm, ⟨10, _⟩ => ⟨S_, .f32⟩
  | .hbm, ⟨11, _⟩ => ⟨S2x4x4096, .f32⟩
  | .hbm, ⟨12, _⟩ => ⟨S_, .f32⟩
  | .hbm, ⟨13, _⟩ => ⟨S2x4x4096, .f32⟩
  | .hbm, ⟨14, _⟩ => ⟨S2x4x4096, .f32⟩
  | .hbm, ⟨15, _⟩ => ⟨S2x4x4096x1, .f32⟩
  | .hbm, ⟨16, _⟩ => ⟨S2x4x4096x256, .f32⟩
  | .hbm, ⟨17, _⟩ => ⟨S2x4x4096x256, .f32⟩
  | .hbm, ⟨18, _⟩ => ⟨S2x4x4096x256, .f32⟩
  | .hbm, ⟨19, _⟩ => ⟨S_, .f32⟩
  | .hbm, ⟨20, _⟩ => ⟨S2x4x4096, .f32⟩
  | .hbm, ⟨21, _⟩ => ⟨S2x4x4096x1, .f32⟩
  | .hbm, ⟨22, _⟩ => ⟨S2x4x4096x256, .f32⟩
  | .hbm, ⟨23, _⟩ => ⟨S2x4x4096x256, .f32⟩
  | .hbm, ⟨24, _⟩ => ⟨S2x256x1x4x128, .f32⟩
  | .hbm, ⟨25, _⟩ => ⟨S2x256x4x128, .f32⟩
  | .hbm, ⟨26, _⟩ => ⟨S2x4x128x4096, .f32⟩
  | .hbm, ⟨27, _⟩ => ⟨S2x4096x4x128, .f32⟩
  | .hbm, ⟨28, _⟩ => ⟨S2x4096x512, .f32⟩
  | .hbm, ⟨29, _⟩ => ⟨S2x4096x512, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== KernelQkv.lean ====
abbrev S2x4096x4096 : Shape := ⟨3, ![2, 4096, 4096]⟩
abbrev S4096x8256 : Shape := ⟨2, ![4096, 8256]⟩
abbrev S8192x4096 : Shape := ⟨2, ![8192, 4096]⟩
abbrev S4096x2048 : Shape := ⟨2, ![4096, 2048]⟩
abbrev S_ : Shape := ⟨0, ![]⟩
abbrev S4096x4096 : Shape := ⟨2, ![4096, 4096]⟩
abbrev S4096x6144 : Shape := ⟨2, ![4096, 6144]⟩
abbrev S8192x6144 : Shape := ⟨2, ![8192, 6144]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 12
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4096x8256, .f32⟩
  | .hbm, ⟨2, _⟩ => ⟨S8192x4096, .f32⟩
  | .hbm, ⟨3, _⟩ => ⟨S8192x4096, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x4096, .f32⟩
  | .hbm, ⟨9, _⟩ => ⟨S4096x6144, .f32⟩
  | .hbm, ⟨10, _⟩ => ⟨S4096x6144, .bf16⟩
  | .hbm, ⟨11, _⟩ => ⟨S8192x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQkvIdeal.lean ====
abbrev S2x4096x4096 : Shape := ⟨3, ![2, 4096, 4096]⟩
abbrev S4096x8256 : Shape := ⟨2, ![4096, 8256]⟩
abbrev S2x4096x8256 : Shape := ⟨3, ![2, 4096, 8256]⟩
abbrev S2x4096x2048 : Shape := ⟨3, ![2, 4096, 2048]⟩
abbrev S2x4096x1536 : Shape := ⟨3, ![2, 4096, 1536]⟩
abbrev S2x4096x512 : Shape := ⟨3, ![2, 4096, 512]⟩
abbrev S2x4096x64 : Shape := ⟨3, ![2, 4096, 64]⟩
abbrev S_ : Shape := ⟨0, ![]⟩
abbrev S2x4096x6144 : Shape := ⟨3, ![2, 4096, 6144]⟩
abbrev S8192x6144 : Shape := ⟨2, ![8192, 6144]⟩

abbrev nBuf : Space → Nat
  | .hbm => 15
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x8256, .f32⟩
  | .hbm, ⟨2, _⟩ => ⟨S2x4096x8256, .f32⟩
  | .hbm, ⟨3, _⟩ => ⟨S2x4096x2048, .f32⟩
  | .hbm, ⟨4, _⟩ => ⟨S2x4096x2048, .f32⟩
  | .hbm, ⟨5, _⟩ => ⟨S2x4096x2048, .f32⟩
  | .hbm, ⟨6, _⟩ => ⟨S2x4096x1536, .f32⟩
  | .hbm, ⟨7, _⟩ => ⟨S2x4096x512, .f32⟩
  | .hbm, ⟨8, _⟩ => ⟨S2x4096x64, .f32⟩
  | .hbm, ⟨9, _⟩ => ⟨S_, .f32⟩
  | .hbm, ⟨10, _⟩ => ⟨S2x4096x2048, .f32⟩
  | .hbm, ⟨11, _⟩ => ⟨S2x4096x2048, .f32⟩
  | .hbm, ⟨12, _⟩ => ⟨S2x4096x6144, .f32⟩
  | .hbm, ⟨13, _⟩ => ⟨S8192x6144, .f32⟩
  | .hbm, ⟨14, _⟩ => ⟨S8192x6144, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== KernelOut.lean ====
abbrev S2x4096x2048 : Shape := ⟨3, ![2, 4096, 2048]⟩
abbrev S4096x4096 : Shape := ⟨2, ![4096, 4096]⟩
abbrev S8192x2048 : Shape := ⟨2, ![8192, 2048]⟩
abbrev S8192x4096 : Shape := ⟨2, ![8192, 4096]⟩
abbrev S1024x2048 : Shape := ⟨2, ![1024, 2048]⟩
abbrev S4096x1024 : Shape := ⟨2, ![4096, 1024]⟩
abbrev S1024x1024 : Shape := ⟨2, ![1024, 1024]⟩
abbrev S1024x4096 : Shape := ⟨2, ![1024, 4096]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S4096x4096, .f32⟩
  | .hbm, ⟨3, _⟩ => ⟨S8192x2048, .f32⟩
  | .hbm, ⟨4, _⟩ => ⟨S8192x2048, .bf16⟩
  | .hbm, ⟨5, _⟩ => ⟨S8192x2048, .f32⟩
  | .hbm, ⟨6, _⟩ => ⟨S8192x2048, .bf16⟩
  | .hbm, ⟨7, _⟩ => ⟨S4096x4096, .bf16⟩
  | .hbm, ⟨8, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x1024, .bf16⟩
  | .local _ .vmem, ⟨5, _⟩ => ⟨S4096x1024, .bf16⟩
  | .local _ .vmem, ⟨6, _⟩ => ⟨S1024x1024, .f32⟩
  | .local _ .vmem, ⟨7, _⟩ => ⟨S1024x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S2x4096x2048 : Shape := ⟨3, ![2, 4096, 2048]⟩
abbrev S4096x4096 : Shape := ⟨2, ![4096, 4096]⟩
abbrev S2x4096x4096 : Shape := ⟨3, ![2, 4096, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S4096x4096, .f32⟩
  | .hbm, ⟨3, _⟩ => ⟨S2x4096x4096, .f32⟩
  | .hbm, ⟨4, _⟩ => ⟨S2x4096x4096, .f32⟩
  | .hbm, ⟨5, _⟩ => ⟨S8192x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelCd.lean ====
abbrev S2x4096x4096 : Shape := ⟨3, ![2, 4096, 4096]⟩
abbrev S4096x11376 : Shape := ⟨2, ![4096, 11376]⟩
abbrev S8192x4096 : Shape := ⟨2, ![8192, 4096]⟩
abbrev S4096x2048 : Shape := ⟨2, ![4096, 2048]⟩
abbrev S_ : Shape := ⟨0, ![]⟩
abbrev S4096x512 : Shape := ⟨2, ![4096, 512]⟩
abbrev S4096x9216 : Shape := ⟨2, ![4096, 9216]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x0 : Shape := ⟨2, ![4096, 0]⟩
abbrev S4096x128 : Shape := ⟨2, ![4096, 128]⟩
abbrev S8192x9216 : Shape := ⟨2, ![8192, 9216]⟩
abbrev S1024x4096 : Shape := ⟨2, ![1024, 4096]⟩
abbrev S1024x128 : Shape := ⟨2, ![1024, 128]⟩
abbrev S1024x512 : Shape := ⟨2, ![1024, 512]⟩

abbrev nBuf : Space → Nat
  | .hbm => 59
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S4096x11376, .f32⟩
  | .hbm, ⟨2, _⟩ => ⟨S8192x4096, .f32⟩
  | .hbm, ⟨3, _⟩ => ⟨S8192x4096, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x512, .f32⟩
  | .hbm, ⟨9, _⟩ => ⟨S4096x512, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x9216, .f32⟩
  | .hbm, ⟨17, _⟩ => ⟨S4096x9216, .bf16⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S4096, .f32⟩
  | .hbm, ⟨30, _⟩ => ⟨S4096x1, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x0, .f32⟩
  | .hbm, ⟨39, _⟩ => ⟨S_, .f32⟩
  | .hbm, ⟨40, _⟩ => ⟨S4096x0, .f32⟩
  | .hbm, ⟨41, _⟩ => ⟨S_, .f32⟩
  | .hbm, ⟨42, _⟩ => ⟨S4096x0, .f32⟩
  | .hbm, ⟨43, _⟩ => ⟨S_, .f32⟩
  | .hbm, ⟨44, _⟩ => ⟨S4096x64, .f32⟩
  | .hbm, ⟨45, _⟩ => ⟨S4096x128, .f32⟩
  | .hbm, ⟨46, _⟩ => ⟨S4096x64, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S4096x128, .f32⟩
  | .hbm, ⟨51, _⟩ => ⟨S4096x128, .f32⟩
  | .hbm, ⟨52, _⟩ => ⟨S_, .f32⟩
  | .hbm, ⟨53, _⟩ => ⟨S4096x128, .f32⟩
  | .hbm, ⟨54, _⟩ => ⟨S4096x128, .f32⟩
  | .hbm, ⟨55, _⟩ => ⟨S_, .f32⟩
  | .hbm, ⟨56, _⟩ => ⟨S4096x128, .f32⟩
  | .hbm, ⟨57, _⟩ => ⟨S4096x128, .f32⟩
  | .hbm, ⟨58, _⟩ => ⟨S8192x9216, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_4 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_8 : Ref sig .tc := ⟨.hbm, 49, rfl⟩
abbrev main_v38 : Ref sig .tc := ⟨.hbm, 50, rfl⟩
abbrev main_v39 : Ref sig .tc := ⟨.hbm, 51, rfl⟩
abbrev main_cst_9 : Ref sig .tc := ⟨.hbm, 52, rfl⟩
abbrev main_v40 : Ref sig .tc := ⟨.hbm, 53, rfl⟩
abbrev main_v41 : Ref sig .tc := ⟨.hbm, 54, rfl⟩
abbrev main_cst_10 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 18], ![false, false]⟩

def k0_cond1 (i : grid0.Coords) : BitVec 1 :=
  let arg1 : BitVec 32 := BitVec.ofNat 32 (i 1).val
  let c5_i32 : BitVec 32 := 5#32
  let v0 : BitVec 1 := Scalar.cmpi .slt arg1 c5_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c5_i32_0 : BitVec 32 := 5#32
  let v3 : BitVec 1 := Scalar.cmpi .sge arg1 c5_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceCdIdeal.lean ====
abbrev S2x4096x4096 : Shape := ⟨3, ![2, 4096, 4096]⟩
abbrev S4096x11376 : Shape := ⟨2, ![4096, 11376]⟩
abbrev S2x4096x11376 : Shape := ⟨3, ![2, 4096, 11376]⟩
abbrev S2x4096x2048 : Shape := ⟨3, ![2, 4096, 2048]⟩
abbrev S2x4096x512 : Shape := ⟨3, ![2, 4096, 512]⟩
abbrev S2x4096x64 : Shape := ⟨3, ![2, 4096, 64]⟩
abbrev S2x4096x32 : Shape := ⟨3, ![2, 4096, 32]⟩
abbrev S2x4096x16 : Shape := ⟨3, ![2, 4096, 16]⟩
abbrev S2x4096x16x128 : Shape := ⟨4, ![2, 4096, 16, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S1x4096x1x64 : Shape := ⟨4, ![1, 4096, 1, 64]⟩
abbrev S2x4096x16x64 : Shape := ⟨4, ![2, 4096, 16, 64]⟩
abbrev S2x4096x4x128 : Shape := ⟨4, ![2, 4096, 4, 128]⟩
abbrev S2x4096x4x64 : Shape := ⟨4, ![2, 4096, 4, 64]⟩
abbrev S2x4096x9216 : Shape := ⟨3, ![2, 4096, 9216]⟩
abbrev S8192x9216 : Shape := ⟨2, ![8192, 9216]⟩

abbrev nBuf : Space → Nat
  | .hbm => 94
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x11376, .f32⟩
  | .hbm, ⟨2, _⟩ => ⟨S2x4096x11376, .f32⟩
  | .hbm, ⟨3, _⟩ => ⟨S2x4096x2048, .f32⟩
  | .hbm, ⟨4, _⟩ => ⟨S2x4096x512, .f32⟩
  | .hbm, ⟨5, _⟩ => ⟨S2x4096x512, .f32⟩
  | .hbm, ⟨6, _⟩ => ⟨S2x4096x2048, .f32⟩
  | .hbm, ⟨7, _⟩ => ⟨S2x4096x64, .f32⟩
  | .hbm, ⟨8, _⟩ => ⟨S2x4096x32, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x16, .f32⟩
  | .hbm, ⟨13, _⟩ => ⟨S2x4096x16x128, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S4096, .f32⟩
  | .hbm, ⟨26, _⟩ => ⟨S4096x1, .f32⟩
  | .hbm, ⟨27, _⟩ => ⟨S1x64, .f32⟩
  | .hbm, ⟨28, _⟩ => ⟨S4096x64, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S1x4096x1x64, .f32⟩
  | .hbm, ⟨33, _⟩ => ⟨S4096x64, .f32⟩
  | .hbm, ⟨34, _⟩ => ⟨S1x4096x1x64, .f32⟩
  | .hbm, ⟨35, _⟩ => ⟨S2x4096x16x64, .f32⟩
  | .hbm, ⟨36, _⟩ => ⟨S2x4096x16x64, .f32⟩
  | .hbm, ⟨37, _⟩ => ⟨S2x4096x16x64, .f32⟩
  | .hbm, ⟨38, _⟩ => ⟨S2x4096x16x64, .f32⟩
  | .hbm, ⟨39, _⟩ => ⟨S2x4096x16x64, .f32⟩
  | .hbm, ⟨40, _⟩ => ⟨S2x4096x16x64, .f32⟩
  | .hbm, ⟨41, _⟩ => ⟨S2x4096x16x64, .f32⟩
  | .hbm, ⟨42, _⟩ => ⟨S2x4096x16x64, .f32⟩
  | .hbm, ⟨43, _⟩ => ⟨S2x4096x16x64, .f32⟩
  | .hbm, ⟨44, _⟩ => ⟨S2x4096x16x64, .f32⟩
  | .hbm, ⟨45, _⟩ => ⟨S2x4096x16x64, .f32⟩
  | .hbm, ⟨46, _⟩ => ⟨S2x4096x16x64, .f32⟩
  | .hbm, ⟨47, _⟩ => ⟨S2x4096x16x128, .f32⟩
  | .hbm, ⟨48, _⟩ => ⟨S2x4096x2048, .f32⟩
  | .hbm, ⟨49, _⟩ => ⟨S2x4096x4x128, .f32⟩
  | .hbm, ⟨50, _⟩ => ⟨S64, .f32⟩
  | .hbm, ⟨51, _⟩ => ⟨S64, .f32⟩
  | .hbm, ⟨52, _⟩ => ⟨S_, .f32⟩
  | .hbm, ⟨53, _⟩ => ⟨S64, .f32⟩
  | .hbm, ⟨54, _⟩ => ⟨S64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S_, .f32⟩
  | .hbm, ⟨59, _⟩ => ⟨S64, .f32⟩
  | .hbm, ⟨60, _⟩ => ⟨S64, .f32⟩
  | .hbm, ⟨61, _⟩ => ⟨S4096, .f32⟩
  | .hbm, ⟨62, _⟩ => ⟨S4096x1, .f32⟩
  | .hbm, ⟨63, _⟩ => ⟨S1x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S1x4096x1x64, .f32⟩
  | .hbm, ⟨69, _⟩ => ⟨S4096x64, .f32⟩
  | .hbm, ⟨70, _⟩ => ⟨S1x4096x1x64, .f32⟩
  | .hbm, ⟨71, _⟩ => ⟨S2x4096x4x64, .f32⟩
  | .hbm, ⟨72, _⟩ => ⟨S2x4096x4x64, .f32⟩
  | .hbm, ⟨73, _⟩ => ⟨S2x4096x4x64, .f32⟩
  | .hbm, ⟨74, _⟩ => ⟨S2x4096x4x64, .f32⟩
  | .hbm, ⟨75, _⟩ => ⟨S2x4096x4x64, .f32⟩
  | .hbm, ⟨76, _⟩ => ⟨S2x4096x4x64, .f32⟩
  | .hbm, ⟨77, _⟩ => ⟨S2x4096x4x64, .f32⟩
  | .hbm, ⟨78, _⟩ => ⟨S2x4096x4x64, .f32⟩
  | .hbm, ⟨79, _⟩ => ⟨S2x4096x4x64, .f32⟩
  | .hbm, ⟨80, _⟩ => ⟨S2x4096x4x64, .f32⟩
  | .hbm, ⟨81, _⟩ => ⟨S2x4096x4x64, .f32⟩
  | .hbm, ⟨82, _⟩ => ⟨S2x4096x4x64, .f32⟩
  | .hbm, ⟨83, _⟩ => ⟨S2x4096x4x128, .f32⟩
  | .hbm, ⟨84, _⟩ => ⟨S2x4096x512, .f32⟩
  | .hbm, ⟨85, _⟩ => ⟨S_, .f32⟩
  | .hbm, ⟨86, _⟩ => ⟨S2x4096x2048, .f32⟩
  | .hbm, ⟨87, _⟩ => ⟨S2x4096x2048, .f32⟩
  | .hbm, ⟨88, _⟩ => ⟨S_, .f32⟩
  | .hbm, ⟨89, _⟩ => ⟨S2x4096x2048, .f32⟩
  | .hbm, ⟨90, _⟩ => ⟨S2x4096x2048, .f32⟩
  | .hbm, ⟨91, _⟩ => ⟨S2x4096x9216, .f32⟩
  | .hbm, ⟨92, _⟩ => ⟨S8192x9216, .f32⟩
  | .hbm, ⟨93, _⟩ => ⟨S8192x9216, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_cst_2 : Ref sig .tc := ⟨.hbm, 52, rfl⟩
abbrev main_v47 : Ref sig .tc := ⟨.hbm, 53, rfl⟩
abbrev main_v48 : Ref sig .tc := ⟨.hbm, 54, rfl⟩
abbrev main_cst_3 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_cst_5 : Ref sig .tc := ⟨.hbm, 85, rfl⟩
abbrev main_v77 : Ref sig .tc := ⟨.hbm, 86, rfl⟩
abbrev main_v78 : Ref sig .tc := ⟨.hbm, 87, rfl⟩
abbrev main_cst_6 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩

abbrev nD : Nat := 1
abbrev τ : Topo := Topo.v7x

variable {F : FTy → Type} [FloatOps F]
-- ==== KernelQt.lean ====
abbrev S2x4096x4096 : Shape := ⟨3, ![2, 4096, 4096]⟩
abbrev S4096x2048 : Shape := ⟨2, ![4096, 2048]⟩
abbrev S8192x4096 : Shape := ⟨2, ![8192, 4096]⟩
abbrev S4096x8192 : Shape := ⟨2, ![4096, 8192]⟩
abbrev S2048x4096 : Shape := ⟨2, ![2048, 4096]⟩
abbrev S2048x8192 : Shape := ⟨2, ![2048, 8192]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4096x2048, .f32⟩
  | .hbm, ⟨2, _⟩ => ⟨S8192x4096, .f32⟩
  | .hbm, ⟨3, _⟩ => ⟨S4096x8192, .f32⟩
  | .hbm, ⟨4, _⟩ => ⟨S4096x8192, .bf16⟩
  | .hbm, ⟨5, _⟩ => ⟨S2048x4096, .f32⟩
  | .hbm, ⟨6, _⟩ => ⟨S2048x4096, .bf16⟩
  | .hbm, ⟨7, _⟩ => ⟨S2048x8192, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQtIdeal.lean ====
abbrev S2x4096x4096 : Shape := ⟨3, ![2, 4096, 4096]⟩
abbrev S4096x2048 : Shape := ⟨2, ![4096, 2048]⟩
abbrev S2x4096x2048 : Shape := ⟨3, ![2, 4096, 2048]⟩
abbrev S8192x2048 : Shape := ⟨2, ![8192, 2048]⟩
abbrev S2048x8192 : Shape := ⟨2, ![2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x2048, .f32⟩
  | .hbm, ⟨2, _⟩ => ⟨S2x4096x2048, .f32⟩
  | .hbm, ⟨3, _⟩ => ⟨S8192x2048, .f32⟩
  | .hbm, ⟨4, _⟩ => ⟨S2048x8192, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelLat.lean ====
abbrev S2x4096x4096 : Shape := ⟨3, ![2, 4096, 4096]⟩
abbrev S4096x8256 : Shape := ⟨2, ![4096, 8256]⟩
abbrev S8192x4096 : Shape := ⟨2, ![8192, 4096]⟩
abbrev S4096x2112 : Shape := ⟨2, ![4096, 2112]⟩
abbrev S_ : Shape := ⟨0, ![]⟩
abbrev S4096x2560 : Shape := ⟨2, ![4096, 2560]⟩
abbrev S8192x2560 : Shape := ⟨2, ![8192, 2560]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S2x4096x4096, .f32⟩
  | .hbm, ⟨1, _⟩ => ⟨S4096x8256, .f32⟩
  | .hbm, ⟨2, _⟩ => ⟨S8192x4096, .f32⟩
  | .hbm, ⟨3, _⟩ => ⟨S8192x4096, .bf16⟩
  | .hbm, ⟨4, _⟩ => ⟨S4096x2112, .f32⟩
  | .hbm, ⟨5, _⟩ => ⟨S_, .i32⟩
  | .hbm, ⟨6, _⟩ => ⟨S_, .f32⟩
  | .hbm, ⟨7, _⟩ => ⟨S4096x2560, .f32⟩
  | .hbm, ⟨8, _⟩ => ⟨S4096x2560, .bf16⟩
  | .hbm, ⟨9, _⟩ => ⟨S8192x2560, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceLatIdeal.lean ====
abbrev S2x4096x4096 : Shape := ⟨3, ![2, 4096, 4096]⟩
abbrev S4096x8256 : Shape := ⟨2, ![4096, 8256]⟩
abbrev S2x4096x8256 : Shape := ⟨3, ![2, 4096, 8256]⟩
abbrev S2x4096x2048 : Shape := ⟨3, ![2, 4096, 2048]⟩
abbrev S2x4096x1536 : Shape := ⟨3, ![2, 4096, 1536]⟩
abbrev S2x4096x512 : Shape := ⟨3, ![2, 4096, 512]⟩
abbrev S2x4096x64 : Shape := ⟨3, ![2, 4096, 64]⟩
abbrev S2x4096x2112 : Shape := ⟨3, ![2, 4096, 2112]⟩
abbrev S_ : Shape := ⟨0, ![]⟩
abbrev S2x4096x2560 : Shape := ⟨3, ![2, 4096, 2560]⟩
abbrev S8192x2560 : Shape := ⟨2, ![8192, 2560]⟩

abbrev nBuf : Space → Nat
  | .hbm => 14
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x8256, .f32⟩
  | .hbm, ⟨2, _⟩ => ⟨S2x4096x8256, .f32⟩
  | .hbm, ⟨3, _⟩ => ⟨S2x4096x2048, .f32⟩
  | .hbm, ⟨4, _⟩ => ⟨S2x4096x2048, .f32⟩
  | .hbm, ⟨5, _⟩ => ⟨S2x4096x2048, .f32⟩
  | .hbm, ⟨6, _⟩ => ⟨S2x4096x1536, .f32⟩
  | .hbm, ⟨7, _⟩ => ⟨S2x4096x512, .f32⟩
  | .hbm, ⟨8, _⟩ => ⟨S2x4096x64, .f32⟩
  | .hbm, ⟨9, _⟩ => ⟨S2x4096x2112, .f32⟩
  | .hbm, ⟨10, _⟩ => ⟨S_, .i32⟩
  | .hbm, ⟨11, _⟩ => ⟨S_, .f32⟩
  | .hbm, ⟨12, _⟩ => ⟨S2x4096x2560, .f32⟩
  | .hbm, ⟨13, _⟩ => ⟨S8192x2560, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_call0_v0 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KernelUkv.lean ====
abbrev S2x4096x512 : Shape := ⟨3, ![2, 4096, 512]⟩
abbrev S512x4096 : Shape := ⟨2, ![512, 4096]⟩
abbrev S8192x512 : Shape := ⟨2, ![8192, 512]⟩
abbrev S8192x4096 : Shape := ⟨2, ![8192, 4096]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x4096x512, .f32⟩
  | .hbm, ⟨1, _⟩ => ⟨S512x4096, .f32⟩
  | .hbm, ⟨2, _⟩ => ⟨S8192x512, .f32⟩
  | .hbm, ⟨3, _⟩ => ⟨S8192x512, .bf16⟩
  | .hbm, ⟨4, _⟩ => ⟨S512x4096, .bf16⟩
  | .hbm, ⟨5, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceUkvIdeal.lean ====
abbrev S2x4096x512 : Shape := ⟨3, ![2, 4096, 512]⟩
abbrev S512x4096 : Shape := ⟨2, ![512, 4096]⟩
abbrev S2x4096x4096 : Shape := ⟨3, ![2, 4096, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x4096, .f32⟩
  | .hbm, ⟨2, _⟩ => ⟨S2x4096x4096, .f32⟩
  | .hbm, ⟨3, _⟩ => ⟨S8192x4096, .f32⟩
  | .hbm, ⟨4, _⟩ => ⟨S8192x4096, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelMq.lean ====
abbrev S2x4096x4096 : Shape := ⟨3, ![2, 4096, 4096]⟩
abbrev S4096x512 : Shape := ⟨2, ![4096, 512]⟩
abbrev S8192x4096 : Shape := ⟨2, ![8192, 4096]⟩
abbrev S_ : Shape := ⟨0, ![]⟩
abbrev S8192x512 : Shape := ⟨2, ![8192, 512]⟩
abbrev S1024x4096 : Shape := ⟨2, ![1024, 4096]⟩
abbrev S1024x512 : Shape := ⟨2, ![1024, 512]⟩

abbrev nBuf : Space → Nat
  | .hbm => 9
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S4096x512, .f32⟩
  | .hbm, ⟨2, _⟩ => ⟨S8192x4096, .f32⟩
  | .hbm, ⟨3, _⟩ => ⟨S8192x4096, .bf16⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x512, .bf16⟩
  | .hbm, ⟨8, _⟩ => ⟨S8192x512, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceMqIdeal.lean ====
abbrev S2x4096x4096 : Shape := ⟨3, ![2, 4096, 4096]⟩
abbrev S4096x512 : Shape := ⟨2, ![4096, 512]⟩
abbrev S2x4096x512 : Shape := ⟨3, ![2, 4096, 512]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x512, .f32⟩
  | .hbm, ⟨2, _⟩ => ⟨S2x4096x512, .f32⟩
  | .hbm, ⟨3, _⟩ => ⟨S_, .f32⟩
  | .hbm, ⟨4, _⟩ => ⟨S2x4096x512, .f32⟩
  | .hbm, ⟨5, _⟩ => ⟨S2x4096x512, .f32⟩
  | .hbm, ⟨6, _⟩ => ⟨S8192x512, .f32⟩
  | .hbm, ⟨7, _⟩ => ⟨S8192x512, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelMkv.lean ====
abbrev S2x256x4096 : Shape := ⟨3, ![2, 256, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 6
  | .vmem => 3
  | .smem => 0
  | _ => 0

abbrev bufTy : (tb : Table) → Fin (tcTables nBuf tb) → BufTy
  | .hbm, ⟨0, _⟩ => ⟨S2x256x4096, .f32⟩
  | .hbm, ⟨1, _⟩ => ⟨S4096x1024, .f32⟩
  | .hbm, ⟨2, _⟩ => ⟨S2x256x4096, .bf16⟩
  | .hbm, ⟨3, _⟩ => ⟨S512x4096, .bf16⟩
  | .hbm, ⟨4, _⟩ => ⟨S4096x1024, .bf16⟩
  | .hbm, ⟨5, _⟩ => ⟨S512x1024, .bf16⟩
  | .local _ .vmem, ⟨0, _⟩ => ⟨S512x4096, .bf16⟩
  | .local _ .vmem, ⟨1, _⟩ => ⟨S4096x1024, .bf16⟩
  | .local _ .vmem, ⟨2, _⟩ => ⟨S512x1024, .bf16⟩
  | _, _ => ⟨S2x256x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== ReferenceMkvIdeal.lean ====
abbrev S2x256x4096 : Shape := ⟨3, ![2, 256, 4096]⟩
abbrev S4096x1024 : Shape := ⟨2, ![4096, 1024]⟩
abbrev S2x256x1024 : Shape := ⟨3, ![2, 256, 1024]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x256x4096, .f32⟩
  | .hbm, ⟨1, _⟩ => ⟨S4096x1024, .f32⟩
  | .hbm, ⟨2, _⟩ => ⟨S2x256x1024, .f32⟩
  | .hbm, ⟨3, _⟩ => ⟨S512x1024, .f32⟩
  | .hbm, ⟨4, _⟩ => ⟨S512x1024, .bf16⟩
  | _, _ => ⟨S2x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelQi.lean ====
abbrev S2x4096x4096 : Shape := ⟨3, ![2, 4096, 4096]⟩
abbrev S4096x11376 : Shape := ⟨2, ![4096, 11376]⟩
abbrev S8192x4096 : Shape := ⟨2, ![8192, 4096]⟩
abbrev S4096x2048 : Shape := ⟨2, ![4096, 2048]⟩
abbrev S4096x64 : Shape := ⟨2, ![4096, 64]⟩
abbrev S_ : Shape := ⟨0, ![]⟩
abbrev S4096x128 : Shape := ⟨2, ![4096, 128]⟩
abbrev S4096x32 : Shape := ⟨2, ![4096, 32]⟩
abbrev S4096x16 : Shape := ⟨2, ![4096, 16]⟩
abbrev S4096x2432 : Shape := ⟨2, ![4096, 2432]⟩
abbrev S4096x2560 : Shape := ⟨2, ![4096, 2560]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x0 : Shape := ⟨2, ![4096, 0]⟩
abbrev S8192x2048 : Shape := ⟨2, ![8192, 2048]⟩
abbrev S1024x4096 : Shape := ⟨2, ![1024, 4096]⟩
abbrev S4096x512 : Shape := ⟨2, ![4096, 512]⟩
abbrev S1024x128 : Shape := ⟨2, ![1024, 128]⟩
abbrev S1024x512 : Shape := ⟨2, ![1024, 512]⟩

abbrev nBuf : Space → Nat
  | .hbm => 64
  | .vmem => 12
  | .smem => 0
  | _ => 0

abbrev bufTy : (tb : Table) → Fin (tcTables nBuf tb) → BufTy
  | .hbm, ⟨0, _⟩ => ⟨S2x4096x4096, .f32⟩
  | .hbm, ⟨1, _⟩ => ⟨S4096x11376, .f32⟩
  | .hbm, ⟨2, _⟩ => ⟨S8192x4096, .f32⟩
  | .hbm, ⟨3, _⟩ => ⟨S8192x4096, .bf16⟩
  | .hbm, ⟨4, _⟩ => ⟨S4096x2048, .f32⟩
  | .hbm, ⟨5, _⟩ => ⟨S4096x64, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S4096x32, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x16, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x2432, .f32⟩
  | .hbm, ⟨18, _⟩ => ⟨S_, .i32⟩
  | .hbm, ⟨19, _⟩ => ⟨S_, .f32⟩
  | .hbm, ⟨20, _⟩ => ⟨S4096x2560, .f32⟩
  | .hbm, ⟨21, _⟩ => ⟨S4096x2560, .bf16⟩
  | .hbm, ⟨22, _⟩ => ⟨S4096x2048, .bf16⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S4096, .f32⟩
  | .hbm, ⟨35, _⟩ => ⟨S4096x1, .f32⟩
  | .hbm, ⟨36, _⟩ => ⟨S1x32, .f32⟩
  | .hbm, ⟨37, _⟩ => ⟨S4096x32, .f32⟩
  | .hbm, ⟨38, _⟩ => ⟨S4096x32, .f32⟩
  | .hbm, ⟨39, _⟩ => ⟨S4096x32, .f32⟩
  | .hbm, ⟨40, _⟩ => ⟨S4096x32, .f32⟩
  | .hbm, ⟨41, _⟩ => ⟨S4096x32, .f32⟩
  | .hbm, ⟨42, _⟩ => ⟨S_, .f32⟩
  | .hbm, ⟨43, _⟩ => ⟨S4096x0, .f32⟩
  | .hbm, ⟨44, _⟩ => ⟨S_, .f32⟩
  | .hbm, ⟨45, _⟩ => ⟨S4096x0, .f32⟩
  | .hbm, ⟨46, _⟩ => ⟨S_, .f32⟩
  | .hbm, ⟨47, _⟩ => ⟨S4096x0, .f32⟩
  | .hbm, ⟨48, _⟩ => ⟨S_, .f32⟩
  | .hbm, ⟨49, _⟩ => ⟨S4096x32, .f32⟩
  | .hbm, ⟨50, _⟩ => ⟨S4096x128, .f32⟩
  | .hbm, ⟨51, _⟩ => ⟨S4096x32, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S4096x128, .f32⟩
  | .hbm, ⟨56, _⟩ => ⟨S4096x128, .f32⟩
  | .hbm, ⟨57, _⟩ => ⟨S_, .f32⟩
  | .hbm, ⟨58, _⟩ => ⟨S4096x128, .f32⟩
  | .hbm, ⟨59, _⟩ => ⟨S4096x128, .f32⟩
  | .hbm, ⟨60, _⟩ => ⟨S_, .f32⟩
  | .hbm, ⟨61, _⟩ => ⟨S4096x128, .f32⟩
  | .hbm, ⟨62, _⟩ => ⟨S4096x128, .f32⟩
  | .hbm, ⟨63, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .bf16⟩
  | .local _ .vmem, ⟨11, _⟩ => ⟨S1024x512, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call3_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceQiIdeal.lean ====
abbrev S2x4096x4096 : Shape := ⟨3, ![2, 4096, 4096]⟩
abbrev S4096x11376 : Shape := ⟨2, ![4096, 11376]⟩
abbrev S2x4096x11376 : Shape := ⟨3, ![2, 4096, 11376]⟩
abbrev S2x4096x2048 : Shape := ⟨3, ![2, 4096, 2048]⟩
abbrev S2x4096x512 : Shape := ⟨3, ![2, 4096, 512]⟩
abbrev S2x4096x64 : Shape := ⟨3, ![2, 4096, 64]⟩
abbrev S2x4096x32 : Shape := ⟨3, ![2, 4096, 32]⟩
abbrev S2x4096x16 : Shape := ⟨3, ![2, 4096, 16]⟩
abbrev S2x4096x32x64 : Shape := ⟨4, ![2, 4096, 32, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x32x32 : Shape := ⟨4, ![2, 4096, 32, 32]⟩
abbrev S8192x2048 : Shape := ⟨2, ![8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x11376, .f32⟩
  | .hbm, ⟨2, _⟩ => ⟨S2x4096x11376, .f32⟩
  | .hbm, ⟨3, _⟩ => ⟨S2x4096x2048, .f32⟩
  | .hbm, ⟨4, _⟩ => ⟨S2x4096x512, .f32⟩
  | .hbm, ⟨5, _⟩ => ⟨S2x4096x512, .f32⟩
  | .hbm, ⟨6, _⟩ => ⟨S2x4096x2048, .f32⟩
  | .hbm, ⟨7, _⟩ => ⟨S2x4096x64, .f32⟩
  | .hbm, ⟨8, _⟩ => ⟨S2x4096x32, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x16, .f32⟩
  | .hbm, ⟨13, _⟩ => ⟨S2x4096x32x64, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S1x4096x1x32, .f32⟩
  | .hbm, ⟨33, _⟩ => ⟨S4096x32, .f32⟩
  | .hbm, ⟨34, _⟩ => ⟨S1x4096x1x32, .f32⟩
  | .hbm, ⟨35, _⟩ => ⟨S2x4096x32x32, .f32⟩
  | .hbm, ⟨36, _⟩ => ⟨S2x4096x32x32, .f32⟩
  | .hbm, ⟨37, _⟩ => ⟨S2x4096x32x32, .f32⟩
  | .hbm, ⟨38, _⟩ => ⟨S2x4096x32x32, .f32⟩
  | .hbm, ⟨39, _⟩ => ⟨S2x4096x32x32, .f32⟩
  | .hbm, ⟨40, _⟩ => ⟨S2x4096x32x32, .f32⟩
  | .hbm, ⟨41, _⟩ => ⟨S2x4096x32x32, .f32⟩
  | .hbm, ⟨42, _⟩ => ⟨S2x4096x32x32, .f32⟩
  | .hbm, ⟨43, _⟩ => ⟨S2x4096x32x32, .f32⟩
  | .hbm, ⟨44, _⟩ => ⟨S2x4096x32x32, .f32⟩
  | .hbm, ⟨45, _⟩ => ⟨S2x4096x32x32, .f32⟩
  | .hbm, ⟨46, _⟩ => ⟨S2x4096x32x32, .f32⟩
  | .hbm, ⟨47, _⟩ => ⟨S2x4096x32x64, .f32⟩
  | .hbm, ⟨48, _⟩ => ⟨S8192x2048, .f32⟩
  | .hbm, ⟨49, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩

abbrev nD : Nat := 1
abbrev τ : Topo := Topo.v7x

variable {F : FTy → Type} [FloatOps F]
-- ==== KernelMo.lean ====
abbrev S2x4096x512 : Shape := ⟨3, ![2, 4096, 512]⟩
abbrev S512x4096 : Shape := ⟨2, ![512, 4096]⟩
abbrev S2x4096x4096 : Shape := ⟨3, ![2, 4096, 4096]⟩
abbrev S4096 : Shape := ⟨1, ![4096]⟩
abbrev S8192x512 : Shape := ⟨2, ![8192, 512]⟩
abbrev S8192x4096 : Shape := ⟨2, ![8192, 4096]⟩
abbrev S1x4096 : Shape := ⟨2, ![1, 4096]⟩
abbrev S4096x8192 : Shape := ⟨2, ![4096, 8192]⟩
abbrev S256x512 : Shape := ⟨2, ![256, 512]⟩
abbrev S256x4096 : Shape := ⟨2, ![256, 4096]⟩
abbrev S4096x256 : Shape := ⟨2, ![4096, 256]⟩
abbrev S256 : Shape := ⟨1, ![256]⟩
abbrev S256x1 : Shape := ⟨2, ![256, 1]⟩

abbrev nBuf : Space → Nat
  | .hbm => 13
  | .vmem => 11
  | .smem => 0
  | _ => 0

abbrev bufTy : (tb : Table) → Fin (tcTables nBuf tb) → BufTy
  | .hbm, ⟨0, _⟩ => ⟨S2x4096x512, .f32⟩
  | .hbm, ⟨1, _⟩ => ⟨S512x4096, .f32⟩
  | .hbm, ⟨2, _⟩ => ⟨S2x4096x4096, .f32⟩
  | .hbm, ⟨3, _⟩ => ⟨S4096, .f32⟩
  | .hbm, ⟨4, _⟩ => ⟨S4096, .f32⟩
  | .hbm, ⟨5, _⟩ => ⟨S8192x512, .f32⟩
  | .hbm, ⟨6, _⟩ => ⟨S8192x512, .bf16⟩
  | .hbm, ⟨7, _⟩ => ⟨S512x4096, .bf16⟩
  | .hbm, ⟨8, _⟩ => ⟨S8192x4096, .f32⟩
  | .hbm, ⟨9, _⟩ => ⟨S1x4096, .f32⟩
  | .hbm, ⟨10, _⟩ => ⟨S1x4096, .f32⟩
  | .hbm, ⟨11, _⟩ => ⟨S8192x4096, .f32⟩
  | .hbm, ⟨12, _⟩ => ⟨S4096x8192, .bf16⟩
  | .local _ .vmem, ⟨0, _⟩ => ⟨S256x512, .bf16⟩
  | .local _ .vmem, ⟨1, _⟩ => ⟨S256x512, .bf16⟩
  | .local _ .vmem, ⟨2, _⟩ => ⟨S512x4096, .bf16⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S1x4096, .f32⟩
  | .local _ .vmem, ⟨7, _⟩ => ⟨S256x4096, .f32⟩
  | .local _ .vmem, ⟨8, _⟩ => ⟨S256x4096, .f32⟩
  | .local _ .vmem, ⟨9, _⟩ => ⟨S4096x256, .bf16⟩
  | .local _ .vmem, ⟨10, _⟩ => ⟨S4096x256, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceMoIdeal.lean ====
abbrev S2x4096x512 : Shape := ⟨3, ![2, 4096, 512]⟩
abbrev S512x4096 : Shape := ⟨2, ![512, 4096]⟩
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩
abbrev S4096x8192 : Shape := ⟨2, ![4096, 8192]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S512x4096, .f32⟩
  | .hbm, ⟨2, _⟩ => ⟨S2x4096x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S2x4096x4096, .f32⟩
  | .hbm, ⟨7, _⟩ => ⟨S2x4096x4096, .f32⟩
  | .hbm, ⟨8, _⟩ => ⟨S2x4096x4096, .f32⟩
  | .hbm, ⟨9, _⟩ => ⟨S2x4096x4096, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S_, .f32⟩
  | .hbm, ⟨26, _⟩ => ⟨S2x4096x1, .f32⟩
  | .hbm, ⟨27, _⟩ => ⟨S2x4096x1, .f32⟩
  | .hbm, ⟨28, _⟩ => ⟨S2x4096x1, .f32⟩
  | .hbm, ⟨29, _⟩ => ⟨S2x4096x4096, .f32⟩
  | .hbm, ⟨30, _⟩ => ⟨S2x4096x4096, .f32⟩
  | .hbm, ⟨31, _⟩ => ⟨S1x1x4096, .f32⟩
  | .hbm, ⟨32, _⟩ => ⟨S2x4096x4096, .f32⟩
  | .hbm, ⟨33, _⟩ => ⟨S2x4096x4096, .f32⟩
  | .hbm, ⟨34, _⟩ => ⟨S1x1x4096, .f32⟩
  | .hbm, ⟨35, _⟩ => ⟨S2x4096x4096, .f32⟩
  | .hbm, ⟨36, _⟩ => ⟨S2x4096x4096, .f32⟩
  | .hbm, ⟨37, _⟩ => ⟨S8192x4096, .f32⟩
  | .hbm, ⟨38, _⟩ => ⟨S4096x8192, .f32⟩
  | .hbm, ⟨39, _⟩ => ⟨S4096x8192, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== KernelLn.lean ====
abbrev S2x4096x4096 : Shape := ⟨3, ![2, 4096, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceLnIdeal.lean ====
abbrev S2x4096x4096 : Shape := ⟨3, ![2, 4096, 4096]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x4096, .f32⟩
  | .hbm, ⟨2, _⟩ => ⟨S4096, .f32⟩
  | .hbm, ⟨3, _⟩ => ⟨S4096, .f32⟩
  | .hbm, ⟨4, _⟩ => ⟨S_, .f32⟩
  | .hbm, ⟨5, _⟩ => ⟨S2x4096x4096, .f32⟩
  | .hbm, ⟨6, _⟩ => ⟨S2x4096x4096, .f32⟩
  | .hbm, ⟨7, _⟩ => ⟨S2x4096x4096, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S_, .f32⟩
  | .hbm, ⟨18, _⟩ => ⟨S2x4096, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S_, .f32⟩
  | .hbm, ⟨24, _⟩ => ⟨S2x4096x1, .f32⟩
  | .hbm, ⟨25, _⟩ => ⟨S2x4096x1, .f32⟩
  | .hbm, ⟨26, _⟩ => ⟨S2x4096x1, .f32⟩
  | .hbm, ⟨27, _⟩ => ⟨S2x4096x4096, .f32⟩
  | .hbm, ⟨28, _⟩ => ⟨S2x4096x4096, .f32⟩
  | .hbm, ⟨29, _⟩ => ⟨S1x1x4096, .f32⟩
  | .hbm, ⟨30, _⟩ => ⟨S2x4096x4096, .f32⟩
  | .hbm, ⟨31, _⟩ => ⟨S2x4096x4096, .f32⟩
  | .hbm, ⟨32, _⟩ => ⟨S1x1x4096, .f32⟩
  | .hbm, ⟨33, _⟩ => ⟨S2x4096x4096, .f32⟩
  | .hbm, ⟨34, _⟩ => ⟨S2x4096x4096, .f32⟩
  | .hbm, ⟨35, _⟩ => ⟨S8192x4096, .f32⟩
  | .hbm, ⟨36, _⟩ => ⟨S8192x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== KernelUq.lean ====
abbrev S2x4096x1536 : Shape := ⟨3, ![2, 4096, 1536]⟩
abbrev S1536x3072 : Shape := ⟨2, ![1536, 3072]⟩
abbrev S1536x16x192 : Shape := ⟨3, ![1536, 16, 192]⟩
abbrev S_ : Shape := ⟨0, ![]⟩
abbrev S1536x16x256 : Shape := ⟨3, ![1536, 16, 256]⟩
abbrev S1536x4096 : Shape := ⟨2, ![1536, 4096]⟩
abbrev S8192x1536 : Shape := ⟨2, ![8192, 1536]⟩
abbrev S32 : Shape := ⟨1, ![32]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x256 : Shape := ⟨2, ![4096, 256]⟩
abbrev S8192x4096 : Shape := ⟨2, ![8192, 4096]⟩
abbrev S1024x1536 : Shape := ⟨2, ![1024, 1536]⟩
abbrev S1536x512 : Shape := ⟨2, ![1536, 512]⟩
abbrev S1024x256 : Shape := ⟨2, ![1024, 256]⟩
abbrev S1024x512 : Shape := ⟨2, ![1024, 512]⟩

abbrev nBuf : Space → Nat
  | .hbm => 51
  | .vmem => 12
  | .smem => 0
  | _ => 0

abbrev bufTy : (tb : Table) → Fin (tcTables nBuf tb) → BufTy
  | .hbm, ⟨0, _⟩ => ⟨S2x4096x1536, .f32⟩
  | .hbm, ⟨1, _⟩ => ⟨S1536x3072, .f32⟩
  | .hbm, ⟨2, _⟩ => ⟨S1536x16x192, .f32⟩
  | .hbm, ⟨3, _⟩ => ⟨S_, .i32⟩
  | .hbm, ⟨4, _⟩ => ⟨S_, .f32⟩
  | .hbm, ⟨5, _⟩ => ⟨S1536x16x256, .f32⟩
  | .hbm, ⟨6, _⟩ => ⟨S1536x4096, .f32⟩
  | .hbm, ⟨7, _⟩ => ⟨S1536x4096, .bf16⟩
  | .hbm, ⟨8, _⟩ => ⟨S8192x1536, .f32⟩
  | .hbm, ⟨9, _⟩ => ⟨S8192x1536, .bf16⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S_, .f32⟩
  | .hbm, ⟨30, _⟩ => ⟨S4096x64, .f32⟩
  | .hbm, ⟨31, _⟩ => ⟨S_, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S_, .f32⟩
  | .hbm, ⟨36, _⟩ => ⟨S4096x32, .f32⟩
  | .hbm, ⟨37, _⟩ => ⟨S4096x256, .f32⟩
  | .hbm, ⟨38, _⟩ => ⟨S4096x32, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | .hbm, ⟨44, _⟩ => ⟨S_, .f32⟩
  | .hbm, ⟨45, _⟩ => ⟨S4096x256, .f32⟩
  | .hbm, ⟨46, _⟩ => ⟨S4096x256, .f32⟩
  | .hbm, ⟨47, _⟩ => ⟨S_, .f32⟩
  | .hbm, ⟨48, _⟩ => ⟨S4096x256, .f32⟩
  | .hbm, ⟨49, _⟩ => ⟨S4096x256, .f32⟩
  | .hbm, ⟨50, _⟩ => ⟨S8192x4096, .bf16⟩
  | .local _ .vmem, ⟨0, _⟩ => ⟨S1024x1536, .bf16⟩
  | .local _ .vmem, ⟨1, _⟩ => ⟨S1024x1536, .bf16⟩
  | .local _ .vmem, ⟨2, _⟩ => ⟨S1536x512, .bf16⟩
  | .local _ .vmem, ⟨3, _⟩ => ⟨S1536x512, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x512, .bf16⟩
  | .local _ .vmem, ⟨11, _⟩ => ⟨S1024x512, .bf16⟩
  | _, _ => ⟨S2x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUqIdeal.lean ====
abbrev S2x4096x1536 : Shape := ⟨3, ![2, 4096, 1536]⟩
abbrev S1536x3072 : Shape := ⟨2, ![1536, 3072]⟩
abbrev S2x4096x3072 : Shape := ⟨3, ![2, 4096, 3072]⟩
abbrev S2x4096x16x192 : Shape := ⟨4, ![2, 4096, 16, 192]⟩
abbrev S2x4096x16x128 : Shape := ⟨4, ![2, 4096, 16, 128]⟩
abbrev S2x4096x16x64 : Shape := ⟨4, ![2, 4096, 16, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x16x32 : Shape := ⟨4, ![2, 4096, 16, 32]⟩
abbrev S2x4096x16x256 : Shape := ⟨4, ![2, 4096, 16, 256]⟩
abbrev S8192x4096 : Shape := ⟨2, ![8192, 4096]⟩

abbrev nBuf : Space → Nat
  | .hbm => 49
  | .vmem => 0
  | .smem => 0
  | _ => 0

abbrev bufTy : (tb : Table) → Fin (tcTables nBuf tb) → BufTy
  | .hbm, ⟨0, _⟩ => ⟨S2x4096x1536, .f32⟩
  | .hbm, ⟨1, _⟩ => ⟨S1536x3072, .f32⟩
  | .hbm, ⟨2, _⟩ => ⟨S2x4096x3072, .f32⟩
  | .hbm, ⟨3, _⟩ => ⟨S2x4096x16x192, .f32⟩
  | .hbm, ⟨4, _⟩ => ⟨S2x4096x16x128, .f32⟩
  | .hbm, ⟨5, _⟩ => ⟨S2x4096x16x64, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S1x4096x1x32, .f32⟩
  | .hbm, ⟨25, _⟩ => ⟨S4096x32, .f32⟩
  | .hbm, ⟨26, _⟩ => ⟨S1x4096x1x32, .f32⟩
  | .hbm, ⟨27, _⟩ => ⟨S2x4096x16x32, .f32⟩
  | .hbm, ⟨28, _⟩ => ⟨S2x4096x16x32, .f32⟩
  | .hbm, ⟨29, _⟩ => ⟨S2x4096x16x32, .f32⟩
  | .hbm, ⟨30, _⟩ => ⟨S2x4096x16x32, .f32⟩
  | .hbm, ⟨31, _⟩ => ⟨S2x4096x16x32, .f32⟩
  | .hbm, ⟨32, _⟩ => ⟨S2x4096x16x32, .f32⟩
  | .hbm, ⟨33, _⟩ => ⟨S2x4096x16x32, .f32⟩
  | .hbm, ⟨34, _⟩ => ⟨S2x4096x16x32, .f32⟩
  | .hbm, ⟨35, _⟩ => ⟨S2x4096x16x32, .f32⟩
  | .hbm, ⟨36, _⟩ => ⟨S2x4096x16x32, .f32⟩
  | .hbm, ⟨37, _⟩ => ⟨S2x4096x16x32, .f32⟩
  | .hbm, ⟨38, _⟩ => ⟨S2x4096x16x32, .f32⟩
  | .hbm, ⟨39, _⟩ => ⟨S2x4096x16x64, .f32⟩
  | .hbm, ⟨40, _⟩ => ⟨S2x4096x16x192, .f32⟩
  | .hbm, ⟨41, _⟩ => ⟨S_, .f32⟩
  | .hbm, ⟨42, _⟩ => ⟨S2x4096x16x192, .f32⟩
  | .hbm, ⟨43, _⟩ => ⟨S2x4096x16x192, .f32⟩
  | .hbm, ⟨44, _⟩ => ⟨S_, .i32⟩
  | .hbm, ⟨45, _⟩ => ⟨S_, .f32⟩
  | .hbm, ⟨46, _⟩ => ⟨S2x4096x16x256, .f32⟩
  | .hbm, ⟨47, _⟩ => ⟨S8192x4096, .f32⟩
  | .hbm, ⟨48, _⟩ => ⟨S8192x4096, .bf16⟩
  | _, _ => ⟨S2x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_2 : Ref sig .tc := ⟨.hbm, 41, rfl⟩
abbrev main_v36 : Ref sig .tc := ⟨.hbm, 42, rfl⟩
abbrev main_v37 : Ref sig .tc := ⟨.hbm, 43, rfl⟩
abbrev main_c : Ref sig .tc := ⟨.hbm, 44, rfl⟩
abbrev main_call0_v0 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== KernelPb.lean ====
abbrev S2x4096x4096 : Shape := ⟨3, ![2, 4096, 4096]⟩
abbrev S4096x11376 : Shape := ⟨2, ![4096, 11376]⟩
abbrev S8192x4096 : Shape := ⟨2, ![8192, 4096]⟩
abbrev S4096x2048 : Shape := ⟨2, ![4096, 2048]⟩
abbrev S4096x64 : Shape := ⟨2, ![4096, 64]⟩
abbrev S_ : Shape := ⟨0, ![]⟩
abbrev S4096x128 : Shape := ⟨2, ![4096, 128]⟩
abbrev S4096x32 : Shape := ⟨2, ![4096, 32]⟩
abbrev S4096x16 : Shape := ⟨2, ![4096, 16]⟩
abbrev S4096x2432 : Shape := ⟨2, ![4096, 2432]⟩
abbrev S4096x2560 : Shape := ⟨2, ![4096, 2560]⟩
abbrev S4096x512 : Shape := ⟨2, ![4096, 512]⟩
abbrev S8192x512 : Shape := ⟨2, ![8192, 512]⟩
abbrev S1024x4096 : Shape := ⟨2, ![1024, 4096]⟩
abbrev S1024x512 : Shape := ⟨2, ![1024, 512]⟩

abbrev nBuf : Space → Nat
  | .hbm => 24
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S4096x11376, .f32⟩
  | .hbm, ⟨2, _⟩ => ⟨S8192x4096, .f32⟩
  | .hbm, ⟨3, _⟩ => ⟨S8192x4096, .bf16⟩
  | .hbm, ⟨4, _⟩ => ⟨S4096x2048, .f32⟩
  | .hbm, ⟨5, _⟩ => ⟨S4096x64, .f32⟩
  | .hbm, ⟨6, _⟩ => ⟨S_, .i32⟩
  | .hbm, ⟨7, _⟩ => ⟨S_, .f32⟩
  | .hbm, ⟨8, _⟩ => ⟨S4096x128, .f32⟩
  | .hbm, ⟨9, _⟩ => ⟨S4096x32, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x16, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x2432, .f32⟩
  | .hbm, ⟨18, _⟩ => ⟨S_, .i32⟩
  | .hbm, ⟨19, _⟩ => ⟨S_, .f32⟩
  | .hbm, ⟨20, _⟩ => ⟨S4096x2560, .f32⟩
  | .hbm, ⟨21, _⟩ => ⟨S4096x2560, .bf16⟩
  | .hbm, ⟨22, _⟩ => ⟨S4096x512, .bf16⟩
  | .hbm, ⟨23, _⟩ => ⟨S8192x512, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_call2_v0 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_call3_v0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferencePbIdeal.lean ====
abbrev S2x4096x4096 : Shape := ⟨3, ![2, 4096, 4096]⟩
abbrev S4096x11376 : Shape := ⟨2, ![4096, 11376]⟩
abbrev S2x4096x11376 : Shape := ⟨3, ![2, 4096, 11376]⟩
abbrev S2x4096x2048 : Shape := ⟨3, ![2, 4096, 2048]⟩
abbrev S2x4096x512 : Shape := ⟨3, ![2, 4096, 512]⟩
abbrev S2x4096x64 : Shape := ⟨3, ![2, 4096, 64]⟩
abbrev S2x4096x32 : Shape := ⟨3, ![2, 4096, 32]⟩
abbrev S2x4096x16 : Shape := ⟨3, ![2, 4096, 16]⟩
abbrev S_ : Shape := ⟨0, ![]⟩
abbrev S2x4096x128 : Shape := ⟨3, ![2, 4096, 128]⟩
abbrev S2x4096x256 : Shape := ⟨3, ![2, 4096, 256]⟩
abbrev S8192x512 : Shape := ⟨2, ![8192, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S4096x11376, .f32⟩
  | .hbm, ⟨2, _⟩ => ⟨S2x4096x11376, .f32⟩
  | .hbm, ⟨3, _⟩ => ⟨S2x4096x2048, .f32⟩
  | .hbm, ⟨4, _⟩ => ⟨S2x4096x512, .f32⟩
  | .hbm, ⟨5, _⟩ => ⟨S2x4096x512, .f32⟩
  | .hbm, ⟨6, _⟩ => ⟨S2x4096x2048, .f32⟩
  | .hbm, ⟨7, _⟩ => ⟨S2x4096x64, .f32⟩
  | .hbm, ⟨8, _⟩ => ⟨S2x4096x32, .f32⟩
  | .hbm, ⟨9, _⟩ => ⟨S2x4096x2048, .f32⟩
  | .hbm, ⟨10, _⟩ => ⟨S2x4096x2048, .f32⟩
  | .hbm, ⟨11, _⟩ => ⟨S2x4096x2048, .f32⟩
  | .hbm, ⟨12, _⟩ => ⟨S2x4096x16, .f32⟩
  | .hbm, ⟨13, _⟩ => ⟨S_, .i32⟩
  | .hbm, ⟨14, _⟩ => ⟨S_, .f32⟩
  | .hbm, ⟨15, _⟩ => ⟨S2x4096x128, .f32⟩
  | .hbm, ⟨16, _⟩ => ⟨S_, .i32⟩
  | .hbm, ⟨17, _⟩ => ⟨S_, .f32⟩
  | .hbm, ⟨18, _⟩ => ⟨S2x4096x128, .f32⟩
  | .hbm, ⟨19, _⟩ => ⟨S_, .i32⟩
  | .hbm, ⟨20, _⟩ => ⟨S_, .f32⟩
  | .hbm, ⟨21, _⟩ => ⟨S2x4096x256, .f32⟩
  | .hbm, ⟨22, _⟩ => ⟨S2x4096x512, .f32⟩
  | .hbm, ⟨23, _⟩ => ⟨S8192x512, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_c_0 : Ref sig .tc := ⟨.hbm, 16, rfl⟩
abbrev main_call1_v0 : Ref sig .tc := ⟨.hbm, 17, rfl⟩
abbrev main_v12 : Ref sig .tc := ⟨.hbm, 18, rfl⟩
abbrev main_c_1 : Ref sig .tc := ⟨.hbm, 19, rfl⟩
abbrev main_call2_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelRk.lean ====
abbrev S2x4096x2560 : Shape := ⟨3, ![2, 4096, 2560]⟩
abbrev S512 : Shape := ⟨1, ![512]⟩
abbrev S8192x2560 : Shape := ⟨2, ![8192, 2560]⟩
abbrev S1x512 : Shape := ⟨2, ![1, 512]⟩
abbrev S8192x512 : Shape := ⟨2, ![8192, 512]⟩
abbrev S512x512 : Shape := ⟨2, ![512, 512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x4096x2560, .f32⟩
  | .hbm, ⟨1, _⟩ => ⟨S512, .f32⟩
  | .hbm, ⟨2, _⟩ => ⟨S8192x2560, .f32⟩
  | .hbm, ⟨3, _⟩ => ⟨S1x512, .f32⟩
  | .hbm, ⟨4, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .bf16⟩
  | .local _ .vmem, ⟨4, _⟩ => ⟨S512x512, .bf16⟩
  | _, _ => ⟨S2x4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceRkIdeal.lean ====
abbrev S2x4096x2560 : Shape := ⟨3, ![2, 4096, 2560]⟩
abbrev S512 : Shape := ⟨1, ![512]⟩
abbrev S2x4096x512 : Shape := ⟨3, ![2, 4096, 512]⟩
abbrev S_ : Shape := ⟨0, ![]⟩
abbrev S2x4096 : Shape := ⟨2, ![2, 4096]⟩
abbrev S2x4096x1 : Shape := ⟨3, ![2, 4096, 1]⟩
abbrev S1x1x512 : Shape := ⟨3, ![1, 1, 512]⟩
abbrev S8192x512 : Shape := ⟨2, ![8192, 512]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x2560, .f32⟩
  | .hbm, ⟨1, _⟩ => ⟨S512, .f32⟩
  | .hbm, ⟨2, _⟩ => ⟨S2x4096x512, .f32⟩
  | .hbm, ⟨3, _⟩ => ⟨S2x4096x512, .f32⟩
  | .hbm, ⟨4, _⟩ => ⟨S_, .f32⟩
  | .hbm, ⟨5, _⟩ => ⟨S2x4096, .f32⟩
  | .hbm, ⟨6, _⟩ => ⟨S2x4096x1, .f32⟩
  | .hbm, ⟨7, _⟩ => ⟨S_, .f32⟩
  | .hbm, ⟨8, _⟩ => ⟨S2x4096x1, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x1, .f32⟩
  | .hbm, ⟨14, _⟩ => ⟨S2x4096x512, .f32⟩
  | .hbm, ⟨15, _⟩ => ⟨S2x4096x512, .f32⟩
  | .hbm, ⟨16, _⟩ => ⟨S1x1x512, .f32⟩
  | .hbm, ⟨17, _⟩ => ⟨S2x4096x512, .f32⟩
  | .hbm, ⟨18, _⟩ => ⟨S2x4096x512, .f32⟩
  | .hbm, ⟨19, _⟩ => ⟨S8192x512, .f32⟩
  | .hbm, ⟨20, _⟩ => ⟨S8192x512, .bf16⟩
  | _, _ => ⟨S2x4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== KernelKi.lean ====
abbrev S2x4096x512 : Shape := ⟨3, ![2, 4096, 512]⟩
abbrev S8192x512 : Shape := ⟨2, ![8192, 512]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x0 : Shape := ⟨2, ![4096, 0]⟩
abbrev S4096x128 : Shape := ⟨2, ![4096, 128]⟩
abbrev S8192x128 : Shape := ⟨2, ![8192, 128]⟩
abbrev S256x128 : Shape := ⟨2, ![256, 128]⟩

abbrev nBuf : Space → Nat
  | .hbm => 43
  | .vmem => 10
  | .smem => 0
  | _ => 0

abbrev bufTy : (tb : Table) → Fin (tcTables nBuf tb) → BufTy
  | .hbm, ⟨0, _⟩ => ⟨S2x4096x512, .f32⟩
  | .hbm, ⟨1, _⟩ => ⟨S8192x512, .f32⟩
  | .hbm, ⟨2, _⟩ => ⟨S32, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S4096, .f32⟩
  | .hbm, ⟨14, _⟩ => ⟨S4096x1, .f32⟩
  | .hbm, ⟨15, _⟩ => ⟨S1x32, .f32⟩
  | .hbm, ⟨16, _⟩ => ⟨S4096x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S_, .f32⟩
  | .hbm, ⟨22, _⟩ => ⟨S4096x64, .f32⟩
  | .hbm, ⟨23, _⟩ => ⟨S_, .f32⟩
  | .hbm, ⟨24, _⟩ => ⟨S4096x0, .f32⟩
  | .hbm, ⟨25, _⟩ => ⟨S_, .f32⟩
  | .hbm, ⟨26, _⟩ => ⟨S4096x0, .f32⟩
  | .hbm, ⟨27, _⟩ => ⟨S_, .f32⟩
  | .hbm, ⟨28, _⟩ => ⟨S4096x32, .f32⟩
  | .hbm, ⟨29, _⟩ => ⟨S4096x128, .f32⟩
  | .hbm, ⟨30, _⟩ => ⟨S4096x32, .f32⟩
  | .hbm, ⟨31, _⟩ => ⟨S4096x128, .f32⟩
  | .hbm, ⟨32, _⟩ => ⟨S4096x128, .f32⟩
  | .hbm, ⟨33, _⟩ => ⟨S_, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | .hbm, ⟨42, _⟩ => ⟨S8192x128, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_cst_5 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_cst_7 : Ref sig .tc := ⟨.hbm, 36, rfl⟩
abbrev main_v27 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceKiIdeal.lean ====
abbrev S2x4096x512 : Shape := ⟨3, ![2, 4096, 512]⟩
abbrev S2x4096x64 : Shape := ⟨3, ![2, 4096, 64]⟩
abbrev S2x4096x1x64 : Shape := ⟨4, ![2, 4096, 1, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S2x4096x128 : Shape := ⟨3, ![2, 4096, 128]⟩
abbrev S8192x128 : Shape := ⟨2, ![8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x64, .f32⟩
  | .hbm, ⟨2, _⟩ => ⟨S2x4096x1x64, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S1x4096x1x32, .f32⟩
  | .hbm, ⟨22, _⟩ => ⟨S4096x32, .f32⟩
  | .hbm, ⟨23, _⟩ => ⟨S1x4096x1x32, .f32⟩
  | .hbm, ⟨24, _⟩ => ⟨S2x4096x1x32, .f32⟩
  | .hbm, ⟨25, _⟩ => ⟨S2x4096x1x32, .f32⟩
  | .hbm, ⟨26, _⟩ => ⟨S2x4096x1x32, .f32⟩
  | .hbm, ⟨27, _⟩ => ⟨S2x4096x1x32, .f32⟩
  | .hbm, ⟨28, _⟩ => ⟨S2x4096x1x32, .f32⟩
  | .hbm, ⟨29, _⟩ => ⟨S2x4096x1x32, .f32⟩
  | .hbm, ⟨30, _⟩ => ⟨S2x4096x1x32, .f32⟩
  | .hbm, ⟨31, _⟩ => ⟨S2x4096x1x32, .f32⟩
  | .hbm, ⟨32, _⟩ => ⟨S2x4096x1x32, .f32⟩
  | .hbm, ⟨33, _⟩ => ⟨S2x4096x1x32, .f32⟩
  | .hbm, ⟨34, _⟩ => ⟨S2x4096x1x32, .f32⟩
  | .hbm, ⟨35, _⟩ => ⟨S2x4096x1x32, .f32⟩
  | .hbm, ⟨36, _⟩ => ⟨S2x4096x1x64, .f32⟩
  | .hbm, ⟨37, _⟩ => ⟨S2x4096x64, .f32⟩
  | .hbm, ⟨38, _⟩ => ⟨S_, .i32⟩
  | .hbm, ⟨39, _⟩ => ⟨S_, .f32⟩
  | .hbm, ⟨40, _⟩ => ⟨S2x4096x128, .f32⟩
  | .hbm, ⟨41, _⟩ => ⟨S8192x128, .f32⟩
  | .hbm, ⟨42, _⟩ => ⟨S8192x128, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_c : Ref sig .tc := ⟨.hbm, 38, rfl⟩
abbrev main_call0_v0 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== KernelEx.lean ====
abbrev S2x16384x4096 : Shape := ⟨3, ![2, 16384, 4096]⟩
abbrev S16384x4096 : Shape := ⟨2, ![16384, 4096]⟩
abbrev S1x256x4096 : Shape := ⟨3, ![1, 256, 4096]⟩
abbrev S256x4096 : Shape := ⟨2, ![256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S2x16384x4096, .f32⟩
  | .hbm, ⟨1, _⟩ => ⟨S2x16384x4096, .f32⟩
  | .hbm, ⟨2, _⟩ => ⟨S16384x4096, .bf16⟩
  | .hbm, ⟨3, _⟩ => ⟨S16384x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | _, _ => ⟨S2x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceExIdeal.lean ====
abbrev S2x16384x4096 : Shape := ⟨3, ![2, 16384, 4096]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x4096, .f32⟩
  | .hbm, ⟨1, _⟩ => ⟨S2x16384x4096, .f32⟩
  | .hbm, ⟨2, _⟩ => ⟨S1x16384x4096, .f32⟩
  | .hbm, ⟨3, _⟩ => ⟨S16384x4096, .f32⟩
  | .hbm, ⟨4, _⟩ => ⟨S16384x4096, .bf16⟩
  | .hbm, ⟨5, _⟩ => ⟨S1x16384x4096, .f32⟩
  | .hbm, ⟨6, _⟩ => ⟨S16384x4096, .f32⟩
  | .hbm, ⟨7, _⟩ => ⟨S16384x4096, .bf16⟩
  | _, _ => ⟨S2x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelEy.lean ====
abbrev S2x16384x4096 : Shape := ⟨3, ![2, 16384, 4096]⟩
abbrev S16384x4096 : Shape := ⟨2, ![16384, 4096]⟩
abbrev S1x256x4096 : Shape := ⟨3, ![1, 256, 4096]⟩
abbrev S256x4096 : Shape := ⟨2, ![256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S2x16384x4096, .f32⟩
  | .hbm, ⟨1, _⟩ => ⟨S2x16384x4096, .f32⟩
  | .hbm, ⟨2, _⟩ => ⟨S16384x4096, .bf16⟩
  | .hbm, ⟨3, _⟩ => ⟨S16384x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | _, _ => ⟨S2x16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceEyIdeal.lean ====
abbrev S2x16384x4096 : Shape := ⟨3, ![2, 16384, 4096]⟩
abbrev S1x16384x4096 : Shape := ⟨3, ![1, 16384, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x16384x4096, .f32⟩
  | .hbm, ⟨1, _⟩ => ⟨S2x16384x4096, .f32⟩
  | .hbm, ⟨2, _⟩ => ⟨S1x16384x4096, .f32⟩
  | .hbm, ⟨3, _⟩ => ⟨S16384x4096, .f32⟩
  | .hbm, ⟨4, _⟩ => ⟨S16384x4096, .bf16⟩
  | .hbm, ⟨5, _⟩ => ⟨S1x16384x4096, .f32⟩
  | .hbm, ⟨6, _⟩ => ⟨S16384x4096, .f32⟩
  | .hbm, ⟨7, _⟩ => ⟨S16384x4096, .bf16⟩
  | _, _ => ⟨S2x16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelKv.lean ====
abbrev S2x4096x4096 : Shape := ⟨3, ![2, 4096, 4096]⟩
abbrev S2x4096x2560 : Shape := ⟨3, ![2, 4096, 2560]⟩
abbrev S8192x4096 : Shape := ⟨2, ![8192, 4096]⟩
abbrev S8192x2560 : Shape := ⟨2, ![8192, 2560]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x0 : Shape := ⟨2, ![4096, 0]⟩
abbrev S4096x128 : Shape := ⟨2, ![4096, 128]⟩
abbrev S8192x2048 : Shape := ⟨2, ![8192, 2048]⟩
abbrev S256x4096 : Shape := ⟨2, ![256, 4096]⟩
abbrev S256x128 : Shape := ⟨2, ![256, 128]⟩
abbrev S256x2048 : Shape := ⟨2, ![256, 2048]⟩

abbrev nBuf : Space → Nat
  | .hbm => 47
  | .vmem => 14
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2560, .f32⟩
  | .hbm, ⟨2, _⟩ => ⟨S8192x4096, .f32⟩
  | .hbm, ⟨3, _⟩ => ⟨S8192x4096, .bf16⟩
  | .hbm, ⟨4, _⟩ => ⟨S8192x2560, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S_, .f32⟩
  | .hbm, ⟨25, _⟩ => ⟨S4096x64, .f32⟩
  | .hbm, ⟨26, _⟩ => ⟨S_, .f32⟩
  | .hbm, ⟨27, _⟩ => ⟨S4096x0, .f32⟩
  | .hbm, ⟨28, _⟩ => ⟨S_, .f32⟩
  | .hbm, ⟨29, _⟩ => ⟨S4096x0, .f32⟩
  | .hbm, ⟨30, _⟩ => ⟨S_, .f32⟩
  | .hbm, ⟨31, _⟩ => ⟨S4096x32, .f32⟩
  | .hbm, ⟨32, _⟩ => ⟨S4096x128, .f32⟩
  | .hbm, ⟨33, _⟩ => ⟨S4096x32, .f32⟩
  | .hbm, ⟨34, _⟩ => ⟨S4096x128, .f32⟩
  | .hbm, ⟨35, _⟩ => ⟨S4096x128, .f32⟩
  | .hbm, ⟨36, _⟩ => ⟨S_, .f32⟩
  | .hbm, ⟨37, _⟩ => ⟨S4096x128, .f32⟩
  | .hbm, ⟨38, _⟩ => ⟨S4096x128, .f32⟩
  | .hbm, ⟨39, _⟩ => ⟨S_, .f32⟩
  | .hbm, ⟨40, _⟩ => ⟨S4096x128, .f32⟩
  | .hbm, ⟨41, _⟩ => ⟨S4096x128, .f32⟩
  | .hbm, ⟨42, _⟩ => ⟨S_, .f32⟩
  | .hbm, ⟨43, _⟩ => ⟨S4096x128, .f32⟩
  | .hbm, ⟨44, _⟩ => ⟨S4096x128, .f32⟩
  | .hbm, ⟨45, _⟩ => ⟨S8192x4096, .bf16⟩
  | .hbm, ⟨46, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x4096, .bf16⟩
  | .local _ .vmem, ⟨11, _⟩ => ⟨S256x4096, .bf16⟩
  | .local _ .vmem, ⟨12, _⟩ => ⟨S256x2048, .bf16⟩
  | .local _ .vmem, ⟨13, _⟩ => ⟨S256x2048, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_cst_8 : Ref sig .tc := ⟨.hbm, 42, rfl⟩
abbrev main_v31 : Ref sig .tc := ⟨.hbm, 43, rfl⟩
abbrev main_v32 : Ref sig .tc := ⟨.hbm, 44, rfl⟩
abbrev main_v33_0 : Ref sig .tc := ⟨.hbm, 45, rfl⟩
abbrev main_v33_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceKvIdeal.lean ====
abbrev S2x4096x4096 : Shape := ⟨3, ![2, 4096, 4096]⟩
abbrev S2x4096x2560 : Shape := ⟨3, ![2, 4096, 2560]⟩
abbrev S2x4096x16x256 : Shape := ⟨4, ![2, 4096, 16, 256]⟩
abbrev S2x4096x64 : Shape := ⟨3, ![2, 4096, 64]⟩
abbrev S2x4096x1x64 : Shape := ⟨4, ![2, 4096, 1, 64]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S2x4096x1x32 : Shape := ⟨4, ![2, 4096, 1, 32]⟩
abbrev S2x4096x16x64 : Shape := ⟨4, ![2, 4096, 16, 64]⟩
abbrev S2x4096x16x128 : Shape := ⟨4, ![2, 4096, 16, 128]⟩
abbrev S2x4096x16x192 : Shape := ⟨4, ![2, 4096, 16, 192]⟩
abbrev S8192x4096 : Shape := ⟨2, ![8192, 4096]⟩
abbrev S8192x2048 : Shape := ⟨2, ![8192, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x2560, .f32⟩
  | .hbm, ⟨2, _⟩ => ⟨S2x4096x16x256, .f32⟩
  | .hbm, ⟨3, _⟩ => ⟨S2x4096x64, .f32⟩
  | .hbm, ⟨4, _⟩ => ⟨S2x4096x1x64, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S1x4096x1x32, .f32⟩
  | .hbm, ⟨24, _⟩ => ⟨S4096x32, .f32⟩
  | .hbm, ⟨25, _⟩ => ⟨S1x4096x1x32, .f32⟩
  | .hbm, ⟨26, _⟩ => ⟨S2x4096x1x32, .f32⟩
  | .hbm, ⟨27, _⟩ => ⟨S2x4096x1x32, .f32⟩
  | .hbm, ⟨28, _⟩ => ⟨S2x4096x1x32, .f32⟩
  | .hbm, ⟨29, _⟩ => ⟨S2x4096x1x32, .f32⟩
  | .hbm, ⟨30, _⟩ => ⟨S2x4096x1x32, .f32⟩
  | .hbm, ⟨31, _⟩ => ⟨S2x4096x1x32, .f32⟩
  | .hbm, ⟨32, _⟩ => ⟨S2x4096x1x32, .f32⟩
  | .hbm, ⟨33, _⟩ => ⟨S2x4096x1x32, .f32⟩
  | .hbm, ⟨34, _⟩ => ⟨S2x4096x1x32, .f32⟩
  | .hbm, ⟨35, _⟩ => ⟨S2x4096x1x32, .f32⟩
  | .hbm, ⟨36, _⟩ => ⟨S2x4096x1x32, .f32⟩
  | .hbm, ⟨37, _⟩ => ⟨S2x4096x1x32, .f32⟩
  | .hbm, ⟨38, _⟩ => ⟨S2x4096x1x64, .f32⟩
  | .hbm, ⟨39, _⟩ => ⟨S2x4096x16x64, .f32⟩
  | .hbm, ⟨40, _⟩ => ⟨S2x4096x16x128, .f32⟩
  | .hbm, ⟨41, _⟩ => ⟨S2x4096x16x192, .f32⟩
  | .hbm, ⟨42, _⟩ => ⟨S_, .i32⟩
  | .hbm, ⟨43, _⟩ => ⟨S_, .f32⟩
  | .hbm, ⟨44, _⟩ => ⟨S2x4096x16x256, .f32⟩
  | .hbm, ⟨45, _⟩ => ⟨S8192x4096, .f32⟩
  | .hbm, ⟨46, _⟩ => ⟨S8192x4096, .bf16⟩
  | .hbm, ⟨47, _⟩ => ⟨S2x4096x16x128, .f32⟩
  | .hbm, ⟨48, _⟩ => ⟨S8192x2048, .f32⟩
  | .hbm, ⟨49, _⟩ => ⟨S8192x2048, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c : Ref sig .tc := ⟨.hbm, 42, rfl⟩
abbrev main_call0_v0 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== Proof.Reads.lean ====
/-
  What a covered load reads back, decided on the literal rectangles of its writes: the newest write when it is the
  load's own rectangle, the older ones when the newest is apart from it.
-/
module

public import Idealize.ShloMosaic.Lib.Pipeline.Value
public import Idealize.ShloMosaic.Lib.WritesUnit
public import Idealize.ShloMosaic.Lib.Pointwise

@[expose] public section

noncomputable section

namespace Cert.Reads

open Idealize.ShloMosaic

variable {sig : RefSig} {κ : Kind} {sp : Space} {s : Shape} {e : EltTy} {Val : EltTy → Type}

/-- Two boxes that some axis keeps apart, as a computable test. -/
def apart (off size off' size' : Fin s.rank → Nat) : Bool :=
  (List.finRange s.rank).any fun a => decide (off a + size a ≤ off' a) || decide (off' a + size' a ≤ off a)

theorem disjoint_of_apart {off size off' size' : Fin s.rank → Nat} {inb inb'} (h : apart off size off' size' = true) :
    Disjoint (Rect.unit (s := s) off size inb).set (Rect.unit off' size' inb').set := by
  obtain ⟨a, -, ha⟩ := List.any_eq_true.mp h
  refine Rect.unit_disjoint a ?_
  simpa using ha

/-- The load passes over a newest write that is apart from it. -/
theorem readCov_skip [∀ e, Nonempty (Val e)] (v : View sig κ sp s e) {off size off' size' : Fin s.rank → Nat} {inb inb'}
    (w : (Rect.unit (s := s) off size inb).shape.Idx → Val e) (L : List (View.Piece Val s e))
    (h : apart off size off' size' = true) :
    v.readCov (⟨Rect.unit off size inb, w⟩ :: L) (Rect.unit off' size' inb').toLoadRect
      = v.readCov L (Rect.unit off' size' inb').toLoadRect :=
  View.readCov_cons_of_disjoint v _ L _ (disjoint_of_apart (inb := inb) (inb' := inb') h)

/-- The load reads a newest write made at its own rectangle. -/
theorem readCov_hit [∀ e, Nonempty (Val e)] (v : View sig κ sp s e) {off size : Fin s.rank → Nat} {inb inb'}
    (w : (Rect.unit (s := s) off size inb).shape.Idx → Val e) (L : List (View.Piece Val s e)) :
    v.readCov (⟨Rect.unit off size inb, w⟩ :: L) (Rect.unit off size inb').toLoadRect = w :=
  View.readCov_cons_toLoadRect v _ w L

/-- Where a box puts its own index. -/
theorem idx_val (off size : Fin s.rank → Nat) (inb) (x : (Rect.unit (s := s) off size inb).shape.Idx) (a : Fin s.rank) :
    ((Rect.unit (s := s) off size inb).toLoadRect.idx x a).val = off a + (x a).val :=
  congrArg (off a + ·) (Nat.one_mul (x a).val)

/-- The contents under a list of writes, at an index: the newest write's value where its box holds the index. -/
theorem canon_cons_unit [∀ e, Nonempty (Val e)] {off size : Fin s.rank → Nat} {inb}
    (w : (Rect.unit (s := s) off size inb).shape.Idx → Val e) (L : List (View.Piece Val s e)) (y : s.Idx) :
    View.canon (⟨Rect.unit off size inb, w⟩ :: L) y
      = if h : ∀ a, off a ≤ (y a).val ∧ (y a).val < off a + size a then w (Rect.unitLocal (s := s) (off := off) (size := size) y h) else View.canon L y := by
  by_cases h : ∀ a, off a ≤ (y a).val ∧ (y a).val < off a + size a
  · rw [dif_pos h]
    have hy : y = (Rect.unit (s := s) off size inb).emb (Rect.unitLocal (s := s) (off := off) (size := size) y h) := by
      funext a
      refine Fin.ext ?_
      have e := idx_val off size inb (Rect.unitLocal (s := s) (off := off) (size := size) y h) a
      have := h a
      have e2 : ((Rect.unit (s := s) off size inb).emb (Rect.unitLocal (s := s) (off := off) (size := size) y h) a).val = off a + ((y a).val - off a) := e
      omega
    conv_lhs => rw [hy]
    exact View.canon_cons_emb _ w L _
  · rw [dif_neg h]
    exact View.canon_cons_of_not_mem _ L (fun hm => h (fun a => (Rect.mem_set_unit (inb := inb)).mp hm a))

/-- A load under one write of the whole buffer reads what was written, at the load's place. -/
theorem readCov_whole [∀ e, Nonempty (Val e)] {A B C : Nat} (v : View sig κ sp (⟨3, ![A, B, C]⟩ : Shape) e)
    {off size : Fin 3 → Nat} {inb inb'} (w : (⟨3, ![A, B, C]⟩ : Shape).Idx → Val e) :
    v.readCov [⟨Rect.unit (s := ⟨3, ![A, B, C]⟩) ![0, 0, 0] ![A, B, C] inb', w⟩]
      (Rect.unit (s := ⟨3, ![A, B, C]⟩) off size inb).toLoadRect
      = fun y => w ((Rect.unit (s := ⟨3, ![A, B, C]⟩) off size inb).toLoadRect.idx y) := by
  rw [View.readCov_eq_canon']
  funext y
  exact congrFun (View.canon_unit_zero (S := (⟨3, ![A, B, C]⟩ : Shape)) (off := ![0, 0, 0])
    (by funext a; fin_cases a <;> rfl) inb' w) _

/-- Four blocks of 128 rows, one above the other. -/
def rows4 {α : Type} (w0 w1 w2 w3 : (⟨3, ![1, 128, 128]⟩ : Shape).Idx → α) : (⟨3, ![1, 512, 128]⟩ : Shape).Idx → α := fun y =>
  if h : (y 1).val < 128 then w0 (ix3 0 ⟨(y 1).val, h⟩ (y 2))
  else if h : (y 1).val < 256 then w1 (ix3 0 ⟨(y 1).val - 128, by omega⟩ (y 2))
  else if h : (y 1).val < 384 then w2 (ix3 0 ⟨(y 1).val - 256, by omega⟩ (y 2))
  else w3 (ix3 0 ⟨(y 1).val - 384, by have : (y 1).val < 512 := (y 1).isLt; omega⟩ (y 2))

/-- What the stacked blocks hold at a row and lane, when each block is its rows of one function. -/
theorem rows4_eq {α : Type} {w0 w1 w2 w3 : (⟨3, ![1, 128, 128]⟩ : Shape).Idx → α} (G : Nat → Fin 128 → α)
    (h0 : ∀ (i l : Fin 128), w0 (ix3 0 i l) = G i.val l) (h1 : ∀ (i l : Fin 128), w1 (ix3 0 i l) = G (128 + i.val) l)
    (h2 : ∀ (i l : Fin 128), w2 (ix3 0 i l) = G (256 + i.val) l) (h3 : ∀ (i l : Fin 128), w3 (ix3 0 i l) = G (384 + i.val) l)
    (r : Fin 512) (l : Fin 128) : rows4 w0 w1 w2 w3 (ix3 0 r l) = G r.val l := by
  have e0 : ix3 (n0 := 1) (0 : Fin 1) r l 1 = r := rfl
  have e2 : ix3 (n0 := 1) (0 : Fin 1) r l 2 = l := rfl
  unfold rows4
  simp only [e0, e2, h0, h1, h2, h3]
  split_ifs with ha hb hc
  · rfl
  · exact congrArg (G · l) (by omega)
  · exact congrArg (G · l) (by omega)
  · exact congrArg (G · l) (by omega)

/-- One block of 128 rows and 128 lanes of a head, read at an index of a load of the whole head. -/
theorem canon_box [∀ e, Nonempty (Val e)] {H C W : Nat} (h o' : Nat) {o : Nat}
    (y : (⟨3, ![1, 512, W]⟩ : Shape).Idx) {i ir}
    (w : (⟨3, ![1, 128, 128]⟩ : Shape).Idx → Val e) (L : List (View.Piece Val _ e)) :
    View.canon (⟨Rect.unit (s := ⟨3, ![H, 512, C]⟩) ![h, o, o'] ![1, 128, 128] i, w⟩ :: L)
      ((Rect.unit (s := ⟨3, ![H, 512, C]⟩) ![h, 0, 0] ![1, 512, W] ir).toLoadRect.idx y)
      = if hh : (o ≤ (y 1).val ∧ (y 1).val < o + 128) ∧ (o' ≤ (y 2).val ∧ (y 2).val < o' + 128) then
          w (ix3 0 ⟨(y 1).val - o, by omega⟩ ⟨(y 2).val - o', by omega⟩)
        else View.canon L ((Rect.unit (s := ⟨3, ![H, 512, C]⟩) ![h, 0, 0] ![1, 512, W] ir).toLoadRect.idx y) := by
  rw [canon_cons_unit]
  have e0 : (((Rect.unit (s := ⟨3, ![H, 512, C]⟩) ![h, 0, 0] ![1, 512, W] ir).toLoadRect.idx y) 0).val = h + (y 0).val :=
    idx_val (s := ⟨3, ![H, 512, C]⟩) ![h, 0, 0] ![1, 512, W] ir y 0
  have e1 : (((Rect.unit (s := ⟨3, ![H, 512, C]⟩) ![h, 0, 0] ![1, 512, W] ir).toLoadRect.idx y) 1).val = 0 + (y 1).val :=
    idx_val (s := ⟨3, ![H, 512, C]⟩) ![h, 0, 0] ![1, 512, W] ir y 1
  have e2 : (((Rect.unit (s := ⟨3, ![H, 512, C]⟩) ![h, 0, 0] ![1, 512, W] ir).toLoadRect.idx y) 2).val = 0 + (y 2).val :=
    idx_val (s := ⟨3, ![H, 512, C]⟩) ![h, 0, 0] ![1, 512, W] ir y 2
  have y0 : (y 0).val < 1 := (y 0).isLt
  by_cases hh : (o ≤ (y 1).val ∧ (y 1).val < o + 128) ∧ (o' ≤ (y 2).val ∧ (y 2).val < o' + 128)
  · have hm : ∀ a : Fin 3, (![h, o, o'] : Fin 3 → Nat) a
        ≤ (((Rect.unit (s := ⟨3, ![H, 512, C]⟩) ![h, 0, 0] ![1, 512, W] ir).toLoadRect.idx y) a).val
        ∧ (((Rect.unit (s := ⟨3, ![H, 512, C]⟩) ![h, 0, 0] ![1, 512, W] ir).toLoadRect.idx y) a).val
          < (![h, o, o'] : Fin 3 → Nat) a + (![1, 128, 128] : Fin 3 → Nat) a := by
      refine Fin.forall_fin_succ.mpr ⟨?_, Fin.forall_fin_two.mpr ⟨?_, ?_⟩⟩
      · rw [e0]; show h ≤ _ ∧ _ < h + 1; omega
      · show o ≤ (((Rect.unit (s := ⟨3, ![H, 512, C]⟩) ![h, 0, 0] ![1, 512, W] ir).toLoadRect.idx y) 1).val ∧ (((Rect.unit (s := ⟨3, ![H, 512, C]⟩) ![h, 0, 0] ![1, 512, W] ir).toLoadRect.idx y) 1).val < o + 128
        omega
      · show o' ≤ (((Rect.unit (s := ⟨3, ![H, 512, C]⟩) ![h, 0, 0] ![1, 512, W] ir).toLoadRect.idx y) 2).val ∧ (((Rect.unit (s := ⟨3, ![H, 512, C]⟩) ![h, 0, 0] ![1, 512, W] ir).toLoadRect.idx y) 2).val < o' + 128
        omega
    rw [dif_pos hm, dif_pos hh]
    refine congrArg w (funext fun a => Fin.ext ?_)
    match a with
    | ⟨0, _⟩ =>
      show (((Rect.unit (s := ⟨3, ![H, 512, C]⟩) ![h, 0, 0] ![1, 512, W] ir).toLoadRect.idx y) 0).val - h = 0
      omega
    | ⟨1, _⟩ =>
      show (((Rect.unit (s := ⟨3, ![H, 512, C]⟩) ![h, 0, 0] ![1, 512, W] ir).toLoadRect.idx y) 1).val - o = (y 1).val - o
      omega
    | ⟨2, _⟩ =>
      show (((Rect.unit (s := ⟨3, ![H, 512, C]⟩) ![h, 0, 0] ![1, 512, W] ir).toLoadRect.idx y) 2).val - o' = (y 2).val - o'
      omega
  · rw [dif_neg hh, dif_neg]
    intro hm
    have h1 : o ≤ (((Rect.unit (s := ⟨3, ![H, 512, C]⟩) ![h, 0, 0] ![1, 512, W] ir).toLoadRect.idx y) 1).val ∧ (((Rect.unit (s := ⟨3, ![H, 512, C]⟩) ![h, 0, 0] ![1, 512, W] ir).toLoadRect.idx y) 1).val < o + 128 := hm 1
    have h2 : o' ≤ (((Rect.unit (s := ⟨3, ![H, 512, C]⟩) ![h, 0, 0] ![1, 512, W] ir).toLoadRect.idx y) 2).val ∧ (((Rect.unit (s := ⟨3, ![H, 512, C]⟩) ![h, 0, 0] ![1, 512, W] ir).toLoadRect.idx y) 2).val < o' + 128 := hm 2
    omega

/-- Two stacks of four blocks side by side: 512 rows, 256 lanes. -/
def tiles8 {α : Type} (a0 b0 a1 b1 a2 b2 a3 b3 : (⟨3, ![1, 128, 128]⟩ : Shape).Idx → α) : (⟨3, ![1, 512, 256]⟩ : Shape).Idx → α :=
  fun y =>
    if h : (y 2).val < 128 then rows4 a0 a1 a2 a3 (ix3 0 (y 1) ⟨(y 2).val, h⟩)
    else rows4 b0 b1 b2 b3 (ix3 0 (y 1) ⟨(y 2).val - 128, by have : (y 2).val < 256 := (y 2).isLt; omega⟩)

/-- A load of one head's rows, written as four rows of two blocks. -/
theorem readCov_tiles8 [∀ e, Nonempty (Val e)] {H : Nat} (v : View sig κ sp (⟨3, ![H, 512, 256]⟩ : Shape) e) (h : Nat)
    {i0 i1 i2 i3 j0 j1 j2 j3 ir} (a0 b0 a1 b1 a2 b2 a3 b3 : (⟨3, ![1, 128, 128]⟩ : Shape).Idx → Val e)
    (L : List (View.Piece Val _ e)) :
    v.readCov (⟨Rect.unit (s := ⟨3, ![H, 512, 256]⟩) ![h, 384, 128] ![1, 128, 128] j3, b3⟩
        :: ⟨Rect.unit (s := ⟨3, ![H, 512, 256]⟩) ![h, 384, 0] ![1, 128, 128] i3, a3⟩
        :: ⟨Rect.unit (s := ⟨3, ![H, 512, 256]⟩) ![h, 256, 128] ![1, 128, 128] j2, b2⟩
        :: ⟨Rect.unit (s := ⟨3, ![H, 512, 256]⟩) ![h, 256, 0] ![1, 128, 128] i2, a2⟩
        :: ⟨Rect.unit (s := ⟨3, ![H, 512, 256]⟩) ![h, 128, 128] ![1, 128, 128] j1, b1⟩
        :: ⟨Rect.unit (s := ⟨3, ![H, 512, 256]⟩) ![h, 128, 0] ![1, 128, 128] i1, a1⟩
        :: ⟨Rect.unit (s := ⟨3, ![H, 512, 256]⟩) ![h, 0, 128] ![1, 128, 128] j0, b0⟩
        :: ⟨Rect.unit (s := ⟨3, ![H, 512, 256]⟩) ![h, 0, 0] ![1, 128, 128] i0, a0⟩ :: L)
      (Rect.unit (s := ⟨3, ![H, 512, 256]⟩) ![h, 0, 0] ![1, 512, 256] ir).toLoadRect = tiles8 a0 b0 a1 b1 a2 b2 a3 b3 := by
  rw [View.readCov_eq_canon']
  funext y
  have y1 : (y 1).val < 512 := (y 1).isLt
  have y2 : (y 2).val < 256 := (y 2).isLt
  rw [canon_box h 128 y, canon_box h 0 y, canon_box h 128 y, canon_box h 0 y, canon_box h 128 y, canon_box h 0 y,
    canon_box h 128 y, canon_box h 0 y]
  have e1 : ∀ z : Fin 128, ix3 (n0 := 1) (n1 := 512) (n2 := 128) 0 (y 1) z 1 = y 1 := fun _ => rfl
  have e2 : ∀ z : Fin 128, ix3 (n0 := 1) (n1 := 512) (n2 := 128) 0 (y 1) z 2 = z := fun _ => rfl
  unfold tiles8 rows4
  simp only [e1, e2]
  split_ifs <;> first | (exfalso; omega) | rfl

/-- A load of one head's rows, written as four blocks of 128 rows. -/
theorem readCov_rows4 [∀ e, Nonempty (Val e)] {H : Nat} (v : View sig κ sp (⟨3, ![H, 512, 128]⟩ : Shape) e) (h : Nat)
    {i0 i1 i2 i3 ir} (w0 w1 w2 w3 : (⟨3, ![1, 128, 128]⟩ : Shape).Idx → Val e) (L : List (View.Piece Val _ e)) :
    v.readCov (⟨Rect.unit (s := ⟨3, ![H, 512, 128]⟩) ![h, 384, 0] ![1, 128, 128] i3, w3⟩
        :: ⟨Rect.unit (s := ⟨3, ![H, 512, 128]⟩) ![h, 256, 0] ![1, 128, 128] i2, w2⟩
        :: ⟨Rect.unit (s := ⟨3, ![H, 512, 128]⟩) ![h, 128, 0] ![1, 128, 128] i1, w1⟩
        :: ⟨Rect.unit (s := ⟨3, ![H, 512, 128]⟩) ![h, 0, 0] ![1, 128, 128] i0, w0⟩ :: L)
      (Rect.unit (s := ⟨3, ![H, 512, 128]⟩) ![h, 0, 0] ![1, 512, 128] ir).toLoadRect = rows4 w0 w1 w2 w3 := by
  rw [View.readCov_eq_canon']
  funext y
  have y1 : (y 1).val < 512 := (y 1).isLt
  rw [canon_box h 0 y, canon_box h 0 y, canon_box h 0 y, canon_box h 0 y]
  have y2 : (y 2).val < 128 := (y 2).isLt
  unfold rows4
  split_ifs <;> first | (exfalso; omega) | rfl

end Cert.Reads
-- ==== Proof.MemUnit.lean ====
module

public import proofs.«01_k».proof.Defs
public import proofs.«01_k».proof.Proof.Gen.KernelIdeal.Skeleton
public import Idealize.ShloMosaic.Lib.Pointwise
public import proofs.«01_k».proof.Proof.Reads

@[expose] public section

set_option maxRecDepth 16384

/-!
# One head of the memory attention

The vectors that one head goes through, from its scores to its output, each read at an index.
-/

noncomputable section

namespace Cert.Mem

open Cert.KernelIdeal Cert.KernelIdeal.Gen Idealize.ShloMosaic Idealize.ShloMosaic.TcCoe Idealize.SL.Sem

/-! ## The vectors of one head -/

/-- The scores of one head: the scaled queries times the keys. -/
def scores (kb : Vec Ideal S1x256x128 .bf16) (qb : Vec Ideal S1x512x128 .bf16) : FVec Ideal S512x256 .f32 :=
  matmul (φ₁ := .bf16) (φ₂ := .bf16) dot_S512x128_S256x128_S512x256_1_1_0_0_n_n none
    (truncf .bf16 (mulf (extf .f32 (shapeCast S512x128 (qb : FVec Ideal S1x512x128 .bf16) shapeCasts_S1x512x128_S512x128) bitsLt_bf16_f32)
      (broadcast S512x128 (Named.named (F := Ideal) κ "scale" (φ := .f32) 0x3E0293EE#32))) bitsLt_bf16_f32)
    (shapeCast S256x128 (kb : FVec Ideal S1x256x128 .bf16) shapeCasts_S1x256x128_S256x128) (constant S512x256 .f32 0x00000000#32)

variable (o : Nat) (h : S512x256.Slices ![o, 0] S128x256) (S : FVec Ideal S512x256 .f32)

/-- A block of 128 rows of the scores, its first 128 keys. -/
def blkA : FVec Ideal S128x128 .f32 :=
  extractStridedSlice S128x128 ![0, 0] (extractStridedSlice S128x256 ![o, 0] S h) slices_S128x256_o0_0_S128x128

/-- A block of 128 rows of the scores, its last 128 keys. -/
def blkB : FVec Ideal S128x128 .f32 :=
  extractStridedSlice S128x128 ![0, 128] (extractStridedSlice S128x256 ![o, 0] S h) slices_S128x256_o0_128_S128x128

/-- The running maximum after the block, spread over the lanes; `M` is the one before it. -/
def newMax (M : Vec Ideal S1x128x128 .f32) : FVec Ideal S128x128 .f32 :=
  maximumf (shapeCast S128x128 M shapeCasts_S1x128x128_S128x128)
    (broadcastTo S128x128 (shapeCast S128x1 (multiReduction .maximumf [1] S128 (maximumf (blkA o h S) (blkB o h S)) 0xFF800000#32
      reduces_S128x128_S128 (.inl rfl) rfl) shapeCasts_S128_S128x1) broadcasts_S128x1_S128x128)

/-- The factor by which the block rescales what was accumulated before it. -/
def factor (M : Vec Ideal S1x128x128 .f32) : FVec Ideal S128x128 .f32 :=
  exp2 (subf (shapeCast S128x128 M shapeCasts_S1x128x128_S128x128) (newMax o h S M))

/-- The weights of the first 128 keys. -/
def weightA (M : Vec Ideal S1x128x128 .f32) : FVec Ideal S128x128 .f32 := exp2 (subf (blkA o h S) (newMax o h S M))

/-- The weights of the last 128 keys. -/
def weightB (M : Vec Ideal S1x128x128 .f32) : FVec Ideal S128x128 .f32 := exp2 (subf (blkB o h S) (newMax o h S M))

/-- What the block stores as its weights, first and last 128 keys, its factor and its lane sums. -/
def storeA (M : Vec Ideal S1x128x128 .f32) : FVec Ideal S1x128x128 .bf16 :=
  shapeCast S1x128x128 (truncf .bf16 (weightA o h S M) bitsLt_bf16_f32) shapeCasts_S128x128_S1x128x128
/-- The last 128 keys' weights, as stored. -/
def storeB (M : Vec Ideal S1x128x128 .f32) : FVec Ideal S1x128x128 .bf16 :=
  shapeCast S1x128x128 (truncf .bf16 (weightB o h S M) bitsLt_bf16_f32) shapeCasts_S128x128_S1x128x128
/-- The factor, as stored. -/
def storeF (M : Vec Ideal S1x128x128 .f32) : FVec Ideal S1x128x128 .f32 :=
  shapeCast S1x128x128 (factor o h S M) shapeCasts_S128x128_S1x128x128
/-- The lane sums, as stored; `L` are those before the block. -/
def storeL (M L : Vec Ideal S1x128x128 .f32) : FVec Ideal S1x128x128 .f32 :=
  shapeCast S1x128x128 (addf (mulf (factor o h S M) (shapeCast S128x128 L shapeCasts_S1x128x128_S128x128))
    (addf (weightA o h S M) (weightB o h S M))) shapeCasts_S128x128_S1x128x128

/-! ## One head, over buffers that hold one start value -/

variable (c : EReal)

/-- The start value of the running maximum, over one block. -/
abbrev start : Vec Ideal S1x128x128 .f32 := fun _ => c

/-- The weights of one head. -/
def headP : FVec Ideal S1x512x256 .bf16 :=
  Reads.tiles8 (storeA 0 slices_S512x256_o0_0_S128x256 S (start c)) (storeB 0 slices_S512x256_o0_0_S128x256 S (start c))
    (storeA 128 slices_S512x256_o128_0_S128x256 S (start c)) (storeB 128 slices_S512x256_o128_0_S128x256 S (start c))
    (storeA 256 slices_S512x256_o256_0_S128x256 S (start c)) (storeB 256 slices_S512x256_o256_0_S128x256 S (start c))
    (storeA 384 slices_S512x256_o384_0_S128x256 S (start c)) (storeB 384 slices_S512x256_o384_0_S128x256 S (start c))

/-- The factors of one head. -/
def headF : FVec Ideal S1x512x128 .f32 :=
  Reads.rows4 (storeF 0 slices_S512x256_o0_0_S128x256 S (start c)) (storeF 128 slices_S512x256_o128_0_S128x256 S (start c))
    (storeF 256 slices_S512x256_o256_0_S128x256 S (start c)) (storeF 384 slices_S512x256_o384_0_S128x256 S (start c))

/-- The lane sums of one head. -/
def headL : FVec Ideal S1x512x128 .f32 :=
  Reads.rows4 (storeL 0 slices_S512x256_o0_0_S128x256 S (start c) (start 0)) (storeL 128 slices_S512x256_o128_0_S128x256 S (start c) (start 0))
    (storeL 256 slices_S512x256_o256_0_S128x256 S (start c) (start 0)) (storeL 384 slices_S512x256_o384_0_S128x256 S (start c) (start 0))

/-- The weighted values of one head, as accumulated from zero. -/
def headAcc (vb : Vec Ideal S1x256x128 .bf16) : FVec Ideal S1x512x128 .f32 :=
  shapeCast S1x512x128 (addf (mulf (shapeCast S512x128 (headF S c : FVec Ideal S1x512x128 .f32) shapeCasts_S1x512x128_S512x128)
      (shapeCast S512x128 ((fun _ => 0) : FVec Ideal S1x512x128 .f32) shapeCasts_S1x512x128_S512x128))
    (matmul (φ₁ := .bf16) (φ₂ := .bf16) dot_S512x256_S256x128_S512x128_1_0_0_1_n_n none
      (shapeCast S512x256 (headP S c : FVec Ideal S1x512x256 .bf16) shapeCasts_S1x512x256_S512x256)
      (shapeCast S256x128 (vb : FVec Ideal S1x256x128 .bf16) shapeCasts_S1x256x128_S256x128) (constant S512x128 .f32 0x00000000#32)))
    shapeCasts_S512x128_S1x512x128

/-- One head's output. -/
def headOut (vb : Vec Ideal S1x256x128 .bf16) : FVec Ideal S1x512x128 .bf16 :=
  shapeCast S1x512x128 (truncf (F := Ideal) .bf16 (divf (shapeCast S512x128 (headAcc S c vb : FVec Ideal S1x512x128 .f32) shapeCasts_S1x512x128_S512x128)
    (broadcastTo S512x128 (shapeCast S512x1 (multiReduction .add [1] S512
      (shapeCast S512x128 (headL S c : FVec Ideal S1x512x128 .f32) shapeCasts_S1x512x128_S512x128) 0x00000000#32
      reduces_S512x128_S512 (.inl rfl) rfl) shapeCasts_S512_S512x1) broadcasts_S512x1_S512x128)) bitsLt_bf16_f32)
    shapeCasts_S512x128_S1x512x128

/-! ## The same at an index -/

theorem scores_apply (kb : Vec Ideal S1x256x128 .bf16) (qb : Vec Ideal S1x512x128 .bf16) (r : Fin 512) (j : Fin 256) :
    scores kb qb (ix2 r j) = ∑ d : Fin 128, qb (ix3 0 r d) * (((11863283 / 134217728) * (Real.log 2)⁻¹ : ℝ) : EReal) * kb (ix3 0 j d) := by
  have hc : Named.named (F := Ideal) κ "scale" (φ := .f32) 0x3E0293EE#32 = (((11863283 / 134217728) * (Real.log 2)⁻¹ : ℝ) : EReal) :=
    IdealRules.named_const.ideal_named_scalar _ _ _ _ rfl
  pointwise [scores, hc]

/-- The greatest score of row `r`, or the start value. -/
def rowMax (r : Nat) : EReal :=
  max c (Finset.univ.fold max (Ideal.ofBits .f32 0xFF800000#32) fun l : Fin 128 =>
    if hr : r < 512 then max (S (ix2 ⟨r, hr⟩ ⟨l.val, by omega⟩)) (S (ix2 ⟨r, hr⟩ ⟨128 + l.val, by omega⟩)) else c)

variable (ho : o + 128 ≤ 512)
include ho

theorem newMax_apply (i l : Fin 128) : newMax o h S (start c) (ix2 i l) = rowMax S c (o + i.val) := by
  have hr : o + i.val < 512 := by omega
  pointwise [newMax, blkA, blkB, rowMax]
  simp only [hr, dif_pos]

theorem storeA_apply (i l : Fin 128) :
    storeA o h S (start c) (ix3 0 i l) = Ideal.exp2 (S (ix2 ⟨o + i.val, by omega⟩ ⟨l.val, by omega⟩) - rowMax S c (o + i.val)) := by
  rw [← newMax_apply o h S c ho i l]
  pointwise [storeA, weightA, blkA]
  rfl

theorem storeB_apply (i l : Fin 128) :
    storeB o h S (start c) (ix3 0 i l) = Ideal.exp2 (S (ix2 ⟨o + i.val, by omega⟩ ⟨128 + l.val, by omega⟩) - rowMax S c (o + i.val)) := by
  rw [← newMax_apply o h S c ho i l]
  pointwise [storeB, weightB, blkB]
  rfl

theorem storeL_apply (i l : Fin 128) :
    storeL o h S (start c) (start 0) (ix3 0 i l)
      = storeA o h S (start c) (ix3 0 i l) + storeB o h S (start c) (ix3 0 i l) := by
  pointwise [storeL, storeA, storeB]
  rw [mul_zero, zero_add]

omit ho

/-- The weight of key `j` in row `r`. -/
def weight (r : Nat) (j : Nat) : EReal :=
  if h : r < 512 ∧ j < 256 then Ideal.exp2 (S (ix2 ⟨r, h.1⟩ ⟨j, h.2⟩) - rowMax S c r) else 0

theorem storeA_weight (ho : o + 128 ≤ 512) (i l : Fin 128) : storeA o h S (start c) (ix3 0 i l) = weight S c (o + i.val) l.val := by
  rw [storeA_apply o h S c ho, weight, dif_pos ⟨by omega, by omega⟩]

theorem storeB_weight (ho : o + 128 ≤ 512) (i l : Fin 128) : storeB o h S (start c) (ix3 0 i l) = weight S c (o + i.val) (128 + l.val) := by
  rw [storeB_apply o h S c ho, weight, dif_pos ⟨by omega, by omega⟩]

theorem headL_apply (r : Fin 512) (l : Fin 128) :
    headL S c (ix3 0 r l) = weight S c r.val l.val + weight S c r.val (128 + l.val) := by
  unfold headL
  rw [Reads.rows4_eq (fun r l => weight S c r l.val + weight S c r (128 + l.val))] <;> intro i l <;>
    rw [storeL_apply _ _ _ _ (by omega), storeA_weight _ _ _ _ (by omega), storeB_weight _ _ _ _ (by omega)]
  all_goals simp only [Nat.zero_add]

theorem headP_apply (r : Fin 512) (j : Fin 256) : headP S c (ix3 0 r j) = weight S c r.val j.val := by
  have e1 : ix3 (n0 := 1) (0 : Fin 1) r j 1 = r := rfl
  have e2 : ix3 (n0 := 1) (0 : Fin 1) r j 2 = j := rfl
  unfold headP Reads.tiles8
  simp only [e1, e2]
  split_ifs with hj
  · rw [Reads.rows4_eq (fun r l => weight S c r l.val)] <;> intro i l <;> rw [storeA_weight _ _ _ _ (by omega)]
    simp only [Nat.zero_add]
  · rw [Reads.rows4_eq (fun r l => weight S c r (128 + l.val)) (w0 := storeB 0 _ _ _)]
    · exact congrArg (weight S c r.val) (by show 128 + (j.val - 128) = j.val; omega)
    all_goals intro i l; rw [storeB_weight _ _ _ _ (by omega)]
    simp only [Nat.zero_add]

theorem headOut_apply (vb : Vec Ideal S1x256x128 .bf16) (r : Fin 512) (d : Fin 128) :
    headOut S c vb (ix3 0 r d)
      = Ideal.div (∑ j : Fin 256, weight S c r.val j.val * vb (ix3 0 j d)) (∑ j : Fin 256, weight S c r.val j.val) := by
  have hs : ∑ j : Fin 256, weight S c r.val j.val = ∑ l : Fin 128, headL S c (ix3 0 r l) := by
    rw [show (∑ j : Fin 256, weight S c r.val j.val) = ∑ j : Fin (128 + 128), weight S c r.val j.val from rfl,
      Fin.sum_univ_add, ← Finset.sum_add_distrib]
    exact Finset.sum_congr rfl fun l _ => (headL_apply S c r l).symm
  rw [hs]
  simp only [← headP_apply]
  pointwise [headOut, headAcc]
  rw [mul_zero, zero_add]

end Cert.Mem
-- ==== Proof.Softmax.lean ====
/-
  A softmax on the extended reals: weights in base two over a shifted score, divided after the weighted sum, against
  weights in base e over another shift, divided one by one. No program is named here.
-/
module

public import Idealize.ShloMosaic.PureOps.Ideal
public import Idealize.ShloMosaic.PureOps.Reduce

@[expose] public section

noncomputable section

namespace Cert.Softmax

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real that is not an infinity is a real. -/
theorem exists_coe {x : EReal} (h : x ≠ ⊥ ∧ x ≠ ⊤) : ∃ r : ℝ, x = r :=
  ⟨x.toReal, (EReal.coe_toReal h.2 h.1).symm⟩

/-- The weighted mean both sides compute, over reals. -/
theorem kernel_side {n : Nat} (hn : 0 < n) (S V : Fin n → ℝ) (m : ℝ) :
    Ideal.div (∑ j, Ideal.exp2 ((S j : EReal) - (m : EReal)) * (V j : EReal)) (∑ j, Ideal.exp2 ((S j : EReal) - (m : EReal)))
      = (((∑ j, (2 : ℝ) ^ S j * V j) / ∑ j, (2 : ℝ) ^ S j : ℝ) : EReal) := by
  have e : ∀ j, Ideal.exp2 ((S j : EReal) - (m : EReal)) = (((2 : ℝ) ^ S j * (2 : ℝ) ^ (-m) : ℝ) : EReal) := by
    intro j
    rw [← EReal.coe_sub, Ideal.exp2_coe]
    congr 1
    show (2 : ℝ) ^ (S j - m) = _
    rw [sub_eq_add_neg, Real.rpow_add (by norm_num)]
  have hpos : 0 < ∑ j, (2 : ℝ) ^ S j := by
    haveI : Nonempty (Fin n) := ⟨⟨0, hn⟩⟩
    exact Finset.sum_pos (fun j _ => Real.rpow_pos_of_pos (by norm_num) _) Finset.univ_nonempty
  have hm : 0 < (2 : ℝ) ^ (-m) := Real.rpow_pos_of_pos (by norm_num) _
  simp only [e, ← EReal.coe_mul, ← coe_sum]
  rw [← Finset.sum_mul, Ideal.div_coe (by positivity), ← EReal.coe_mul]
  congr 1
  rw [show (∑ j, (2 : ℝ) ^ S j * (2 : ℝ) ^ (-m) * V j) = (∑ j, (2 : ℝ) ^ S j * V j) * (2 : ℝ) ^ (-m) by
    rw [Finset.sum_mul]; exact Finset.sum_congr rfl fun _ _ => by ring]
  field_simp

theorem reference_side {n : Nat} (hn : 0 < n) (T V : Fin n → ℝ) (M : ℝ) :
    (∑ j, (V j : EReal) * Ideal.div (Ideal.exp ((T j : EReal) - (M : EReal))) (∑ i, Ideal.exp ((T i : EReal) - (M : EReal))))
      = (((∑ j, Real.exp (T j) * V j) / ∑ j, Real.exp (T j) : ℝ) : EReal) := by
  have e : ∀ j, Ideal.exp ((T j : EReal) - (M : EReal)) = ((Real.exp (T j) * Real.exp (-M) : ℝ) : EReal) := by
    intro j
    rw [← EReal.coe_sub, Ideal.exp_coe]
    congr 1
    rw [sub_eq_add_neg, Real.exp_add]
  have hpos : 0 < ∑ j, Real.exp (T j) := by
    haveI : Nonempty (Fin n) := ⟨⟨0, hn⟩⟩
    exact Finset.sum_pos (fun j _ => Real.exp_pos _) Finset.univ_nonempty
  have hm : 0 < Real.exp (-M) := Real.exp_pos _
  simp only [e, ← coe_sum]
  rw [← Finset.sum_mul]
  simp only [Ideal.div_coe (show (∑ j, Real.exp (T j)) * Real.exp (-M) ≠ 0 by positivity), ← EReal.coe_mul, ← coe_sum]
  congr 1
  rw [Finset.sum_div]
  refine Finset.sum_congr rfl fun j _ => ?_
  field_simp

/-- The two sides are equal when the base-two score is the base-e score over `log 2`. -/
theorem sides {n : Nat} (hn : 0 < n) (S T V : Fin n → ℝ) (m M : ℝ) (h : ∀ j, S j * Real.log 2 = T j) :
    Ideal.div (∑ j, Ideal.exp2 ((S j : EReal) - (m : EReal)) * (V j : EReal)) (∑ j, Ideal.exp2 ((S j : EReal) - (m : EReal)))
      = ∑ j, (V j : EReal) * Ideal.div (Ideal.exp ((T j : EReal) - (M : EReal))) (∑ i, Ideal.exp ((T i : EReal) - (M : EReal))) := by
  rw [kernel_side hn, reference_side hn]
  have e : ∀ j, (2 : ℝ) ^ S j = Real.exp (T j) := fun j => by
    rw [Real.rpow_def_of_pos (by norm_num), ← h j, mul_comm]
  simp only [e]

/-- A running maximum of reals over a base that is not `⊤`, once something real is in it, is real. -/
theorem fold_max_ne_top {ι : Type} (s : Finset ι) (b : EReal) (hb : b ≠ ⊤) (f : ι → EReal) (hf : ∀ i ∈ s, f i ≠ ⊤) :
    s.fold max b f ≠ ⊤ :=
  ne_of_lt ((Finset.fold_max_lt _).mpr ⟨lt_top_iff_ne_top.mpr hb, fun i hi => lt_top_iff_ne_top.mpr (hf i hi)⟩)

theorem fold_max_ne_bot {ι : Type} (s : Finset ι) (b : EReal) (f : ι → EReal) (i : ι) (hi : i ∈ s) (hf : f i ≠ ⊥) :
    s.fold max b f ≠ ⊥ :=
  (lt_of_lt_of_le (bot_lt_iff_ne_bot.mpr hf) ((Finset.le_fold_max _).mpr (.inr ⟨i, hi, le_rfl⟩))).ne'

/-- A reference's maximum over one axis, of reals from a value below them, is real. -/
theorem hostMax_real {s t u : Shape} {a : Fin s.rank} (x : FVec Ideal s .f32) (init : FVec Ideal u .f32) (h' : s.ReducesTo [a] t)
    (h : s.Reduces [a] t) (hu : 0 < u.numel) (hi : init (Shape.Idx.first hu) ≠ ⊤) (hx : ∀ i, ∃ r : ℝ, x i = (r : EReal))
    (hpos : 0 < s.size a) (j : t.Idx) : ∃ r : ℝ, Host.reduce FloatOps.maximumf x init h' hu j = (r : EReal) := by
  have e : Host.reduce FloatOps.maximumf x init h' hu j = (Finset.univ : Finset (Fin (s.size a))).fold (max : EReal → EReal → EReal)
      (init (Shape.Idx.first hu)) (fun k => x (h.lift j k)) :=
    Host.reduce_eq_fold_single (α := EReal) max x init h' h hu j
  rw [e]
  refine exists_coe ⟨?_, ?_⟩
  · refine fold_max_ne_bot _ _ _ ⟨0, hpos⟩ (Finset.mem_univ _) ?_
    obtain ⟨r, hr⟩ := hx (h.lift j ⟨0, hpos⟩)
    show x _ ≠ ⊥
    rw [hr]
    exact EReal.coe_ne_bot r
  · refine fold_max_ne_top _ _ hi _ fun k _ => ?_
    obtain ⟨r, hr⟩ := hx (h.lift j k)
    show x _ ≠ ⊤
    rw [hr]
    exact EReal.coe_ne_top r

end Cert.Softmax
-- ==== Proof.Consts.lean ====
/-
  The float constants the programs spell, as the extended reals their patterns denote.
-/
module

public import Idealize.ShloMosaic.PureOps.Ideal

@[expose] public section

noncomputable section

namespace Cert.Consts

open Idealize.ShloMosaic

theorem ofBits_negInf : Ideal.ofBits .f32 0xFF800000#32 = ⊥ := by
  simp [Ideal.ofBits, Ideal.ieee]

theorem ofBits_posInf : Ideal.ofBits .f32 0x7F800000#32 = ⊤ := by
  simp [Ideal.ofBits, Ideal.ieee]

/-- The scale of a head of width 128. -/
theorem ofBits_scale : Ideal.ofBits .f32 0x3DB504F3#32 = ((11863283 / 134217728 : ℝ) : EReal) := by
  simp [Ideal.ofBits, Ideal.ieee, -EReal.coe_mul]; norm_num

/-- The start of a running maximum is a real. -/
theorem ofBits_start : ∃ r : ℝ, Ideal.ofBits .f32 0xF149F2CA#32 = (r : EReal) :=
  ⟨-(13234890 * 2 ^ 76), by simp [Ideal.ofBits, Ideal.ieee, -EReal.coe_mul]⟩

end Cert.Consts
-- ==== Proof.Mem.lean ====
module

public import proofs.«01_k».proof.Defs
public import proofs.«01_k».proof.Proof.Gen.KernelIdeal.Value
public import Idealize.ShloMosaic.Lib.Pipeline.Value
public import Idealize.ShloMosaic.Lib.Tactic
public import proofs.«01_k».proof.Proof.MemUnit
public import proofs.«01_k».proof.Proof.Reads
public import proofs.«01_k».proof.Proof.Softmax
public import proofs.«01_k».proof.Proof.Consts
public import Idealize.ShloMosaic.Lib.Pipeline.ValueKit

@[expose] public section

set_option maxRecDepth 16384

/-!
# The block of the memory attention

The block that one grid point writes is four heads side by side; each head is the softmax-weighted mean of its values.
-/

noncomputable section

namespace Cert.KernelIdeal.Value

open Cert.KernelIdeal Cert.KernelIdeal.Gen Idealize.ShloMosaic Idealize.ShloMosaic.TcCoe Idealize.SL.Sem

theorem pay1_eq : k0_pay1 (F := Ideal) = fun _ => Ideal.ofBits .f32 0xF149F2CA#32 := by
  funext i
  pointwise [k0_pay1]

theorem pay2_eq : k0_pay2 (F := Ideal) = fun _ => 0 := by
  funext i
  pointwise [k0_pay2]

theorem pay3_eq : k0_pay3 (F := Ideal) = fun _ => 0 := by
  funext i
  pointwise [k0_pay3]

/-- Head `h` of a block of the queries, keys or values. -/
abbrev qHead (x0 : Vec Ideal S1x512x512 .bf16) (h : Nat) (hh : ∀ a, (![0, 0, h * 128] : Fin 3 → Nat) a + (![1, 512, 128] : Fin 3 → Nat) a ≤ S1x512x512.size a) :
    Vec Ideal S1x512x128 .bf16 := View.ld x0 (Rect.unit ![0, 0, h * 128] ![1, 512, 128] hh)
abbrev kHead (x1 : Vec Ideal S1x256x512 .bf16) (h : Nat) (hh : ∀ a, (![0, 0, h * 128] : Fin 3 → Nat) a + (![1, 256, 128] : Fin 3 → Nat) a ≤ S1x256x512.size a) :
    Vec Ideal S1x256x128 .bf16 := View.ld x1 (Rect.unit ![0, 0, h * 128] ![1, 256, 128] hh)

/-- One head's output from the blocks. -/
abbrev headOf (x0 : Vec Ideal S1x512x512 .bf16) (x1 x2 : Vec Ideal S1x256x512 .bf16) (h : Nat)
    (hq : ∀ a, (![0, 0, h * 128] : Fin 3 → Nat) a + (![1, 512, 128] : Fin 3 → Nat) a ≤ S1x512x512.size a)
    (hk : ∀ a, (![0, 0, h * 128] : Fin 3 → Nat) a + (![1, 256, 128] : Fin 3 → Nat) a ≤ S1x256x512.size a) : Vec Ideal S1x512x128 .bf16 :=
  Mem.headOut (Mem.scores (kHead x1 h hk) (qHead x0 h hq)) (Ideal.ofBits .f32 0xF149F2CA#32) (kHead x2 h hk)

theorem out_eq (c : Dev nD) (i : grid0.Coords) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x512x256 .bf16) (harg10 : arg10.IsWhole) (arg11 : Memref sig .tc .vmem S4x512x128 .f32) (harg11 : arg11.IsWhole)
    (x0 : Vec Ideal S1x512x512 .bf16) (x1 : Vec Ideal S1x256x512 .bf16) (x2 : Vec Ideal S1x256x512 .bf16) :
    out0_A_3 c i arg3 harg3 arg4 harg4 arg5 harg5 arg6 harg6 arg7 harg7 arg8 harg8 arg9 harg9 arg10 harg10 arg11 harg11 x0 x1 x2 =
      View.canon [⟨Rect.unit ![0, 0, 3 * 128] ![1, 512, 128] (by decide), headOf x0 x1 x2 3 (by decide) (by decide)⟩,
        ⟨Rect.unit ![0, 0, 2 * 128] ![1, 512, 128] (by decide), headOf x0 x1 x2 2 (by decide) (by decide)⟩,
        ⟨Rect.unit ![0, 0, 1 * 128] ![1, 512, 128] (by decide), headOf x0 x1 x2 1 (by decide) (by decide)⟩,
        ⟨Rect.unit ![0, 0, 0 * 128] ![1, 512, 128] (by decide), headOf x0 x1 x2 0 (by decide) (by decide)⟩] := by
  unfold out0_A_3
  rw [View.read_writes_eq_canon _ _ _ (cover0_A_3 c i arg3 harg3 arg4 harg4 arg5 harg5 arg6 harg6 arg7 harg7 arg8 harg8 arg9 harg9 arg10 harg10 arg11 harg11 x0 x1 x2)]
  unfold kernelRun0_A
  dsimp only
  sl_unfold_words
  simp (disch := decide) only [Reads.readCov_hit, Reads.readCov_skip, Reads.readCov_rows4, Reads.readCov_tiles8, pay1_eq, pay2_eq, pay3_eq,
    Reads.readCov_whole, View.readAt_eq_ld, harg3.read_unread, harg4.read_unread, harg5.read_unread]
  have e0 : BitVec.toNat (Scalar.indexCast (Scalar.muli 0#32 256#32)) = 0 := rfl
  refine congrArg View.canon (List.cons_eq_cons.mpr ⟨?_, List.cons_eq_cons.mpr ⟨?_, List.cons_eq_cons.mpr ⟨?_, List.cons_eq_cons.mpr ⟨?_, rfl⟩⟩⟩⟩)
  · refine Sigma.ext rfl (heq_of_eq ?_)
    unfold_payloads
    unfold headOf Mem.headOut Mem.headAcc Mem.headL Mem.headF Mem.headP Mem.storeL Mem.storeF Mem.storeA Mem.storeB Mem.weightA Mem.weightB Mem.factor
      Mem.newMax Mem.blkA Mem.blkB Mem.scores
    rfl
  · refine Sigma.ext rfl (heq_of_eq ?_)
    unfold_payloads
    unfold headOf Mem.headOut Mem.headAcc Mem.headL Mem.headF Mem.headP Mem.storeL Mem.storeF Mem.storeA Mem.storeB Mem.weightA Mem.weightB Mem.factor
      Mem.newMax Mem.blkA Mem.blkB Mem.scores
    rfl
  · refine Sigma.ext rfl (heq_of_eq ?_)
    unfold_payloads
    unfold headOf Mem.headOut Mem.headAcc Mem.headL Mem.headF Mem.headP Mem.storeL Mem.storeF Mem.storeA Mem.storeB Mem.weightA Mem.weightB Mem.factor
      Mem.newMax Mem.blkA Mem.blkB Mem.scores
    rfl
  · refine Sigma.ext rfl (heq_of_eq ?_)
    unfold_payloads
    unfold headOf Mem.headOut Mem.headAcc Mem.headL Mem.headF Mem.headP Mem.storeL Mem.storeF Mem.storeA Mem.storeB Mem.weightA Mem.weightB Mem.factor
      Mem.newMax Mem.blkA Mem.blkB Mem.scores
    rfl

/-! ## The output block at an index -/

theorem qHead_apply (x0 : Vec Ideal S1x512x512 .bf16) (h : Nat) (hh) (r : Fin 512) (d : Fin 128) (hd : h * 128 + d.val < 512) :
    qHead x0 h hh (ix3 0 r d) = x0 (ix3 0 r ⟨h * 128 + d.val, hd⟩) := by
  refine View.ld_unit_apply_of x0 ![0, 0, h * 128] ![1, 512, 128] hh _ _ fun a => ?_
  match a with
  | ⟨0, _⟩ => rfl
  | ⟨1, _⟩ => exact (Nat.zero_add _).symm
  | ⟨2, _⟩ => rfl

theorem kHead_apply (x1 : Vec Ideal S1x256x512 .bf16) (h : Nat) (hh) (j : Fin 256) (d : Fin 128) (hd : h * 128 + d.val < 512) :
    kHead x1 h hh (ix3 0 j d) = x1 (ix3 0 j ⟨h * 128 + d.val, hd⟩) := by
  refine View.ld_unit_apply_of x1 ![0, 0, h * 128] ![1, 256, 128] hh _ _ fun a => ?_
  match a with
  | ⟨0, _⟩ => rfl
  | ⟨1, _⟩ => exact (Nat.zero_add _).symm
  | ⟨2, _⟩ => rfl

set_option maxHeartbeats 2000000 in
/-- One head's output on real blocks: the softmax of the scaled scores, over any real shift. -/
theorem headOf_eq (x0 : Vec Ideal S1x512x512 .bf16) (x1 x2 : Vec Ideal S1x256x512 .bf16) (h : Fin 4) (hq) (hk) (r : Fin 512) (d : Fin 128)
    (h0 : ∀ i, ∃ x : ℝ, x0 i = (x : EReal)) (h1 : ∀ i, ∃ x : ℝ, x1 i = (x : EReal)) (h2 : ∀ i, ∃ x : ℝ, x2 i = (x : EReal)) (M : ℝ) :
    headOf x0 x1 x2 h.val hq hk (ix3 0 r d)
      = ∑ j : Fin 256, x2 (ix3 0 j ⟨h.val * 128 + d.val, by omega⟩) * Ideal.div
          (Ideal.exp ((∑ d : Fin 128, x0 (ix3 0 r ⟨h.val * 128 + d.val, by omega⟩) * x1 (ix3 0 j ⟨h.val * 128 + d.val, by omega⟩))
            * ((11863283 / 134217728 : ℝ) : EReal) - (M : EReal)))
          (∑ i : Fin 256, Ideal.exp ((∑ d : Fin 128, x0 (ix3 0 r ⟨h.val * 128 + d.val, by omega⟩) * x1 (ix3 0 i ⟨h.val * 128 + d.val, by omega⟩))
            * ((11863283 / 134217728 : ℝ) : EReal) - (M : EReal))) := by
  obtain ⟨Q, hQ⟩ := Classical.axiomOfChoice h0
  obtain ⟨K, hK⟩ := Classical.axiomOfChoice h1
  obtain ⟨V, hV⟩ := Classical.axiomOfChoice h2
  obtain ⟨c, hc⟩ := Consts.ofBits_start
  have hS : ∀ (r : Fin 512) (j : Fin 256), Mem.scores (kHead x1 h.val hk) (qHead x0 h.val hq) (ix2 r j)
      = ((∑ d : Fin 128, Q (ix3 0 r ⟨h.val * 128 + d.val, by omega⟩) * ((11863283 / 134217728) * (Real.log 2)⁻¹)
          * K (ix3 0 j ⟨h.val * 128 + d.val, by omega⟩) : ℝ) : EReal) := by
    intro r j
    rw [Mem.scores_apply, Softmax.coe_sum]
    refine Finset.sum_congr rfl fun d _ => ?_
    rw [qHead_apply x0 h.val hq r d (by omega), kHead_apply x1 h.val hk j d (by omega), hQ, hK]
    simp only [EReal.coe_mul]
  unfold headOf
  rw [Mem.headOut_apply]
  generalize Mem.scores (kHead x1 h.val hk) (qHead x0 h.val hq) = S at hS ⊢
  obtain ⟨m, hm⟩ : ∃ m : ℝ, Mem.rowMax S (Ideal.ofBits .f32 0xF149F2CA#32) r.val = (m : EReal) := by
    refine Softmax.exists_coe ⟨?_, ?_⟩
    · refine (lt_of_lt_of_le (b := Ideal.ofBits .f32 0xF149F2CA#32) ?_ (le_max_left _ _)).ne'
      rw [hc]; exact EReal.bot_lt_coe c
    · refine (max_lt ?_ (lt_top_iff_ne_top.mpr (Softmax.fold_max_ne_top _ _ ?_ _ fun l _ => ?_))).ne
      · rw [hc]; exact EReal.coe_lt_top c
      · rw [Consts.ofBits_negInf]; exact bot_ne_top
      · rw [dif_pos r.isLt, hS, hS]
        exact (max_lt (EReal.coe_lt_top _) (EReal.coe_lt_top _)).ne
  have hw : ∀ j : Fin 256, Mem.weight S (Ideal.ofBits .f32 0xF149F2CA#32) r.val j.val = Ideal.exp2 (S (ix2 r j) - (m : EReal)) := by
    intro j
    rw [Mem.weight, dif_pos ⟨r.isLt, j.isLt⟩, hm]
  have hVk : ∀ j : Fin 256, kHead x2 h.val hk (ix3 0 j d) = (V (ix3 0 j ⟨h.val * 128 + d.val, by omega⟩) : EReal) := fun j => by
    rw [kHead_apply x2 h.val hk j d (by omega), hV]
  simp only [hw, hS, hVk]
  simp only [hV, hQ, hK, ← EReal.coe_mul, ← Softmax.coe_sum]
  refine Softmax.sides (n := 256) (by norm_num) _ _ _ m M fun j => ?_
  rw [Finset.sum_mul, Finset.sum_mul]
  refine Finset.sum_congr rfl fun d _ => ?_
  have : Real.log 2 ≠ 0 := (Real.log_pos (by norm_num)).ne'
  field_simp

/-- The newest head written, or an older one, by the column. -/
theorem canon_head (w : Vec Ideal S1x512x128 .bf16) (k : Nat) (inb) (L : List (View.Piece (Elt Ideal) S1x512x512 EltTy.bf16)) (h : Fin 4) (r : Fin 512) (d : Fin 128) :
    View.canon (⟨Rect.unit ![0, 0, k * 128] ![1, 512, 128] inb, w⟩ :: L) (ix3 0 r ⟨h.val * 128 + d.val, by omega⟩)
      = if k = h.val then w (ix3 0 r d) else View.canon L (ix3 0 r ⟨h.val * 128 + d.val, by omega⟩) := by
  rw [Reads.canon_cons_unit]
  by_cases e : k = h.val
  · have hm : ∀ a : Fin 3, (![0, 0, k * 128] : Fin 3 → Nat) a ≤ ((ix3 0 r ⟨h.val * 128 + d.val, by omega⟩ : S1x512x512.Idx) a).val
        ∧ ((ix3 0 r ⟨h.val * 128 + d.val, by omega⟩ : S1x512x512.Idx) a).val < (![0, 0, k * 128] : Fin 3 → Nat) a + (![1, 512, 128] : Fin 3 → Nat) a := by
      refine Fin.forall_fin_succ.mpr ⟨?_, Fin.forall_fin_two.mpr ⟨?_, ?_⟩⟩
      · show 0 ≤ 0 ∧ 0 < 0 + 1; omega
      · show 0 ≤ r.val ∧ r.val < 0 + 512; omega
      · show k * 128 ≤ h.val * 128 + d.val ∧ h.val * 128 + d.val < k * 128 + 128; omega
    rw [dif_pos hm, if_pos e]
    refine congrArg w (funext fun a => Fin.ext ?_)
    match a with
    | ⟨0, _⟩ => rfl
    | ⟨1, _⟩ => exact Nat.sub_zero _
    | ⟨2, _⟩ => show h.val * 128 + d.val - k * 128 = d.val; omega
  · rw [if_neg e, dif_neg]
    intro hm
    have := hm (2 : Fin 3)
    have : k * 128 ≤ h.val * 128 + d.val ∧ h.val * 128 + d.val < k * 128 + 128 := this
    omega

/-- The output block at an index is its head's output. -/
theorem out_apply (c : Dev nD) (i : grid0.Coords) (arg3 : Memref sig .tc .vmem S1x512x512 .bf16) (harg3 : arg3.IsWhole) (arg4 : Memref sig .tc .vmem S1x256x512 .bf16) (harg4 : arg4.IsWhole) (arg5 : Memref sig .tc .vmem S1x256x512 .bf16) (harg5 : arg5.IsWhole) (arg6 : Memref sig .tc .vmem S1x512x512 .bf16) (harg6 : arg6.IsWhole) (arg7 : Memref sig .tc .vmem S4x512x128 .f32) (harg7 : arg7.IsWhole) (arg8 : Memref sig .tc .vmem S4x512x128 .f32) (harg8 : arg8.IsWhole) (arg9 : Memref sig .tc .vmem S4x512x128 .f32) (harg9 : arg9.IsWhole) (arg10 : Memref sig .tc .vmem S4x512x256 .bf16) (harg10 : arg10.IsWhole) (arg11 : Memref sig .tc .vmem S4x512x128 .f32) (harg11 : arg11.IsWhole)
    (x0 : Vec Ideal S1x512x512 .bf16) (x1 : Vec Ideal S1x256x512 .bf16) (x2 : Vec Ideal S1x256x512 .bf16) (h : Fin 4) (r : Fin 512) (d : Fin 128) :
    out0_A_3 c i arg3 harg3 arg4 harg4 arg5 harg5 arg6 harg6 arg7 harg7 arg8 harg8 arg9 harg9 arg10 harg10 arg11 harg11 x0 x1 x2 (ix3 0 r ⟨h.val * 128 + d.val, by omega⟩)
      = headOf x0 x1 x2 h.val (by decide +revert) (by decide +revert) (ix3 0 r d) := by
  rw [out_eq, canon_head, canon_head, canon_head, canon_head]
  match h with
  | ⟨0, _⟩ => rfl
  | ⟨1, _⟩ => rfl
  | ⟨2, _⟩ => rfl
  | ⟨3, _⟩ => rfl

end Cert.KernelIdeal.Value
-- ==== Proof.MemRef.lean ====
module

public import proofs.«01_k».proof.Defs
public import proofs.«01_k».proof.Proof.Gen.ReferenceIdeal.Read
public import Idealize.ShloMosaic.Lib.Pointwise
public import proofs.«01_k».proof.Proof.Consts
public import proofs.«01_k».proof.Proof.Softmax

@[expose] public section

/-!
# The reference of the memory attention

Each stage of the reference read at an index: scores, row maximum, softmax weights, weighted sum.
-/

noncomputable section

namespace Cert.ReferenceIdeal.Read

open Cert.ReferenceIdeal Cert.ReferenceIdeal.Gen Idealize.ShloMosaic Idealize.ShloMosaic.TcCoe

variable (q : FVec Ideal S2x4096x512 .f32) (kv : FVec Ideal S2x256x1024 .f32)

theorem q_apply (b : Fin 2) (r : Fin 4096) (h : Fin 4) (d : Fin 128) :
    val_main_v0 (F := Ideal) q (ix4 b r h d) = q (ix3 b r ⟨h.val * 128 + d.val, by omega⟩) := by
  pointwise [val_main_v0]

theorem k_apply (b : Fin 2) (j : Fin 256) (h : Fin 4) (d : Fin 128) :
    val_main_v3 (F := Ideal) kv (ix4 b j h d) = kv (ix3 b j ⟨h.val * 128 + d.val, by omega⟩) := by
  pointwise [val_main_v3, val_main_v2, val_main_v1]

theorem v_apply (b : Fin 2) (j : Fin 256) (h : Fin 4) (d : Fin 128) :
    val_main_v19 (F := Ideal) kv (ix4 b j h d) = kv (ix3 b j ⟨512 + (h.val * 128 + d.val), by omega⟩) := by
  pointwise [val_main_v19, val_main_v18, val_main_v1]
  simp only [Nat.add_assoc]

/-- The scores of the reference. -/
theorem s_apply (b : Fin 2) (h : Fin 4) (r : Fin 4096) (j : Fin 256) :
    val_main_v6 (F := Ideal) q kv (ix4 b h r j)
      = (∑ d : Fin 128, q (ix3 b r ⟨h.val * 128 + d.val, by omega⟩) * kv (ix3 b j ⟨h.val * 128 + d.val, by omega⟩))
        * ((11863283 / 134217728 : ℝ) : EReal) := by
  simp only [← q_apply, ← k_apply, ← Consts.ofBits_scale]
  pointwise [val_main_v6, val_main_v4, val_main_v5, val_main_cst]

/-- A row's shift: the greatest of its scores. -/
def shift (b : Fin 2) (h : Fin 4) (r : Fin 4096) : EReal := val_main_v9 (F := Ideal) q kv (ix3 b h r)

theorem shift_apply (b : Fin 2) (h : Fin 4) (r : Fin 4096) (j : Fin 256) :
    val_main_v11 (F := Ideal) q kv (ix4 b h r j) = shift q kv b h r := by
  unfold shift
  pointwise [val_main_v11, val_main_v10]

theorem s_real (hq : ∀ i, ∃ x : ℝ, q i = (x : EReal)) (hk : ∀ i, ∃ x : ℝ, kv i = (x : EReal)) (i : S2x4x4096x256.Idx) :
    ∃ x : ℝ, val_main_v6 (F := Ideal) q kv i = (x : EReal) := by
  obtain ⟨b, h, r, j, rfl⟩ : ∃ (b : Fin 2) (h : Fin 4) (r : Fin 4096) (j : Fin 256), i = ix4 b h r j := ⟨_, _, _, _, eq_ix4 i⟩
  choose q' hq using hq
  choose k' hk using hk
  rw [s_apply]
  simp only [hq, hk, ← EReal.coe_mul, ← Softmax.coe_sum]
  exact ⟨_, rfl⟩

theorem cst_0_ne_top : val_main_cst_0 (F := Ideal) (Shape.Idx.first h_S_) ≠ ⊤ := by
  rw [val_main_cst_0_apply, Ideal.ofBits_def, Consts.ofBits_negInf]
  exact bot_ne_top

theorem rowMax_real (S : FVec Ideal S2x4x4096x256 .f32) (hs : ∀ i, ∃ x : ℝ, S i = (x : EReal)) (i : S2x4x4096.Idx) :
    ∃ x : ℝ, Host.reduce FloatOps.maximumf S (val_main_cst_0 (F := Ideal)) reducesTo_S2x4x4096x256_S2x4x4096_d3 h_S_ i = (x : EReal) :=
  Softmax.hostMax_real S (val_main_cst_0 (F := Ideal)) reducesTo_S2x4x4096x256_S2x4x4096_d3 (by decide) h_S_ cst_0_ne_top hs (by decide) i

theorem shift_real (hq : ∀ i, ∃ x : ℝ, q i = (x : EReal)) (hk : ∀ i, ∃ x : ℝ, kv i = (x : EReal)) (b : Fin 2) (h : Fin 4) (r : Fin 4096) :
    ∃ x : ℝ, shift q kv b h r = (x : EReal) := by
  have hr : ∃ x : ℝ, val_main_v7 (F := Ideal) q kv (ix3 b h r) = (x : EReal) := rowMax_real _ (s_real q kv hq hk) (ix3 b h r)
  obtain ⟨x, hx⟩ := hr
  refine ⟨x, ?_⟩
  unfold shift
  rw [val_main_v9_apply, hx, Ideal.maximumf_def, val_main_v8_apply, val_main_cst_1_apply, Ideal.ofBits_def, Consts.ofBits_negInf]
  exact max_eq_right bot_le

theorem w_apply (b : Fin 2) (h : Fin 4) (r : Fin 4096) (j : Fin 256) :
    val_main_v17 (F := Ideal) q kv (ix4 b h r j)
      = Ideal.div (Ideal.exp (val_main_v6 (F := Ideal) q kv (ix4 b h r j) - shift q kv b h r))
          (∑ i : Fin 256, Ideal.exp (val_main_v6 (F := Ideal) q kv (ix4 b h r i) - shift q kv b h r)) := by
  simp only [← shift_apply q kv b h r j]
  pointwise [val_main_v17, val_main_v16, val_main_v15, val_main_v14, val_main_v13, val_main_v12, val_main_cst_2]
  simp only [shift_apply, zero_add]

theorem o_apply (b : Fin 2) (h : Fin 4) (r : Fin 4096) (d : Fin 128) :
    val_main_v23 (F := Ideal) q kv (ix3 b r ⟨h.val * 128 + d.val, by omega⟩)
      = ∑ j : Fin 256, val_main_v19 (F := Ideal) kv (ix4 b j h d) * val_main_v17 (F := Ideal) q kv (ix4 b h r j) := by
  pointwise [val_main_v23, val_main_v22, val_main_v21, val_main_v20]

end Cert.ReferenceIdeal.Read
-- ==== Proof.MemFinal.lean ====
module

public import proofs.«01_k».proof.Proof.Mem
public import proofs.«01_k».proof.Proof.MemRef

@[expose] public section

set_option maxRecDepth 16384

/-!
# The array the kernel leaves

Each block of the queries, keys and values is read back at its place in the argument, and the block written is the
reference's result at the same place.
-/

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ) (c : Dev nD)

/-- Where each window's block sits, decided over the grid. -/
theorem places : ∀ t : Fin cfg0.N, win0_0.index t = ![(grid0.coords t 0).val, (grid0.coords t 2).val, 0]
    ∧ win0_1.index t = ![(grid0.coords t 0).val, 0, 0] ∧ win0_2.index t = ![(grid0.coords t 0).val, 0, 1]
    ∧ win0_3.index t = ![(grid0.coords t 0).val, (grid0.coords t 2).val, 0] := by
  decide +kernel

theorem coord0 (t : Fin cfg0.N) : (grid0.coords t 0).val < 2 := (grid0.coords t 0).isLt
theorem coord2 (t : Fin cfg0.N) : (grid0.coords t 2).val < 8 := (grid0.coords t 2).isLt

theorem qBlock (t : Fin cfg0.N) (r x : Fin 512) : iblk (F := Ideal) m c 0 t (ix3 0 r x)
    = m ((c : Thread nD τ).loc main_arg0) (ix3 ⟨(grid0.coords t 0).val, coord0 t⟩ ⟨(grid0.coords t 2).val * 512 + r.val, by have := coord2 t; omega⟩ x) := by
  have i0 := fun t => (places t).1
  blk_ext [iblk, i0]

theorem kBlock (t : Fin cfg0.N) (j : Fin 256) (x : Fin 512) : iblk (F := Ideal) m c 1 t (ix3 0 j x)
    = m ((c : Thread nD τ).loc main_arg1) (ix3 ⟨(grid0.coords t 0).val, coord0 t⟩ j ⟨x.val, by omega⟩) := by
  have i0 := fun t => (places t).2.1
  blk_ext [iblk, i0]

theorem vBlock (t : Fin cfg0.N) (j : Fin 256) (x : Fin 512) : iblk (F := Ideal) m c 2 t (ix3 0 j x)
    = m ((c : Thread nD τ).loc main_arg1) (ix3 ⟨(grid0.coords t 0).val, coord0 t⟩ j ⟨512 + x.val, by omega⟩) := by
  have i0 := fun t => (places t).2.2.1
  blk_ext [iblk, i0]

/-- Reals all through the arguments. -/
def Real (m : (ℓ : Loc nD τ sig) → Buf (Elt Ideal) ℓ) (c : Dev nD) : Prop :=
  (∀ i : S2x4096x512.Idx, ∃ x : ℝ, (m ((c : Thread nD τ).loc main_arg0) i : EReal) = (x : EReal))
    ∧ ∀ i : S2x256x1024.Idx, ∃ x : ℝ, (m ((c : Thread nD τ).loc main_arg1) i : EReal) = (x : EReal)

/-- The reference's result, of the kernel's arguments. -/
abbrev goal : FVec Ideal S2x4096x512 .f32 :=
  Cert.ReferenceIdeal.Read.val_main_v23 (F := Ideal) (m ((c : Thread nD τ).loc main_arg0)) (m ((c : Thread nD τ).loc main_arg1))

/-- The block written at a grid point, at an index. -/
theorem point (hm : Real m c) (t : Fin cfg0.N) (h : Fin 4) (r : Fin 512) (d : Fin 128) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) scM0_3 (Memref.isWhole_whole _) scM0_4 (Memref.isWhole_whole _)
        (iblk m c 0 t) (iblk m c 1 t) (iblk m c 2 t) (ix3 0 r ⟨h.val * 128 + d.val, by omega⟩)
      = goal m c (ix3 ⟨(grid0.coords t 0).val, coord0 t⟩ ⟨(grid0.coords t 2).val * 512 + r.val, by have := coord2 t; omega⟩ ⟨h.val * 128 + d.val, by omega⟩) := by
  obtain ⟨hq, hk⟩ := hm
  obtain ⟨M, hM⟩ := Cert.ReferenceIdeal.Read.shift_real _ _ hq hk ⟨(grid0.coords t 0).val, coord0 t⟩ h ⟨(grid0.coords t 2).val * 512 + r.val, by have := coord2 t; omega⟩
  rw [out_apply, headOf_eq (M := M)]
  · rw [goal, Cert.ReferenceIdeal.Read.o_apply]
    simp only [Cert.ReferenceIdeal.Read.v_apply, Cert.ReferenceIdeal.Read.w_apply, Cert.ReferenceIdeal.Read.s_apply, hM]
    simp only [qBlock, kBlock, vBlock]
  · intro i
    obtain ⟨a, r, x, rfl⟩ : ∃ (a : Fin 1) (r : Fin 512) (x : Fin 512), i = ix3 a r x := ⟨_, _, _, eq_ix3 i⟩
    obtain rfl : a = 0 := Subsingleton.elim _ _
    rw [qBlock]
    exact hq _
  · intro i
    obtain ⟨a, r, x, rfl⟩ : ∃ (a : Fin 1) (r : Fin 256) (x : Fin 512), i = ix3 a r x := ⟨_, _, _, eq_ix3 i⟩
    obtain rfl : a = 0 := Subsingleton.elim _ _
    rw [kBlock]
    exact hk _
  · intro i
    obtain ⟨a, r, x, rfl⟩ : ∃ (a : Fin 1) (r : Fin 256) (x : Fin 512), i = ix3 a r x := ⟨_, _, _, eq_ix3 i⟩
    obtain rfl : a = 0 := Subsingleton.elim _ _
    rw [vBlock]
    exact hk _

/-- The array the kernel leaves is the reference's result. -/
theorem final (hm : Real m c) : (dats m 0 c).arrAt 3 cfg0.N = goal m c := by
  refine (dats m 0 c).arrAt_eq_of_covers 3 _ (by decide +kernel) fun t hf y => ?_
  have i3 := fun t => (places t).2.2.2
  refine Eq.trans (b := (dats m 0 c).flushed 3 t y) rfl ?_
  rw [flushed3_A]
  obtain ⟨a, r, x, rfl⟩ : ∃ (a : Fin 1) (r : Fin 512) (x : Fin 512), y = ix3 a r x := ⟨_, _, _, eq_ix3 y⟩
  obtain rfl : a = 0 := Subsingleton.elim _ _
  have e : x = ⟨(⟨x.val / 128, by omega⟩ : Fin 4).val * 128 + (⟨x.val % 128, by omega⟩ : Fin 128).val, by dsimp only; omega⟩ := by
    refine Fin.ext ?_; dsimp only; omega
  have hp := point m c hm t ⟨x.val / 128, by omega⟩ r ⟨x.val % 128, by omega⟩
  rw [← e] at hp
  blk_simp
  refine hp.trans ?_
  refine congrArg (goal m c) ?_
  blk_ext [i3]

end Cert.KernelIdeal.Value
-- ==== Proof.Finite.lean ====
module

public import proofs.«01_k».proof.Defs
public import proofs.«01_k».proof.Proof.Gen.Pre_finite
public import Idealize.ShloMosaic.Lib.Pointwise
public import proofs.«01_k».proof.Proof.Consts
public import proofs.«01_k».proof.Proof.Softmax

@[expose] public section

/-!
# The precondition

The one precondition asks that every number of the arguments is below infinity in absolute value: each is a real.
-/

noncomputable section

namespace Cert.Finite

open Idealize.ShloMosaic

/-- An extended real whose absolute value compares below infinity is a real. -/
theorem real_of_abs_lt {x : EReal} (h : Ideal.cmp .olt (max x (-x)) (Ideal.ofBits .f32 0x7F800000#32) = 1#1) :
    ∃ r : ℝ, x = (r : EReal) := by
  rw [Consts.ofBits_posInf] at h
  have h' : max x (-x) < ⊤ := by
    by_contra hn
    have : BitVec.ofBool (decide (max x (-x) < ⊤)) = 1#1 := h
    rw [decide_eq_false hn] at this
    exact absurd this (by decide)
  refine Softmax.exists_coe ⟨?_, ?_⟩
  · rintro rfl
    simp at h'
  · rintro rfl
    simp at h'

theorem fn_fst (a : FVec Ideal Pre_finite.S2x4096x512 .f32) (b : FVec Ideal Pre_finite.S2x256x1024 .f32)
    (h : (Pre_finite.fn (F := Ideal) a b).1 = fun _ => 1#1) (i) : ∃ r : ℝ, a i = (r : EReal) := by
  refine real_of_abs_lt (Eq.trans ?_ (congrFun h i))
  rfl

theorem fn_snd (a : FVec Ideal Pre_finite.S2x4096x512 .f32) (b : FVec Ideal Pre_finite.S2x256x1024 .f32)
    (h : (Pre_finite.fn (F := Ideal) a b).2 = fun _ => 1#1) (i) : ∃ r : ℝ, b i = (r : EReal) := by
  refine real_of_abs_lt (Eq.trans ?_ (congrFun h i))
  rfl

end Cert.Finite
-- ==== Proof.Scale.lean ====
module

public import Idealize.ShloMosaic.PureOps.Ideal
public import Idealize.ShloMosaic.PureOps.IdealRules

@[expose] public section

/-!
# A scale taken into a product

A scale that multiplies the weights of a projection may as well multiply what the projection gives: it is a real above
zero, so it goes through a sum of extended reals whatever they are.
-/

namespace Cert.Scale

open Idealize.ShloMosaic

/-- A positive real goes through a sum of extended reals. -/
theorem sum_mul {ι : Type} (s : Finset ι) (f : ι → EReal) {c : EReal} (h0 : 0 ≤ c) (ht : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

theorem dot_scaled {n : Nat} (f g : Fin n → EReal) {c : EReal} (h0 : 0 ≤ c) (ht : c ≠ ⊤) :
    ∑ i, f i * (g i * c) = (∑ i, f i * g i) * c := by
  rw [sum_mul _ _ h0 ht]
  exact Finset.sum_congr rfl fun i _ => (mul_assoc _ _ _).symm

/-- The softmax scale of the mixers' heads, folded with the change to powers of two. -/
theorem qa_real : ∃ r : ℝ, 0 ≤ r ∧ Ideal.ofBits .f32 0x3E0293EE#32 = (r : EReal) :=
  ⟨8557550 / 67108864, by norm_num, by simp [Ideal.ofBits, Ideal.ieee, -EReal.coe_mul]; norm_num⟩

theorem qa_nonneg : 0 ≤ Ideal.ofBits .f32 0x3E0293EE#32 := by
  obtain ⟨r, h, e⟩ := qa_real
  rw [e]; exact_mod_cast h

theorem qa_ne_top : Ideal.ofBits .f32 0x3E0293EE#32 ≠ ⊤ := by
  obtain ⟨r, h, e⟩ := qa_real
  rw [e]; exact EReal.coe_ne_top r

end Cert.Scale
-- ==== Proof.QkvMatmul.lean ====
module

public import proofs.«01_k».proof.Defs
public import proofs.«01_k».proof.Proof.Gen.KernelQkvIdeal.Value
public import proofs.«01_k».proof.Proof.Gen.ReferenceQkvIdeal.Read
public import proofs.«01_k».proof.Proof.Gen.ReferenceQkvIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The projection of the first layer's mixer A

Each block is a block of the rows times a block of the weight's columns. The version scales the queries' columns of the
weight, the reference the queries.
-/

noncomputable section

namespace Cert.KernelQkvIdeal.Value

open Cert.KernelQkvIdeal Cert.KernelQkvIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![0, (grid0.coords t 1).val]
    ∧ win0_2.index t = ![(grid0.coords t 0).val, (grid0.coords t 1).val] := by
  decide +kernel

theorem coord0 (t : Fin cfg0.N) : (grid0.coords t 0).val < 8 := (grid0.coords t 0).isLt
theorem coord1 (t : Fin cfg0.N) : (grid0.coords t 1).val < 6 := (grid0.coords t 1).isLt

/-- The weight the projection takes, at an index: the queries' columns scaled. -/
def weight (w : FVec Ideal S4096x8256 .f32) (k : Fin 4096) (n : Fin 6144) : EReal :=
  if n.val < 2048 then w (ix2 k ⟨n.val, by omega⟩) * Ideal.ofBits .f32 0x3E0293EE#32 else w (ix2 k ⟨n.val, by omega⟩)

/-- The block written, at an index. -/
theorem block (a w) (r n : Fin 1024) : out0_2 (F := Ideal) a w (ix2 r n) = ∑ x : Fin 4096, a (ix2 r x) * w (ix2 x n) := by
  frame_out
  pointwise [k0_pay1]

open Cert.ReferenceQkvIdeal.Read in
/-- The reference's result, at an index. -/
theorem refAt (a w) (i : Fin 8192) (n : Fin 6144) : val_main_v11 (F := Ideal) a w (ix2 i n)
    = ∑ x : Fin 4096, a (ix3 ⟨i.val / 4096, by omega⟩ ⟨i.val % 4096, by omega⟩ x) * weight w x n := by
  pointwise [val_main_v11, val_main_v10, val_main_v9, val_main_v8, val_main_v7, val_main_v3, val_main_v2, val_main_v1, val_main_v0, val_main_cst]
  unfold weight
  by_cases h : n.val < 2048
  · simp only [if_pos h, dif_pos h]
    exact (Scale.dot_scaled _ _ Scale.qa_nonneg Scale.qa_ne_top).symm
  · have e1 : 2048 + (n.val - 2048) = n.val := by omega
    simp only [if_neg h, dif_neg h, e1]
    by_cases h2 : n.val - 2048 < 2048
    · simp only [dif_pos h2]
    · have e2 : 4096 + (n.val - 2048 - 2048) = n.val := by omega
      simp only [dif_neg h2, e2]

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 1024) : Fin 6144 := ⟨(grid0.coords t 1).val * 1024 + n.val, by have := coord1 t; omega⟩

theorem aHost (i : Fin 8192) (x : Fin 4096) : V (F := Ideal) m c main_v1 (ix2 i x)
    = m ((c : Thread nD τ).loc main_arg0) (ix3 ⟨i.val / 4096, by omega⟩ ⟨i.val % 4096, by omega⟩ x) := by
  entry_read
  pointwise []

theorem wHost (k : Fin 4096) (n : Fin 6144) : V (F := Ideal) m c main_v7 (ix2 k n) = weight (m ((c : Thread nD τ).loc main_arg1)) k n := by
  entry_read
  pointwise []
  unfold weight
  by_cases h : n.val < 2048
  · simp only [if_pos h, dif_pos h]
  · have e : 2048 + (n.val - 2048) = n.val := by omega
    simp only [if_neg h, dif_neg h, e]

theorem aBlock (t : Fin cfg0.N) (r : Fin 1024) (x : Fin 4096) : iblk (F := Ideal) m c 0 t (ix2 r x)
    = m ((c : Thread nD τ).loc main_arg0) (ix3 ⟨(row t r).val / 4096, by omega⟩ ⟨(row t r).val % 4096, by omega⟩ x) := by
  have i0 := fun t => (places t).1
  refine Eq.trans (b := V (F := Ideal) m c main_v1 (ix2 (row t r) x)) ?_ (aHost m c (row t r) x)
  blk_ext [iblk, i0]

theorem wBlock (t : Fin cfg0.N) (x : Fin 4096) (n : Fin 1024) : iblk (F := Ideal) m c 1 t (ix2 x n)
    = weight (m ((c : Thread nD τ).loc main_arg1)) x (column t n) := by
  have i0 := fun t => (places t).2.1
  refine Eq.trans (b := V (F := Ideal) m c main_v7 (ix2 x (column t n))) ?_ (wHost m c x (column t n))
  blk_ext [iblk, i0]

/-- The reference's result, of the kernel's arguments. -/
abbrev goal : FVec Ideal S8192x6144 .f32 :=
  Cert.ReferenceQkvIdeal.Read.val_main_v11 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r n : Fin 1024), y = ix2 r n := ⟨_, _, eq_ix2 y⟩
  blk_simp
  refine Eq.trans (b := goal m c (ix2 (row t r) (column t n))) ?_ (congrArg (goal m c) ?_)
  · rw [goal, refAt]
    refine (block _ _ r n).trans ?_
    simp only [aBlock, wBlock]
  · blk_ext [i3]

end Cert.KernelQkvIdeal.Value

/-! ## The claims -/

namespace Cert.QkvMatmul

open Idealize.ShloMosaic Idealize.SL.Sem

theorem reference_frame : Cert.quiescent_ReferenceQkvIdeal (hReferenceQkvIdeal := Cert.ReferenceQkvIdeal.Gen.facts) := fun m ρ _ =>
  (θ_run Cert.ReferenceQkvIdeal.defs _ _).mono (fun r h => ⟨fun c => (h c).2, sem_eq_zero_of_no_sems (by decide) r.2⟩)
    (Cert.ReferenceQkvIdeal.Value.run (F := Ideal) m ρ)

theorem same_result : Cert.algebraic_KernelQkvIdeal_ReferenceQkvIdeal (hKernelQkvIdeal := Cert.KernelQkvIdeal.Gen.facts)
    (hReferenceQkvIdeal := Cert.ReferenceQkvIdeal.Gen.facts) := by
  intro m ρ m' ρ' hpre hagree
  refine ⟨fun c => Cert.KernelQkvIdeal.Value.goal m c, (θ_run Cert.KernelQkvIdeal.defs _ _).mono (fun r h c =>
    ⟨(h c).1.trans (Cert.KernelQkvIdeal.Value.final m c), (h c).2⟩) (Cert.KernelQkvIdeal.Value.run_blocks (F := Ideal) m ρ), ?_⟩
  refine (θ_run Cert.ReferenceQkvIdeal.defs _ _).mono (fun r h c => ⟨(h c).1.trans ?_, (h c).2⟩)
    (Cert.ReferenceQkvIdeal.Value.run (F := Ideal) m' ρ')
  refine (Cert.ReferenceQkvIdeal.Read.val_main_v11_eq (F := Ideal) _ _).trans ?_
  rw [(hagree c).1, (hagree c).2]

end Cert.QkvMatmul

end
-- ==== Proof.OutMatmul.lean ====
module

public import proofs.«01_k».proof.Defs
public import proofs.«01_k».proof.Proof.Gen.KernelOutIdeal.Value
public import proofs.«01_k».proof.Proof.Gen.ReferenceOutIdeal.Read
public import proofs.«01_k».proof.Proof.Gen.ReferenceOutIdeal.Run
public import Idealize.ShloMosaic.Lib.Pipeline.ValueKit
public import Idealize.ShloMosaic.Lib.Pointwise
public import Idealize.ShloMosaic.Lib.Quiescent

@[expose] public section

set_option maxRecDepth 16384

/-!
# The output projection of the mixers

Each block is a block of rows of the two mixers' outputs, side by side, times a block of the weight's columns.
-/

noncomputable section

namespace Cert.KernelOutIdeal.Value

open Cert.KernelOutIdeal Cert.KernelOutIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![(grid0.coords t 0).val, 0] ∧ win0_2.index t = ![0, (grid0.coords t 1).val]
    ∧ win0_3.index t = ![(grid0.coords t 0).val, (grid0.coords t 1).val] := by
  decide +kernel

theorem coord0 (t : Fin cfg0.N) : (grid0.coords t 0).val < 8 := (grid0.coords t 0).isLt
theorem coord1 (t : Fin cfg0.N) : (grid0.coords t 1).val < 4 := (grid0.coords t 1).isLt

/-- The block written, at an index. -/
theorem block (a1 a2 w) (r n : Fin 1024) : out0_3 (F := Ideal) a1 a2 w (ix2 r n)
    = ∑ x : Fin 2048, a1 (ix2 r x) * w (ix2 ⟨x.val, by omega⟩ n) + ∑ x : Fin 2048, a2 (ix2 r x) * w (ix2 ⟨2048 + x.val, by omega⟩ n) := by
  frame_out
  pointwise [k0_pay1]

/-- The reference's result, at an index. -/
theorem refAt (a b w) (i : Fin 8192) (n : Fin 4096) : Cert.ReferenceOutIdeal.Read.val_main_v2 (F := Ideal) a b w (ix2 i n)
    = ∑ x : Fin 2048, a (ix3 ⟨i.val / 4096, by omega⟩ ⟨i.val % 4096, by omega⟩ x) * w (ix2 ⟨x.val, by omega⟩ n)
      + ∑ x : Fin 2048, b (ix3 ⟨i.val / 4096, by omega⟩ ⟨i.val % 4096, by omega⟩ x) * w (ix2 ⟨2048 + x.val, by omega⟩ n) := by
  pointwise [Cert.ReferenceOutIdeal.Read.val_main_v2, Cert.ReferenceOutIdeal.Read.val_main_v1, Cert.ReferenceOutIdeal.Read.val_main_v0]

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 1024) : Fin 4096 := ⟨(grid0.coords t 1).val * 1024 + n.val, by have := coord1 t; omega⟩

theorem aHost (i : Fin 8192) (x : Fin 2048) : V (F := Ideal) m c main_v1 (ix2 i x)
    = m ((c : Thread nD τ).loc main_arg0) (ix3 ⟨i.val / 4096, by omega⟩ ⟨i.val % 4096, by omega⟩ x) := by
  entry_read
  pointwise []

theorem aBlock (t : Fin cfg0.N) (r : Fin 1024) (x : Fin 2048) : iblk (F := Ideal) m c 0 t (ix2 r x)
    = m ((c : Thread nD τ).loc main_arg0) (ix3 ⟨(row t r).val / 4096, by omega⟩ ⟨(row t r).val % 4096, by omega⟩ x) := by
  have i0 := fun t => (places t).1
  have := coord0 t
  refine Eq.trans (b := V (F := Ideal) m c main_v1 (ix2 (row t r) x)) ?_ (aHost m c (row t r) x)
  blk_ext [iblk, i0]

theorem bHost (i : Fin 8192) (x : Fin 2048) : V (F := Ideal) m c main_v3 (ix2 i x)
    = m ((c : Thread nD τ).loc main_arg1) (ix3 ⟨i.val / 4096, by omega⟩ ⟨i.val % 4096, by omega⟩ x) := by
  entry_read
  pointwise []

theorem bBlock (t : Fin cfg0.N) (r : Fin 1024) (x : Fin 2048) : iblk (F := Ideal) m c 1 t (ix2 r x)
    = m ((c : Thread nD τ).loc main_arg1) (ix3 ⟨(row t r).val / 4096, by omega⟩ ⟨(row t r).val % 4096, by omega⟩ x) := by
  have i0 := fun t => (places t).2.1
  have := coord0 t
  refine Eq.trans (b := V (F := Ideal) m c main_v3 (ix2 (row t r) x)) ?_ (bHost m c (row t r) x)
  blk_ext [iblk, i0]

theorem wBlock (t : Fin cfg0.N) (x : Fin 4096) (n : Fin 1024) : iblk (F := Ideal) m c 2 t (ix2 x n)
    = m ((c : Thread nD τ).loc main_arg2) (ix2 x (column t n)) := by
  have i0 := fun t => (places t).2.2.1
  have := coord1 t
  blk_ext [iblk, i0]

/-- The reference's result, of the kernel's arguments. -/
abbrev goal : FVec Ideal S8192x4096 .f32 :=
  Cert.ReferenceOutIdeal.Read.val_main_v2 (F := Ideal) (m ((c : Thread nD τ).loc main_arg0)) (m ((c : Thread nD τ).loc main_arg1)) (m ((c : Thread nD τ).loc main_arg2))

/-- The array the kernel leaves is the reference's result. -/
theorem final : (dats m 0 c).arrAt 3 cfg0.N = goal m c := by
  refine (dats m 0 c).arrAt_eq_of_covers 3 _ (by decide +kernel) fun t hf y => ?_
  have i3 := fun t => (places t).2.2.2
  refine Eq.trans (b := (dats m 0 c).flushed 3 t y) rfl ?_
  rw [flushed3]
  obtain ⟨r, n, rfl⟩ : ∃ (r n : Fin 1024), y = ix2 r n := ⟨_, _, eq_ix2 y⟩
  blk_simp
  refine Eq.trans (b := goal m c (ix2 (row t r) (column t n))) ?_ (congrArg (goal m c) ?_)
  · rw [goal, refAt]
    refine (block _ _ _ r n).trans ?_
    simp only [aBlock, bBlock, wBlock]
  · blk_ext [i3]

end Cert.KernelOutIdeal.Value

/-! ## The claims -/

namespace Cert.OutMatmul

open Idealize.ShloMosaic Idealize.SL.Sem

theorem reference_frame : Cert.quiescent_ReferenceOutIdeal (hReferenceOutIdeal := Cert.ReferenceOutIdeal.Gen.facts) := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem same_result : Cert.algebraic_KernelOutIdeal_ReferenceOutIdeal (hKernelOutIdeal := Cert.KernelOutIdeal.Gen.facts)
    (hReferenceOutIdeal := Cert.ReferenceOutIdeal.Gen.facts) := by
  intro m ρ m' ρ' hpre hagree
  refine ⟨fun c => Cert.KernelOutIdeal.Value.goal m c, (θ_run Cert.KernelOutIdeal.defs _ _).mono (fun r h c =>
    ⟨(h c).1.trans (Cert.KernelOutIdeal.Value.final m c), (h c).2⟩) (Cert.KernelOutIdeal.Value.run_blocks (F := Ideal) m ρ), ?_⟩
  refine (θ_run Cert.ReferenceOutIdeal.defs _ _).mono (fun r h c => ⟨(h c).1.trans ?_, (h c).2⟩)
    (Cert.ReferenceOutIdeal.Value.run (F := Ideal) m' ρ')
  refine (Cert.ReferenceOutIdeal.Read.val_main_v2_eq (F := Ideal) _ _ _).trans ?_
  rw [(hagree c).1, (hagree c).2.1, (hagree c).2.2]

end Cert.OutMatmul

end
-- ==== Proof.CdRef.lean ====
module

public import proofs.«01_k».proof.Defs
public import proofs.«01_k».proof.Proof.Gen.ReferenceCdIdeal.Read
public import proofs.«01_k».proof.Proof.Gen.ReferenceCdIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The causal and gated mixers' projection: the reference, column by column

`turn` is the rotary turn of a pair of columns, `spec` what a column of the result holds.
-/

noncomputable section

namespace Cert.Cd

open Cert.ReferenceCdIdeal Cert.ReferenceCdIdeal.Read Idealize.ShloMosaic

/-- A row of the activations with a column of the weight. -/
def dot (a : FVec Ideal S2x4096x4096 .f32) (w : FVec Ideal S4096x11376 .f32) (b : Fin 2) (p : Fin 4096) (n : Nat) (h : n < 11376) : EReal :=
  ∑ x : Fin 4096, a (ix3 b p x) * w (ix2 x ⟨n, h⟩)

/-- The cosine of a position's angle at a pair. -/
abbrev cosAt (p : Fin 4096) (k : Nat) (h : k < 64) : EReal := val_main_v26 (F := Ideal) (ix2 p ⟨k, h⟩)
/-- The sine of a position's angle at a pair. -/
abbrev sinAt (p : Fin 4096) (k : Nat) (h : k < 64) : EReal := val_main_v28 (F := Ideal) (ix2 p ⟨k, h⟩)

/-- A column turned with its partner, half a head away. -/
def turn (a : FVec Ideal S2x4096x4096 .f32) (w : FVec Ideal S4096x11376 .f32) (b : Fin 2) (p : Fin 4096) (n : Nat) (h : n < 2560) : EReal :=
  if e : n % 128 < 64 then
    dot a w b p n (by omega) * cosAt p (n % 128) e - dot a w b p (n + 64) (by omega) * sinAt p (n % 128) e
  else
    dot a w b p n (by omega) * cosAt p (n % 128 - 64) (by omega) + dot a w b p (n - 64) (by omega) * sinAt p (n % 128 - 64) (by omega)

/-- The result's column. -/
def spec (a : FVec Ideal S2x4096x4096 .f32) (w : FVec Ideal S4096x11376 .f32) (b : Fin 2) (p : Fin 4096) (n : Nat) (h : n < 9216) : EReal :=
  if h1 : n < 2048 then turn a w b p n (by omega) * Ideal.ofBits .f32 0x3E0293EE#32
  else if h2 : n < 2560 then turn a w b p n h2
  else if n < 3072 then dot a w b p n (by omega)
  else if n < 5120 then dot a w b p (n + 2144) (by omega) * Ideal.ofBits .f32 0x3E0293EE#32
  else dot a w b p (n + 2144) (by omega)

theorem cos_again (i) : val_main_v59 (F := Ideal) i = val_main_v26 i := rfl
theorem sin_again (i) : val_main_v61 (F := Ideal) i = val_main_v28 i := rfl

variable (a : FVec Ideal S2x4096x4096 .f32) (w : FVec Ideal S4096x11376 .f32) (b : Fin 2) (p : Fin 4096)

theorem dotAt (n : Fin 11376) : val_main_v0 (F := Ideal) a w (ix3 b p n) = dot a w b p n.val n.isLt := by
  pointwise [val_main_v0]
  rfl

theorem queries (n : Fin 2048) : val_main_v43 (F := Ideal) a w (ix3 b p n) = turn a w b p n.val (by omega) := by
  pointwise [val_main_v43, val_main_v42, val_main_v41, val_main_v40, val_main_v39, val_main_v38, val_main_v37, val_main_v36, val_main_v35,
    val_main_v34, val_main_v33, val_main_v32, val_main_v31, val_main_v30, val_main_v29, val_main_v27, val_main_v11, val_main_v1, val_main_v0]
  unfold turn dot
  by_cases e : n.val % 128 < 64
  · rw [dif_pos e, dif_pos e]
    have e1 : n.val / 128 * 128 + (64 + n.val % 128) = n.val + 64 := by omega
    simp only [e1]
  · rw [dif_neg e, dif_neg e]
    have e1 : n.val / 128 * 128 + (64 + (n.val % 128 - 64)) = n.val := by omega
    have e2 : n.val / 128 * 128 + (n.val % 128 - 64) = n.val - 64 := by omega
    simp only [e1, e2]

theorem keys (n : Fin 512) : val_main_v76 (F := Ideal) a w (ix3 b p n) = turn a w b p (2048 + n.val) (by omega) := by
  pointwise [val_main_v76, val_main_v75, val_main_v74, val_main_v73, val_main_v72, val_main_v71, val_main_v70, val_main_v69, val_main_v68,
    val_main_v67, val_main_v66, val_main_v65, val_main_v64, val_main_v63, val_main_v62, val_main_v60, val_main_v44, val_main_v2, val_main_v0]
  simp only [cos_again, sin_again]
  unfold turn dot
  have em : (2048 + n.val) % 128 = n.val % 128 := by omega
  by_cases e : n.val % 128 < 64
  · have e' : (2048 + n.val) % 128 < 64 := by omega
    rw [dif_pos e, dif_pos e']
    have e1 : 2048 + (n.val / 128 * 128 + (64 + n.val % 128)) = 2048 + n.val + 64 := by omega
    simp only [e1, em]
  · have e' : ¬(2048 + n.val) % 128 < 64 := by omega
    rw [dif_neg e, dif_neg e']
    have e1 : 2048 + (n.val / 128 * 128 + (64 + (n.val % 128 - 64))) = 2048 + n.val := by omega
    have e2 : 2048 + (n.val / 128 * 128 + (n.val % 128 - 64)) = 2048 + n.val - 64 := by omega
    simp only [e1, e2, em]

theorem values (n : Fin 512) : val_main_v3 (F := Ideal) a w (ix3 b p n) = dot a w b p (2560 + n.val) (by omega) := by
  have h := dotAt a w b p
  unfold val_main_v3
  generalize val_main_v0 (F := Ideal) a w = A at *
  pointwise []
  exact h _

theorem gatedQueries (n : Fin 2048) : val_main_v80 (F := Ideal) a w (ix3 b p n)
    = dot a w b p (5216 + n.val) (by omega) * Ideal.ofBits .f32 0x3E0293EE#32 := by
  have h := dotAt a w b p
  unfold val_main_v80 val_main_v7
  generalize val_main_v0 (F := Ideal) a w = A at *
  pointwise [val_main_v79, val_main_cst_6]
  rw [h]

theorem scaleAt (A : FVec Ideal S2x4096x2048 .f32) (n : Fin 2048) : mulf A (val_main_v77 (F := Ideal)) (ix3 b p n)
    = A (ix3 b p n) * Ideal.ofBits .f32 0x3E0293EE#32 := by
  pointwise [val_main_v77, val_main_cst_5]

theorem scaledQueries (n : Fin 2048) : val_main_v78 (F := Ideal) a w (ix3 b p n)
    = turn a w b p n.val (by omega) * Ideal.ofBits .f32 0x3E0293EE#32 := by
  unfold val_main_v78
  exact (scaleAt b p (val_main_v43 (F := Ideal) a w) n).trans (congrArg (fun z : EReal => z * Ideal.ofBits .f32 0x3E0293EE#32) (queries a w b p n))

theorem gatedKeys (n : Fin 2048) : val_main_v8 (F := Ideal) a w (ix3 b p n) = dot a w b p (7264 + n.val) (by omega) := by
  have h := dotAt a w b p
  unfold val_main_v8
  generalize val_main_v0 (F := Ideal) a w = A at *
  pointwise []
  exact h _

theorem gatedValues (n : Fin 2048) : val_main_v9 (F := Ideal) a w (ix3 b p n) = dot a w b p (9312 + n.val) (by omega) := by
  have h := dotAt a w b p
  unfold val_main_v9
  generalize val_main_v0 (F := Ideal) a w = A at *
  pointwise []
  exact h _

theorem joined (n : Fin 9216) : val_main_v81 (F := Ideal) a w (ix3 b p n) = spec a w b p n.val n.isLt := by
  have h1 := scaledQueries a w b p
  have h2 := keys a w b p
  have h3 := values a w b p
  have h4 := gatedQueries a w b p
  have h5 := gatedKeys a w b p
  have h6 := gatedValues a w b p
  unfold val_main_v81
  generalize val_main_v78 (F := Ideal) a w = A1 at *
  generalize val_main_v76 (F := Ideal) a w = A2 at *
  generalize val_main_v3 (F := Ideal) a w = A3 at *
  generalize val_main_v80 (F := Ideal) a w = A4 at *
  generalize val_main_v8 (F := Ideal) a w = A5 at *
  generalize val_main_v9 (F := Ideal) a w = A6 at *
  pointwise []
  unfold spec
  by_cases c1 : n.val < 2048
  · rw [dif_pos c1, dif_pos c1, h1]
  rw [dif_neg c1, dif_neg c1]
  by_cases c2 : n.val < 2560
  · rw [dif_pos (by omega), dif_pos c2, h2]
    have e : 2048 + (n.val - 2048) = n.val := by omega
    simp only [e]
  rw [dif_neg (by omega), dif_neg c2]
  by_cases c3 : n.val < 3072
  · rw [dif_pos (by omega), if_pos c3, h3]
    have e : 2560 + (n.val - 2048 - 512) = n.val := by omega
    simp only [e]
  rw [dif_neg (by omega), if_neg c3]
  by_cases c4 : n.val < 5120
  · rw [dif_pos (by omega), if_pos c4, h4]
    have e : 5216 + (n.val - 2048 - 512 - 512) = n.val + 2144 := by omega
    simp only [e]
  rw [dif_neg (by omega), if_neg c4]
  by_cases c5 : n.val < 7168
  · rw [dif_pos (by omega), h5]
    have e : 7264 + (n.val - 2048 - 512 - 512 - 2048) = n.val + 2144 := by omega
    simp only [e]
  rw [dif_neg (by omega), h6]
  have e : 9312 + (n.val - 2048 - 512 - 512 - 2048 - 2048) = n.val + 2144 := by omega
  simp only [e]

/-- The reference's result, at an index. -/
theorem refAt (i : Fin 8192) (n : Fin 9216) : val_main_v83 (F := Ideal) a w (ix2 i n)
    = spec a w ⟨i.val / 4096, by omega⟩ ⟨i.val % 4096, by omega⟩ n.val n.isLt := by
  have h1 := joined a w
  unfold val_main_v83 val_main_v82
  generalize val_main_v81 (F := Ideal) a w = A1 at *
  pointwise []
  exact h1 _ _ n

end Cert.Cd

end
-- ==== Proof.CdHost.lean ====
module

public import Idealize.ShloMosaic.Lib.StableHlo.ReadAt
public import proofs.«01_k».proof.Defs
public import proofs.«01_k».proof.Proof.Gen.KernelCdIdeal.Value
public import proofs.«01_k».proof.Proof.CdRef
public import Idealize.ShloMosaic.Lib.Pipeline.ValueKit
public import Idealize.ShloMosaic.Lib.Pointwise
public import Idealize.ShloMosaic.Lib.Quiescent

@[expose] public section

set_option maxRecDepth 16384

/-!
# The causal and gated mixers' projection: what the host hands the kernel
-/

noncomputable section

namespace Cert.KernelCdIdeal.Value

open Cert.KernelCdIdeal Cert.KernelCdIdeal.Gen Idealize.ShloMosaic Idealize.ShloMosaic.TcCoe Idealize.SL.Sem

variable (m : (ℓ : Loc nD τ sig) → Buf (Elt Ideal) ℓ) (c : Dev nD)

open Cert.ReferenceCdIdeal.Read Cert.Cd

set_option maxHeartbeats 2000000 in
theorem tableC (k : Fin 4096) (n : Fin 128) : V (F := Ideal) m c main_v39 (ix2 k n)
    = if h : n.val < 64 then cosAt k n.val h else cosAt k (n.val - 64) (by omega) := by
  unfold V
  after_reads_at
  by_cases e : n.val < 64
  · rw [dif_neg (by omega), dif_pos e, dif_pos e]
    after_reads_at
    unfold cosAt
    pointwise [val_main_v28, val_main_v26, val_main_v25, val_main_v24, val_main_v23, val_main_v22, val_main_v21, val_main_v20, val_main_v19, val_main_v18,
      val_main_v17, val_main_v16, val_main_v15, val_main_v14, val_main_v13, val_main_v12, val_main_cst, val_main_cst_0, val_main_cst_1]
  · rw [dif_neg (by omega), dif_neg e, dif_pos (by omega), dif_neg e]
    after_reads_at
    unfold cosAt
    pointwise [val_main_v28, val_main_v26, val_main_v25, val_main_v24, val_main_v23, val_main_v22, val_main_v21, val_main_v20, val_main_v19, val_main_v18,
      val_main_v17, val_main_v16, val_main_v15, val_main_v14, val_main_v13, val_main_v12, val_main_cst, val_main_cst_0, val_main_cst_1]

set_option maxHeartbeats 2000000 in
theorem tableA (k : Fin 4096) (n : Fin 128) : V (F := Ideal) m c main_v41 (ix2 k n)
    = if h : n.val < 64 then -sinAt k n.val h else (0 : EReal) := by
  unfold V
  after_reads_at
  by_cases e : n.val < 64
  · rw [dif_neg (by omega), dif_pos e, dif_pos e]
    after_reads_at
    unfold sinAt
    pointwise [val_main_v28, val_main_v26, val_main_v25, val_main_v24, val_main_v23, val_main_v22, val_main_v21, val_main_v20, val_main_v19, val_main_v18,
      val_main_v17, val_main_v16, val_main_v15, val_main_v14, val_main_v13, val_main_v12, val_main_cst, val_main_cst_0, val_main_cst_1]
  · rw [dif_neg (by omega), dif_neg e, dif_pos (by omega), dif_neg e]
    after_reads_at

set_option maxHeartbeats 2000000 in
theorem tableB (k : Fin 4096) (n : Fin 128) : V (F := Ideal) m c main_v43 (ix2 k n)
    = if h : n.val < 64 then (0 : EReal) else sinAt k (n.val - 64) (by omega) := by
  unfold V
  after_reads_at
  by_cases e : n.val < 64
  · rw [dif_neg (by omega), dif_pos e, dif_pos e]
    after_reads_at
  · rw [dif_neg (by omega), dif_neg e, dif_pos (by omega), dif_neg e]
    after_reads_at
    unfold sinAt
    pointwise [val_main_v28, val_main_v26, val_main_v25, val_main_v24, val_main_v23, val_main_v22, val_main_v21, val_main_v20, val_main_v19, val_main_v18,
      val_main_v17, val_main_v16, val_main_v15, val_main_v14, val_main_v13, val_main_v12, val_main_cst, val_main_cst_0, val_main_cst_1]

/-- The weight the kernel takes: the columns it needs side by side, the queries' scaled. -/
def weight (w : FVec Ideal S4096x11376 .f32) (k : Fin 4096) (n : Nat) (h : n < 9216) : EReal :=
  if n < 2048 then w (ix2 k ⟨n, by omega⟩) * Ideal.ofBits .f32 0x3E0293EE#32
  else if n < 3072 then w (ix2 k ⟨n, by omega⟩)
  else if n < 5120 then w (ix2 k ⟨n + 2144, by omega⟩) * Ideal.ofBits .f32 0x3E0293EE#32
  else w (ix2 k ⟨n + 2144, by omega⟩)

set_option maxHeartbeats 2000000 in
theorem wHost (k : Fin 4096) (n : Fin 9216) : V (F := Ideal) m c main_v13 (ix2 k n)
    = weight (m ((c : Thread nD τ).loc main_arg1)) k n.val n.isLt := by
  unfold V weight
  after_reads_at
  by_cases c1 : n.val < 2048
  · rw [dif_pos c1, if_pos c1]
    after_reads_at
  rw [dif_neg c1, if_neg c1]
  by_cases c2 : n.val < 2560
  · rw [dif_pos (by omega), if_pos (show n.val < 3072 by omega)]
    after_reads_at
    have e : 2048 + (n.val - 2048) = n.val := by omega
    simp only [e]
  rw [dif_neg (by omega)]
  by_cases c3 : n.val < 3072
  · rw [dif_pos (by omega), if_pos c3]
    after_reads_at
    have e : 2560 + (n.val - 2048 - 512) = n.val := by omega
    simp only [e]
  rw [dif_neg (by omega), if_neg c3]
  by_cases c4 : n.val < 5120
  · rw [dif_pos (by omega), if_pos c4]
    after_reads_at
    have e : 5216 + (n.val - 2048 - 512 - 512) = n.val + 2144 := by omega
    simp only [e]
  rw [dif_neg (by omega), if_neg c4]
  by_cases c5 : n.val < 7168
  · rw [dif_pos (by omega)]
    after_reads_at
    have e : 7264 + (n.val - 2048 - 512 - 512 - 2048) = n.val + 2144 := by omega
    simp only [e]
  rw [dif_neg (by omega)]
  after_reads_at
  have e : 9312 + (n.val - 2048 - 512 - 512 - 2048 - 2048) = n.val + 2144 := by omega
  simp only [e]

theorem aHost (i : Fin 8192) (k : Fin 4096) : V (F := Ideal) m c main_v1 (ix2 i k)
    = m ((c : Thread nD τ).loc main_arg0) (ix3 ⟨i.val / 4096, by omega⟩ ⟨i.val % 4096, by omega⟩ k) := by
  unfold V
  after_reads_at

end Cert.KernelCdIdeal.Value

end
-- ==== Proof.CdBlock.lean ====
module

public import Idealize.ShloMosaic.Lib.StableHlo.ReadAt
public import proofs.«01_k».proof.Defs
public import proofs.«01_k».proof.Proof.Gen.KernelCdIdeal.Value
public import proofs.«01_k».proof.Proof.Reads
public import Idealize.ShloMosaic.Lib.Pipeline.ValueKit
public import Idealize.ShloMosaic.Lib.Pointwise
public import Idealize.ShloMosaic.Lib.Quiescent

@[expose] public section

set_option maxRecDepth 16384

/-!
# The causal and gated mixers' projection: one block of the kernel
-/

noncomputable section

namespace Cert.KernelCdIdeal.Value

open Cert.KernelCdIdeal Cert.KernelCdIdeal.Gen Idealize.ShloMosaic Idealize.ShloMosaic.TcCoe Idealize.SL.Sem

/-- A row of the block with a column of the weight's block. -/
def prod (a : Vec Ideal S1024x4096 .bf16) (w : Vec Ideal S4096x512 .bf16) (r : Fin 1024) (n : Nat) (h : n < 512) : EReal :=
  ∑ x : Fin 4096, a (ix2 r x) * w (ix2 x ⟨n, h⟩)

/-- What the kernel writes at a turned column: the product by the first table, and its partner by the other two. -/
def turned (a : Vec Ideal S1024x4096 .bf16) (w : Vec Ideal S4096x512 .bf16) (p q u : Vec Ideal S1024x128 .f32) (r : Fin 1024) (g d : Nat)
    (hg : g < 4) (hd : d < 128) : EReal :=
  prod a w r (g * 128 + d) (by omega) * p (ix2 r ⟨d, hd⟩) + prod a w r (g * 128 + (d + 64) % 128) (by omega) * q (ix2 r ⟨d, hd⟩)
    + prod a w r (g * 128 + (d + 64) % 128) (by omega) * u (ix2 r ⟨d, hd⟩)

variable (a : Vec Ideal S1024x4096 .bf16) (w : Vec Ideal S4096x512 .bf16) (p q u : Vec Ideal S1024x128 .f32) (r : Fin 1024) (d : Fin 128)

theorem pay0 : k0_pay8 (F := Ideal) a w p q u (ix2 r d) = turned a w p q u r 0 d.val (by decide) d.isLt := by
  pointwise [k0_pay8, k0_pay4, k0_pay5, k0_pay6, k0_pay7]
  unfold turned prod
  have e1 : 0 * 128 + d.val = d.val := by omega
  have e2 : 0 * 128 + (d.val + 64) % 128 = (d.val + 128 - 64) % 128 := by omega
  simp only [e1, e2]

theorem pay1 : k0_pay9 (F := Ideal) a w p q u (ix2 r d) = turned a w p q u r 1 d.val (by decide) d.isLt := by
  pointwise [k0_pay9, k0_pay4, k0_pay5, k0_pay6, k0_pay7]
  unfold turned prod
  have e1 : 1 * 128 + d.val = 128 + d.val := by omega
  have e2 : 1 * 128 + (d.val + 64) % 128 = 128 + (d.val + 128 - 64) % 128 := by omega
  simp only [e1, e2]

theorem pay2 : k0_pay1 (F := Ideal) (k0_pay7 u) (k0_pay11 a w p q) (k0_pay12 a w) (ix2 r d) = turned a w p q u r 2 d.val (by decide) d.isLt := by
  pointwise [k0_pay1, k0_pay11, k0_pay12, k0_pay10, k0_pay4, k0_pay5, k0_pay6, k0_pay7]
  unfold turned prod
  have e1 : 2 * 128 + d.val = 256 + d.val := by omega
  have e2 : 2 * 128 + (d.val + 64) % 128 = 256 + (d.val + 128 - 64) % 128 := by omega
  simp only [e1, e2]

theorem pay3 : k0_pay2 (F := Ideal) (k0_pay4 a w) (k0_pay5 p) (k0_pay6 q) (k0_pay7 u) (ix2 r d) = turned a w p q u r 3 d.val (by decide) d.isLt := by
  pointwise [k0_pay2, k0_pay4, k0_pay5, k0_pay6, k0_pay7]
  unfold turned prod
  have e1 : 3 * 128 + d.val = 384 + d.val := by omega
  have e2 : 3 * 128 + (d.val + 64) % 128 = 384 + (d.val + 128 - 64) % 128 := by omega
  simp only [e1, e2]

/-- The newest group of columns written, or an older one, by the column. -/
theorem canon_group (v : Vec Ideal S1024x128 .bf16) (k : Nat) (inb) (L : List (View.Piece (Elt Ideal) S1024x512 EltTy.bf16)) (h : Fin 4) :
    View.canon (⟨Rect.unit ![0, k * 128] ![1024, 128] inb, v⟩ :: L) (ix2 r ⟨h.val * 128 + d.val, by omega⟩)
      = if k = h.val then v (ix2 r d) else View.canon L (ix2 r ⟨h.val * 128 + d.val, by omega⟩) := by
  rw [Reads.canon_cons_unit]
  by_cases e : k = h.val
  · have hm : ∀ a : Fin 2, (![0, k * 128] : Fin 2 → Nat) a ≤ ((ix2 r ⟨h.val * 128 + d.val, by omega⟩ : S1024x512.Idx) a).val
        ∧ ((ix2 r ⟨h.val * 128 + d.val, by omega⟩ : S1024x512.Idx) a).val < (![0, k * 128] : Fin 2 → Nat) a + (![1024, 128] : Fin 2 → Nat) a := by
      refine Fin.forall_fin_two.mpr ⟨?_, ?_⟩
      · show 0 ≤ r.val ∧ r.val < 0 + 1024; omega
      · show k * 128 ≤ h.val * 128 + d.val ∧ h.val * 128 + d.val < k * 128 + 128; omega
    rw [dif_pos hm, if_pos e]
    refine congrArg v (funext fun a => Fin.ext ?_)
    match a with
    | ⟨0, _⟩ => exact Nat.sub_zero _
    | ⟨1, _⟩ => show h.val * 128 + d.val - k * 128 = d.val; omega
  · rw [if_neg e, dif_neg]
    intro hm
    have h2 : k * 128 ≤ h.val * 128 + d.val ∧ h.val * 128 + d.val < k * 128 + 128 := hm 1
    have := d.isLt
    omega

/-- The block's four stores, the newest first. -/
def stores : List (View.Piece (Elt Ideal) S1024x512 EltTy.bf16) :=
  [⟨Rect.unit ![0, 3 * 128] ![1024, 128] (by decide), k0_pay2 (k0_pay4 a w) (k0_pay5 p) (k0_pay6 q) (k0_pay7 u)⟩,
    ⟨Rect.unit ![0, 2 * 128] ![1024, 128] (by decide), k0_pay1 (k0_pay7 u) (k0_pay11 a w p q) (k0_pay12 a w)⟩,
    ⟨Rect.unit ![0, 1 * 128] ![1024, 128] (by decide), k0_pay9 a w p q u⟩,
    ⟨Rect.unit ![0, 0 * 128] ![1024, 128] (by decide), k0_pay8 a w p q u⟩]

/-- A whole buffer read is the buffer. -/
theorem ldA {F} [FloatOps F] (v : Vec F S1024x4096 .bf16) : View.ld v (Rect.unit ![0, 0] ![1024, 4096] inb_S1024x4096_S1024x4096_0_0) = v :=
  View.ld_unit_zero (funext fun a => match a with | ⟨0, _⟩ => rfl | ⟨1, _⟩ => rfl) inb_S1024x4096_S1024x4096_0_0 v
theorem ldW {F} [FloatOps F] (v : Vec F S4096x512 .bf16) : View.ld v (Rect.unit ![0, 0] ![4096, 512] inb_S4096x512_S4096x512_0_0) = v :=
  View.ld_unit_zero (funext fun a => match a with | ⟨0, _⟩ => rfl | ⟨1, _⟩ => rfl) inb_S4096x512_S4096x512_0_0 v
theorem ldT {F} [FloatOps F] (v : Vec F S1024x128 .f32) : View.ld v (Rect.unit ![0, 0] ![1024, 128] inb_S1024x128_S1024x128_0_0) = v :=
  View.ld_unit_zero (funext fun a => match a with | ⟨0, _⟩ => rfl | ⟨1, _⟩ => rfl) inb_S1024x128_S1024x128_0_0 v

theorem pieces (c : Dev nD) (i : grid0.Coords) (arg2) (harg2 : arg2.IsWhole) (arg3) (harg3 : arg3.IsWhole) (arg4) (harg4 : arg4.IsWhole)
    (arg5) (harg5 : arg5.IsWhole) (arg6) (harg6 : arg6.IsWhole) (arg7) (harg7 : arg7.IsWhole) (hc0) (hc1) :
    out0_A_5 (F := Ideal) c i arg2 harg2 arg3 harg3 arg4 harg4 arg5 harg5 arg6 harg6 arg7 harg7 hc0 hc1 a w p q u =
      View.canon (stores a w p q u) := by
  unfold out0_A_5
  rw [View.read_writes_eq_canon _ _ _ (cover0_A_5 c i arg2 harg2 arg3 harg3 arg4 harg4 arg5 harg5 arg6 harg6 arg7 harg7 hc0 hc1 a w p q u)]
  unfold kernelRun0_A
  dsimp only
  sl_unfold_words
  simp (disch := decide) only [Reads.readCov_whole, View.readAt_eq_ld, harg2.read_unread, harg3.read_unread, harg4.read_unread,
    harg5.read_unread, harg6.read_unread]
  refine congrArg View.canon (List.cons_eq_cons.mpr ⟨?_, List.cons_eq_cons.mpr ⟨?_, List.cons_eq_cons.mpr ⟨?_, List.cons_eq_cons.mpr ⟨?_, rfl⟩⟩⟩⟩)
  · exact Sigma.ext rfl (heq_of_eq (by rw [ldA, ldW, ldT, ldT, ldT]))
  · exact Sigma.ext rfl (heq_of_eq (by rw [ldA, ldW, ldT, ldT, ldT]))
  · exact Sigma.ext rfl (heq_of_eq (by rw [ldA, ldW, ldT, ldT, ldT]))
  · exact Sigma.ext rfl (heq_of_eq (by rw [ldA, ldW, ldT, ldT, ldT]))

/-- A block of turned columns, at an index. -/
theorem blockA (c : Dev nD) (i : grid0.Coords) (arg2) (harg2 : arg2.IsWhole) (arg3) (harg3 : arg3.IsWhole) (arg4) (harg4 : arg4.IsWhole)
    (arg5) (harg5 : arg5.IsWhole) (arg6) (harg6 : arg6.IsWhole) (arg7) (harg7 : arg7.IsWhole) (hc0) (hc1) (n : Fin 512) :
    out0_A_5 (F := Ideal) c i arg2 harg2 arg3 harg3 arg4 harg4 arg5 harg5 arg6 harg6 arg7 harg7 hc0 hc1 a w p q u (ix2 r n)
      = turned a w p q u r (n.val / 128) (n.val % 128) (by omega) (by omega) := by
  rw [pieces]
  have e : ∀ (g : Fin 4) (d : Fin 128), View.canon (stores a w p q u) (ix2 r ⟨g.val * 128 + d.val, by omega⟩)
      = turned a w p q u r g.val d.val g.isLt d.isLt := by
    intro g d
    unfold stores
    rw [canon_group, canon_group, canon_group, canon_group, pay0, pay1, pay2, pay3]
    match g with
    | ⟨0, _⟩ => rfl
    | ⟨1, _⟩ => rfl
    | ⟨2, _⟩ => rfl
    | ⟨3, _⟩ => rfl
  have h := e ⟨n.val / 128, by omega⟩ ⟨n.val % 128, by omega⟩
  have en : (⟨n.val / 128 * 128 + n.val % 128, by omega⟩ : Fin 512) = n := Fin.ext (by show n.val / 128 * 128 + n.val % 128 = n.val; omega)
  simp only [en] at h
  exact h

/-- A block of the other columns, at an index. -/
theorem blockB (c : Dev nD) (i : grid0.Coords) (arg2) (harg2 : arg2.IsWhole) (arg3) (harg3 : arg3.IsWhole) (arg4) (harg4 : arg4.IsWhole)
    (arg5) (harg5 : arg5.IsWhole) (arg6) (harg6 : arg6.IsWhole) (arg7) (harg7 : arg7.IsWhole) (hc0) (hc1) (n : Fin 512) :
    out0_B_5 (F := Ideal) c i arg2 harg2 arg3 harg3 arg4 harg4 arg5 harg5 arg6 harg6 arg7 harg7 hc0 hc1 a w p q u (ix2 r n) = prod a w r n.val n.isLt := by
  frame_out
  pointwise [k0_pay3]
  rfl

end Cert.KernelCdIdeal.Value

end
-- ==== Proof.CdMatmul.lean ====
module

public import proofs.«01_k».proof.Defs
public import proofs.«01_k».proof.Proof.Gen.KernelCdIdeal.Value
public import proofs.«01_k».proof.Proof.CdHost
public import proofs.«01_k».proof.Proof.CdBlock
public import proofs.«01_k».proof.Proof.Gen.ReferenceCdIdeal.Read
public import proofs.«01_k».proof.Proof.Gen.ReferenceCdIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The causal and gated mixers' projection

The kernel scales the queries' weight and turns a column with tables that hold the sine and its negation beside zeros;
the reference turns the two halves of a head and scales after.
-/

noncomputable section

namespace Cert.KernelCdIdeal.Value

open Cert.KernelCdIdeal Cert.KernelCdIdeal.Gen Idealize.ShloMosaic Idealize.ShloMosaic.TcCoe Idealize.SL.Sem

variable (m : (ℓ : Loc nD τ sig) → Buf (Elt Ideal) ℓ) (c : Dev nD)

open Cert.Cd

theorem places : ∀ t : Fin cfg0.N, win0_0.index t = ![(grid0.coords t 0).val, 0]
    ∧ win0_1.index t = ![0, (grid0.coords t 1).val]
    ∧ win0_2.index t = ![(grid0.coords t 0).val % 4, 0] ∧ win0_3.index t = ![(grid0.coords t 0).val % 4, 0] ∧ win0_4.index t = ![(grid0.coords t 0).val % 4, 0]
    ∧ win0_5.index t = ![(grid0.coords t 0).val, (grid0.coords t 1).val] := by
  decide +kernel

theorem coord0 : ∀ t : Fin cfg0.N, (grid0.coords t 0).val < 8 := by decide +kernel
theorem coord1 : ∀ t : Fin cfg0.N, (grid0.coords t 1).val < 18 ∧ t.val % 18 = (grid0.coords t 1).val := by decide +kernel

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 512) : Fin 9216 := ⟨(grid0.coords t 1).val * 512 + n.val, by have := coord1 t; omega⟩
/-- The batch entry of a block's row. -/
abbrev entry (t : Fin cfg0.N) (r : Fin 1024) : Fin 2 := ⟨(row t r).val / 4096, by omega⟩
/-- The position of a block's row. -/
abbrev position (t : Fin cfg0.N) (r : Fin 1024) : Fin 4096 := ⟨(row t r).val % 4096, by omega⟩

theorem aBlock (t : Fin cfg0.N) (r : Fin 1024) (x : Fin 4096) : iblk (F := Ideal) m c 0 t (ix2 r x)
    = m ((c : Thread nD τ).loc main_arg0) (ix3 (entry t r) (position t r) x) := by
  have i0 := fun t => (places t).1
  refine Eq.trans (b := V (F := Ideal) m c main_v1 (ix2 (row t r) x)) ?_ (aHost m c (row t r) x)
  blk_ext [iblk, i0]

theorem wBlock (t : Fin cfg0.N) (x : Fin 4096) (n : Fin 512) : iblk (F := Ideal) m c 1 t (ix2 x n)
    = weight (m ((c : Thread nD τ).loc main_arg1)) x (column t n).val (column t n).isLt := by
  have i0 := fun t => (places t).2.1
  refine Eq.trans (b := V (F := Ideal) m c main_v13 (ix2 x (column t n))) ?_ (wHost m c x (column t n))
  blk_ext [iblk, i0]

theorem position_eq (t : Fin cfg0.N) (r : Fin 1024) : (position t r).val = (grid0.coords t 0).val % 4 * 1024 + r.val := by
  have := coord0 t
  show ((grid0.coords t 0).val * 1024 + r.val) % 4096 = _
  omega

theorem cBlock (t : Fin cfg0.N) (r : Fin 1024) (d : Fin 128) : iblk (F := Ideal) m c 2 t (ix2 r d) = V (F := Ideal) m c main_v39 (ix2 (position t r) d) := by
  have i0 := fun t => (places t).2.2.1
  have e : position t r = ⟨(grid0.coords t 0).val % 4 * 1024 + r.val, by omega⟩ := Fin.ext (position_eq t r)
  rw [e]
  blk_ext [iblk, i0]

theorem saBlock (t : Fin cfg0.N) (r : Fin 1024) (d : Fin 128) : iblk (F := Ideal) m c 3 t (ix2 r d) = V (F := Ideal) m c main_v41 (ix2 (position t r) d) := by
  have i0 := fun t => (places t).2.2.2.1
  have e : position t r = ⟨(grid0.coords t 0).val % 4 * 1024 + r.val, by omega⟩ := Fin.ext (position_eq t r)
  rw [e]
  blk_ext [iblk, i0]

theorem sbBlock (t : Fin cfg0.N) (r : Fin 1024) (d : Fin 128) : iblk (F := Ideal) m c 4 t (ix2 r d) = V (F := Ideal) m c main_v43 (ix2 (position t r) d) := by
  have i0 := fun t => (places t).2.2.2.2.1
  have e : position t r = ⟨(grid0.coords t 0).val % 4 * 1024 + r.val, by omega⟩ := Fin.ext (position_eq t r)
  rw [e]
  blk_ext [iblk, i0]

/-- A product of the kernel, of the reference's arguments. -/
def kdot (a : FVec Ideal S2x4096x4096 .f32) (w : FVec Ideal S4096x11376 .f32) (b : Fin 2) (p : Fin 4096) (n : Nat) (h : n < 9216) : EReal :=
  ∑ x : Fin 4096, a (ix3 b p x) * weight w x n h

section
variable (a : FVec Ideal S2x4096x4096 .f32) (w : FVec Ideal S4096x11376 .f32) (b : Fin 2) (p : Fin 4096)

theorem kdot_scaled (n : Nat) (h : n < 2048) : kdot a w b p n (by omega) = dot a w b p n (by omega) * Ideal.ofBits .f32 0x3E0293EE#32 := by
  unfold kdot weight dot
  simp only [if_pos h]
  exact Scale.dot_scaled _ _ Scale.qa_nonneg Scale.qa_ne_top

theorem kdot_plain (n : Nat) (h0 : ¬n < 2048) (h : n < 3072) : kdot a w b p n (by omega) = dot a w b p n (by omega) := by
  unfold kdot weight dot
  simp only [if_neg h0, if_pos h]

theorem kdot_scaled' (n : Nat) (h0 : ¬n < 3072) (h : n < 5120) : kdot a w b p n (by omega)
    = dot a w b p (n + 2144) (by omega) * Ideal.ofBits .f32 0x3E0293EE#32 := by
  unfold kdot weight dot
  have h1 : ¬n < 2048 := by omega
  simp only [if_neg h1, if_neg h0, if_pos h]
  exact Scale.dot_scaled _ _ Scale.qa_nonneg Scale.qa_ne_top

theorem kdot_plain' (n : Nat) (h0 : ¬n < 5120) (h : n < 9216) : kdot a w b p n h = dot a w b p (n + 2144) (by omega) := by
  unfold kdot weight dot
  have h1 : ¬n < 2048 := by omega
  have h2 : ¬n < 3072 := by omega
  simp only [if_neg h1, if_neg h2, if_neg h0]

theorem first_half (x y u s : EReal) : x * u + y * -s + y * 0 = x * u - y * s := by
  rw [mul_zero, add_zero, mul_neg, sub_eq_add_neg]

theorem second_half (x y u s : EReal) : x * u + y * 0 + y * s = x * u + y * s := by
  rw [mul_zero, add_zero]

theorem first_half_scaled (x y u s : EReal) {k : EReal} (h0 : 0 ≤ k) (ht : k ≠ ⊤) :
    x * k * u + y * k * -s + y * k * 0 = (x * u - y * s) * k := by
  rw [first_half, sub_eq_add_neg, sub_eq_add_neg, EReal.right_distrib_of_nonneg_of_ne_top h0 ht, neg_mul, mul_right_comm x k u,
    mul_right_comm y k s]

theorem second_half_scaled (x y u s : EReal) {k : EReal} (h0 : 0 ≤ k) (ht : k ≠ ⊤) :
    x * k * u + y * k * 0 + y * k * s = (x * u + y * s) * k := by
  rw [second_half, EReal.right_distrib_of_nonneg_of_ne_top h0 ht, mul_right_comm x k u, mul_right_comm y k s]

/-- A column turned by the tables is the reference's, scaled where the weight was. -/
theorem turn_eq (n : Nat) (h : n < 2560) (n' : Nat) (hn' : n' = n / 128 * 128 + (n % 128 + 64) % 128) :
    kdot a w b p n (by omega) * (if h : n % 128 < 64 then cosAt p (n % 128) h else cosAt p (n % 128 - 64) (by omega))
      + kdot a w b p n' (by omega) * (if h : n % 128 < 64 then -sinAt p (n % 128) h else (0 : EReal))
      + kdot a w b p n' (by omega) * (if h : n % 128 < 64 then (0 : EReal) else sinAt p (n % 128 - 64) (by omega))
      = spec a w b p n (by omega) := by
  unfold spec turn
  by_cases e : n % 128 < 64
  · obtain rfl : n' = n + 64 := by omega
    simp only [dif_pos e]
    by_cases q : n < 2048
    · rw [dif_pos q, kdot_scaled a w b p n q, kdot_scaled a w b p (n + 64) (by omega)]
      exact first_half_scaled _ _ _ _ Scale.qa_nonneg Scale.qa_ne_top
    · rw [dif_neg q, dif_pos h, kdot_plain a w b p n q (by omega), kdot_plain a w b p (n + 64) (by omega) (by omega)]
      exact first_half _ _ _ _
  · obtain rfl : n' = n - 64 := by omega
    simp only [dif_neg e]
    by_cases q : n < 2048
    · rw [dif_pos q, kdot_scaled a w b p n q, kdot_scaled a w b p (n - 64) (by omega)]
      exact second_half_scaled _ _ _ _ Scale.qa_nonneg Scale.qa_ne_top
    · rw [dif_neg q, dif_pos h, kdot_plain a w b p n q (by omega), kdot_plain a w b p (n - 64) (by omega) (by omega)]
      exact second_half _ _ _ _

theorem plain_eq (n : Nat) (h0 : ¬n < 2560) (h : n < 9216) : kdot a w b p n h = spec a w b p n h := by
  unfold spec
  rw [dif_neg (by omega), dif_neg h0]
  by_cases c3 : n < 3072
  · rw [if_pos c3, kdot_plain a w b p n (by omega) c3]
  rw [if_neg c3]
  by_cases c4 : n < 5120
  · rw [if_pos c4, kdot_scaled' a w b p n c3 c4]
  rw [if_neg c4, kdot_plain' a w b p n c4 h]

end

theorem prod_eq (t : Fin cfg0.N) (r : Fin 1024) (n : Nat) (h : n < 512) :
    prod (iblk (F := Ideal) m c 0 t) (iblk (F := Ideal) m c 1 t) r n h
      = kdot (m ((c : Thread nD τ).loc main_arg0)) (m ((c : Thread nD τ).loc main_arg1)) (entry t r) (position t r)
          ((grid0.coords t 1).val * 512 + n) (column t ⟨n, h⟩).isLt :=
  Finset.sum_congr rfl fun x _ => by rw [aBlock, wBlock]

/-- The reference's result, of the kernel's arguments. -/
abbrev goal : FVec Ideal S8192x9216 .bf16 :=
  Cert.ReferenceCdIdeal.Read.val_main_v83 (F := Ideal) (m ((c : Thread nD τ).loc main_arg0)) (m ((c : Thread nD τ).loc main_arg1))

theorem turned_eq (t : Fin cfg0.N) (h1 : (grid0.coords t 1).val ≤ 4) (r : Fin 1024) (n : Fin 512) :
    turned (iblk (F := Ideal) m c 0 t) (iblk (F := Ideal) m c 1 t) (iblk (F := Ideal) m c 2 t) (iblk (F := Ideal) m c 3 t)
      (iblk (F := Ideal) m c 4 t) r (n.val / 128) (n.val % 128) (by omega) (by omega)
      = spec (m ((c : Thread nD τ).loc main_arg0)) (m ((c : Thread nD τ).loc main_arg1)) (entry t r) (position t r) (column t n).val (column t n).isLt := by
  refine Eq.trans ?_ (turn_eq _ _ _ _ (column t n).val (by show (grid0.coords t 1).val * 512 + n.val < 2560; omega)
    ((grid0.coords t 1).val * 512 + (n.val / 128 * 128 + (n.val % 128 + 64) % 128))
    (by show _ = ((grid0.coords t 1).val * 512 + n.val) / 128 * 128 + (((grid0.coords t 1).val * 512 + n.val) % 128 + 64) % 128; omega))
  unfold turned
  rw [cBlock, saBlock, sbBlock, tableC, tableA, tableB, prod_eq, prod_eq]
  have e1 : n.val / 128 * 128 + n.val % 128 = n.val := by omega
  have e2 : ((grid0.coords t 1).val * 512 + n.val) % 128 = n.val % 128 := by omega
  simp only [e1, e2]

/-- The array the kernel leaves is the reference's result. -/
theorem final : (dats m 0 c).arrAt 5 cfg0.N = goal m c := by
  refine (dats m 0 c).arrAt_eq_of_covers 5 _ (by decide +kernel) fun t hf y => ?_
  have i3 := fun t => (places t).2.2.2.2.2
  have hc := coord1 t
  refine Eq.trans (b := (dats m 0 c).flushed 5 t y) rfl ?_
  obtain ⟨r, n, rfl⟩ : ∃ (r : Fin 1024) (n : Fin 512), y = ix2 r n := ⟨_, _, eq_ix2 y⟩
  blk_simp
  refine Eq.trans (b := goal m c (ix2 (row t r) (column t n))) ?_ (congrArg (goal m c) ?_)
  · rw [goal, refAt]
    by_cases q : (grid0.coords t 1).val ≤ 4
    · refine Eq.trans (b := (dats m 0 c).flushed 5 t (ix2 r n)) rfl ?_
      rw [flushed5_A m c t (by omega) (by omega)]
      exact (blockA _ _ _ _ _ r _ _ _ _ _ _ _ _ _ _ _ _ _ _ _ _ n).trans (turned_eq m c t q r n)
    · refine Eq.trans (b := (dats m 0 c).flushed 5 t (ix2 r n)) rfl ?_
      rw [flushed5_B m c t (by omega) (by omega)]
      refine (blockB _ _ _ _ _ r _ _ _ _ _ _ _ _ _ _ _ _ _ _ _ _ n).trans ((prod_eq m c t r n.val n.isLt).trans ?_)
      exact plain_eq _ _ _ _ _ (by show ¬(grid0.coords t 1).val * 512 + n.val < 2560; omega) _
  · blk_ext [i3]

end Cert.KernelCdIdeal.Value

/-! ## The claims -/

namespace Cert.CdMatmul

open Idealize.ShloMosaic Idealize.SL.Sem

theorem reference_frame : Cert.quiescent_ReferenceCdIdeal (hReferenceCdIdeal := Cert.ReferenceCdIdeal.Gen.facts) := fun m ρ _ =>
  (θ_run Cert.ReferenceCdIdeal.defs _ _).mono (fun r h => ⟨fun c => (h c).2, sem_eq_zero_of_no_sems (by decide) r.2⟩)
    (Cert.ReferenceCdIdeal.Value.run (F := Ideal) m ρ)

theorem same_result : Cert.algebraic_KernelCdIdeal_ReferenceCdIdeal (hKernelCdIdeal := Cert.KernelCdIdeal.Gen.facts)
    (hReferenceCdIdeal := Cert.ReferenceCdIdeal.Gen.facts) := by
  intro m ρ m' ρ' hpre hagree
  refine ⟨fun c => Cert.KernelCdIdeal.Value.goal m c, (θ_run Cert.KernelCdIdeal.defs _ _).mono (fun r h c =>
    ⟨(h c).1.trans (Cert.KernelCdIdeal.Value.final m c), (h c).2⟩) (Cert.KernelCdIdeal.Value.run_blocks (F := Ideal) m ρ), ?_⟩
  refine (θ_run Cert.ReferenceCdIdeal.defs _ _).mono (fun r h c => ⟨(h c).1.trans ?_, (h c).2⟩)
    (Cert.ReferenceCdIdeal.Value.run (F := Ideal) m' ρ')
  refine (Cert.ReferenceCdIdeal.Read.val_main_v83_eq (F := Ideal) _ _).trans ?_
  rw [(hagree c).1, (hagree c).2]

end Cert.CdMatmul

end
-- ==== Proof.QtMatmul.lean ====
module

public import proofs.«01_k».proof.Defs
public import proofs.«01_k».proof.Proof.Gen.KernelQtIdeal.Value
public import proofs.«01_k».proof.Proof.Gen.ReferenceQtIdeal.Read
public import proofs.«01_k».proof.Proof.Gen.ReferenceQtIdeal.Run
public import Idealize.ShloMosaic.Lib.Pipeline.ValueKit
public import Idealize.ShloMosaic.Lib.Pointwise
public import Idealize.ShloMosaic.Lib.Quiescent

@[expose] public section

set_option maxRecDepth 16384

/-!
# The queries of the expert feed-forward

The version computes them transposed, the weight's columns times the rows; the reference transposes them after.
-/

noncomputable section

namespace Cert.KernelQtIdeal.Value

open Cert.KernelQtIdeal Cert.KernelQtIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![0, (grid0.coords t 1).val]
    ∧ win0_2.index t = ![(grid0.coords t 0).val, (grid0.coords t 1).val] := by
  decide +kernel

theorem coord0 (t : Fin cfg0.N) : (grid0.coords t 0).val < 2 := (grid0.coords t 0).isLt
theorem coord1 (t : Fin cfg0.N) : (grid0.coords t 1).val < 8 := (grid0.coords t 1).isLt

/-- The block written, at an index. -/
theorem block (a w) (r n : Fin 1024) : out0_2 (F := Ideal) a w (ix2 r n) = ∑ x : Fin 4096, a (ix2 r x) * w (ix2 x n) := by
  frame_out
  pointwise [k0_pay1]

open Cert.ReferenceQtIdeal.Read in
/-- The reference's result, at an index. -/
theorem refAt (a w) (n : Fin 2048) (i : Fin 8192) : val_main_v2 (F := Ideal) a w (ix2 n i)
    = ∑ x : Fin 4096, w (ix2 x n) * a (ix3 ⟨i.val / 4096, by omega⟩ ⟨i.val % 4096, by omega⟩ x) := by
  pointwise [val_main_v2, val_main_v1, val_main_v0]
  exact Finset.sum_congr rfl fun x _ => mul_comm _ _

/-- The row of the whole that a block's row is. -/
abbrev row (t : Fin cfg0.N) (r : Fin 1024) : Fin 2048 := ⟨(grid0.coords t 0).val * 1024 + r.val, by have := coord0 t; omega⟩
/-- The column of the whole that a block's column is. -/
abbrev column (t : Fin cfg0.N) (n : Fin 1024) : Fin 8192 := ⟨(grid0.coords t 1).val * 1024 + n.val, by have := coord1 t; omega⟩

theorem wHost (n : Fin 2048) (x : Fin 4096) : V (F := Ideal) m c main_v4 (ix2 n x) = m ((c : Thread nD τ).loc main_arg1) (ix2 x n) := by
  entry_read
  pointwise []

theorem aHost (x : Fin 4096) (i : Fin 8192) : V (F := Ideal) m c main_v2 (ix2 x i)
    = m ((c : Thread nD τ).loc main_arg0) (ix3 ⟨i.val / 4096, by omega⟩ ⟨i.val % 4096, by omega⟩ x) := by
  entry_read
  pointwise []

theorem wBlock (t : Fin cfg0.N) (r : Fin 1024) (x : Fin 4096) : iblk (F := Ideal) m c 0 t (ix2 r x)
    = m ((c : Thread nD τ).loc main_arg1) (ix2 x (row t r)) := by
  have i0 := fun t => (places t).1
  refine Eq.trans (b := V (F := Ideal) m c main_v4 (ix2 (row t r) x)) ?_ (wHost m c (row t r) x)
  blk_ext [iblk, i0]

theorem aBlock (t : Fin cfg0.N) (x : Fin 4096) (n : Fin 1024) : iblk (F := Ideal) m c 1 t (ix2 x n)
    = m ((c : Thread nD τ).loc main_arg0) (ix3 ⟨(column t n).val / 4096, by omega⟩ ⟨(column t n).val % 4096, by omega⟩ x) := by
  have i0 := fun t => (places t).2.1
  refine Eq.trans (b := V (F := Ideal) m c main_v2 (ix2 x (column t n))) ?_ (aHost m c x (column t n))
  blk_ext [iblk, i0]

/-- The reference's result, of the kernel's arguments. -/
abbrev goal : FVec Ideal S2048x8192 .f32 :=
  Cert.ReferenceQtIdeal.Read.val_main_v2 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r n : Fin 1024), y = ix2 r n := ⟨_, _, eq_ix2 y⟩
  blk_simp
  refine Eq.trans (b := goal m c (ix2 (row t r) (column t n))) ?_ (congrArg (goal m c) ?_)
  · rw [goal, refAt]
    refine (block _ _ r n).trans ?_
    simp only [aBlock, wBlock]
  · blk_ext [i3]

end Cert.KernelQtIdeal.Value

/-! ## The claims -/

namespace Cert.QtMatmul

open Idealize.ShloMosaic Idealize.SL.Sem

theorem reference_frame : Cert.quiescent_ReferenceQtIdeal (hReferenceQtIdeal := Cert.ReferenceQtIdeal.Gen.facts) := fun m ρ _ =>
  (θ_run Cert.ReferenceQtIdeal.defs _ _).mono (fun r h => ⟨fun c => (h c).2, sem_eq_zero_of_no_sems (by decide) r.2⟩)
    (Cert.ReferenceQtIdeal.Value.run (F := Ideal) m ρ)

theorem same_result : Cert.algebraic_KernelQtIdeal_ReferenceQtIdeal (hKernelQtIdeal := Cert.KernelQtIdeal.Gen.facts)
    (hReferenceQtIdeal := Cert.ReferenceQtIdeal.Gen.facts) := by
  intro m ρ m' ρ' hpre hagree
  refine ⟨fun c => Cert.KernelQtIdeal.Value.goal m c, (θ_run Cert.KernelQtIdeal.defs _ _).mono (fun r h c =>
    ⟨(h c).1.trans (Cert.KernelQtIdeal.Value.final m c), (h c).2⟩) (Cert.KernelQtIdeal.Value.run_blocks (F := Ideal) m ρ), ?_⟩
  refine (θ_run Cert.ReferenceQtIdeal.defs _ _).mono (fun r h c => ⟨(h c).1.trans ?_, (h c).2⟩)
    (Cert.ReferenceQtIdeal.Value.run (F := Ideal) m' ρ')
  refine (Cert.ReferenceQtIdeal.Read.val_main_v2_eq (F := Ideal) _ _).trans ?_
  rw [(hagree c).1, (hagree c).2]

end Cert.QtMatmul

end
-- ==== Proof.LatMatmul.lean ====
module

public import Idealize.ShloMosaic.Lib.StableHlo.ReadAt
public import proofs.«01_k».proof.Defs
public import proofs.«01_k».proof.Proof.Gen.KernelLatIdeal.Value
public import proofs.«01_k».proof.Proof.Gen.ReferenceLatIdeal.Read
public import proofs.«01_k».proof.Proof.Gen.ReferenceLatIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The latents of mixer B

The weight is filled up with columns of zeros on one side, the result on the other.
-/

noncomputable section

namespace Cert.KernelLatIdeal.Value

open Cert.KernelLatIdeal Cert.KernelLatIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![0, (grid0.coords t 1).val]
    ∧ win0_2.index t = ![(grid0.coords t 0).val, (grid0.coords t 1).val] := by
  decide +kernel

theorem coord0 (t : Fin cfg0.N) : (grid0.coords t 0).val < 8 := (grid0.coords t 0).isLt
theorem coord1 (t : Fin cfg0.N) : (grid0.coords t 1).val < 5 := (grid0.coords t 1).isLt

/-- The integer zero that fills up, as a float. -/
theorem Pad.word : FloatOps.sitofp (F := Ideal) FTy.f32 0#32 = (0 : EReal) := by
  simp [FloatOps.sitofp]

/-- The weight the projection takes, at an index: the last columns of the whole, and zeros after them. -/
def weight (w : FVec Ideal S4096x8256 .f32) (k : Fin 4096) (n : Fin 2560) : EReal :=
  if h : n.val < 2112 then w (ix2 k ⟨6144 + n.val, by omega⟩) else 0

open Cert.ReferenceLatIdeal.Read in
/-- The reference's latents side by side, at an index. -/
theorem joined (a w) (b : Fin 2) (p : Fin 4096) (n : Fin 2112) : val_main_v7 (F := Ideal) a w (ix3 b p n)
    = ∑ x : Fin 4096, a (ix3 b p x) * w (ix2 x ⟨6144 + n.val, by omega⟩) := by
  pointwise [val_main_v7, val_main_v6, val_main_v5, val_main_v4, val_main_v0]
  by_cases h : n.val < 1536
  · simp only [dif_pos h]
  · by_cases h2 : n.val - 1536 < 512
    · have e1 : 7680 + (n.val - 1536) = 6144 + n.val := by omega
      simp only [dif_neg h, dif_pos h2, e1]
    · have e2 : 8192 + (n.val - 1536 - 512) = 6144 + n.val := by omega
      simp only [dif_neg h, dif_neg h2, e2]

/-- The block written, at an index. -/
theorem block (a w) (r : Fin 1024) (n : Fin 512) : out0_2 (F := Ideal) a w (ix2 r n) = ∑ x : Fin 4096, a (ix2 r x) * w (ix2 x n) := by
  frame_out
  pointwise [k0_pay1]

open Cert.ReferenceLatIdeal.Read in
/-- The reference's result, at an index. -/
theorem refAt (a w) (i : Fin 8192) (n : Fin 2560) : val_main_v9 (F := Ideal) a w (ix2 i n)
    = ∑ x : Fin 4096, a (ix3 ⟨i.val / 4096, by omega⟩ ⟨i.val % 4096, by omega⟩ x) * weight w x n := by
  have h := joined a w
  unfold val_main_v9 val_main_v8
  generalize val_main_v7 (F := Ideal) a w = A at *
  pointwise [val_main_call0_v0, val_main_c]
  unfold weight
  by_cases q : n.val < 2112
  · rw [dif_pos ⟨by omega, by omega, q⟩, h]
    simp only [dif_pos q]
  · rw [dif_neg (fun e => q e.2.2), Pad.word]
    simp only [dif_neg q, mul_zero, Finset.sum_const_zero]

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 512) : Fin 2560 := ⟨(grid0.coords t 1).val * 512 + n.val, by have := coord1 t; omega⟩

theorem aHost (i : Fin 8192) (x : Fin 4096) : V (F := Ideal) m c main_v1 (ix2 i x)
    = m ((c : Thread nD τ).loc main_arg0) (ix3 ⟨i.val / 4096, by omega⟩ ⟨i.val % 4096, by omega⟩ x) := by
  unfold V
  after_reads_at

theorem wHost (k : Fin 4096) (n : Fin 2560) : V (F := Ideal) m c main_v4 (ix2 k n)
    = weight (m ((c : Thread nD τ).loc main_arg1)) k n := by
  unfold V weight
  after_reads_at
  rw [Pad.word]

theorem aBlock (t : Fin cfg0.N) (r : Fin 1024) (x : Fin 4096) : iblk (F := Ideal) m c 0 t (ix2 r x)
    = m ((c : Thread nD τ).loc main_arg0) (ix3 ⟨(row t r).val / 4096, by omega⟩ ⟨(row t r).val % 4096, by omega⟩ x) := by
  have i0 := fun t => (places t).1
  refine Eq.trans (b := V (F := Ideal) m c main_v1 (ix2 (row t r) x)) ?_ (aHost m c (row t r) x)
  blk_ext [iblk, i0]

theorem wBlock (t : Fin cfg0.N) (x : Fin 4096) (n : Fin 512) : iblk (F := Ideal) m c 1 t (ix2 x n)
    = weight (m ((c : Thread nD τ).loc main_arg1)) x (column t n) := by
  have i0 := fun t => (places t).2.1
  refine Eq.trans (b := V (F := Ideal) m c main_v4 (ix2 x (column t n))) ?_ (wHost m c x (column t n))
  blk_ext [iblk, i0]

/-- The reference's result, of the kernel's arguments. -/
abbrev goal : FVec Ideal S8192x2560 .f32 :=
  Cert.ReferenceLatIdeal.Read.val_main_v9 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r : Fin 1024) (n : Fin 512), y = ix2 r n := ⟨_, _, eq_ix2 y⟩
  blk_simp
  refine Eq.trans (b := goal m c (ix2 (row t r) (column t n))) ?_ (congrArg (goal m c) ?_)
  · rw [goal, refAt]
    refine (block _ _ r n).trans ?_
    simp only [aBlock, wBlock]
  · blk_ext [i3]

end Cert.KernelLatIdeal.Value

/-! ## The claims -/

namespace Cert.LatMatmul

open Idealize.ShloMosaic Idealize.SL.Sem

theorem reference_frame : Cert.quiescent_ReferenceLatIdeal (hReferenceLatIdeal := Cert.ReferenceLatIdeal.Gen.facts) := fun m ρ _ =>
  (θ_run Cert.ReferenceLatIdeal.defs _ _).mono (fun r h => ⟨fun c => (h c).2, sem_eq_zero_of_no_sems (by decide) r.2⟩)
    (Cert.ReferenceLatIdeal.Value.run (F := Ideal) m ρ)

theorem same_result : Cert.algebraic_KernelLatIdeal_ReferenceLatIdeal (hKernelLatIdeal := Cert.KernelLatIdeal.Gen.facts)
    (hReferenceLatIdeal := Cert.ReferenceLatIdeal.Gen.facts) := by
  intro m ρ m' ρ' hpre hagree
  refine ⟨fun c => Cert.KernelLatIdeal.Value.goal m c, (θ_run Cert.KernelLatIdeal.defs _ _).mono (fun r h c =>
    ⟨(h c).1.trans (Cert.KernelLatIdeal.Value.final m c), (h c).2⟩) (Cert.KernelLatIdeal.Value.run_blocks (F := Ideal) m ρ), ?_⟩
  refine (θ_run Cert.ReferenceLatIdeal.defs _ _).mono (fun r h c => ⟨(h c).1.trans ?_, (h c).2⟩)
    (Cert.ReferenceLatIdeal.Value.run (F := Ideal) m' ρ')
  refine (Cert.ReferenceLatIdeal.Read.val_main_v9_eq (F := Ideal) _ _).trans ?_
  rw [(hagree c).1, (hagree c).2]

end Cert.LatMatmul

end
-- ==== Proof.UkvMatmul.lean ====
module

public import proofs.«01_k».proof.Defs
public import proofs.«01_k».proof.Proof.Gen.KernelUkvIdeal.Value
public import proofs.«01_k».proof.Proof.Gen.ReferenceUkvIdeal.Read
public import proofs.«01_k».proof.Proof.Gen.ReferenceUkvIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The keys without position and the values of mixer B

Each block is a block of the normed latents times a block of the columns of the weight.
-/

noncomputable section

namespace Cert.KernelUkvIdeal.Value

open Cert.KernelUkvIdeal Cert.KernelUkvIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![0, (grid0.coords t 1).val]
    ∧ win0_2.index t = ![(grid0.coords t 0).val, (grid0.coords t 1).val] := by
  decide +kernel

theorem coord0 (t : Fin cfg0.N) : (grid0.coords t 0).val < 8 := (grid0.coords t 0).isLt
theorem coord1 (t : Fin cfg0.N) : (grid0.coords t 1).val < 4 := (grid0.coords t 1).isLt

/-- The block written, at an index. -/
theorem block (a w) (r : Fin 1024) (n : Fin 1024) : out0_2 (F := Ideal) a w (ix2 r n) = ∑ x : Fin 512, a (ix2 r x) * w (ix2 x n) := by
  frame_out
  pointwise [k0_pay1]

open Cert.ReferenceUkvIdeal.Read in
/-- The reference's result, at an index. -/
theorem refAt (a w) (i : Fin 8192) (n : Fin 4096) : val_main_v2 (F := Ideal) a w (ix2 i n)
    = ∑ x : Fin 512, a (ix3 ⟨i.val / 4096, by omega⟩ ⟨i.val % 4096, by omega⟩ x) * w (ix2 x n) := by
  pointwise [val_main_v2, val_main_v1, val_main_v0]

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 1024) : Fin 4096 := ⟨(grid0.coords t 1).val * 1024 + n.val, by have := coord1 t; omega⟩

theorem aHost (i : Fin 8192) (x : Fin 512) : V (F := Ideal) m c main_v1 (ix2 i x)
    = m ((c : Thread nD τ).loc main_arg0) (ix3 ⟨i.val / 4096, by omega⟩ ⟨i.val % 4096, by omega⟩ x) := by
  entry_read
  pointwise []

theorem wHost (k : Fin 512) (n : Fin 4096) : V (F := Ideal) m c main_v2 (ix2 k n)
    = (m ((c : Thread nD τ).loc main_arg1)) (ix2 k n) := by
  entry_read
  pointwise []

theorem aBlock (t : Fin cfg0.N) (r : Fin 1024) (x : Fin 512) : iblk (F := Ideal) m c 0 t (ix2 r x)
    = m ((c : Thread nD τ).loc main_arg0) (ix3 ⟨(row t r).val / 4096, by omega⟩ ⟨(row t r).val % 4096, by omega⟩ x) := by
  have i0 := fun t => (places t).1
  refine Eq.trans (b := V (F := Ideal) m c main_v1 (ix2 (row t r) x)) ?_ (aHost m c (row t r) x)
  blk_ext [iblk, i0]

theorem wBlock (t : Fin cfg0.N) (x : Fin 512) (n : Fin 1024) : iblk (F := Ideal) m c 1 t (ix2 x n)
    = (m ((c : Thread nD τ).loc main_arg1)) (ix2 x (column t n)) := by
  have i0 := fun t => (places t).2.1
  refine Eq.trans (b := V (F := Ideal) m c main_v2 (ix2 x (column t n))) ?_ (wHost m c x (column t n))
  blk_ext [iblk, i0]

/-- The reference's result, of the kernel's arguments. -/
abbrev goal : FVec Ideal S8192x4096 .bf16 :=
  Cert.ReferenceUkvIdeal.Read.val_main_v2 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r : Fin 1024) (n : Fin 1024), y = ix2 r n := ⟨_, _, eq_ix2 y⟩
  blk_simp
  refine Eq.trans (b := goal m c (ix2 (row t r) (column t n))) ?_ (congrArg (goal m c) ?_)
  · rw [goal, refAt]
    refine (block _ _ r n).trans ?_
    simp only [aBlock, wBlock]
  · blk_ext [i3]

end Cert.KernelUkvIdeal.Value

/-! ## The claims -/

namespace Cert.UkvMatmul

open Idealize.ShloMosaic Idealize.SL.Sem

theorem reference_frame : Cert.quiescent_ReferenceUkvIdeal (hReferenceUkvIdeal := Cert.ReferenceUkvIdeal.Gen.facts) := fun m ρ _ =>
  (θ_run Cert.ReferenceUkvIdeal.defs _ _).mono (fun r h => ⟨fun c => (h c).2, sem_eq_zero_of_no_sems (by decide) r.2⟩)
    (Cert.ReferenceUkvIdeal.Value.run (F := Ideal) m ρ)

theorem same_result : Cert.algebraic_KernelUkvIdeal_ReferenceUkvIdeal (hKernelUkvIdeal := Cert.KernelUkvIdeal.Gen.facts)
    (hReferenceUkvIdeal := Cert.ReferenceUkvIdeal.Gen.facts) := by
  intro m ρ m' ρ' hpre hagree
  refine ⟨fun c => Cert.KernelUkvIdeal.Value.goal m c, (θ_run Cert.KernelUkvIdeal.defs _ _).mono (fun r h c =>
    ⟨(h c).1.trans (Cert.KernelUkvIdeal.Value.final m c), (h c).2⟩) (Cert.KernelUkvIdeal.Value.run_blocks (F := Ideal) m ρ), ?_⟩
  refine (θ_run Cert.ReferenceUkvIdeal.defs _ _).mono (fun r h c => ⟨(h c).1.trans ?_, (h c).2⟩)
    (Cert.ReferenceUkvIdeal.Value.run (F := Ideal) m' ρ')
  refine (Cert.ReferenceUkvIdeal.Read.val_main_v2_eq (F := Ideal) _ _).trans ?_
  rw [(hagree c).1, (hagree c).2]

end Cert.UkvMatmul

end
-- ==== Proof.MqMatmul.lean ====
module

public import proofs.«01_k».proof.Defs
public import proofs.«01_k».proof.Proof.Gen.KernelMqIdeal.Value
public import proofs.«01_k».proof.Proof.Gen.ReferenceMqIdeal.Read
public import proofs.«01_k».proof.Proof.Gen.ReferenceMqIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The queries of the memory cross-attention

The version scales the columns of the weight, the reference the product.
-/

noncomputable section

namespace Cert.KernelMqIdeal.Value

open Cert.KernelMqIdeal Cert.KernelMqIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![0, 0]
    ∧ win0_2.index t = ![(grid0.coords t 0).val, 0] := by
  decide +kernel

theorem coord0 (t : Fin cfg0.N) : (grid0.coords t 0).val < 8 := (grid0.coords t 0).isLt

/-- The weight the projection takes, at an index: scaled for the softmax. -/
def weight (w : FVec Ideal S4096x512 .f32) (k : Fin 4096) (n : Fin 512) : EReal := w (ix2 k n) * Ideal.ofBits .f32 0x3E0293EE#32

/-- The block written, at an index. -/
theorem block (a w) (r : Fin 1024) (n : Fin 512) : out0_2 (F := Ideal) a w (ix2 r n) = ∑ x : Fin 4096, a (ix2 r x) * w (ix2 x n) := by
  frame_out
  pointwise [k0_pay1]

open Cert.ReferenceMqIdeal.Read in
/-- The reference's result, at an index. -/
theorem refAt (a w) (i : Fin 8192) (n : Fin 512) : val_main_v4 (F := Ideal) a w (ix2 i n)
    = ∑ x : Fin 4096, a (ix3 ⟨i.val / 4096, by omega⟩ ⟨i.val % 4096, by omega⟩ x) * weight w x n := by
  pointwise [val_main_v4, val_main_v3, val_main_v2, val_main_v1, val_main_v0, val_main_cst]
  exact (Scale.dot_scaled _ _ Scale.qa_nonneg Scale.qa_ne_top).symm

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 512) : Fin 512 := n

theorem aHost (i : Fin 8192) (x : Fin 4096) : V (F := Ideal) m c main_v1 (ix2 i x)
    = m ((c : Thread nD τ).loc main_arg0) (ix3 ⟨i.val / 4096, by omega⟩ ⟨i.val % 4096, by omega⟩ x) := by
  entry_read
  pointwise []

theorem wHost (k : Fin 4096) (n : Fin 512) : V (F := Ideal) m c main_v4 (ix2 k n)
    = weight (m ((c : Thread nD τ).loc main_arg1)) k n := by
  entry_read
  pointwise []
  rfl

theorem aBlock (t : Fin cfg0.N) (r : Fin 1024) (x : Fin 4096) : iblk (F := Ideal) m c 0 t (ix2 r x)
    = m ((c : Thread nD τ).loc main_arg0) (ix3 ⟨(row t r).val / 4096, by omega⟩ ⟨(row t r).val % 4096, by omega⟩ x) := by
  have i0 := fun t => (places t).1
  refine Eq.trans (b := V (F := Ideal) m c main_v1 (ix2 (row t r) x)) ?_ (aHost m c (row t r) x)
  blk_ext [iblk, i0]

theorem wBlock (t : Fin cfg0.N) (x : Fin 4096) (n : Fin 512) : iblk (F := Ideal) m c 1 t (ix2 x n)
    = weight (m ((c : Thread nD τ).loc main_arg1)) x (column t n) := by
  have i0 := fun t => (places t).2.1
  refine Eq.trans (b := V (F := Ideal) m c main_v4 (ix2 x (column t n))) ?_ (wHost m c x (column t n))
  blk_ext [iblk, i0]

/-- The reference's result, of the kernel's arguments. -/
abbrev goal : FVec Ideal S8192x512 .bf16 :=
  Cert.ReferenceMqIdeal.Read.val_main_v4 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r : Fin 1024) (n : Fin 512), y = ix2 r n := ⟨_, _, eq_ix2 y⟩
  blk_simp
  refine Eq.trans (b := goal m c (ix2 (row t r) (column t n))) ?_ (congrArg (goal m c) ?_)
  · rw [goal, refAt]
    refine (block _ _ r n).trans ?_
    simp only [aBlock, wBlock]
  · blk_ext [i3]

end Cert.KernelMqIdeal.Value

/-! ## The claims -/

namespace Cert.MqMatmul

open Idealize.ShloMosaic Idealize.SL.Sem

theorem reference_frame : Cert.quiescent_ReferenceMqIdeal (hReferenceMqIdeal := Cert.ReferenceMqIdeal.Gen.facts) := fun m ρ _ =>
  (θ_run Cert.ReferenceMqIdeal.defs _ _).mono (fun r h => ⟨fun c => (h c).2, sem_eq_zero_of_no_sems (by decide) r.2⟩)
    (Cert.ReferenceMqIdeal.Value.run (F := Ideal) m ρ)

theorem same_result : Cert.algebraic_KernelMqIdeal_ReferenceMqIdeal (hKernelMqIdeal := Cert.KernelMqIdeal.Gen.facts)
    (hReferenceMqIdeal := Cert.ReferenceMqIdeal.Gen.facts) := by
  intro m ρ m' ρ' hpre hagree
  refine ⟨fun c => Cert.KernelMqIdeal.Value.goal m c, (θ_run Cert.KernelMqIdeal.defs _ _).mono (fun r h c =>
    ⟨(h c).1.trans (Cert.KernelMqIdeal.Value.final m c), (h c).2⟩) (Cert.KernelMqIdeal.Value.run_blocks (F := Ideal) m ρ), ?_⟩
  refine (θ_run Cert.ReferenceMqIdeal.defs _ _).mono (fun r h c => ⟨(h c).1.trans ?_, (h c).2⟩)
    (Cert.ReferenceMqIdeal.Value.run (F := Ideal) m' ρ')
  refine (Cert.ReferenceMqIdeal.Read.val_main_v4_eq (F := Ideal) _ _).trans ?_
  rw [(hagree c).1, (hagree c).2]

end Cert.MqMatmul

end
-- ==== Proof.MkvMatmul.lean ====
module

public import proofs.«01_k».proof.Defs
public import proofs.«01_k».proof.Proof.Gen.KernelMkvIdeal.Value
public import proofs.«01_k».proof.Proof.Gen.ReferenceMkvIdeal.Read
public import proofs.«01_k».proof.Proof.Gen.ReferenceMkvIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The keys and values of the memory cross-attention

One block: all rows of the memory times all columns of the weight.
-/

noncomputable section

namespace Cert.KernelMkvIdeal.Value

open Cert.KernelMkvIdeal Cert.KernelMkvIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![0, 0]
    ∧ win0_1.index t = ![0, 0]
    ∧ win0_2.index t = ![0, 0] := by
  decide +kernel

/-- The block written, at an index. -/
theorem block (a w) (r : Fin 512) (n : Fin 1024) : out0_2 (F := Ideal) a w (ix2 r n) = ∑ x : Fin 4096, a (ix2 r x) * w (ix2 x n) := by
  frame_out
  pointwise [k0_pay1]

open Cert.ReferenceMkvIdeal.Read in
/-- The reference's result, at an index. -/
theorem refAt (a w) (i : Fin 512) (n : Fin 1024) : val_main_v2 (F := Ideal) a w (ix2 i n)
    = ∑ x : Fin 4096, a (ix3 ⟨i.val / 256, by omega⟩ ⟨i.val % 256, by omega⟩ x) * w (ix2 x n) := by
  pointwise [val_main_v2, val_main_v1, val_main_v0]

/-- The row of the whole that a block's row is. -/
abbrev row (t : Fin cfg0.N) (r : Fin 512) : Fin 512 := r
/-- The column of the whole that a block's column is. -/
abbrev column (t : Fin cfg0.N) (n : Fin 1024) : Fin 1024 := n

theorem aHost (i : Fin 512) (x : Fin 4096) : V (F := Ideal) m c main_v1 (ix2 i x)
    = m ((c : Thread nD τ).loc main_arg0) (ix3 ⟨i.val / 256, by omega⟩ ⟨i.val % 256, by omega⟩ x) := by
  entry_read
  pointwise []

theorem wHost (k : Fin 4096) (n : Fin 1024) : V (F := Ideal) m c main_v2 (ix2 k n)
    = (m ((c : Thread nD τ).loc main_arg1)) (ix2 k n) := by
  entry_read
  pointwise []

theorem aBlock (t : Fin cfg0.N) (r : Fin 512) (x : Fin 4096) : iblk (F := Ideal) m c 0 t (ix2 r x)
    = m ((c : Thread nD τ).loc main_arg0) (ix3 ⟨(row t r).val / 256, by omega⟩ ⟨(row t r).val % 256, by omega⟩ x) := by
  have i0 := fun t => (places t).1
  refine Eq.trans (b := V (F := Ideal) m c main_v1 (ix2 (row t r) x)) ?_ (aHost m c (row t r) x)
  blk_ext [iblk, i0]

theorem wBlock (t : Fin cfg0.N) (x : Fin 4096) (n : Fin 1024) : iblk (F := Ideal) m c 1 t (ix2 x n)
    = (m ((c : Thread nD τ).loc main_arg1)) (ix2 x (column t n)) := by
  have i0 := fun t => (places t).2.1
  refine Eq.trans (b := V (F := Ideal) m c main_v2 (ix2 x (column t n))) ?_ (wHost m c x (column t n))
  blk_ext [iblk, i0]

/-- The reference's result, of the kernel's arguments. -/
abbrev goal : FVec Ideal S512x1024 .bf16 :=
  Cert.ReferenceMkvIdeal.Read.val_main_v2 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r : Fin 512) (n : Fin 1024), y = ix2 r n := ⟨_, _, eq_ix2 y⟩
  blk_simp
  refine Eq.trans (b := goal m c (ix2 (row t r) (column t n))) ?_ (congrArg (goal m c) ?_)
  · rw [goal, refAt]
    refine (block _ _ r n).trans ?_
    simp only [aBlock, wBlock]
  · blk_ext [i3]

end Cert.KernelMkvIdeal.Value

/-! ## The claims -/

namespace Cert.MkvMatmul

open Idealize.ShloMosaic Idealize.SL.Sem

theorem reference_frame : Cert.quiescent_ReferenceMkvIdeal (hReferenceMkvIdeal := Cert.ReferenceMkvIdeal.Gen.facts) := fun m ρ _ =>
  (θ_run Cert.ReferenceMkvIdeal.defs _ _).mono (fun r h => ⟨fun c => (h c).2, sem_eq_zero_of_no_sems (by decide) r.2⟩)
    (Cert.ReferenceMkvIdeal.Value.run (F := Ideal) m ρ)

theorem same_result : Cert.algebraic_KernelMkvIdeal_ReferenceMkvIdeal (hKernelMkvIdeal := Cert.KernelMkvIdeal.Gen.facts)
    (hReferenceMkvIdeal := Cert.ReferenceMkvIdeal.Gen.facts) := by
  intro m ρ m' ρ' hpre hagree
  refine ⟨fun c => Cert.KernelMkvIdeal.Value.goal m c, (θ_run Cert.KernelMkvIdeal.defs _ _).mono (fun r h c =>
    ⟨(h c).1.trans (Cert.KernelMkvIdeal.Value.final m c), (h c).2⟩) (Cert.KernelMkvIdeal.Value.run_blocks (F := Ideal) m ρ), ?_⟩
  refine (θ_run Cert.ReferenceMkvIdeal.defs _ _).mono (fun r h c => ⟨(h c).1.trans ?_, (h c).2⟩)
    (Cert.ReferenceMkvIdeal.Value.run (F := Ideal) m' ρ')
  refine (Cert.ReferenceMkvIdeal.Read.val_main_v2_eq (F := Ideal) _ _).trans ?_
  rw [(hagree c).1, (hagree c).2]

end Cert.MkvMatmul

end
-- ==== Proof.QiRef.lean ====
module

public import proofs.«01_k».proof.Defs
public import proofs.«01_k».proof.Proof.Gen.ReferenceQiIdeal.Read
public import proofs.«01_k».proof.Proof.Gen.ReferenceQiIdeal.Run
public import Idealize.ShloMosaic.Lib.Pipeline.ValueKit
public import Idealize.ShloMosaic.Lib.Pointwise
public import Idealize.ShloMosaic.Lib.Quiescent

@[expose] public section

set_option maxRecDepth 16384

/-!
# The indexer's queries: the reference, column by column

`turn` is the rotary turn of a column with its partner, half a head of 64 away.
-/

noncomputable section

namespace Cert.Qi

open Cert.ReferenceQiIdeal Cert.ReferenceQiIdeal.Read Idealize.ShloMosaic

/-- A row of the activations with a column of the indexer's part of the weight. -/
def dot (a : FVec Ideal S2x4096x4096 .f32) (w : FVec Ideal S4096x11376 .f32) (b : Fin 2) (p : Fin 4096) (n : Nat) (h : n < 2048) : EReal :=
  ∑ x : Fin 4096, a (ix3 b p x) * w (ix2 x ⟨3072 + n, by omega⟩)

/-- The cosine of a position's angle at a pair. -/
abbrev cosAt (p : Fin 4096) (k : Nat) (h : k < 32) : EReal := val_main_v26 (F := Ideal) (ix2 p ⟨k, h⟩)
/-- The sine of a position's angle at a pair. -/
abbrev sinAt (p : Fin 4096) (k : Nat) (h : k < 32) : EReal := val_main_v28 (F := Ideal) (ix2 p ⟨k, h⟩)

/-- A column turned with its partner, half a head away. -/
def turn (a : FVec Ideal S2x4096x4096 .f32) (w : FVec Ideal S4096x11376 .f32) (b : Fin 2) (p : Fin 4096) (n : Nat) (h : n < 2048) : EReal :=
  if e : n % 64 < 32 then
    dot a w b p n h * cosAt p (n % 64) e - dot a w b p (n + 32) (by omega) * sinAt p (n % 64) e
  else
    dot a w b p n h * cosAt p (n % 64 - 32) (by omega) + dot a w b p (n - 32) (by omega) * sinAt p (n % 64 - 32) (by omega)

variable (a : FVec Ideal S2x4096x4096 .f32) (w : FVec Ideal S4096x11376 .f32)

set_option maxHeartbeats 2000000 in
/-- The reference's result, at an index. -/
theorem refAt (i : Fin 8192) (n : Fin 2048) : val_main_v44 (F := Ideal) a w (ix2 i n)
    = turn a w ⟨i.val / 4096, by omega⟩ ⟨i.val % 4096, by omega⟩ n.val n.isLt := by
  pointwise [val_main_v44, val_main_v43, val_main_v42, val_main_v41, val_main_v40, val_main_v39, val_main_v38, val_main_v37, val_main_v36, val_main_v35,
    val_main_v34, val_main_v33, val_main_v32, val_main_v31, val_main_v30, val_main_v29, val_main_v27, val_main_v11, val_main_v4, val_main_v0]
  unfold turn dot
  by_cases e : n.val % 64 < 32
  · have e1 : n.val / 64 * 64 + (32 + n.val % 64) = n.val + 32 := by omega
    refine (dif_pos e).trans (Eq.trans ?_ (dif_pos e).symm)
    simp only [e1]
  · have e1 : n.val / 64 * 64 + (32 + (n.val % 64 - 32)) = n.val := by omega
    have e2 : n.val / 64 * 64 + (n.val % 64 - 32) = n.val - 32 := by omega
    refine (dif_neg e).trans (Eq.trans ?_ (dif_neg e).symm)
    simp only [e1, e2]

end Cert.Qi

end
-- ==== Proof.QiHost.lean ====
module

public import Idealize.ShloMosaic.Lib.StableHlo.ReadAt
public import proofs.«01_k».proof.Defs
public import proofs.«01_k».proof.Proof.Gen.KernelQiIdeal.Value
public import proofs.«01_k».proof.Proof.QiRef
public import Idealize.ShloMosaic.Lib.Pipeline.ValueKit
public import Idealize.ShloMosaic.Lib.Pointwise
public import Idealize.ShloMosaic.Lib.Quiescent

@[expose] public section

set_option maxRecDepth 16384

/-!
# The indexer's queries: what the host hands the kernel

The tables hold the turn of two heads side by side; the weight's columns are the indexer's.
-/

noncomputable section

namespace Cert.KernelQiIdeal.Value

open Cert.KernelQiIdeal Cert.KernelQiIdeal.Gen Idealize.ShloMosaic Idealize.ShloMosaic.TcCoe Idealize.SL.Sem

variable (m : (ℓ : Loc nD τ sig) → Buf (Elt Ideal) ℓ) (c : Dev nD)

open Cert.ReferenceQiIdeal.Read Cert.Qi

/-- Four pieces of a table side by side, times one, at an index. -/
theorem four_pieces (z0 z1 : FVec Ideal S4096x0 .f32) (A B C D : FVec Ideal S4096x32 .f32) (k : Fin 4096) (n : Fin 128) :
    mulf (concatenate S4096x128 1 [⟨S4096x0, z0⟩, ⟨S4096x32, A⟩, ⟨S4096x32, B⟩, ⟨S4096x32, C⟩, ⟨S4096x32, D⟩, ⟨S4096x0, z1⟩]
        concatenates_S4096x0_S4096x32_S4096x32_S4096x32_S4096x32_S4096x0_S4096x128_d1)
      (broadcastInDim S4096x128 ![] bcast_S_S4096x128 (constant S_ FTy.f32 1065353216#32)) (ix2 k n)
    = if h1 : n.val < 32 then A (ix2 k ⟨n.val, h1⟩)
      else if h2 : n.val < 64 then B (ix2 k ⟨n.val - 32, by omega⟩)
      else if h3 : n.val < 96 then C (ix2 k ⟨n.val - 64, by omega⟩)
      else D (ix2 k ⟨n.val - 96, by omega⟩) := by
  pointwise []
  by_cases h1 : n.val < 32
  · rw [dif_neg (by omega), dif_pos h1, dif_pos h1]
  by_cases h2 : n.val < 64
  · rw [dif_neg (by omega), dif_neg h1, dif_pos (by omega), dif_neg h1, dif_pos h2]
  by_cases h3 : n.val < 96
  · have e : n.val - 32 - 32 = n.val - 64 := by omega
    rw [dif_neg (by omega), dif_neg h1, dif_neg (by omega), dif_pos (by omega), dif_neg h1, dif_neg h2, dif_pos h3]
    simp only [e]
  · have e : n.val - 32 - 32 - 32 = n.val - 96 := by omega
    rw [dif_neg (by omega), dif_neg h1, dif_neg (by omega), dif_neg (by omega), dif_pos (by omega), dif_neg h1, dif_neg h2, dif_neg h3]
    simp only [e]

theorem cos_at (p : Fin 4096) {x y : Nat} (e : x = y) (hx : x < 32) (hy : y < 32) : cosAt p x hx = cosAt p y hy := by
  subst e; rfl

theorem sin_at (p : Fin 4096) {x y : Nat} (e : x = y) (hx : x < 32) (hy : y < 32) : sinAt p x hx = sinAt p y hy := by
  subst e; rfl

set_option maxHeartbeats 2000000 in
/-- The table of the cosines. -/
theorem tableC (k : Fin 4096) (n : Fin 128) : V (F := Ideal) m c main_v38 (ix2 k n)
    = if e : n.val % 64 < 32 then cosAt k (n.val % 64) e else cosAt k (n.val % 64 - 32) (by omega) := by
  unfold V
  after_reads_simp
  all_goals try simp -implicitDefEqProofs only [StableHlo.TRef.toBuf, StableHlo.TRef.ofBuf, cast_cast, cast_eq]
  clean_types
  refine (four_pieces _ _ _ _ _ _ k n).trans ?_
  by_cases h1 : n.val < 32
  · refine (dif_pos (by omega)).trans ?_
    refine Eq.trans ?_ (dif_pos (show n.val % 64 < 32 by omega)).symm
    refine Eq.trans ?_ (cos_at k (show n.val = n.val % 64 by omega) (by omega) (by omega))
    show StableHlo.upto _ _ _ (Proc.tc.devRef main_v27) _ = _
    after_reads_at
    unfold cosAt
    pointwise [val_main_v28, val_main_v26, val_main_v25, val_main_v24, val_main_v23, val_main_v22, val_main_v21, val_main_v20, val_main_v19, val_main_v18,
        val_main_v17, val_main_v16, val_main_v15, val_main_v14, val_main_v13, val_main_v12, val_main_cst, val_main_cst_0, val_main_cst_1]
  by_cases h2 : n.val < 64
  · refine (dif_neg (by omega)).trans ?_
    refine (dif_pos (by omega)).trans ?_
    refine Eq.trans ?_ (dif_neg (show ¬ n.val % 64 < 32 by omega)).symm
    refine Eq.trans ?_ (cos_at k (show n.val - 32 = n.val % 64 - 32 by omega) (by omega) (by omega))
    show StableHlo.upto _ _ _ (Proc.tc.devRef main_v27) _ = _
    after_reads_at
    unfold cosAt
    pointwise [val_main_v28, val_main_v26, val_main_v25, val_main_v24, val_main_v23, val_main_v22, val_main_v21, val_main_v20, val_main_v19, val_main_v18,
        val_main_v17, val_main_v16, val_main_v15, val_main_v14, val_main_v13, val_main_v12, val_main_cst, val_main_cst_0, val_main_cst_1]
  by_cases h3 : n.val < 96
  · refine (dif_neg (by omega)).trans ?_
    refine (dif_neg (by omega)).trans ?_
    refine (dif_pos (by omega)).trans ?_
    refine Eq.trans ?_ (dif_pos (show n.val % 64 < 32 by omega)).symm
    refine Eq.trans ?_ (cos_at k (show n.val - 64 = n.val % 64 by omega) (by omega) (by omega))
    show StableHlo.upto _ _ _ (Proc.tc.devRef main_v27) _ = _
    after_reads_at
    unfold cosAt
    pointwise [val_main_v28, val_main_v26, val_main_v25, val_main_v24, val_main_v23, val_main_v22, val_main_v21, val_main_v20, val_main_v19, val_main_v18,
        val_main_v17, val_main_v16, val_main_v15, val_main_v14, val_main_v13, val_main_v12, val_main_cst, val_main_cst_0, val_main_cst_1]
  refine (dif_neg (by omega)).trans ?_
  refine (dif_neg (by omega)).trans ?_
  refine (dif_neg (by omega)).trans ?_
  refine Eq.trans ?_ (dif_neg (show ¬ n.val % 64 < 32 by omega)).symm
  refine Eq.trans ?_ (cos_at k (show n.val - 96 = n.val % 64 - 32 by omega) (by omega) (by omega))
  show StableHlo.upto _ _ _ (Proc.tc.devRef main_v27) _ = _
  after_reads_at
  unfold cosAt
  pointwise [val_main_v28, val_main_v26, val_main_v25, val_main_v24, val_main_v23, val_main_v22, val_main_v21, val_main_v20, val_main_v19, val_main_v18,
      val_main_v17, val_main_v16, val_main_v15, val_main_v14, val_main_v13, val_main_v12, val_main_cst, val_main_cst_0, val_main_cst_1]

set_option maxHeartbeats 2000000 in
/-- The table of the sines that a head's first half takes, negated. -/
theorem tableA (k : Fin 4096) (n : Fin 128) : V (F := Ideal) m c main_v40 (ix2 k n)
    = if e : n.val % 64 < 32 then -sinAt k (n.val % 64) e else (0 : EReal) := by
  unfold V
  after_reads_simp
  all_goals try simp -implicitDefEqProofs only [StableHlo.TRef.toBuf, StableHlo.TRef.ofBuf, cast_cast, cast_eq]
  clean_types
  refine (four_pieces _ _ _ _ _ _ k n).trans ?_
  by_cases h1 : n.val < 32
  · refine (dif_pos (by omega)).trans ?_
    refine Eq.trans ?_ (dif_pos (show n.val % 64 < 32 by omega)).symm
    refine Eq.trans ?_ (congrArg (fun z : EReal => -z) (sin_at k (show n.val = n.val % 64 by omega) (by omega) (by omega)))
    show StableHlo.upto _ _ _ (Proc.tc.devRef main_v34) _ = _
    after_reads_at
    unfold sinAt
    pointwise [val_main_v28, val_main_v26, val_main_v25, val_main_v24, val_main_v23, val_main_v22, val_main_v21, val_main_v20, val_main_v19, val_main_v18,
        val_main_v17, val_main_v16, val_main_v15, val_main_v14, val_main_v13, val_main_v12, val_main_cst, val_main_cst_0, val_main_cst_1]
  by_cases h2 : n.val < 64
  · refine (dif_neg (by omega)).trans ?_
    refine (dif_pos (by omega)).trans ?_
    refine Eq.trans ?_ (dif_neg (show ¬ n.val % 64 < 32 by omega)).symm
    show StableHlo.upto _ _ _ (Proc.tc.devRef main_v32) _ = _
    after_reads_at
  by_cases h3 : n.val < 96
  · refine (dif_neg (by omega)).trans ?_
    refine (dif_neg (by omega)).trans ?_
    refine (dif_pos (by omega)).trans ?_
    refine Eq.trans ?_ (dif_pos (show n.val % 64 < 32 by omega)).symm
    refine Eq.trans ?_ (congrArg (fun z : EReal => -z) (sin_at k (show n.val - 64 = n.val % 64 by omega) (by omega) (by omega)))
    show StableHlo.upto _ _ _ (Proc.tc.devRef main_v34) _ = _
    after_reads_at
    unfold sinAt
    pointwise [val_main_v28, val_main_v26, val_main_v25, val_main_v24, val_main_v23, val_main_v22, val_main_v21, val_main_v20, val_main_v19, val_main_v18,
        val_main_v17, val_main_v16, val_main_v15, val_main_v14, val_main_v13, val_main_v12, val_main_cst, val_main_cst_0, val_main_cst_1]
  refine (dif_neg (by omega)).trans ?_
  refine (dif_neg (by omega)).trans ?_
  refine (dif_neg (by omega)).trans ?_
  refine Eq.trans ?_ (dif_neg (show ¬ n.val % 64 < 32 by omega)).symm
  show StableHlo.upto _ _ _ (Proc.tc.devRef main_v32) _ = _
  after_reads_at

set_option maxHeartbeats 2000000 in
/-- The table of the sines that a head's second half takes. -/
theorem tableB (k : Fin 4096) (n : Fin 128) : V (F := Ideal) m c main_v42 (ix2 k n)
    = if e : n.val % 64 < 32 then (0 : EReal) else sinAt k (n.val % 64 - 32) (by omega) := by
  unfold V
  after_reads_simp
  all_goals try simp -implicitDefEqProofs only [StableHlo.TRef.toBuf, StableHlo.TRef.ofBuf, cast_cast, cast_eq]
  clean_types
  refine (four_pieces _ _ _ _ _ _ k n).trans ?_
  by_cases h1 : n.val < 32
  · refine (dif_pos (by omega)).trans ?_
    refine Eq.trans ?_ (dif_pos (show n.val % 64 < 32 by omega)).symm
    show StableHlo.upto _ _ _ (Proc.tc.devRef main_v32) _ = _
    after_reads_at
  by_cases h2 : n.val < 64
  · refine (dif_neg (by omega)).trans ?_
    refine (dif_pos (by omega)).trans ?_
    refine Eq.trans ?_ (dif_neg (show ¬ n.val % 64 < 32 by omega)).symm
    refine Eq.trans ?_ (sin_at k (show n.val - 32 = n.val % 64 - 32 by omega) (by omega) (by omega))
    show StableHlo.upto _ _ _ (Proc.tc.devRef main_v28) _ = _
    after_reads_at
    unfold sinAt
    pointwise [val_main_v28, val_main_v26, val_main_v25, val_main_v24, val_main_v23, val_main_v22, val_main_v21, val_main_v20, val_main_v19, val_main_v18,
        val_main_v17, val_main_v16, val_main_v15, val_main_v14, val_main_v13, val_main_v12, val_main_cst, val_main_cst_0, val_main_cst_1]
  by_cases h3 : n.val < 96
  · refine (dif_neg (by omega)).trans ?_
    refine (dif_neg (by omega)).trans ?_
    refine (dif_pos (by omega)).trans ?_
    refine Eq.trans ?_ (dif_pos (show n.val % 64 < 32 by omega)).symm
    show StableHlo.upto _ _ _ (Proc.tc.devRef main_v32) _ = _
    after_reads_at
  refine (dif_neg (by omega)).trans ?_
  refine (dif_neg (by omega)).trans ?_
  refine (dif_neg (by omega)).trans ?_
  refine Eq.trans ?_ (dif_neg (show ¬ n.val % 64 < 32 by omega)).symm
  refine Eq.trans ?_ (sin_at k (show n.val - 96 = n.val % 64 - 32 by omega) (by omega) (by omega))
  show StableHlo.upto _ _ _ (Proc.tc.devRef main_v28) _ = _
  after_reads_at
  unfold sinAt
  pointwise [val_main_v28, val_main_v26, val_main_v25, val_main_v24, val_main_v23, val_main_v22, val_main_v21, val_main_v20, val_main_v19, val_main_v18,
      val_main_v17, val_main_v16, val_main_v15, val_main_v14, val_main_v13, val_main_v12, val_main_cst, val_main_cst_0, val_main_cst_1]

/-- The weight the kernel takes: the columns of the indexer's queries. -/
theorem wHost (k : Fin 4096) (n : Fin 2048) : V (F := Ideal) m c main_v12 (ix2 k n)
    = m ((c : Thread nD τ).loc main_arg1) (ix2 k ⟨3072 + n.val, by omega⟩) := by
  unfold V
  after_reads_at
  rw [dif_pos (by omega)]
  after_reads_at

/-- The activations the kernel takes: the two sequences one under the other. -/
theorem aHost (i : Fin 8192) (k : Fin 4096) : V (F := Ideal) m c main_v1 (ix2 i k)
    = m ((c : Thread nD τ).loc main_arg0) (ix3 ⟨i.val / 4096, by omega⟩ ⟨i.val % 4096, by omega⟩ k) := by
  unfold V
  after_reads_at

end Cert.KernelQiIdeal.Value

end
-- ==== Proof.QiBlock.lean ====
module

public import proofs.«01_k».proof.Defs
public import proofs.«01_k».proof.Proof.Gen.KernelQiIdeal.Value
public import proofs.«01_k».proof.Proof.Reads
public import Idealize.ShloMosaic.Lib.Pipeline.ValueKit
public import Idealize.ShloMosaic.Lib.Pointwise
public import Idealize.ShloMosaic.Lib.Quiescent

@[expose] public section

set_option maxRecDepth 16384

/-!
# The indexer's queries: one block of the kernel

Four groups of columns, each of two heads; a column is turned with its partners half a head to either side.
-/

noncomputable section

namespace Cert.KernelQiIdeal.Value

open Cert.KernelQiIdeal Cert.KernelQiIdeal.Gen Idealize.ShloMosaic Idealize.ShloMosaic.TcCoe Idealize.SL.Sem

/-- A row of the block with a column of the weight's block. -/
def prod (a : Vec Ideal S1024x4096 .bf16) (w : Vec Ideal S4096x512 .bf16) (r : Fin 1024) (n : Nat) (h : n < 512) : EReal :=
  ∑ x : Fin 4096, a (ix2 r x) * w (ix2 x ⟨n, h⟩)

/-- What the kernel writes: the product by the first table, and its partners by the other two. -/
def turned (a : Vec Ideal S1024x4096 .bf16) (w : Vec Ideal S4096x512 .bf16) (p q u : Vec Ideal S1024x128 .f32) (r : Fin 1024) (g d : Nat)
    (hg : g < 4) (hd : d < 128) : EReal :=
  prod a w r (g * 128 + d) (by omega) * p (ix2 r ⟨d, hd⟩) + prod a w r (g * 128 + (d + 32) % 128) (by omega) * q (ix2 r ⟨d, hd⟩)
    + prod a w r (g * 128 + (d + 96) % 128) (by omega) * u (ix2 r ⟨d, hd⟩)

variable (a : Vec Ideal S1024x4096 .bf16) (w : Vec Ideal S4096x512 .bf16) (p q u : Vec Ideal S1024x128 .f32) (r : Fin 1024) (d : Fin 128)

theorem pay0 : k0_pay7 (F := Ideal) a w p q u (ix2 r d) = turned a w p q u r 0 d.val (by decide) d.isLt := by
  pointwise [k0_pay7, k0_pay3, k0_pay4, k0_pay5, k0_pay6]
  unfold turned prod
  have e1 : 0 * 128 + d.val = d.val := by omega
  have e2 : 0 * 128 + (d.val + 32) % 128 = (d.val + 128 - 96) % 128 := by omega
  have e3 : 0 * 128 + (d.val + 96) % 128 = (d.val + 128 - 32) % 128 := by omega
  simp only [e1, e2, e3]

theorem pay1 : k0_pay8 (F := Ideal) a w p q u (ix2 r d) = turned a w p q u r 1 d.val (by decide) d.isLt := by
  pointwise [k0_pay8, k0_pay3, k0_pay4, k0_pay5, k0_pay6]
  unfold turned prod
  have e1 : 1 * 128 + d.val = 128 + d.val := by omega
  have e2 : 1 * 128 + (d.val + 32) % 128 = 128 + (d.val + 128 - 96) % 128 := by omega
  have e3 : 1 * 128 + (d.val + 96) % 128 = 128 + (d.val + 128 - 32) % 128 := by omega
  simp only [e1, e2, e3]

theorem pay2 : k0_pay1 (F := Ideal) (k0_pay6 u) (k0_pay9 a w) (k0_pay10 a w p q) (ix2 r d) = turned a w p q u r 2 d.val (by decide) d.isLt := by
  pointwise [k0_pay1, k0_pay9, k0_pay10, k0_pay3, k0_pay4, k0_pay5, k0_pay6]
  unfold turned prod
  have e1 : 2 * 128 + d.val = 256 + d.val := by omega
  have e2 : 2 * 128 + (d.val + 32) % 128 = 256 + (d.val + 128 - 96) % 128 := by omega
  have e3 : 2 * 128 + (d.val + 96) % 128 = 256 + (d.val + 128 - 32) % 128 := by omega
  simp only [e1, e2, e3]

theorem pay3 : k0_pay2 (F := Ideal) (k0_pay3 a w) (k0_pay4 p) (k0_pay5 q) (k0_pay6 u) (ix2 r d) = turned a w p q u r 3 d.val (by decide) d.isLt := by
  pointwise [k0_pay2, k0_pay3, k0_pay4, k0_pay5, k0_pay6]
  unfold turned prod
  have e1 : 3 * 128 + d.val = 384 + d.val := by omega
  have e2 : 3 * 128 + (d.val + 32) % 128 = 384 + (d.val + 128 - 96) % 128 := by omega
  have e3 : 3 * 128 + (d.val + 96) % 128 = 384 + (d.val + 128 - 32) % 128 := by omega
  simp only [e1, e2, e3]

/-- The newest group of columns written, or an older one, by the column. -/
theorem canon_group (v : Vec Ideal S1024x128 .bf16) (k : Nat) (inb) (L : List (View.Piece (Elt Ideal) S1024x512 EltTy.bf16)) (h : Fin 4) :
    View.canon (⟨Rect.unit ![0, k * 128] ![1024, 128] inb, v⟩ :: L) (ix2 r ⟨h.val * 128 + d.val, by omega⟩)
      = if k = h.val then v (ix2 r d) else View.canon L (ix2 r ⟨h.val * 128 + d.val, by omega⟩) := by
  rw [Reads.canon_cons_unit]
  by_cases e : k = h.val
  · have hm : ∀ a : Fin 2, (![0, k * 128] : Fin 2 → Nat) a ≤ ((ix2 r ⟨h.val * 128 + d.val, by omega⟩ : S1024x512.Idx) a).val
        ∧ ((ix2 r ⟨h.val * 128 + d.val, by omega⟩ : S1024x512.Idx) a).val < (![0, k * 128] : Fin 2 → Nat) a + (![1024, 128] : Fin 2 → Nat) a := by
      refine Fin.forall_fin_two.mpr ⟨?_, ?_⟩
      · show 0 ≤ r.val ∧ r.val < 0 + 1024; omega
      · show k * 128 ≤ h.val * 128 + d.val ∧ h.val * 128 + d.val < k * 128 + 128; omega
    rw [dif_pos hm, if_pos e]
    refine congrArg v (funext fun a => Fin.ext ?_)
    match a with
    | ⟨0, _⟩ => exact Nat.sub_zero _
    | ⟨1, _⟩ => show h.val * 128 + d.val - k * 128 = d.val; omega
  · rw [if_neg e, dif_neg]
    intro hm
    have h2 : k * 128 ≤ h.val * 128 + d.val ∧ h.val * 128 + d.val < k * 128 + 128 := hm 1
    have := d.isLt
    omega

/-- The block's four stores, the newest first. -/
def stores : List (View.Piece (Elt Ideal) S1024x512 EltTy.bf16) :=
  [⟨Rect.unit ![0, 3 * 128] ![1024, 128] (by decide), k0_pay2 (k0_pay3 a w) (k0_pay4 p) (k0_pay5 q) (k0_pay6 u)⟩,
    ⟨Rect.unit ![0, 2 * 128] ![1024, 128] (by decide), k0_pay1 (k0_pay6 u) (k0_pay9 a w) (k0_pay10 a w p q)⟩,
    ⟨Rect.unit ![0, 1 * 128] ![1024, 128] (by decide), k0_pay8 a w p q u⟩,
    ⟨Rect.unit ![0, 0 * 128] ![1024, 128] (by decide), k0_pay7 a w p q u⟩]

/-- A whole buffer read is the buffer. -/
theorem ldA {F} [FloatOps F] (v : Vec F S1024x4096 .bf16) : View.ld v r0_0 = v :=
  View.ld_unit_zero (funext fun a => match a with | ⟨0, _⟩ => rfl | ⟨1, _⟩ => rfl) inb_S1024x4096_S1024x4096_0_0 v
theorem ldW {F} [FloatOps F] (v : Vec F S4096x512 .bf16) : View.ld v r0_1 = v :=
  View.ld_unit_zero (funext fun a => match a with | ⟨0, _⟩ => rfl | ⟨1, _⟩ => rfl) inb_S4096x512_S4096x512_0_0 v
theorem ldT {F} [FloatOps F] (v : Vec F S1024x128 .f32) : View.ld v r0_2 = v :=
  View.ld_unit_zero (funext fun a => match a with | ⟨0, _⟩ => rfl | ⟨1, _⟩ => rfl) inb_S1024x128_S1024x128_0_0 v

theorem pieces : out0_5 (F := Ideal) a w p q u = View.canon (stores a w p q u) := by
  unfold out0_5 k0_pay11
  rw [ldA, ldW, ldT, ldT, ldT]
  rfl

/-- A block, at an index. -/
theorem block (n : Fin 512) : out0_5 (F := Ideal) a w p q u (ix2 r n)
    = turned a w p q u r (n.val / 128) (n.val % 128) (by omega) (by omega) := by
  rw [pieces]
  have e : ∀ (g : Fin 4) (d : Fin 128), View.canon (stores a w p q u) (ix2 r ⟨g.val * 128 + d.val, by omega⟩)
      = turned a w p q u r g.val d.val g.isLt d.isLt := by
    intro g d
    unfold stores
    rw [canon_group, canon_group, canon_group, canon_group, pay0, pay1, pay2, pay3]
    match g with
    | ⟨0, _⟩ => rfl
    | ⟨1, _⟩ => rfl
    | ⟨2, _⟩ => rfl
    | ⟨3, _⟩ => rfl
  have h := e ⟨n.val / 128, by omega⟩ ⟨n.val % 128, by omega⟩
  have en : (⟨n.val / 128 * 128 + n.val % 128, by omega⟩ : Fin 512) = n := Fin.ext (by show n.val / 128 * 128 + n.val % 128 = n.val; omega)
  simp only [en] at h
  exact h

end Cert.KernelQiIdeal.Value

end
-- ==== Proof.QiMatmul.lean ====
module

public import proofs.«01_k».proof.Defs
public import proofs.«01_k».proof.Proof.Gen.KernelQiIdeal.Value
public import proofs.«01_k».proof.Proof.QiHost
public import proofs.«01_k».proof.Proof.QiBlock
public import proofs.«01_k».proof.Proof.Gen.ReferenceQiIdeal.Read
public import proofs.«01_k».proof.Proof.Gen.ReferenceQiIdeal.Run
public import Idealize.ShloMosaic.Lib.Pipeline.ValueKit
public import Idealize.ShloMosaic.Lib.Pointwise
public import Idealize.ShloMosaic.Lib.Quiescent

@[expose] public section

set_option maxRecDepth 16384

/-!
# The indexer's queries

The kernel turns a column with tables that hold the sine and its negation beside zeros; the reference turns the two
halves of a head.
-/

noncomputable section

namespace Cert.KernelQiIdeal.Value

open Cert.KernelQiIdeal Cert.KernelQiIdeal.Gen Idealize.ShloMosaic Idealize.ShloMosaic.TcCoe Idealize.SL.Sem

variable (m : (ℓ : Loc nD τ sig) → Buf (Elt Ideal) ℓ) (c : Dev nD)

open Cert.Qi

theorem places : ∀ t : Fin cfg0.N, win0_0.index t = ![(grid0.coords t 0).val, 0]
    ∧ win0_1.index t = ![0, (grid0.coords t 1).val]
    ∧ win0_2.index t = ![(grid0.coords t 0).val % 4, 0] ∧ win0_3.index t = ![(grid0.coords t 0).val % 4, 0] ∧ win0_4.index t = ![(grid0.coords t 0).val % 4, 0]
    ∧ win0_5.index t = ![(grid0.coords t 0).val, (grid0.coords t 1).val] := by
  decide +kernel

theorem coord0 : ∀ t : Fin cfg0.N, (grid0.coords t 0).val < 8 := by decide +kernel
theorem coord1 : ∀ t : Fin cfg0.N, (grid0.coords t 1).val < 4 := by decide +kernel

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 512) : Fin 2048 := ⟨(grid0.coords t 1).val * 512 + n.val, by have := coord1 t; omega⟩
/-- The batch entry of a block's row. -/
abbrev entry (t : Fin cfg0.N) (r : Fin 1024) : Fin 2 := ⟨(row t r).val / 4096, by omega⟩
/-- The position of a block's row. -/
abbrev position (t : Fin cfg0.N) (r : Fin 1024) : Fin 4096 := ⟨(row t r).val % 4096, by omega⟩

theorem aBlock (t : Fin cfg0.N) (r : Fin 1024) (x : Fin 4096) : iblk (F := Ideal) m c 0 t (ix2 r x)
    = m ((c : Thread nD τ).loc main_arg0) (ix3 (entry t r) (position t r) x) := by
  have i0 := fun t => (places t).1
  refine Eq.trans (b := V (F := Ideal) m c main_v1 (ix2 (row t r) x)) ?_ (aHost m c (row t r) x)
  blk_ext [iblk, i0]

theorem wBlock (t : Fin cfg0.N) (x : Fin 4096) (n : Fin 512) : iblk (F := Ideal) m c 1 t (ix2 x n)
    = m ((c : Thread nD τ).loc main_arg1) (ix2 x ⟨3072 + (column t n).val, by have := (column t n).isLt; omega⟩) := by
  have i0 := fun t => (places t).2.1
  refine Eq.trans (b := V (F := Ideal) m c main_v12 (ix2 x (column t n))) ?_ (wHost m c x (column t n))
  blk_ext [iblk, i0]

theorem position_eq (t : Fin cfg0.N) (r : Fin 1024) : (position t r).val = (grid0.coords t 0).val % 4 * 1024 + r.val := by
  have := coord0 t
  show ((grid0.coords t 0).val * 1024 + r.val) % 4096 = _
  omega

theorem cBlock (t : Fin cfg0.N) (r : Fin 1024) (d : Fin 128) : iblk (F := Ideal) m c 2 t (ix2 r d) = V (F := Ideal) m c main_v38 (ix2 (position t r) d) := by
  have i0 := fun t => (places t).2.2.1
  have e : position t r = ⟨(grid0.coords t 0).val % 4 * 1024 + r.val, by omega⟩ := Fin.ext (position_eq t r)
  rw [e]
  blk_ext [iblk, i0]

theorem saBlock (t : Fin cfg0.N) (r : Fin 1024) (d : Fin 128) : iblk (F := Ideal) m c 3 t (ix2 r d) = V (F := Ideal) m c main_v40 (ix2 (position t r) d) := by
  have i0 := fun t => (places t).2.2.2.1
  have e : position t r = ⟨(grid0.coords t 0).val % 4 * 1024 + r.val, by omega⟩ := Fin.ext (position_eq t r)
  rw [e]
  blk_ext [iblk, i0]

theorem sbBlock (t : Fin cfg0.N) (r : Fin 1024) (d : Fin 128) : iblk (F := Ideal) m c 4 t (ix2 r d) = V (F := Ideal) m c main_v42 (ix2 (position t r) d) := by
  have i0 := fun t => (places t).2.2.2.2.1
  have e : position t r = ⟨(grid0.coords t 0).val % 4 * 1024 + r.val, by omega⟩ := Fin.ext (position_eq t r)
  rw [e]
  blk_ext [iblk, i0]

theorem first_half (x y u s : EReal) : x * u + y * -s + y * 0 = x * u - y * s := by
  rw [mul_zero, add_zero, mul_neg, sub_eq_add_neg]

theorem second_half (x y u s : EReal) : x * u + y * 0 + y * s = x * u + y * s := by
  rw [mul_zero, add_zero]

/-- A column turned by the tables is the reference's. -/
theorem turn_eq (a : FVec Ideal S2x4096x4096 .f32) (w : FVec Ideal S4096x11376 .f32) (b : Fin 2) (p : Fin 4096) (n : Nat) (h : n < 2048)
    (x u v : Nat) (hx : x < 2048) (hu : u < 2048) (hv : v < 2048) (d : Nat) (hd : d = n % 128) (ex : x = n / 128 * 128 + d)
    (eu : u = n / 128 * 128 + (d + 32) % 128) (ev : v = n / 128 * 128 + (d + 96) % 128) :
    dot a w b p x hx * (if e : d % 64 < 32 then cosAt p (d % 64) e else cosAt p (d % 64 - 32) (by omega))
      + dot a w b p u hu * (if e : d % 64 < 32 then -sinAt p (d % 64) e else (0 : EReal))
      + dot a w b p v hv * (if e : d % 64 < 32 then (0 : EReal) else sinAt p (d % 64 - 32) (by omega))
      = turn a w b p n h := by
  obtain rfl : x = n := by omega
  have ed : d % 64 = x % 64 := by omega
  simp only [ed]
  unfold turn
  by_cases e : x % 64 < 32
  · obtain rfl : u = x + 32 := by omega
    rw [dif_pos e, dif_pos e, dif_pos e, dif_pos e, mul_zero, add_zero, mul_neg, sub_eq_add_neg]
  · obtain rfl : v = x - 32 := by omega
    rw [dif_neg e, dif_neg e, dif_neg e, dif_neg e, mul_zero, add_zero]

theorem prod_eq (t : Fin cfg0.N) (r : Fin 1024) (n : Nat) (h : n < 512) :
    prod (iblk (F := Ideal) m c 0 t) (iblk (F := Ideal) m c 1 t) r n h
      = dot (m ((c : Thread nD τ).loc main_arg0)) (m ((c : Thread nD τ).loc main_arg1)) (entry t r) (position t r)
          ((grid0.coords t 1).val * 512 + n) (column t ⟨n, h⟩).isLt :=
  Finset.sum_congr rfl fun x _ => by rw [aBlock, wBlock]

/-- The reference's result, of the kernel's arguments. -/
abbrev goal : FVec Ideal S8192x2048 .bf16 :=
  Cert.ReferenceQiIdeal.Read.val_main_v44 (F := Ideal) (m ((c : Thread nD τ).loc main_arg0)) (m ((c : Thread nD τ).loc main_arg1))

theorem turned_eq (t : Fin cfg0.N) (r : Fin 1024) (n : Fin 512) :
    turned (iblk (F := Ideal) m c 0 t) (iblk (F := Ideal) m c 1 t) (iblk (F := Ideal) m c 2 t) (iblk (F := Ideal) m c 3 t)
      (iblk (F := Ideal) m c 4 t) r (n.val / 128) (n.val % 128) (by omega) (by omega)
      = turn (m ((c : Thread nD τ).loc main_arg0)) (m ((c : Thread nD τ).loc main_arg1)) (entry t r) (position t r) (column t n).val (column t n).isLt := by
  have hc := coord1 t
  refine Eq.trans ?_ (turn_eq _ _ _ _ (column t n).val (column t n).isLt
    ((grid0.coords t 1).val * 512 + (n.val / 128 * 128 + n.val % 128))
    ((grid0.coords t 1).val * 512 + (n.val / 128 * 128 + (n.val % 128 + 32) % 128))
    ((grid0.coords t 1).val * 512 + (n.val / 128 * 128 + (n.val % 128 + 96) % 128))
    (by omega) (by omega) (by omega) (n.val % 128)
    (by show _ = ((grid0.coords t 1).val * 512 + n.val) % 128; omega)
    (by show _ = ((grid0.coords t 1).val * 512 + n.val) / 128 * 128 + _; omega)
    (by show _ = ((grid0.coords t 1).val * 512 + n.val) / 128 * 128 + _; omega)
    (by show _ = ((grid0.coords t 1).val * 512 + n.val) / 128 * 128 + _; omega))
  unfold turned
  rw [cBlock, saBlock, sbBlock, tableC, tableA, tableB, prod_eq, prod_eq, prod_eq]

/-- The array the kernel leaves is the reference's result. -/
theorem final : (dats m 0 c).arrAt 5 cfg0.N = goal m c := by
  refine (dats m 0 c).arrAt_eq_of_covers 5 _ (by decide +kernel) fun t hf y => ?_
  have i3 := fun t => (places t).2.2.2.2.2
  have hc := coord1 t
  refine Eq.trans (b := (dats m 0 c).flushed 5 t y) rfl ?_
  obtain ⟨r, n, rfl⟩ : ∃ (r : Fin 1024) (n : Fin 512), y = ix2 r n := ⟨_, _, eq_ix2 y⟩
  blk_simp
  refine Eq.trans (b := goal m c (ix2 (row t r) (column t n))) ?_ (congrArg (goal m c) ?_)
  · rw [goal, refAt]
    refine Eq.trans (b := (dats m 0 c).flushed 5 t (ix2 r n)) rfl ?_
    rw [flushed5]
    exact (block _ _ _ _ _ r n).trans (turned_eq m c t r n)
  · blk_ext [i3]

end Cert.KernelQiIdeal.Value

/-! ## The claims -/

namespace Cert.QiMatmul

open Idealize.ShloMosaic Idealize.SL.Sem

theorem reference_frame : Cert.quiescent_ReferenceQiIdeal (hReferenceQiIdeal := Cert.ReferenceQiIdeal.Gen.facts) := fun m ρ _ =>
  (θ_run Cert.ReferenceQiIdeal.defs _ _).mono (fun r h => ⟨fun c => (h c).2, sem_eq_zero_of_no_sems (by decide) r.2⟩)
    (Cert.ReferenceQiIdeal.Value.run (F := Ideal) m ρ)

theorem same_result : Cert.algebraic_KernelQiIdeal_ReferenceQiIdeal (hKernelQiIdeal := Cert.KernelQiIdeal.Gen.facts)
    (hReferenceQiIdeal := Cert.ReferenceQiIdeal.Gen.facts) := by
  intro m ρ m' ρ' hpre hagree
  refine ⟨fun c => Cert.KernelQiIdeal.Value.goal m c, (θ_run Cert.KernelQiIdeal.defs _ _).mono (fun r h c =>
    ⟨(h c).1.trans (Cert.KernelQiIdeal.Value.final m c), (h c).2⟩) (Cert.KernelQiIdeal.Value.run_blocks (F := Ideal) m ρ), ?_⟩
  refine (θ_run Cert.ReferenceQiIdeal.defs _ _).mono (fun r h c => ⟨(h c).1.trans ?_, (h c).2⟩)
    (Cert.ReferenceQiIdeal.Value.run (F := Ideal) m' ρ')
  refine (Cert.ReferenceQiIdeal.Read.val_main_v44_eq (F := Ideal) _ _).trans ?_
  rw [(hagree c).1, (hagree c).2]

end Cert.QiMatmul

end
-- ==== Proof.MoMatmul.lean ====
module

public import proofs.«01_k».proof.Defs
public import proofs.«01_k».proof.Proof.Gen.KernelMoIdeal.Value
public import proofs.«01_k».proof.Proof.Gen.ReferenceMoIdeal.Read
public import proofs.«01_k».proof.Proof.Gen.ReferenceMoIdeal.Run
public import Idealize.ShloMosaic.Lib.Pipeline.ValueKit
public import Idealize.ShloMosaic.Lib.Pointwise
public import Idealize.ShloMosaic.Lib.Quiescent

@[expose] public section

set_option maxRecDepth 16384

/-!
# The memory attention's output projection with the residual and the norm

Both sides norm the same row: the residual, scaled, plus the product. The kernel leaves the result twice, the second time
transposed.
-/

noncomputable section

namespace Cert.KernelMoIdeal.Value

open Cert.KernelMoIdeal Cert.KernelMoIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![0, 0]
    ∧ win0_5.index t = ![(grid0.coords t 0).val, 0]
    ∧ win0_6.index t = ![0, (grid0.coords t 0).val] := by
  decide +kernel

theorem coord0 (t : Fin cfg0.N) : (grid0.coords t 0).val < 32 := (grid0.coords t 0).isLt

/-- The mean of a row of 4096. -/
def mean (z : Fin 4096 → EReal) : EReal := Ideal.div (∑ x, z x) (Ideal.ofBits .f32 0x45800000#32)

/-- A row normed, at an index: less its mean, by the root of its variance and the small constant, by the gain, plus the shift. -/
def norm (z : Fin 4096 → EReal) (g b : EReal) (n : Fin 4096) : EReal :=
  (z n - mean z) * Ideal.rsqrt (mean (fun x => (z x - mean z) * (z x - mean z)) + Ideal.ofBits .f32 0x3727C5AC#32) * g + b

/-- The first block written, at an index. -/
theorem block5 (a w h g b) (r : Fin 256) (n : Fin 4096) : out0_5 (F := Ideal) a w h g b (ix2 r n)
    = norm (fun x => Ideal.ofBits .f32 0x3FB504F3#32 * h (ix2 r x) + ∑ y, a (ix2 r y) * w (ix2 y x)) (g (ix2 0 n)) (b (ix2 0 n)) n := by
  frame_out
  pointwise [k0_pay1]
  unfold norm mean
  rfl

/-- The second block is the first, transposed. -/
theorem block6 (a w h g b) (r : Fin 256) (n : Fin 4096) : out0_6 (F := Ideal) a w h g b (ix2 n r) = out0_5 (F := Ideal) a w h g b (ix2 r n) := by
  frame_out
  pointwise [k0_pay2, k0_pay1]

section
open Cert.ReferenceMoIdeal.Read

/-- The row that the reference norms, at an index. -/
theorem sumAt (o w h) (b : Fin 2) (p n : Fin 4096) : val_main_v3 (F := Ideal) o w h (ix3 b p n)
    = Ideal.ofBits .f32 0x3FB504F3#32 * h (ix3 b p n) + ∑ y, o (ix3 b p y) * w (ix2 y n) := by
  pointwise [val_main_v3, val_main_v2, val_main_v1, val_main_v0, val_main_cst]

/-- The reference's first result, at an index. -/
theorem refAt5 (o w h g b) (i : Fin 8192) (n : Fin 4096) : val_main_v26 (F := Ideal) o w h g b (ix2 i n)
    = norm (fun x => Ideal.ofBits .f32 0x3FB504F3#32 * h (ix3 ⟨i.val / 4096, by omega⟩ ⟨i.val % 4096, by omega⟩ x)
        + ∑ y, o (ix3 ⟨i.val / 4096, by omega⟩ ⟨i.val % 4096, by omega⟩ y) * w (ix2 y x)) (g (ix1 n)) (b (ix1 n)) n := by
  refine Eq.trans ?_ (congrArg (fun z => norm z (g (ix1 n)) (b (ix1 n)) n)
    (funext fun x => sumAt o w h ⟨i.val / 4096, by omega⟩ ⟨i.val % 4096, by omega⟩ x))
  unfold val_main_v26 val_main_v25 val_main_v22 val_main_v19 val_main_v18 val_main_v17 val_main_v16 val_main_v14 val_main_v12 val_main_v11
    val_main_v10 val_main_v9 val_main_v8 val_main_v7 val_main_v5 val_main_v4
  generalize val_main_v3 (F := Ideal) o w h = z
  pointwise [val_main_v24, val_main_v23, val_main_v21, val_main_v20, val_main_v15, val_main_v13, val_main_v6, val_main_cst_0, val_main_cst_1,
    val_main_cst_2, val_main_cst_3, val_main_cst_4]
  unfold norm mean
  rfl

/-- The reference's second result is its first, transposed. -/
theorem refAt6 (o w h g b) (i : Fin 8192) (n : Fin 4096) : val_main_v28 (F := Ideal) o w h g b (ix2 n i)
    = val_main_v26 (F := Ideal) o w h g b (ix2 i n) := by
  unfold val_main_v28 val_main_v27
  generalize val_main_v26 (F := Ideal) o w h g b = z
  pointwise []

end

/-- The row of the whole that a block's row is. -/
abbrev row (t : Fin cfg0.N) (r : Fin 256) : Fin 8192 := ⟨(grid0.coords t 0).val * 256 + r.val, by have := coord0 t; omega⟩

theorem aHost (i : Fin 8192) (x : Fin 512) : V (F := Ideal) m c main_v1 (ix2 i x)
    = m ((c : Thread nD τ).loc main_arg0) (ix3 ⟨i.val / 4096, by omega⟩ ⟨i.val % 4096, by omega⟩ x) := by
  entry_read
  pointwise []

theorem wHost (k : Fin 512) (n : Fin 4096) : V (F := Ideal) m c main_v2 (ix2 k n) = m ((c : Thread nD τ).loc main_arg1) (ix2 k n) := by
  entry_read
  pointwise []

theorem hHost (i : Fin 8192) (x : Fin 4096) : V (F := Ideal) m c main_v3 (ix2 i x)
    = m ((c : Thread nD τ).loc main_arg2) (ix3 ⟨i.val / 4096, by omega⟩ ⟨i.val % 4096, by omega⟩ x) := by
  entry_read
  pointwise []

theorem gHost (n : Fin 4096) : V (F := Ideal) m c main_v4 (ix2 0 n) = m ((c : Thread nD τ).loc main_arg3) (ix1 n) := by
  entry_read
  pointwise []

theorem bHost (n : Fin 4096) : V (F := Ideal) m c main_v5 (ix2 0 n) = m ((c : Thread nD τ).loc main_arg4) (ix1 n) := by
  entry_read
  pointwise []

theorem aBlock (t : Fin cfg0.N) (r : Fin 256) (x : Fin 512) : iblk (F := Ideal) m c 0 t (ix2 r x)
    = m ((c : Thread nD τ).loc main_arg0) (ix3 ⟨(row t r).val / 4096, by omega⟩ ⟨(row t r).val % 4096, by omega⟩ x) := by
  have i0 := fun t => (places t).1
  refine Eq.trans (b := V (F := Ideal) m c main_v1 (ix2 (row t r) x)) ?_ (aHost m c (row t r) x)
  blk_ext [iblk, i0]

theorem wBlock (t : Fin cfg0.N) (x : Fin 512) (n : Fin 4096) : iblk (F := Ideal) m c 1 t (ix2 x n)
    = m ((c : Thread nD τ).loc main_arg1) (ix2 x n) := by
  have i0 := fun t => (places t).2.1
  refine Eq.trans (b := V (F := Ideal) m c main_v2 (ix2 x n)) ?_ (wHost m c x n)
  blk_ext [iblk, i0]

theorem hBlock (t : Fin cfg0.N) (r : Fin 256) (x : Fin 4096) : iblk (F := Ideal) m c 2 t (ix2 r x)
    = m ((c : Thread nD τ).loc main_arg2) (ix3 ⟨(row t r).val / 4096, by omega⟩ ⟨(row t r).val % 4096, by omega⟩ x) := by
  have i0 := fun t => (places t).2.2.1
  refine Eq.trans (b := V (F := Ideal) m c main_v3 (ix2 (row t r) x)) ?_ (hHost m c (row t r) x)
  blk_ext [iblk, i0]

theorem gBlock (t : Fin cfg0.N) (n : Fin 4096) : iblk (F := Ideal) m c 3 t (ix2 0 n) = m ((c : Thread nD τ).loc main_arg3) (ix1 n) := by
  have i0 := fun t => (places t).2.2.2.1
  refine Eq.trans (b := V (F := Ideal) m c main_v4 (ix2 0 n)) ?_ (gHost m c n)
  blk_ext [iblk, i0]

theorem bBlock (t : Fin cfg0.N) (n : Fin 4096) : iblk (F := Ideal) m c 4 t (ix2 0 n) = m ((c : Thread nD τ).loc main_arg4) (ix1 n) := by
  have i0 := fun t => (places t).2.2.2.2.1
  refine Eq.trans (b := V (F := Ideal) m c main_v5 (ix2 0 n)) ?_ (bHost m c n)
  blk_ext [iblk, i0]

/-- The reference's first result, of the kernel's arguments. -/
abbrev goal5 : FVec Ideal S8192x4096 .f32 :=
  Cert.ReferenceMoIdeal.Read.val_main_v26 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's second result, of the kernel's arguments. -/
abbrev goal6 : FVec Ideal S4096x8192 .bf16 :=
  Cert.ReferenceMoIdeal.Read.val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- A block of the first result is the reference's. -/
theorem block_eq (t : Fin cfg0.N) (r : Fin 256) (n : Fin 4096) :
    out0_5 (F := Ideal) (iblk m c 0 t) (iblk m c 1 t) (iblk m c 2 t) (iblk m c 3 t) (iblk m c 4 t) (ix2 r n) = goal5 m c (ix2 (row t r) n) := by
  rw [goal5, refAt5]
  refine (block5 _ _ _ _ _ r n).trans ?_
  rw [gBlock, bBlock]
  simp only [aBlock, wBlock, hBlock]

/-- The first array the kernel leaves is the reference's first result. -/
theorem final5 : (dats m 0 c).arrAt 5 cfg0.N = goal5 m c := by
  refine (dats m 0 c).arrAt_eq_of_covers 5 _ (by decide +kernel) fun t hf y => ?_
  have i3 := fun t => (places t).2.2.2.2.2.1
  refine Eq.trans (b := (dats m 0 c).flushed 5 t y) rfl ?_
  rw [flushed5]
  obtain ⟨r, n, rfl⟩ : ∃ (r : Fin 256) (n : Fin 4096), y = ix2 r n := ⟨_, _, eq_ix2 y⟩
  blk_simp
  refine Eq.trans (b := goal5 m c (ix2 (row t r) n)) ?_ (congrArg (goal5 m c) ?_)
  · exact block_eq m c t r n
  · blk_ext [i3]

/-- The second array the kernel leaves is the reference's second result. -/
theorem final6 : (dats m 0 c).arrAt 6 cfg0.N = goal6 m c := by
  refine (dats m 0 c).arrAt_eq_of_covers 6 _ (by decide +kernel) fun t hf y => ?_
  have i3 := fun t => (places t).2.2.2.2.2.2
  refine Eq.trans (b := (dats m 0 c).flushed 6 t y) rfl ?_
  rw [flushed6]
  obtain ⟨n, r, rfl⟩ : ∃ (n : Fin 4096) (r : Fin 256), y = ix2 n r := ⟨_, _, eq_ix2 y⟩
  blk_simp
  refine Eq.trans (b := goal6 m c (ix2 n (row t r))) ?_ (congrArg (goal6 m c) ?_)
  · rw [goal6, refAt6]
    exact (block6 _ _ _ _ _ r n).trans (block_eq m c t r n)
  · blk_ext [i3]

end Cert.KernelMoIdeal.Value

/-! ## The claims -/

namespace Cert.MoMatmul

open Idealize.ShloMosaic Idealize.SL.Sem

theorem reference_frame : Cert.quiescent_ReferenceMoIdeal (hReferenceMoIdeal := Cert.ReferenceMoIdeal.Gen.facts) := fun m ρ _ =>
  (θ_run Cert.ReferenceMoIdeal.defs _ _).mono (fun r h => ⟨fun c => (h c).2.2, sem_eq_zero_of_no_sems (by decide) r.2⟩)
    (Cert.ReferenceMoIdeal.Value.run (F := Ideal) m ρ)

theorem same_result : Cert.algebraic_KernelMoIdeal_ReferenceMoIdeal (hKernelMoIdeal := Cert.KernelMoIdeal.Gen.facts)
    (hReferenceMoIdeal := Cert.ReferenceMoIdeal.Gen.facts) := by
  intro m ρ m' ρ' hpre hagree
  refine ⟨fun c => Cert.KernelMoIdeal.Value.goal5 m c, fun c => Cert.KernelMoIdeal.Value.goal6 m c,
    (θ_run Cert.KernelMoIdeal.defs _ _).mono (fun r h c =>
      ⟨(h c).1.trans (Cert.KernelMoIdeal.Value.final5 m c), (h c).2.1.trans (Cert.KernelMoIdeal.Value.final6 m c), (h c).2.2⟩)
      (Cert.KernelMoIdeal.Value.run_blocks (F := Ideal) m ρ), ?_⟩
  refine (θ_run Cert.ReferenceMoIdeal.defs _ _).mono (fun r h c => ⟨(h c).1.trans ?_, (h c).2.1.trans ?_, (h c).2.2⟩)
    (Cert.ReferenceMoIdeal.Value.run (F := Ideal) m' ρ')
  · refine (Cert.ReferenceMoIdeal.Read.val_main_v26_eq (F := Ideal) _ _ _ _ _).trans ?_
    rw [(hagree c).1, (hagree c).2.1, (hagree c).2.2.1, (hagree c).2.2.2.1, (hagree c).2.2.2.2]
  · refine (Cert.ReferenceMoIdeal.Read.val_main_v28_eq (F := Ideal) _ _ _ _ _).trans ?_
    rw [(hagree c).1, (hagree c).2.1, (hagree c).2.2.1, (hagree c).2.2.2.1, (hagree c).2.2.2.2]

end Cert.MoMatmul

end
-- ==== Proof.LnNorm.lean ====
module

public import proofs.«01_k».proof.Defs
public import proofs.«01_k».proof.Proof.Gen.KernelLnIdeal.Value
public import proofs.«01_k».proof.Proof.Gen.ReferenceLnIdeal.Read
public import proofs.«01_k».proof.Proof.Gen.ReferenceLnIdeal.Run
public import Idealize.ShloMosaic.Lib.Pipeline.ValueKit
public import Idealize.ShloMosaic.Lib.Pointwise
public import Idealize.ShloMosaic.Lib.Quiescent

@[expose] public section

set_option maxRecDepth 16384

/-!
# The residual with the norm after it

Both sides norm the same row: the residual, scaled, plus the layer's output. The kernel leaves the result twice, the second
time in the narrower format, which at exact arithmetic is the same.
-/

noncomputable section

namespace Cert.KernelLnIdeal.Value

open Cert.KernelLnIdeal Cert.KernelLnIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![(grid0.coords t 0).val, 0]
    ∧ win0_2.index t = ![0, 0]
    ∧ win0_3.index t = ![0, 0]
    ∧ win0_4.index t = ![(grid0.coords t 0).val, 0]
    ∧ win0_5.index t = ![(grid0.coords t 0).val, 0] := by
  decide +kernel

theorem coord0 (t : Fin cfg0.N) : (grid0.coords t 0).val < 32 := (grid0.coords t 0).isLt

/-- The mean of a row of 4096. -/
def mean (z : Fin 4096 → EReal) : EReal := Ideal.div (∑ x, z x) (Ideal.ofBits .f32 0x45800000#32)

/-- A row normed, at an index: less its mean, by the root of its variance and the small constant, by the gain, plus the shift. -/
def norm (z : Fin 4096 → EReal) (g b : EReal) (n : Fin 4096) : EReal :=
  (z n - mean z) * Ideal.rsqrt (mean (fun x => (z x - mean z) * (z x - mean z)) + Ideal.ofBits .f32 0x3727C5AC#32) * g + b

/-- The first block written, at an index. -/
theorem block4 (h y g b) (r : Fin 256) (n : Fin 4096) : out0_4 (F := Ideal) h y g b (ix2 r n)
    = norm (fun x => Ideal.ofBits .f32 0x3FB504F3#32 * h (ix2 r x) + y (ix2 r x)) (g (ix2 0 n)) (b (ix2 0 n)) n := by
  frame_out
  pointwise [k0_pay1]
  unfold norm mean
  rfl

/-- The second block is the first. -/
theorem block5 (h y g b) (r : Fin 256) (n : Fin 4096) : out0_5 (F := Ideal) h y g b (ix2 r n) = out0_4 (F := Ideal) h y g b (ix2 r n) := by
  frame_out
  pointwise [k0_pay2, k0_pay1]

section
open Cert.ReferenceLnIdeal.Read

/-- The row that the reference norms, at an index. -/
theorem sumAt (h y) (b : Fin 2) (p n : Fin 4096) : val_main_v2 (F := Ideal) h y (ix3 b p n)
    = Ideal.ofBits .f32 0x3FB504F3#32 * h (ix3 b p n) + y (ix3 b p n) := by
  pointwise [val_main_v2, val_main_v1, val_main_v0, val_main_cst]

/-- The reference's first result, at an index. -/
theorem refAt4 (h y g b) (i : Fin 8192) (n : Fin 4096) : val_main_v25 (F := Ideal) h y g b (ix2 i n)
    = norm (fun x => Ideal.ofBits .f32 0x3FB504F3#32 * h (ix3 ⟨i.val / 4096, by omega⟩ ⟨i.val % 4096, by omega⟩ x)
        + y (ix3 ⟨i.val / 4096, by omega⟩ ⟨i.val % 4096, by omega⟩ x)) (g (ix1 n)) (b (ix1 n)) n := by
  refine Eq.trans ?_ (congrArg (fun z => norm z (g (ix1 n)) (b (ix1 n)) n)
    (funext fun x => sumAt h y ⟨i.val / 4096, by omega⟩ ⟨i.val % 4096, by omega⟩ x))
  unfold val_main_v25 val_main_v24 val_main_v21 val_main_v18 val_main_v17 val_main_v16 val_main_v15 val_main_v13 val_main_v11 val_main_v10
    val_main_v9 val_main_v8 val_main_v7 val_main_v6 val_main_v4 val_main_v3
  generalize val_main_v2 (F := Ideal) h y = z
  pointwise [val_main_v23, val_main_v22, val_main_v20, val_main_v19, val_main_v14, val_main_v12, val_main_v5, val_main_cst_0, val_main_cst_1,
    val_main_cst_2, val_main_cst_3, val_main_cst_4]
  unfold norm mean
  rfl

/-- The reference's second result is its first. -/
theorem refAt5 (h y g b) (i : Fin 8192) (n : Fin 4096) : val_main_v26 (F := Ideal) h y g b (ix2 i n)
    = val_main_v25 (F := Ideal) h y g b (ix2 i n) := by
  unfold val_main_v26
  generalize val_main_v25 (F := Ideal) h y g b = z
  pointwise []

end

/-- The row of the whole that a block's row is. -/
abbrev row (t : Fin cfg0.N) (r : Fin 256) : Fin 8192 := ⟨(grid0.coords t 0).val * 256 + r.val, by have := coord0 t; omega⟩

theorem hHost (i : Fin 8192) (x : Fin 4096) : V (F := Ideal) m c main_v0 (ix2 i x)
    = m ((c : Thread nD τ).loc main_arg0) (ix3 ⟨i.val / 4096, by omega⟩ ⟨i.val % 4096, by omega⟩ x) := by
  entry_read
  pointwise []

theorem yHost (i : Fin 8192) (x : Fin 4096) : V (F := Ideal) m c main_v1 (ix2 i x)
    = m ((c : Thread nD τ).loc main_arg1) (ix3 ⟨i.val / 4096, by omega⟩ ⟨i.val % 4096, by omega⟩ x) := by
  entry_read
  pointwise []

theorem gHost (n : Fin 4096) : V (F := Ideal) m c main_v2 (ix2 0 n) = m ((c : Thread nD τ).loc main_arg2) (ix1 n) := by
  entry_read
  pointwise []

theorem bHost (n : Fin 4096) : V (F := Ideal) m c main_v3 (ix2 0 n) = m ((c : Thread nD τ).loc main_arg3) (ix1 n) := by
  entry_read
  pointwise []

theorem hBlock (t : Fin cfg0.N) (r : Fin 256) (x : Fin 4096) : iblk (F := Ideal) m c 0 t (ix2 r x)
    = m ((c : Thread nD τ).loc main_arg0) (ix3 ⟨(row t r).val / 4096, by omega⟩ ⟨(row t r).val % 4096, by omega⟩ x) := by
  have i0 := fun t => (places t).1
  refine Eq.trans (b := V (F := Ideal) m c main_v0 (ix2 (row t r) x)) ?_ (hHost m c (row t r) x)
  blk_ext [iblk, i0]

theorem yBlock (t : Fin cfg0.N) (r : Fin 256) (x : Fin 4096) : iblk (F := Ideal) m c 1 t (ix2 r x)
    = m ((c : Thread nD τ).loc main_arg1) (ix3 ⟨(row t r).val / 4096, by omega⟩ ⟨(row t r).val % 4096, by omega⟩ x) := by
  have i0 := fun t => (places t).2.1
  refine Eq.trans (b := V (F := Ideal) m c main_v1 (ix2 (row t r) x)) ?_ (yHost m c (row t r) x)
  blk_ext [iblk, i0]

theorem gBlock (t : Fin cfg0.N) (n : Fin 4096) : iblk (F := Ideal) m c 2 t (ix2 0 n) = m ((c : Thread nD τ).loc main_arg2) (ix1 n) := by
  have i0 := fun t => (places t).2.2.1
  refine Eq.trans (b := V (F := Ideal) m c main_v2 (ix2 0 n)) ?_ (gHost m c n)
  blk_ext [iblk, i0]

theorem bBlock (t : Fin cfg0.N) (n : Fin 4096) : iblk (F := Ideal) m c 3 t (ix2 0 n) = m ((c : Thread nD τ).loc main_arg3) (ix1 n) := by
  have i0 := fun t => (places t).2.2.2.1
  refine Eq.trans (b := V (F := Ideal) m c main_v3 (ix2 0 n)) ?_ (bHost m c n)
  blk_ext [iblk, i0]

/-- The reference's first result, of the kernel's arguments. -/
abbrev goal4 : FVec Ideal S8192x4096 .f32 :=
  Cert.ReferenceLnIdeal.Read.val_main_v25 (F := Ideal) (m ((c : Thread nD τ).loc main_arg0)) (m ((c : Thread nD τ).loc main_arg1))
    (m ((c : Thread nD τ).loc main_arg2)) (m ((c : Thread nD τ).loc main_arg3))

/-- The reference's second result, of the kernel's arguments. -/
abbrev goal5 : FVec Ideal S8192x4096 .bf16 :=
  Cert.ReferenceLnIdeal.Read.val_main_v26 (F := Ideal) (m ((c : Thread nD τ).loc main_arg0)) (m ((c : Thread nD τ).loc main_arg1))
    (m ((c : Thread nD τ).loc main_arg2)) (m ((c : Thread nD τ).loc main_arg3))

/-- A block of the first result is the reference's. -/
theorem block_eq (t : Fin cfg0.N) (r : Fin 256) (n : Fin 4096) :
    out0_4 (F := Ideal) (iblk m c 0 t) (iblk m c 1 t) (iblk m c 2 t) (iblk m c 3 t) (ix2 r n) = goal4 m c (ix2 (row t r) n) := by
  rw [goal4, refAt4]
  refine (block4 _ _ _ _ r n).trans ?_
  rw [gBlock, bBlock]
  simp only [hBlock, yBlock]

/-- The first array the kernel leaves is the reference's first result. -/
theorem final4 : (dats m 0 c).arrAt 4 cfg0.N = goal4 m c := by
  refine (dats m 0 c).arrAt_eq_of_covers 4 _ (by decide +kernel) fun t hf y => ?_
  have i3 := fun t => (places t).2.2.2.2.1
  refine Eq.trans (b := (dats m 0 c).flushed 4 t y) rfl ?_
  rw [flushed4]
  obtain ⟨r, n, rfl⟩ : ∃ (r : Fin 256) (n : Fin 4096), y = ix2 r n := ⟨_, _, eq_ix2 y⟩
  blk_simp
  refine Eq.trans (b := goal4 m c (ix2 (row t r) n)) ?_ (congrArg (goal4 m c) ?_)
  · exact block_eq m c t r n
  · blk_ext [i3]

/-- The second array the kernel leaves is the reference's second result. -/
theorem final5 : (dats m 0 c).arrAt 5 cfg0.N = goal5 m c := by
  refine (dats m 0 c).arrAt_eq_of_covers 5 _ (by decide +kernel) fun t hf y => ?_
  have i3 := fun t => (places t).2.2.2.2.2
  refine Eq.trans (b := (dats m 0 c).flushed 5 t y) rfl ?_
  rw [flushed5]
  obtain ⟨r, n, rfl⟩ : ∃ (r : Fin 256) (n : Fin 4096), y = ix2 r n := ⟨_, _, eq_ix2 y⟩
  blk_simp
  refine Eq.trans (b := goal5 m c (ix2 (row t r) n)) ?_ (congrArg (goal5 m c) ?_)
  · rw [goal5, refAt5]
    exact (block5 _ _ _ _ r n).trans (block_eq m c t r n)
  · blk_ext [i3]

end Cert.KernelLnIdeal.Value

/-! ## The claims -/

namespace Cert.LnNorm

open Idealize.ShloMosaic Idealize.SL.Sem

theorem reference_frame : Cert.quiescent_ReferenceLnIdeal (hReferenceLnIdeal := Cert.ReferenceLnIdeal.Gen.facts) := fun m ρ _ =>
  (θ_run Cert.ReferenceLnIdeal.defs _ _).mono (fun r h => ⟨fun c => (h c).2.2, sem_eq_zero_of_no_sems (by decide) r.2⟩)
    (Cert.ReferenceLnIdeal.Value.run (F := Ideal) m ρ)

theorem same_result : Cert.algebraic_KernelLnIdeal_ReferenceLnIdeal (hKernelLnIdeal := Cert.KernelLnIdeal.Gen.facts)
    (hReferenceLnIdeal := Cert.ReferenceLnIdeal.Gen.facts) := by
  intro m ρ m' ρ' hpre hagree
  refine ⟨fun c => Cert.KernelLnIdeal.Value.goal4 m c, fun c => Cert.KernelLnIdeal.Value.goal5 m c,
    (θ_run Cert.KernelLnIdeal.defs _ _).mono (fun r h c =>
      ⟨(h c).1.trans (Cert.KernelLnIdeal.Value.final4 m c), (h c).2.1.trans (Cert.KernelLnIdeal.Value.final5 m c), (h c).2.2⟩)
      (Cert.KernelLnIdeal.Value.run_blocks (F := Ideal) m ρ), ?_⟩
  refine (θ_run Cert.ReferenceLnIdeal.defs _ _).mono (fun r h c => ⟨(h c).1.trans ?_, (h c).2.1.trans ?_, (h c).2.2⟩)
    (Cert.ReferenceLnIdeal.Value.run (F := Ideal) m' ρ')
  · refine (Cert.ReferenceLnIdeal.Read.val_main_v25_eq (F := Ideal) _ _ _ _).trans ?_
    rw [(hagree c).1, (hagree c).2.1, (hagree c).2.2.1, (hagree c).2.2.2]
  · refine (Cert.ReferenceLnIdeal.Read.val_main_v26_eq (F := Ideal) _ _ _ _).trans ?_
    rw [(hagree c).1, (hagree c).2.1, (hagree c).2.2.1, (hagree c).2.2.2]

end Cert.LnNorm

end
-- ==== Proof.UqRef.lean ====
module

public import proofs.«01_k».proof.Defs
public import proofs.«01_k».proof.Proof.Gen.ReferenceUqIdeal.Read
public import proofs.«01_k».proof.Proof.Gen.ReferenceUqIdeal.Run
public import Idealize.ShloMosaic.Lib.Pipeline.ValueKit
public import Idealize.ShloMosaic.Lib.Pointwise
public import Idealize.ShloMosaic.Lib.Quiescent

@[expose] public section

set_option maxRecDepth 16384

/-!
# Mixer B's queries: the reference, column by column

A head's first 128 columns go through, the next 64 are turned, the last 64 are zero; all are scaled.
-/

noncomputable section

namespace Cert.Uq

open Cert.ReferenceUqIdeal Cert.ReferenceUqIdeal.Read Idealize.ShloMosaic

/-- A row of the normed latents with a column of the weight. -/
def dot (a : FVec Ideal S2x4096x1536 .f32) (w : FVec Ideal S1536x3072 .f32) (b : Fin 2) (p : Fin 4096) (n : Nat) (h : n < 3072) : EReal :=
  ∑ x : Fin 1536, a (ix3 b p x) * w (ix2 x ⟨n, h⟩)

/-- The cosine of a position's angle at a pair. -/
abbrev cosAt (p : Fin 4096) (k : Nat) (h : k < 32) : EReal := val_main_v18 (F := Ideal) (ix2 p ⟨k, h⟩)
/-- The sine of a position's angle at a pair. -/
abbrev sinAt (p : Fin 4096) (k : Nat) (h : k < 32) : EReal := val_main_v20 (F := Ideal) (ix2 p ⟨k, h⟩)
/-- The softmax scale of mixer B, folded with the change to powers of two. -/
abbrev scale : EReal := Ideal.ofBits .f32 0x3DD53B95#32

/-- The result's column. -/
def spec (a : FVec Ideal S2x4096x1536 .f32) (w : FVec Ideal S1536x3072 .f32) (b : Fin 2) (p : Fin 4096) (n : Nat) (h : n < 4096) : EReal :=
  if h1 : n % 256 < 128 then dot a w b p (n / 256 * 192 + n % 256) (by omega) * scale
  else if h2 : n % 256 < 160 then
    (dot a w b p (n / 256 * 192 + n % 256) (by omega) * cosAt p (n % 256 - 128) (by omega)
      - dot a w b p (n / 256 * 192 + n % 256 + 32) (by omega) * sinAt p (n % 256 - 128) (by omega)) * scale
  else if h3 : n % 256 < 192 then
    (dot a w b p (n / 256 * 192 + n % 256) (by omega) * cosAt p (n % 256 - 160) (by omega)
      + dot a w b p (n / 256 * 192 + n % 256 - 32) (by omega) * sinAt p (n % 256 - 160) (by omega)) * scale
  else 0

theorem word : FloatOps.sitofp (F := Ideal) FTy.f32 0#32 = (0 : EReal) := by
  simp [FloatOps.sitofp]

variable (a : FVec Ideal S2x4096x1536 .f32) (w : FVec Ideal S1536x3072 .f32)

set_option maxHeartbeats 2000000 in
/-- The reference's result, at an index. -/
theorem refAt (i : Fin 8192) (n : Fin 4096) : val_main_v40 (F := Ideal) a w (ix2 i n)
    = spec a w ⟨i.val / 4096, by omega⟩ ⟨i.val % 4096, by omega⟩ n.val n.isLt := by
  pointwise [val_main_v40, val_main_v39, val_main_v38, val_main_v37, val_main_v36, val_main_v35, val_main_v34, val_main_v33, val_main_v32,
    val_main_v31, val_main_v30, val_main_v29, val_main_v28, val_main_v27, val_main_v26, val_main_v25, val_main_v24, val_main_v23, val_main_v22,
    val_main_v21, val_main_v19, val_main_v3, val_main_v2, val_main_v1, val_main_v0, val_main_c, val_main_cst_2, val_main_call0_v0]
  unfold spec dot
  have hi : i.val / 4096 < 2 := by omega
  have hp : i.val % 4096 < 4096 := by omega
  have hg : n.val / 256 < 16 := by omega
  by_cases h1 : n.val % 256 < 128
  · refine (dif_pos ⟨hi, hp, hg, by omega⟩).trans (Eq.trans ?_ (dif_pos h1).symm)
    exact congrArg (fun z : EReal => z * scale) (dif_pos h1)
  by_cases h2 : n.val % 256 < 160
  · have e1 : n.val / 256 * 192 + (128 + (n.val % 256 - 128)) = n.val / 256 * 192 + n.val % 256 := by omega
    have e2 : n.val / 256 * 192 + (128 + (32 + (n.val % 256 - 128))) = n.val / 256 * 192 + n.val % 256 + 32 := by omega
    refine (dif_pos ⟨hi, hp, hg, by omega⟩).trans (Eq.trans ?_ ((dif_neg h1).trans (dif_pos h2)).symm)
    refine congrArg (fun z : EReal => z * scale) ((dif_neg h1).trans ((dif_pos (by omega)).trans ?_))
    simp only [e1, e2]
  by_cases h3 : n.val % 256 < 192
  · have e0 : n.val % 256 - 128 - 32 = n.val % 256 - 160 := by omega
    have e1 : n.val / 256 * 192 + (128 + (32 + (n.val % 256 - 160))) = n.val / 256 * 192 + n.val % 256 := by omega
    have e2 : n.val / 256 * 192 + (128 + (n.val % 256 - 160)) = n.val / 256 * 192 + n.val % 256 - 32 := by omega
    refine (dif_pos ⟨hi, hp, hg, h3⟩).trans (Eq.trans ?_ ((dif_neg h1).trans ((dif_neg h2).trans (dif_pos h3))).symm)
    refine congrArg (fun z : EReal => z * scale) ((dif_neg h1).trans ((dif_neg (by omega)).trans ?_))
    simp only [e0, e1, e2]
  · refine (dif_neg fun e => h3 e.2.2.2).trans (word.trans ?_)
    exact ((dif_neg h1).trans ((dif_neg h2).trans (dif_neg h3))).symm

end Cert.Uq

end
-- ==== Proof.UqHost.lean ====
module

public import Idealize.ShloMosaic.Lib.StableHlo.ReadAt
public import proofs.«01_k».proof.Defs
public import proofs.«01_k».proof.Proof.Gen.KernelUqIdeal.Value
public import proofs.«01_k».proof.Proof.UqRef
public import Idealize.ShloMosaic.Lib.Pipeline.ValueKit
public import Idealize.ShloMosaic.Lib.Pointwise
public import Idealize.ShloMosaic.Lib.Quiescent

@[expose] public section

set_option maxRecDepth 16384

/-!
# Mixer B's queries: what the host hands the kernel

The tables hold the turn of one head: ones before it and zeros after it. The weight's heads are filled up with zeros.
-/

noncomputable section

namespace Cert.KernelUqIdeal.Value

open Cert.KernelUqIdeal Cert.KernelUqIdeal.Gen Idealize.ShloMosaic Idealize.ShloMosaic.TcCoe Idealize.SL.Sem

variable (m : (ℓ : Loc nD τ sig) → Buf (Elt Ideal) ℓ) (c : Dev nD)

open Cert.ReferenceUqIdeal.Read Cert.Uq

/-- Four pieces of a table side by side, scaled, at an index. -/
theorem four_pieces (A : FVec Ideal S4096x128 .f32) (B C : FVec Ideal S4096x32 .f32) (D : FVec Ideal S4096x64 .f32) (k : Fin 4096) (n : Fin 256) :
    mulf (concatenate S4096x256 1 [⟨S4096x128, A⟩, ⟨S4096x32, B⟩, ⟨S4096x32, C⟩, ⟨S4096x64, D⟩]
        concatenates_S4096x128_S4096x32_S4096x32_S4096x64_S4096x256_d1)
      (broadcastInDim S4096x256 ![] bcast_S_S4096x256 (constant S_ FTy.f32 0x3DD53B95#32)) (ix2 k n)
    = (if h1 : n.val < 128 then A (ix2 k ⟨n.val, h1⟩)
      else if h2 : n.val < 160 then B (ix2 k ⟨n.val - 128, by omega⟩)
      else if h3 : n.val < 192 then C (ix2 k ⟨n.val - 160, by omega⟩)
      else D (ix2 k ⟨n.val - 192, by omega⟩)) * scale := by
  pointwise []
  refine congrArg (fun z : EReal => z * scale) ?_
  by_cases h1 : n.val < 128
  · rw [dif_pos h1, dif_pos h1]
  by_cases h2 : n.val < 160
  · rw [dif_neg h1, dif_pos (by omega), dif_neg h1, dif_pos h2]
  by_cases h3 : n.val < 192
  · have e : n.val - 128 - 32 = n.val - 160 := by omega
    rw [dif_neg h1, dif_neg (by omega), dif_pos (by omega), dif_neg h1, dif_neg h2, dif_pos h3]
    simp only [e]
  · have e : n.val - 128 - 32 - 32 = n.val - 192 := by omega
    rw [dif_neg h1, dif_neg (by omega), dif_neg (by omega), dif_neg h1, dif_neg h2, dif_neg h3]
    simp only [e]

set_option maxHeartbeats 2000000 in
/-- The table of the cosines. -/
theorem tableC (k : Fin 4096) (n : Fin 256) : V (F := Ideal) m c main_v31 (ix2 k n)
    = (if h1 : n.val < 128 then (1 : EReal)
      else if h2 : n.val < 160 then cosAt k (n.val - 128) (by omega)
      else if h3 : n.val < 192 then cosAt k (n.val - 160) (by omega)
      else (0 : EReal)) * scale := by
  unfold V
  after_reads_simp
  all_goals try simp -implicitDefEqProofs only [StableHlo.TRef.toBuf, StableHlo.TRef.ofBuf, cast_cast, cast_eq]
  clean_types
  refine (four_pieces _ _ _ _ k n).trans ?_
  refine congrArg (fun z : EReal => z * scale) ?_
  by_cases h1 : n.val < 128
  · refine (dif_pos h1).trans (Eq.trans ?_ (dif_pos h1).symm)
    show StableHlo.upto _ _ _ (Proc.tc.devRef main_v23) _ = _
    after_reads_at
  by_cases h2 : n.val < 160
  · refine ((dif_neg h1).trans (dif_pos h2)).trans (Eq.trans ?_ ((dif_neg h1).trans (dif_pos h2)).symm)
    show StableHlo.upto _ _ _ (Proc.tc.devRef main_v20) _ = _
    after_reads_at
    unfold cosAt
    pointwise [val_main_v20, val_main_v18, val_main_v17, val_main_v16, val_main_v15, val_main_v14, val_main_v13, val_main_v12, val_main_v11, val_main_v10, val_main_v9,
        val_main_v8, val_main_v7, val_main_v6, val_main_v5, val_main_v4, val_main_cst, val_main_cst_0, val_main_cst_1]
  by_cases h3 : n.val < 192
  · refine ((dif_neg h1).trans ((dif_neg h2).trans (dif_pos h3))).trans (Eq.trans ?_ ((dif_neg h1).trans ((dif_neg h2).trans (dif_pos h3))).symm)
    show StableHlo.upto _ _ _ (Proc.tc.devRef main_v20) _ = _
    after_reads_at
    unfold cosAt
    pointwise [val_main_v20, val_main_v18, val_main_v17, val_main_v16, val_main_v15, val_main_v14, val_main_v13, val_main_v12, val_main_v11, val_main_v10, val_main_v9,
        val_main_v8, val_main_v7, val_main_v6, val_main_v5, val_main_v4, val_main_cst, val_main_cst_0, val_main_cst_1]
  · refine ((dif_neg h1).trans ((dif_neg h2).trans (dif_neg h3))).trans (Eq.trans ?_ ((dif_neg h1).trans ((dif_neg h2).trans (dif_neg h3))).symm)
    show StableHlo.upto _ _ _ (Proc.tc.devRef main_v22) _ = _
    after_reads_at

set_option maxHeartbeats 2000000 in
/-- The table of the sines that the first half takes, negated. -/
theorem tableA (k : Fin 4096) (n : Fin 256) : V (F := Ideal) m c main_v33 (ix2 k n)
    = (if h1 : n.val < 128 then (0 : EReal)
      else if h2 : n.val < 160 then -sinAt k (n.val - 128) (by omega)
      else if h3 : n.val < 192 then (0 : EReal)
      else (0 : EReal)) * scale := by
  unfold V
  after_reads_simp
  all_goals try simp -implicitDefEqProofs only [StableHlo.TRef.toBuf, StableHlo.TRef.ofBuf, cast_cast, cast_eq]
  clean_types
  refine (four_pieces _ _ _ _ k n).trans ?_
  refine congrArg (fun z : EReal => z * scale) ?_
  by_cases h1 : n.val < 128
  · refine (dif_pos h1).trans (Eq.trans ?_ (dif_pos h1).symm)
    show StableHlo.upto _ _ _ (Proc.tc.devRef main_v24) _ = _
    after_reads_at
  by_cases h2 : n.val < 160
  · refine ((dif_neg h1).trans (dif_pos h2)).trans (Eq.trans ?_ ((dif_neg h1).trans (dif_pos h2)).symm)
    show StableHlo.upto _ _ _ (Proc.tc.devRef main_v27) _ = _
    after_reads_at
    unfold sinAt
    pointwise [val_main_v20, val_main_v18, val_main_v17, val_main_v16, val_main_v15, val_main_v14, val_main_v13, val_main_v12, val_main_v11, val_main_v10, val_main_v9,
        val_main_v8, val_main_v7, val_main_v6, val_main_v5, val_main_v4, val_main_cst, val_main_cst_0, val_main_cst_1]
  by_cases h3 : n.val < 192
  · refine ((dif_neg h1).trans ((dif_neg h2).trans (dif_pos h3))).trans (Eq.trans ?_ ((dif_neg h1).trans ((dif_neg h2).trans (dif_pos h3))).symm)
    show StableHlo.upto _ _ _ (Proc.tc.devRef main_v25) _ = _
    after_reads_at
  · refine ((dif_neg h1).trans ((dif_neg h2).trans (dif_neg h3))).trans (Eq.trans ?_ ((dif_neg h1).trans ((dif_neg h2).trans (dif_neg h3))).symm)
    show StableHlo.upto _ _ _ (Proc.tc.devRef main_v22) _ = _
    after_reads_at

set_option maxHeartbeats 2000000 in
/-- The table of the sines that the second half takes. -/
theorem tableB (k : Fin 4096) (n : Fin 256) : V (F := Ideal) m c main_v35 (ix2 k n)
    = (if h1 : n.val < 128 then (0 : EReal)
      else if h2 : n.val < 160 then (0 : EReal)
      else if h3 : n.val < 192 then sinAt k (n.val - 160) (by omega)
      else (0 : EReal)) * scale := by
  unfold V
  after_reads_simp
  all_goals try simp -implicitDefEqProofs only [StableHlo.TRef.toBuf, StableHlo.TRef.ofBuf, cast_cast, cast_eq]
  clean_types
  refine (four_pieces _ _ _ _ k n).trans ?_
  refine congrArg (fun z : EReal => z * scale) ?_
  by_cases h1 : n.val < 128
  · refine (dif_pos h1).trans (Eq.trans ?_ (dif_pos h1).symm)
    show StableHlo.upto _ _ _ (Proc.tc.devRef main_v24) _ = _
    after_reads_at
  by_cases h2 : n.val < 160
  · refine ((dif_neg h1).trans (dif_pos h2)).trans (Eq.trans ?_ ((dif_neg h1).trans (dif_pos h2)).symm)
    show StableHlo.upto _ _ _ (Proc.tc.devRef main_v25) _ = _
    after_reads_at
  by_cases h3 : n.val < 192
  · refine ((dif_neg h1).trans ((dif_neg h2).trans (dif_pos h3))).trans (Eq.trans ?_ ((dif_neg h1).trans ((dif_neg h2).trans (dif_pos h3))).symm)
    show StableHlo.upto _ _ _ (Proc.tc.devRef main_v21) _ = _
    after_reads_at
    unfold sinAt
    pointwise [val_main_v20, val_main_v18, val_main_v17, val_main_v16, val_main_v15, val_main_v14, val_main_v13, val_main_v12, val_main_v11, val_main_v10, val_main_v9,
        val_main_v8, val_main_v7, val_main_v6, val_main_v5, val_main_v4, val_main_cst, val_main_cst_0, val_main_cst_1]
  · refine ((dif_neg h1).trans ((dif_neg h2).trans (dif_neg h3))).trans (Eq.trans ?_ ((dif_neg h1).trans ((dif_neg h2).trans (dif_neg h3))).symm)
    show StableHlo.upto _ _ _ (Proc.tc.devRef main_v22) _ = _
    after_reads_at

/-- The weight the kernel takes: each head's columns, and zeros after them. -/
def weight (w : FVec Ideal S1536x3072 .f32) (k : Fin 1536) (n : Nat) (h : n < 4096) : EReal :=
  if e : n % 256 < 192 then w (ix2 k ⟨n / 256 * 192 + n % 256, by omega⟩) else 0

theorem wHost (k : Fin 1536) (n : Fin 4096) : V (F := Ideal) m c main_v3 (ix2 k n)
    = weight (m ((c : Thread nD τ).loc main_arg1)) k n.val n.isLt := by
  unfold V weight
  after_reads_at
  by_cases e : n.val % 256 < 192
  · refine (dif_pos ⟨by omega, e⟩).trans (Eq.trans ?_ (dif_pos e).symm)
    rfl
  · refine (dif_neg (fun h => e h.2)).trans (Eq.trans ?_ (dif_neg e).symm)
    exact word

/-- The activations the kernel takes: the two sequences one under the other. -/
theorem aHost (i : Fin 8192) (x : Fin 1536) : V (F := Ideal) m c main_v5 (ix2 i x)
    = m ((c : Thread nD τ).loc main_arg0) (ix3 ⟨i.val / 4096, by omega⟩ ⟨i.val % 4096, by omega⟩ x) := by
  unfold V
  after_reads_at

end Cert.KernelUqIdeal.Value

end
-- ==== Proof.UqBlock.lean ====
module

public import proofs.«01_k».proof.Defs
public import proofs.«01_k».proof.Proof.Gen.KernelUqIdeal.Value
public import proofs.«01_k».proof.Proof.Reads
public import Idealize.ShloMosaic.Lib.Pipeline.ValueKit
public import Idealize.ShloMosaic.Lib.Pointwise
public import Idealize.ShloMosaic.Lib.Quiescent

@[expose] public section

set_option maxRecDepth 16384

/-!
# Mixer B's queries: one block of the kernel

Two groups of columns, each one head of 256; a column is turned with its partners 32 columns to either side.
-/

noncomputable section

namespace Cert.KernelUqIdeal.Value

open Cert.KernelUqIdeal Cert.KernelUqIdeal.Gen Idealize.ShloMosaic Idealize.ShloMosaic.TcCoe Idealize.SL.Sem

/-- A row of the block with a column of the weight's block. -/
def prod (a : Vec Ideal S1024x1536 .bf16) (w : Vec Ideal S1536x512 .bf16) (r : Fin 1024) (n : Nat) (h : n < 512) : EReal :=
  ∑ x : Fin 1536, a (ix2 r x) * w (ix2 x ⟨n, h⟩)

/-- What the kernel writes: the product by the first table, and its partners by the other two. -/
def turned (a : Vec Ideal S1024x1536 .bf16) (w : Vec Ideal S1536x512 .bf16) (p q u : Vec Ideal S1024x256 .f32) (r : Fin 1024) (g d : Nat)
    (hg : g < 2) (hd : d < 256) : EReal :=
  prod a w r (g * 256 + d) (by omega) * p (ix2 r ⟨d, hd⟩) + prod a w r (g * 256 + (d + 32) % 256) (by omega) * q (ix2 r ⟨d, hd⟩)
    + prod a w r (g * 256 + (d + 224) % 256) (by omega) * u (ix2 r ⟨d, hd⟩)

variable (a : Vec Ideal S1024x1536 .bf16) (w : Vec Ideal S1536x512 .bf16) (p q u : Vec Ideal S1024x256 .f32) (r : Fin 1024) (d : Fin 256)

theorem pay0 : k0_pay5 (F := Ideal) a w p q u (ix2 r d) = turned a w p q u r 0 d.val (by decide) d.isLt := by
  pointwise [k0_pay5, k0_pay1, k0_pay2, k0_pay3, k0_pay4]
  unfold turned prod
  have e1 : 0 * 256 + d.val = d.val := by omega
  have e2 : 0 * 256 + (d.val + 32) % 256 = (d.val + 256 - 224) % 256 := by omega
  have e3 : 0 * 256 + (d.val + 224) % 256 = (d.val + 256 - 32) % 256 := by omega
  simp only [e1, e2, e3]

theorem pay1 : k0_pay6 (F := Ideal) a w p q u (ix2 r d) = turned a w p q u r 1 d.val (by decide) d.isLt := by
  pointwise [k0_pay6, k0_pay1, k0_pay2, k0_pay3, k0_pay4]
  unfold turned prod
  have e1 : 1 * 256 + d.val = 256 + d.val := by omega
  have e2 : 1 * 256 + (d.val + 32) % 256 = 256 + (d.val + 256 - 224) % 256 := by omega
  have e3 : 1 * 256 + (d.val + 224) % 256 = 256 + (d.val + 256 - 32) % 256 := by omega
  simp only [e1, e2, e3]

/-- The newest group of columns written, or an older one, by the column. -/
theorem canon_group (v : Vec Ideal S1024x256 .bf16) (k : Nat) (inb) (L : List (View.Piece (Elt Ideal) S1024x512 EltTy.bf16)) (h : Fin 2) :
    View.canon (⟨Rect.unit ![0, k * 256] ![1024, 256] inb, v⟩ :: L) (ix2 r ⟨h.val * 256 + d.val, by omega⟩)
      = if k = h.val then v (ix2 r d) else View.canon L (ix2 r ⟨h.val * 256 + d.val, by omega⟩) := by
  rw [Reads.canon_cons_unit]
  by_cases e : k = h.val
  · have hm : ∀ a : Fin 2, (![0, k * 256] : Fin 2 → Nat) a ≤ ((ix2 r ⟨h.val * 256 + d.val, by omega⟩ : S1024x512.Idx) a).val
        ∧ ((ix2 r ⟨h.val * 256 + d.val, by omega⟩ : S1024x512.Idx) a).val < (![0, k * 256] : Fin 2 → Nat) a + (![1024, 256] : Fin 2 → Nat) a := by
      refine Fin.forall_fin_two.mpr ⟨?_, ?_⟩
      · show 0 ≤ r.val ∧ r.val < 0 + 1024; omega
      · show k * 256 ≤ h.val * 256 + d.val ∧ h.val * 256 + d.val < k * 256 + 256; omega
    rw [dif_pos hm, if_pos e]
    refine congrArg v (funext fun a => Fin.ext ?_)
    match a with
    | ⟨0, _⟩ => exact Nat.sub_zero _
    | ⟨1, _⟩ => show h.val * 256 + d.val - k * 256 = d.val; omega
  · rw [if_neg e, dif_neg]
    intro hm
    have h2 : k * 256 ≤ h.val * 256 + d.val ∧ h.val * 256 + d.val < k * 256 + 256 := hm 1
    have := d.isLt
    omega

/-- The block's two stores, the newest first. -/
def stores : List (View.Piece (Elt Ideal) S1024x512 EltTy.bf16) :=
  [⟨Rect.unit ![0, 1 * 256] ![1024, 256] (by decide), k0_pay6 a w p q u⟩,
    ⟨Rect.unit ![0, 0 * 256] ![1024, 256] (by decide), k0_pay5 a w p q u⟩]

/-- A whole buffer read is the buffer. -/
theorem ldA {F} [FloatOps F] (v : Vec F S1024x1536 .bf16) : View.ld v r0_0 = v :=
  View.ld_unit_zero (funext fun a => match a with | ⟨0, _⟩ => rfl | ⟨1, _⟩ => rfl) inb_S1024x1536_S1024x1536_0_0 v
theorem ldW {F} [FloatOps F] (v : Vec F S1536x512 .bf16) : View.ld v r0_1 = v :=
  View.ld_unit_zero (funext fun a => match a with | ⟨0, _⟩ => rfl | ⟨1, _⟩ => rfl) inb_S1536x512_S1536x512_0_0 v
theorem ldT {F} [FloatOps F] (v : Vec F S1024x256 .f32) : View.ld v r0_2 = v :=
  View.ld_unit_zero (funext fun a => match a with | ⟨0, _⟩ => rfl | ⟨1, _⟩ => rfl) inb_S1024x256_S1024x256_0_0 v

theorem pieces : out0_5 (F := Ideal) a w p q u = View.canon (stores a w p q u) := by
  unfold out0_5
  rw [ldA, ldW, ldT, ldT, ldT]
  rfl

/-- A block, at an index. -/
theorem block (n : Fin 512) : out0_5 (F := Ideal) a w p q u (ix2 r n)
    = turned a w p q u r (n.val / 256) (n.val % 256) (by omega) (by omega) := by
  rw [pieces]
  have e : ∀ (g : Fin 2) (d : Fin 256), View.canon (stores a w p q u) (ix2 r ⟨g.val * 256 + d.val, by omega⟩)
      = turned a w p q u r g.val d.val g.isLt d.isLt := by
    intro g d
    unfold stores
    rw [canon_group, canon_group, pay0, pay1]
    match g with
    | ⟨0, _⟩ => rfl
    | ⟨1, _⟩ => rfl
  have h := e ⟨n.val / 256, by omega⟩ ⟨n.val % 256, by omega⟩
  have en : (⟨n.val / 256 * 256 + n.val % 256, by omega⟩ : Fin 512) = n := Fin.ext (by show n.val / 256 * 256 + n.val % 256 = n.val; omega)
  simp only [en] at h
  exact h

end Cert.KernelUqIdeal.Value

end
-- ==== Proof.UqMatmul.lean ====
module

public import proofs.«01_k».proof.Defs
public import proofs.«01_k».proof.Proof.Gen.KernelUqIdeal.Value
public import proofs.«01_k».proof.Proof.UqHost
public import proofs.«01_k».proof.Proof.UqBlock
public import proofs.«01_k».proof.Proof.Gen.ReferenceUqIdeal.Read
public import proofs.«01_k».proof.Proof.Gen.ReferenceUqIdeal.Run
public import Idealize.ShloMosaic.Lib.Pipeline.ValueKit
public import Idealize.ShloMosaic.Lib.Pointwise
public import Idealize.ShloMosaic.Lib.Quiescent

@[expose] public section

set_option maxRecDepth 16384

/-!
# Mixer B's queries

The kernel turns a column with tables that hold the scaled sine and its negation beside zeros; the reference turns the
two halves of a head's last columns and scales after.
-/

noncomputable section

namespace Cert.KernelUqIdeal.Value

open Cert.KernelUqIdeal Cert.KernelUqIdeal.Gen Idealize.ShloMosaic Idealize.ShloMosaic.TcCoe Idealize.SL.Sem

variable (m : (ℓ : Loc nD τ sig) → Buf (Elt Ideal) ℓ) (c : Dev nD)

open Cert.Uq

theorem places : ∀ t : Fin cfg0.N, win0_0.index t = ![(grid0.coords t 0).val, 0]
    ∧ win0_1.index t = ![0, (grid0.coords t 1).val]
    ∧ win0_2.index t = ![(grid0.coords t 0).val % 4, 0] ∧ win0_3.index t = ![(grid0.coords t 0).val % 4, 0] ∧ win0_4.index t = ![(grid0.coords t 0).val % 4, 0]
    ∧ win0_5.index t = ![(grid0.coords t 0).val, (grid0.coords t 1).val] := by
  decide +kernel

theorem coord0 : ∀ t : Fin cfg0.N, (grid0.coords t 0).val < 8 := by decide +kernel
theorem coord1 : ∀ t : Fin cfg0.N, (grid0.coords t 1).val < 8 := by decide +kernel

/-- The row of the whole that a block's row is. -/
abbrev row (t : Fin cfg0.N) (r : Fin 1024) : Fin 8192 := ⟨(grid0.coords t 0).val * 1024 + r.val, by have := coord0 t; omega⟩
/-- The column of the whole that a block's column is. -/
abbrev column (t : Fin cfg0.N) (n : Fin 512) : Fin 4096 := ⟨(grid0.coords t 1).val * 512 + n.val, by have := coord1 t; omega⟩
/-- The batch entry of a block's row. -/
abbrev entry (t : Fin cfg0.N) (r : Fin 1024) : Fin 2 := ⟨(row t r).val / 4096, by omega⟩
/-- The position of a block's row. -/
abbrev position (t : Fin cfg0.N) (r : Fin 1024) : Fin 4096 := ⟨(row t r).val % 4096, by omega⟩

theorem aBlock (t : Fin cfg0.N) (r : Fin 1024) (x : Fin 1536) : iblk (F := Ideal) m c 0 t (ix2 r x)
    = m ((c : Thread nD τ).loc main_arg0) (ix3 (entry t r) (position t r) x) := by
  have i0 := fun t => (places t).1
  refine Eq.trans (b := V (F := Ideal) m c main_v5 (ix2 (row t r) x)) ?_ (aHost m c (row t r) x)
  blk_ext [iblk, i0]

theorem wBlock (t : Fin cfg0.N) (x : Fin 1536) (n : Fin 512) : iblk (F := Ideal) m c 1 t (ix2 x n)
    = weight (m ((c : Thread nD τ).loc main_arg1)) x (column t n).val (column t n).isLt := by
  have i0 := fun t => (places t).2.1
  refine Eq.trans (b := V (F := Ideal) m c main_v3 (ix2 x (column t n))) ?_ (wHost m c x (column t n))
  blk_ext [iblk, i0]

theorem position_eq (t : Fin cfg0.N) (r : Fin 1024) : (position t r).val = (grid0.coords t 0).val % 4 * 1024 + r.val := by
  have := coord0 t
  show ((grid0.coords t 0).val * 1024 + r.val) % 4096 = _
  omega

theorem cBlock (t : Fin cfg0.N) (r : Fin 1024) (d : Fin 256) : iblk (F := Ideal) m c 2 t (ix2 r d) = V (F := Ideal) m c main_v31 (ix2 (position t r) d) := by
  have i0 := fun t => (places t).2.2.1
  have e : position t r = ⟨(grid0.coords t 0).val % 4 * 1024 + r.val, by omega⟩ := Fin.ext (position_eq t r)
  rw [e]
  blk_ext [iblk, i0]

theorem saBlock (t : Fin cfg0.N) (r : Fin 1024) (d : Fin 256) : iblk (F := Ideal) m c 3 t (ix2 r d) = V (F := Ideal) m c main_v33 (ix2 (position t r) d) := by
  have i0 := fun t => (places t).2.2.2.1
  have e : position t r = ⟨(grid0.coords t 0).val % 4 * 1024 + r.val, by omega⟩ := Fin.ext (position_eq t r)
  rw [e]
  blk_ext [iblk, i0]

theorem sbBlock (t : Fin cfg0.N) (r : Fin 1024) (d : Fin 256) : iblk (F := Ideal) m c 4 t (ix2 r d) = V (F := Ideal) m c main_v35 (ix2 (position t r) d) := by
  have i0 := fun t => (places t).2.2.2.2.1
  have e : position t r = ⟨(grid0.coords t 0).val % 4 * 1024 + r.val, by omega⟩ := Fin.ext (position_eq t r)
  rw [e]
  blk_ext [iblk, i0]

/-- A product of the kernel, of the reference's arguments. -/
def kdot (a : FVec Ideal S2x4096x1536 .f32) (w : FVec Ideal S1536x3072 .f32) (b : Fin 2) (p : Fin 4096) (n : Nat) (h : n < 4096) : EReal :=
  ∑ x : Fin 1536, a (ix3 b p x) * weight w x n h

theorem kdot_eq (a : FVec Ideal S2x4096x1536 .f32) (w : FVec Ideal S1536x3072 .f32) (b : Fin 2) (p : Fin 4096) (n : Nat) (h : n < 4096)
    (e : n % 256 < 192) (k : Nat) (hk : k = n / 256 * 192 + n % 256) : kdot a w b p n h = dot a w b p k (by omega) := by
  subst hk
  unfold kdot weight dot
  simp only [dif_pos e]

/-- The scale is a real above zero. -/
theorem scale_real : ∃ r : ℝ, 0 ≤ r ∧ scale = (r : EReal) :=
  ⟨13974421 / 134217728, by norm_num, by simp [scale, Ideal.ofBits, Ideal.ieee, -EReal.coe_mul]; norm_num⟩

theorem scale_nonneg : 0 ≤ scale := by
  obtain ⟨r, h, e⟩ := scale_real
  rw [e]; exact_mod_cast h

theorem scale_ne_top : scale ≠ ⊤ := by
  obtain ⟨r, h, e⟩ := scale_real
  rw [e]; exact EReal.coe_ne_top r

theorem plain (x y z : EReal) : x * (1 * scale) + y * (0 * scale) + z * (0 * scale) = x * scale := by
  rw [one_mul, zero_mul, mul_zero, mul_zero, add_zero, add_zero]

theorem first_half (x y z u s : EReal) : x * (u * scale) + y * (-s * scale) + z * (0 * scale) = (x * u - y * s) * scale := by
  rw [zero_mul, mul_zero, add_zero, sub_eq_add_neg, EReal.right_distrib_of_nonneg_of_ne_top scale_nonneg scale_ne_top, ← mul_assoc, ← mul_assoc,
    mul_neg]

theorem second_half (x y z u s : EReal) : x * (u * scale) + y * (0 * scale) + z * (s * scale) = (x * u + z * s) * scale := by
  rw [zero_mul, mul_zero, add_zero, EReal.right_distrib_of_nonneg_of_ne_top scale_nonneg scale_ne_top, ← mul_assoc, ← mul_assoc]

theorem filled (x y z : EReal) : x * (0 * scale) + y * (0 * scale) + z * (0 * scale) = 0 := by
  rw [zero_mul, mul_zero, mul_zero, mul_zero, add_zero, add_zero]

/-- A column turned by the tables is the reference's. -/
theorem turn_eq (a : FVec Ideal S2x4096x1536 .f32) (w : FVec Ideal S1536x3072 .f32) (b : Fin 2) (p : Fin 4096) (n : Nat) (h : n < 4096)
    (x u v : Nat) (hx : x < 4096) (hu : u < 4096) (hv : v < 4096) (d : Nat) (hd : d = n % 256) (ex : x = n / 256 * 256 + d)
    (eu : u = n / 256 * 256 + (d + 32) % 256) (ev : v = n / 256 * 256 + (d + 224) % 256) :
    kdot a w b p x hx * ((if h1 : d < 128 then (1 : EReal) else if h2 : d < 160 then cosAt p (d - 128) (by omega)
        else if h3 : d < 192 then cosAt p (d - 160) (by omega) else (0 : EReal)) * scale)
      + kdot a w b p u hu * ((if h1 : d < 128 then (0 : EReal) else if h2 : d < 160 then -sinAt p (d - 128) (by omega)
        else if h3 : d < 192 then (0 : EReal) else (0 : EReal)) * scale)
      + kdot a w b p v hv * ((if h1 : d < 128 then (0 : EReal) else if h2 : d < 160 then (0 : EReal)
        else if h3 : d < 192 then sinAt p (d - 160) (by omega) else (0 : EReal)) * scale)
      = spec a w b p n h := by
  obtain rfl : x = n := by omega
  subst hd
  unfold spec
  by_cases h1 : x % 256 < 128
  · simp only [dif_pos h1]
    rw [kdot_eq a w b p x hx (by omega) _ rfl]
    exact plain _ _ _
  by_cases h2 : x % 256 < 160
  · simp only [dif_neg h1, dif_pos h2]
    rw [kdot_eq a w b p x hx (by omega) _ rfl, kdot_eq a w b p u hu (by omega) (x / 256 * 192 + x % 256 + 32) (by omega)]
    exact first_half _ _ _ _ _
  by_cases h3 : x % 256 < 192
  · simp only [dif_neg h1, dif_neg h2, dif_pos h3]
    rw [kdot_eq a w b p x hx (by omega) _ rfl, kdot_eq a w b p v hv (by omega) (x / 256 * 192 + x % 256 - 32) (by omega)]
    exact second_half _ _ _ _ _
  · simp only [dif_neg h1, dif_neg h2, dif_neg h3]
    exact filled _ _ _

theorem prod_eq (t : Fin cfg0.N) (r : Fin 1024) (n : Nat) (h : n < 512) :
    prod (iblk (F := Ideal) m c 0 t) (iblk (F := Ideal) m c 1 t) r n h
      = kdot (m ((c : Thread nD τ).loc main_arg0)) (m ((c : Thread nD τ).loc main_arg1)) (entry t r) (position t r)
          ((grid0.coords t 1).val * 512 + n) (column t ⟨n, h⟩).isLt :=
  Finset.sum_congr rfl fun x _ => by rw [aBlock, wBlock]

/-- The reference's result, of the kernel's arguments. -/
abbrev goal : FVec Ideal S8192x4096 .bf16 :=
  Cert.ReferenceUqIdeal.Read.val_main_v40 (F := Ideal) (m ((c : Thread nD τ).loc main_arg0)) (m ((c : Thread nD τ).loc main_arg1))

theorem turned_eq (t : Fin cfg0.N) (r : Fin 1024) (n : Fin 512) :
    turned (iblk (F := Ideal) m c 0 t) (iblk (F := Ideal) m c 1 t) (iblk (F := Ideal) m c 2 t) (iblk (F := Ideal) m c 3 t)
      (iblk (F := Ideal) m c 4 t) r (n.val / 256) (n.val % 256) (by omega) (by omega)
      = spec (m ((c : Thread nD τ).loc main_arg0)) (m ((c : Thread nD τ).loc main_arg1)) (entry t r) (position t r) (column t n).val (column t n).isLt := by
  have hc := coord1 t
  refine Eq.trans ?_ (turn_eq _ _ _ _ (column t n).val (column t n).isLt
    ((grid0.coords t 1).val * 512 + (n.val / 256 * 256 + n.val % 256))
    ((grid0.coords t 1).val * 512 + (n.val / 256 * 256 + (n.val % 256 + 32) % 256))
    ((grid0.coords t 1).val * 512 + (n.val / 256 * 256 + (n.val % 256 + 224) % 256))
    (by omega) (by omega) (by omega) (n.val % 256)
    (by show _ = ((grid0.coords t 1).val * 512 + n.val) % 256; omega)
    (by show _ = ((grid0.coords t 1).val * 512 + n.val) / 256 * 256 + _; omega)
    (by show _ = ((grid0.coords t 1).val * 512 + n.val) / 256 * 256 + _; omega)
    (by show _ = ((grid0.coords t 1).val * 512 + n.val) / 256 * 256 + _; omega))
  unfold turned
  rw [cBlock, saBlock, sbBlock, tableC, tableA, tableB, prod_eq, prod_eq, prod_eq]

/-- The array the kernel leaves is the reference's result. -/
theorem final : (dats m 0 c).arrAt 5 cfg0.N = goal m c := by
  refine (dats m 0 c).arrAt_eq_of_covers 5 _ (by decide +kernel) fun t hf y => ?_
  have i3 := fun t => (places t).2.2.2.2.2
  have hc := coord1 t
  refine Eq.trans (b := (dats m 0 c).flushed 5 t y) rfl ?_
  obtain ⟨r, n, rfl⟩ : ∃ (r : Fin 1024) (n : Fin 512), y = ix2 r n := ⟨_, _, eq_ix2 y⟩
  blk_simp
  refine Eq.trans (b := goal m c (ix2 (row t r) (column t n))) ?_ (congrArg (goal m c) ?_)
  · rw [goal, refAt]
    refine Eq.trans (b := (dats m 0 c).flushed 5 t (ix2 r n)) rfl ?_
    rw [flushed5]
    exact (block _ _ _ _ _ r n).trans (turned_eq m c t r n)
  · blk_ext [i3]

end Cert.KernelUqIdeal.Value

/-! ## The claims -/

namespace Cert.UqMatmul

open Idealize.ShloMosaic Idealize.SL.Sem

theorem reference_frame : Cert.quiescent_ReferenceUqIdeal (hReferenceUqIdeal := Cert.ReferenceUqIdeal.Gen.facts) := fun m ρ _ =>
  (θ_run Cert.ReferenceUqIdeal.defs _ _).mono (fun r h => ⟨fun c => (h c).2, sem_eq_zero_of_no_sems (by decide) r.2⟩)
    (Cert.ReferenceUqIdeal.Value.run (F := Ideal) m ρ)

theorem same_result : Cert.algebraic_KernelUqIdeal_ReferenceUqIdeal (hKernelUqIdeal := Cert.KernelUqIdeal.Gen.facts)
    (hReferenceUqIdeal := Cert.ReferenceUqIdeal.Gen.facts) := by
  intro m ρ m' ρ' hpre hagree
  refine ⟨fun c => Cert.KernelUqIdeal.Value.goal m c, (θ_run Cert.KernelUqIdeal.defs _ _).mono (fun r h c =>
    ⟨(h c).1.trans (Cert.KernelUqIdeal.Value.final m c), (h c).2⟩) (Cert.KernelUqIdeal.Value.run_blocks (F := Ideal) m ρ), ?_⟩
  refine (θ_run Cert.ReferenceUqIdeal.defs _ _).mono (fun r h c => ⟨(h c).1.trans ?_, (h c).2⟩)
    (Cert.ReferenceUqIdeal.Value.run (F := Ideal) m' ρ')
  refine (Cert.ReferenceUqIdeal.Read.val_main_v40_eq (F := Ideal) _ _).trans ?_
  rw [(hagree c).1, (hagree c).2]

end Cert.UqMatmul

end
-- ==== Proof.PbMatmul.lean ====
module

public import Idealize.ShloMosaic.Lib.StableHlo.ReadAt
public import proofs.«01_k».proof.Defs
public import proofs.«01_k».proof.Proof.Gen.KernelPbIdeal.Value
public import proofs.«01_k».proof.Proof.Gen.ReferencePbIdeal.Read
public import proofs.«01_k».proof.Proof.Gen.ReferencePbIdeal.Run
public import Idealize.ShloMosaic.Lib.Pipeline.ValueKit
public import Idealize.ShloMosaic.Lib.Pointwise
public import Idealize.ShloMosaic.Lib.Quiescent
public import proofs.«01_k».proof.Proof.Scale

@[expose] public section

set_option maxRecDepth 16384

/-!
# The indexer's keys and weights and the gates of mixer D

Three narrow projections in one product: their columns, each filled up with zeros, are side by side in the weight.
-/

noncomputable section

namespace Cert.KernelPbIdeal.Value

open Cert.KernelPbIdeal Cert.KernelPbIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![0, 0]
    ∧ win0_2.index t = ![(grid0.coords t 0).val, 0] := by
  decide +kernel

theorem coord0 (t : Fin cfg0.N) : (grid0.coords t 0).val < 8 := (grid0.coords t 0).isLt

/-- The integer zero that fills up, as a float. -/
theorem Pad.word : FloatOps.sitofp (F := Ideal) FTy.f32 0#32 = (0 : EReal) := by
  simp [FloatOps.sitofp]

/-- The weight the projection takes, at an index: the keys' columns, the weights', the gates', with zeros between. -/
def weight (w : FVec Ideal S4096x11376 .f32) (k : Fin 4096) (n : Fin 512) : EReal :=
  if h1 : n.val < 64 then w (ix2 k ⟨5120 + n.val, by omega⟩)
  else if n.val < 128 then 0
  else if h2 : n.val < 160 then w (ix2 k ⟨5184 + (n.val - 128), by omega⟩)
  else if n.val < 256 then 0
  else if h3 : n.val < 272 then w (ix2 k ⟨11360 + (n.val - 256), by omega⟩)
  else 0

/-- The block written, at an index. -/
theorem block (a w) (r : Fin 1024) (n : Fin 512) : out0_2 (F := Ideal) a w (ix2 r n) = ∑ x : Fin 4096, a (ix2 r x) * w (ix2 x n) := by
  frame_out
  pointwise [k0_pay1]

open Cert.ReferencePbIdeal.Read in
/-- The reference's result, at an index. -/
theorem refAt (a w) (i : Fin 8192) (n : Fin 512) : val_main_v15 (F := Ideal) a w (ix2 i n)
    = ∑ x : Fin 4096, a (ix3 ⟨i.val / 4096, by omega⟩ ⟨i.val % 4096, by omega⟩ x) * weight w x n := by
  pointwise [val_main_v15, val_main_v14, val_main_v13, val_main_v12, val_main_v11, val_main_v10, val_main_v6, val_main_v5, val_main_v0,
    val_main_call0_v0, val_main_c, val_main_call1_v0, val_main_c_0, val_main_call2_v0, val_main_c_1]
  unfold weight
  by_cases c1 : n.val < 64
  · have c2 : n.val < 128 := by omega
    simp only [dif_pos c1, dif_pos c2]
    exact dif_pos ⟨by omega, by omega, c1⟩
  by_cases c2 : n.val < 128
  · simp only [dif_neg c1, dif_pos c2, if_pos c2, mul_zero, Finset.sum_const_zero]
    exact (dif_neg fun e => c1 e.2.2).trans Pad.word
  by_cases c3 : n.val < 160
  · have c4 : n.val - 128 < 128 := by omega
    simp only [dif_neg c1, dif_neg c2, if_neg c2, dif_pos c4, dif_pos c3]
    exact dif_pos ⟨by omega, by omega, by omega⟩
  by_cases c4 : n.val < 256
  · have c5 : n.val - 128 < 128 := by omega
    simp only [dif_neg c1, dif_neg c2, if_neg c2, dif_pos c5, dif_neg c3, if_pos c4, mul_zero, Finset.sum_const_zero]
    exact (dif_neg fun e => c3 (by omega)).trans Pad.word
  have c5 : ¬ n.val - 128 < 128 := by omega
  have e : n.val - 128 - 128 = n.val - 256 := by omega
  by_cases c6 : n.val < 272
  · simp only [dif_neg c1, dif_neg c2, if_neg c2, dif_neg c5, dif_neg c3, if_neg c4, dif_pos c6, e]
    exact dif_pos ⟨by omega, by omega, by omega⟩
  · simp only [dif_neg c1, dif_neg c2, if_neg c2, dif_neg c5, dif_neg c3, if_neg c4, dif_neg c6, mul_zero, Finset.sum_const_zero]
    exact (dif_neg fun e => c6 (by omega)).trans Pad.word

/-- The row of the whole that a block's row is. -/
abbrev row (t : Fin cfg0.N) (r : Fin 1024) : Fin 8192 := ⟨(grid0.coords t 0).val * 1024 + r.val, by have := coord0 t; omega⟩

theorem aHost (i : Fin 8192) (x : Fin 4096) : V (F := Ideal) m c main_v1 (ix2 i x)
    = m ((c : Thread nD τ).loc main_arg0) (ix3 ⟨i.val / 4096, by omega⟩ ⟨i.val % 4096, by omega⟩ x) := by
  unfold V
  after_reads_at

set_option maxHeartbeats 2000000 in
theorem wHost (k : Fin 4096) (n : Fin 512) : V (F := Ideal) m c main_v12 (ix2 k n)
    = weight (m ((c : Thread nD τ).loc main_arg1)) k n := by
  unfold V weight
  after_reads_at
  by_cases c0 : 2048 + n.val < 2432
  · refine (dif_pos c0).trans ?_
    by_cases c2 : n.val < 128
    · refine (dif_pos c2).trans ?_
      after_reads_at
      simp only [Pad.word]
      by_cases c1 : n.val < 64
      · simp only [dif_pos c1]
      · simp only [dif_neg c1, if_pos c2]
    have c1 : ¬ n.val < 64 := by omega
    refine (dif_neg c2).trans ?_
    by_cases c5 : n.val - 128 < 128
    · refine (dif_pos c5).trans ?_
      after_reads_at
      simp only [Pad.word]
      have c6 : n.val < 256 := by omega
      by_cases c3 : n.val < 160
      · have c7 : n.val - 128 < 32 := by omega
        simp only [dif_neg c1, if_neg c2, dif_pos c3, dif_pos c7]
      · have c7 : ¬ n.val - 128 < 32 := by omega
        simp only [dif_neg c1, if_neg c2, dif_neg c3, dif_neg c7, if_pos c6]
    have c3 : ¬ n.val < 160 := by omega
    have c6 : ¬ n.val < 256 := by omega
    refine (dif_neg c5).trans ?_
    after_reads_at
    simp only [Pad.word]
    have e : n.val - 128 - 128 = n.val - 256 := by omega
    by_cases c8 : n.val < 272
    · have c7 : n.val - 128 - 128 < 16 := by omega
      simp only [dif_neg c1, if_neg c2, dif_neg c3, if_neg c6, dif_pos c8, e]
      exact dif_pos (by omega)
    · have c7 : ¬ n.val - 128 - 128 < 16 := by omega
      simp only [dif_neg c1, if_neg c2, dif_neg c3, dif_neg c7, if_neg c6, dif_neg c8]
  · have c1 : ¬ n.val < 64 := by omega
    have c2 : ¬ n.val < 128 := by omega
    have c3 : ¬ n.val < 160 := by omega
    have c6 : ¬ n.val < 256 := by omega
    have c8 : ¬ n.val < 272 := by omega
    refine (dif_neg c0).trans (Pad.word.trans ?_)
    simp only [dif_neg c1, if_neg c2, dif_neg c3, if_neg c6, dif_neg c8]

theorem aBlock (t : Fin cfg0.N) (r : Fin 1024) (x : Fin 4096) : iblk (F := Ideal) m c 0 t (ix2 r x)
    = m ((c : Thread nD τ).loc main_arg0) (ix3 ⟨(row t r).val / 4096, by omega⟩ ⟨(row t r).val % 4096, by omega⟩ x) := by
  have i0 := fun t => (places t).1
  refine Eq.trans (b := V (F := Ideal) m c main_v1 (ix2 (row t r) x)) ?_ (aHost m c (row t r) x)
  blk_ext [iblk, i0]

theorem wBlock (t : Fin cfg0.N) (x : Fin 4096) (n : Fin 512) : iblk (F := Ideal) m c 1 t (ix2 x n)
    = weight (m ((c : Thread nD τ).loc main_arg1)) x n := by
  have i0 := fun t => (places t).2.1
  refine Eq.trans (b := V (F := Ideal) m c main_v12 (ix2 x n)) ?_ (wHost m c x n)
  blk_ext [iblk, i0]

/-- The reference's result, of the kernel's arguments. -/
abbrev goal : FVec Ideal S8192x512 .f32 :=
  Cert.ReferencePbIdeal.Read.val_main_v15 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r : Fin 1024) (n : Fin 512), y = ix2 r n := ⟨_, _, eq_ix2 y⟩
  blk_simp
  refine Eq.trans (b := goal m c (ix2 (row t r) n)) ?_ (congrArg (goal m c) ?_)
  · rw [goal, refAt]
    refine (block _ _ r n).trans ?_
    simp only [aBlock, wBlock]
  · blk_ext [i3]

end Cert.KernelPbIdeal.Value

/-! ## The claims -/

namespace Cert.PbMatmul

open Idealize.ShloMosaic Idealize.SL.Sem

theorem reference_frame : Cert.quiescent_ReferencePbIdeal (hReferencePbIdeal := Cert.ReferencePbIdeal.Gen.facts) := fun m ρ _ =>
  (θ_run Cert.ReferencePbIdeal.defs _ _).mono (fun r h => ⟨fun c => (h c).2, sem_eq_zero_of_no_sems (by decide) r.2⟩)
    (Cert.ReferencePbIdeal.Value.run (F := Ideal) m ρ)

theorem same_result : Cert.algebraic_KernelPbIdeal_ReferencePbIdeal (hKernelPbIdeal := Cert.KernelPbIdeal.Gen.facts)
    (hReferencePbIdeal := Cert.ReferencePbIdeal.Gen.facts) := by
  intro m ρ m' ρ' hpre hagree
  refine ⟨fun c => Cert.KernelPbIdeal.Value.goal m c, (θ_run Cert.KernelPbIdeal.defs _ _).mono (fun r h c =>
    ⟨(h c).1.trans (Cert.KernelPbIdeal.Value.final m c), (h c).2⟩) (Cert.KernelPbIdeal.Value.run_blocks (F := Ideal) m ρ), ?_⟩
  refine (θ_run Cert.ReferencePbIdeal.defs _ _).mono (fun r h c => ⟨(h c).1.trans ?_, (h c).2⟩)
    (Cert.ReferencePbIdeal.Value.run (F := Ideal) m' ρ')
  refine (Cert.ReferencePbIdeal.Read.val_main_v15_eq (F := Ideal) _ _).trans ?_
  rw [(hagree c).1, (hagree c).2]

end Cert.PbMatmul

end
-- ==== Proof.RkNorm.lean ====
module

public import proofs.«01_k».proof.Defs
public import proofs.«01_k».proof.Proof.Gen.KernelRkIdeal.Value
public import proofs.«01_k».proof.Proof.Gen.ReferenceRkIdeal.Read
public import proofs.«01_k».proof.Proof.Gen.ReferenceRkIdeal.Run
public import Idealize.ShloMosaic.Lib.Pipeline.ValueKit
public import Idealize.ShloMosaic.Lib.Pointwise
public import Idealize.ShloMosaic.Lib.Quiescent

@[expose] public section

set_option maxRecDepth 16384

/-!
# The RMS norm of the latents of keys and values

The kernel's blocks are cut out of the columns 1536 to 2047 of the latents; the reference takes those columns as a slice.
-/

noncomputable section

namespace Cert.KernelRkIdeal.Value

open Cert.KernelRkIdeal Cert.KernelRkIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 3]
    ∧ win0_1.index t = ![0, 0]
    ∧ win0_2.index t = ![(grid0.coords t 0).val, 0] := by
  decide +kernel

theorem coord0 (t : Fin cfg0.N) : (grid0.coords t 0).val < 16 := (grid0.coords t 0).isLt

/-- A row of 512 normed, at an index: by the root of the mean of its squares and the small constant, by the gain. -/
def norm (z : Fin 512 → EReal) (g : EReal) (n : Fin 512) : EReal :=
  z n * Ideal.rsqrt (Ideal.div (∑ x, z x * z x) (Ideal.ofBits .f32 0x44000000#32) + Ideal.ofBits .f32 0x358637BD#32) * g

/-- The block written, at an index. -/
theorem block (x g) (r : Fin 512) (n : Fin 512) : out0_2 (F := Ideal) x g (ix2 r n) = norm (fun k => x (ix2 r k)) (g (ix2 0 n)) n := by
  frame_out
  pointwise [k0_pay1]
  unfold norm
  rfl

section
open Cert.ReferenceRkIdeal.Read

/-- The columns that the reference norms, at an index. -/
theorem sliceAt (x) (b : Fin 2) (p : Fin 4096) (n : Fin 512) : val_main_v0 (F := Ideal) x (ix3 b p n)
    = x (ix3 b p ⟨1536 + n.val, by omega⟩) := by
  pointwise [val_main_v0]

/-- The reference's result, at an index. -/
theorem refAt (x g) (i : Fin 8192) (n : Fin 512) : val_main_v15 (F := Ideal) x g (ix2 i n)
    = norm (fun k => x (ix3 ⟨i.val / 4096, by omega⟩ ⟨i.val % 4096, by omega⟩ ⟨1536 + k.val, by omega⟩)) (g (ix1 n)) n := by
  refine Eq.trans ?_ (congrArg (fun z => norm z (g (ix1 n)) n)
    (funext fun k => sliceAt x ⟨i.val / 4096, by omega⟩ ⟨i.val % 4096, by omega⟩ k))
  unfold val_main_v15 val_main_v14 val_main_v13 val_main_v10 val_main_v9 val_main_v8 val_main_v7 val_main_v5 val_main_v3 val_main_v2
    val_main_v1
  generalize val_main_v0 (F := Ideal) x = z
  pointwise [val_main_v12, val_main_v11, val_main_v6, val_main_v4, val_main_cst, val_main_cst_0, val_main_cst_1]
  unfold norm
  rfl

end

/-- The row of the whole that a block's row is. -/
abbrev row (t : Fin cfg0.N) (r : Fin 512) : Fin 8192 := ⟨(grid0.coords t 0).val * 512 + r.val, by have := coord0 t; omega⟩

theorem xHost (i : Fin 8192) (x : Fin 2560) : V (F := Ideal) m c main_v0 (ix2 i x)
    = m ((c : Thread nD τ).loc main_arg0) (ix3 ⟨i.val / 4096, by omega⟩ ⟨i.val % 4096, by omega⟩ x) := by
  entry_read
  pointwise []

theorem gHost (n : Fin 512) : V (F := Ideal) m c main_v1 (ix2 0 n) = m ((c : Thread nD τ).loc main_arg1) (ix1 n) := by
  entry_read
  pointwise []

theorem xBlock (t : Fin cfg0.N) (r : Fin 512) (x : Fin 512) : iblk (F := Ideal) m c 0 t (ix2 r x)
    = m ((c : Thread nD τ).loc main_arg0) (ix3 ⟨(row t r).val / 4096, by omega⟩ ⟨(row t r).val % 4096, by omega⟩
        ⟨1536 + x.val, by omega⟩) := by
  have i0 := fun t => (places t).1
  refine Eq.trans (b := V (F := Ideal) m c main_v0 (ix2 (row t r) ⟨1536 + x.val, by omega⟩)) ?_ (xHost m c (row t r) _)
  blk_ext [iblk, i0]

theorem gBlock (t : Fin cfg0.N) (n : Fin 512) : iblk (F := Ideal) m c 1 t (ix2 0 n) = m ((c : Thread nD τ).loc main_arg1) (ix1 n) := by
  have i0 := fun t => (places t).2.1
  refine Eq.trans (b := V (F := Ideal) m c main_v1 (ix2 0 n)) ?_ (gHost m c n)
  blk_ext [iblk, i0]

/-- The reference's result, of the kernel's arguments. -/
abbrev goal : FVec Ideal S8192x512 .bf16 :=
  Cert.ReferenceRkIdeal.Read.val_main_v15 (F := Ideal) (m ((c : Thread nD τ).loc main_arg0)) (m ((c : Thread nD τ).loc main_arg1))

/-- The array the kernel leaves is the reference's result. -/
theorem final : (dats m 0 c).arrAt 2 cfg0.N = goal m c := by
  refine (dats m 0 c).arrAt_eq_of_covers 2 _ (by decide +kernel) fun t hf y => ?_
  have i3 := fun t => (places t).2.2
  refine Eq.trans (b := (dats m 0 c).flushed 2 t y) rfl ?_
  rw [flushed2]
  obtain ⟨r, n, rfl⟩ : ∃ (r : Fin 512) (n : Fin 512), y = ix2 r n := ⟨_, _, eq_ix2 y⟩
  blk_simp
  refine Eq.trans (b := goal m c (ix2 (row t r) n)) ?_ (congrArg (goal m c) ?_)
  · rw [goal, refAt]
    refine (block _ _ r n).trans ?_
    rw [gBlock]
    simp only [xBlock]
  · blk_ext [i3]

end Cert.KernelRkIdeal.Value

/-! ## The claims -/

namespace Cert.RkNorm

open Idealize.ShloMosaic Idealize.SL.Sem

theorem reference_frame : Cert.quiescent_ReferenceRkIdeal (hReferenceRkIdeal := Cert.ReferenceRkIdeal.Gen.facts) := fun m ρ _ =>
  (θ_run Cert.ReferenceRkIdeal.defs _ _).mono (fun r h => ⟨fun c => (h c).2, sem_eq_zero_of_no_sems (by decide) r.2⟩)
    (Cert.ReferenceRkIdeal.Value.run (F := Ideal) m ρ)

theorem same_result : Cert.algebraic_KernelRkIdeal_ReferenceRkIdeal (hKernelRkIdeal := Cert.KernelRkIdeal.Gen.facts)
    (hReferenceRkIdeal := Cert.ReferenceRkIdeal.Gen.facts) := by
  intro m ρ m' ρ' hpre hagree
  refine ⟨fun c => Cert.KernelRkIdeal.Value.goal m c, (θ_run Cert.KernelRkIdeal.defs _ _).mono (fun r h c =>
    ⟨(h c).1.trans (Cert.KernelRkIdeal.Value.final m c), (h c).2⟩) (Cert.KernelRkIdeal.Value.run_blocks (F := Ideal) m ρ), ?_⟩
  refine (θ_run Cert.ReferenceRkIdeal.defs _ _).mono (fun r h c => ⟨(h c).1.trans ?_, (h c).2⟩)
    (Cert.ReferenceRkIdeal.Value.run (F := Ideal) m' ρ')
  refine (Cert.ReferenceRkIdeal.Read.val_main_v15_eq (F := Ideal) _ _).trans ?_
  rw [(hagree c).1, (hagree c).2]

end Cert.RkNorm

end
-- ==== Proof.KiHost.lean ====
module

public import Idealize.ShloMosaic.Lib.StableHlo.ReadAt
public import proofs.«01_k».proof.Defs
public import proofs.«01_k».proof.Proof.Gen.KernelKiIdeal.Value
public import Idealize.ShloMosaic.Lib.Pipeline.ValueKit
public import Idealize.ShloMosaic.Lib.Pointwise
public import Idealize.ShloMosaic.Lib.Quiescent
public import proofs.«01_k».proof.Proof.Gen.ReferenceKiIdeal.Read

@[expose] public section

set_option maxRecDepth 16384

/-!
# The rotary embedding of the indexer's keys: what the host hands the kernel

The tables hold the turn of one head of 64 in their first half and zeros in the other.
-/

noncomputable section

namespace Cert.KernelKiIdeal.Value

open Cert.KernelKiIdeal Cert.KernelKiIdeal.Gen Idealize.ShloMosaic Idealize.ShloMosaic.TcCoe Idealize.SL.Sem
open Cert.ReferenceKiIdeal.Read

variable (m : (ℓ : Loc nD τ sig) → Buf (Elt Ideal) ℓ) (c : Dev nD)

/-- The cosine of a position's angle at a pair. -/
abbrev cosAt (p : Fin 4096) (k : Nat) (h : k < 32) : EReal := val_main_v16 (F := Ideal) (ix2 p ⟨k, h⟩)
/-- The sine of a position's angle at a pair. -/
abbrev sinAt (p : Fin 4096) (k : Nat) (h : k < 32) : EReal := val_main_v18 (F := Ideal) (ix2 p ⟨k, h⟩)

/-- Three pieces of a table side by side, times one, at an index. -/
theorem three_pieces (z0 : FVec Ideal S4096x0 .f32) (A B : FVec Ideal S4096x32 .f32) (C : FVec Ideal S4096x64 .f32) (k : Fin 4096) (n : Fin 128) :
    mulf (concatenate S4096x128 1 [⟨S4096x0, z0⟩, ⟨S4096x32, A⟩, ⟨S4096x32, B⟩, ⟨S4096x64, C⟩]
        concatenates_S4096x0_S4096x32_S4096x32_S4096x64_S4096x128_d1)
      (broadcastInDim S4096x128 ![] bcast_S_S4096x128 (constant S_ FTy.f32 1065353216#32)) (ix2 k n)
    = if h1 : n.val < 32 then A (ix2 k ⟨n.val, h1⟩)
      else if h2 : n.val < 64 then B (ix2 k ⟨n.val - 32, by omega⟩)
      else C (ix2 k ⟨n.val - 64, by omega⟩) := by
  pointwise []
  by_cases h1 : n.val < 32
  · rw [dif_neg (by omega), dif_pos h1, dif_pos h1]
  by_cases h2 : n.val < 64
  · rw [dif_neg (by omega), dif_neg h1, dif_pos (by omega), dif_neg h1, dif_pos h2]
  · have e : n.val - 32 - 32 = n.val - 64 := by omega
    rw [dif_neg (by omega), dif_neg h1, dif_neg (by omega), dif_neg h1, dif_neg h2]
    simp only [e]

set_option maxHeartbeats 2000000 in
/-- The table of the cosines. -/
theorem tableC (k : Fin 4096) (n : Fin 128) : V (F := Ideal) m c main_v26 (ix2 k n)
    = if h1 : n.val < 32 then cosAt k n.val h1 else if h2 : n.val < 64 then cosAt k (n.val - 32) (by omega) else (0 : EReal) := by
  unfold V
  after_reads_simp
  all_goals try simp -implicitDefEqProofs only [StableHlo.TRef.toBuf, StableHlo.TRef.ofBuf, cast_cast, cast_eq]
  clean_types
  refine (three_pieces _ _ _ _ k n).trans ?_
  refine dite_congr rfl (fun h1 => ?_) fun h1 => dite_congr rfl (fun h2 => ?_) fun h2 => ?_
  · show StableHlo.upto _ _ _ (Proc.tc.devRef main_v15) _ = _
    after_reads_at
    unfold cosAt
    pointwise [val_main_v2, val_main_v3, val_main_cst, val_main_v4, val_main_v5, val_main_cst_0, val_main_v6, val_main_v7, val_main_cst_1,
      val_main_v8, val_main_v9, val_main_v10, val_main_v11, val_main_v12, val_main_v13, val_main_v14, val_main_v15, val_main_v16]
  · show StableHlo.upto _ _ _ (Proc.tc.devRef main_v15) _ = _
    after_reads_at
    unfold cosAt
    pointwise [val_main_v2, val_main_v3, val_main_cst, val_main_v4, val_main_v5, val_main_cst_0, val_main_v6, val_main_v7, val_main_cst_1,
      val_main_v8, val_main_v9, val_main_v10, val_main_v11, val_main_v12, val_main_v13, val_main_v14, val_main_v15, val_main_v16]
  · show StableHlo.upto _ _ _ (Proc.tc.devRef main_v17) _ = _
    after_reads_at

set_option maxHeartbeats 2000000 in
/-- The table of the sines that the head's first half takes, negated. -/
theorem tableA (k : Fin 4096) (n : Fin 128) : V (F := Ideal) m c main_v28 (ix2 k n)
    = if h1 : n.val < 32 then -sinAt k n.val h1 else if h2 : n.val < 64 then (0 : EReal) else (0 : EReal) := by
  unfold V
  after_reads_simp
  all_goals try simp -implicitDefEqProofs only [StableHlo.TRef.toBuf, StableHlo.TRef.ofBuf, cast_cast, cast_eq]
  clean_types
  refine (three_pieces _ _ _ _ k n).trans ?_
  refine dite_congr rfl (fun h1 => ?_) fun h1 => dite_congr rfl (fun h2 => ?_) fun h2 => ?_
  · show StableHlo.upto _ _ _ (Proc.tc.devRef main_v22) _ = _
    after_reads_at
    unfold sinAt
    pointwise [val_main_v2, val_main_v3, val_main_cst, val_main_v4, val_main_v5, val_main_cst_0, val_main_v6, val_main_v7, val_main_cst_1,
      val_main_v8, val_main_v9, val_main_v10, val_main_v11, val_main_v12, val_main_v13, val_main_v14, val_main_v15, val_main_v18]
  · show StableHlo.upto _ _ _ (Proc.tc.devRef main_v20) _ = _
    after_reads_at
  · show StableHlo.upto _ _ _ (Proc.tc.devRef main_v17) _ = _
    after_reads_at

set_option maxHeartbeats 2000000 in
/-- The table of the sines that the head's second half takes. -/
theorem tableB (k : Fin 4096) (n : Fin 128) : V (F := Ideal) m c main_v30 (ix2 k n)
    = if h1 : n.val < 32 then (0 : EReal) else if h2 : n.val < 64 then sinAt k (n.val - 32) (by omega) else (0 : EReal) := by
  unfold V
  after_reads_simp
  all_goals try simp -implicitDefEqProofs only [StableHlo.TRef.toBuf, StableHlo.TRef.ofBuf, cast_cast, cast_eq]
  clean_types
  refine (three_pieces _ _ _ _ k n).trans ?_
  refine dite_congr rfl (fun h1 => ?_) fun h1 => dite_congr rfl (fun h2 => ?_) fun h2 => ?_
  · show StableHlo.upto _ _ _ (Proc.tc.devRef main_v20) _ = _
    after_reads_at
  · show StableHlo.upto _ _ _ (Proc.tc.devRef main_v16) _ = _
    after_reads_at
    unfold sinAt
    pointwise [val_main_v2, val_main_v3, val_main_cst, val_main_v4, val_main_v5, val_main_cst_0, val_main_v6, val_main_v7, val_main_cst_1,
      val_main_v8, val_main_v9, val_main_v10, val_main_v11, val_main_v12, val_main_v13, val_main_v14, val_main_v15, val_main_v18]
  · show StableHlo.upto _ _ _ (Proc.tc.devRef main_v17) _ = _
    after_reads_at

/-- The projection's array that the kernel takes: the two sequences one under the other. -/
theorem xHost (i : Fin 8192) (k : Fin 512) : V (F := Ideal) m c main_v0 (ix2 i k)
    = m ((c : Thread nD τ).loc main_arg0) (ix3 ⟨i.val / 4096, by omega⟩ ⟨i.val % 4096, by omega⟩ k) := by
  unfold V
  after_reads_at

end Cert.KernelKiIdeal.Value

end
-- ==== Proof.KiRope.lean ====
module

public import proofs.«01_k».proof.Defs
public import proofs.«01_k».proof.Proof.Gen.KernelKiIdeal.Value
public import proofs.«01_k».proof.Proof.Gen.ReferenceKiIdeal.Read
public import proofs.«01_k».proof.Proof.Gen.ReferenceKiIdeal.Run
public import proofs.«01_k».proof.Proof.KiHost
public import Idealize.ShloMosaic.Lib.Pipeline.ValueKit
public import Idealize.ShloMosaic.Lib.Pointwise
public import Idealize.ShloMosaic.Lib.Quiescent

@[expose] public section

set_option maxRecDepth 16384

/-!
# The rotary embedding of the indexer's keys

The kernel turns a block of 128 columns with tables that are zero where the head of 64 ends; the reference turns the two
halves of the head and fills up with zeros.
-/

noncomputable section

namespace Cert.KernelKiIdeal.Value

open Cert.KernelKiIdeal Cert.KernelKiIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![(grid0.coords t 0).val % 16, 0]
    ∧ win0_2.index t = ![(grid0.coords t 0).val % 16, 0]
    ∧ win0_3.index t = ![(grid0.coords t 0).val % 16, 0]
    ∧ win0_4.index t = ![(grid0.coords t 0).val, 0] := by
  decide +kernel

theorem coord0 (t : Fin cfg0.N) : (grid0.coords t 0).val < 32 := (grid0.coords t 0).isLt

/-- A row's columns turned: the first half of the head, the second half, and zeros after it. -/
def turn (z : Nat → EReal) (p : Fin 4096) (n : Nat) : EReal :=
  if h1 : n < 32 then z n * cosAt p n h1 - z (32 + n) * sinAt p n h1
  else if h2 : n < 64 then z n * cosAt p (n - 32) (by omega) + z (n - 32) * sinAt p (n - 32) (by omega)
  else 0

/-- The block written, at an index. -/
theorem block (x p q u) (r : Fin 256) (n : Fin 128) : out0_4 (F := Ideal) x p q u (ix2 r n)
    = x (ix2 r n) * p (ix2 r n) + x (ix2 r ⟨(n.val + 32) % 128, by omega⟩) * q (ix2 r n)
      + x (ix2 r ⟨(n.val + 96) % 128, by omega⟩) * u (ix2 r n) := by
  have e2 : (n.val + 32) % 128 = (n.val + 128 - 96) % 128 := by omega
  have e3 : (n.val + 96) % 128 = (n.val + 128 - 32) % 128 := by omega
  simp only [e2, e3]
  frame_out
  pointwise [k0_pay1]

section
open Cert.ReferenceKiIdeal.Read

/-- A row of the projection's array, by the number of the column. -/
def rowOf (a : FVec Ideal S2x4096x512 .f32) (b : Fin 2) (p : Fin 4096) (n : Nat) : EReal :=
  if h : n < 512 then a (ix3 b p ⟨n, h⟩) else 0

theorem rowOf_lt (a b p n) (h : n < 512) : rowOf a b p n = a (ix3 b p ⟨n, h⟩) := dif_pos h

/-- The word that the padding is made of is zero. -/
theorem word : FloatOps.sitofp (F := Ideal) FTy.f32 0#32 = (0 : EReal) := by
  simp [FloatOps.sitofp]

set_option maxHeartbeats 2000000 in
/-- The reference's result, at an index. -/
theorem refAt (a) (i : Fin 8192) (n : Fin 128) : val_main_v36 (F := Ideal) a (ix2 i n)
    = turn (rowOf a ⟨i.val / 4096, by omega⟩ ⟨i.val % 4096, by omega⟩) ⟨i.val % 4096, by omega⟩ n.val := by
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v17, val_main_v1, val_main_v0, val_main_call0_v0, val_main_c]
  have hn := n.isLt
  unfold turn
  by_cases h1 : n.val < 32
  · refine (dif_pos ⟨by omega, by omega, by omega⟩).trans ?_
    refine (dif_pos h1).trans (Eq.trans ?_ (dif_pos h1).symm)
    have r1 := rowOf_lt a ⟨i.val / 4096, by omega⟩ ⟨i.val % 4096, by omega⟩ n.val (by omega)
    have r2 := rowOf_lt a ⟨i.val / 4096, by omega⟩ ⟨i.val % 4096, by omega⟩ (32 + n.val) (by omega)
    simp only [r1, r2]
  by_cases h2 : n.val < 64
  · refine (dif_pos ⟨by omega, by omega, h2⟩).trans ?_
    refine (dif_neg h1).trans (Eq.trans ?_ ((dif_neg h1).trans (dif_pos h2)).symm)
    have e : 32 + (n.val - 32) = n.val := by omega
    have r1 := rowOf_lt a ⟨i.val / 4096, by omega⟩ ⟨i.val % 4096, by omega⟩ n.val (by omega)
    have r2 := rowOf_lt a ⟨i.val / 4096, by omega⟩ ⟨i.val % 4096, by omega⟩ (n.val - 32) (by omega)
    simp only [r1, r2, e]
  · refine (dif_neg fun e => h2 e.2.2).trans (word.trans ?_)
    exact ((dif_neg h1).trans (dif_neg h2)).symm

end

/-- The row of the whole that a block's row is. -/
abbrev row (t : Fin cfg0.N) (r : Fin 256) : Fin 8192 := ⟨(grid0.coords t 0).val * 256 + r.val, by have := coord0 t; omega⟩
/-- The position of a block's row. -/
abbrev position (t : Fin cfg0.N) (r : Fin 256) : Fin 4096 := ⟨(row t r).val % 4096, by omega⟩

theorem position_eq (t : Fin cfg0.N) (r : Fin 256) : (position t r).val = (grid0.coords t 0).val % 16 * 256 + r.val := by
  have := coord0 t
  show ((grid0.coords t 0).val * 256 + r.val) % 4096 = _
  omega

theorem xBlock (t : Fin cfg0.N) (r : Fin 256) (x : Fin 128) : iblk (F := Ideal) m c 0 t (ix2 r x)
    = rowOf (m ((c : Thread nD τ).loc main_arg0)) ⟨(row t r).val / 4096, by omega⟩ (position t r) x.val := by
  have i0 := fun t => (places t).1
  have hx := x.isLt
  unfold rowOf
  rw [dif_pos (by omega)]
  refine Eq.trans (b := V (F := Ideal) m c main_v0 (ix2 (row t r) ⟨x.val, by omega⟩)) ?_ (xHost m c (row t r) _)
  blk_ext [iblk, i0]

theorem cBlock (t : Fin cfg0.N) (r : Fin 256) (d : Fin 128) : iblk (F := Ideal) m c 1 t (ix2 r d) = V (F := Ideal) m c main_v26 (ix2 (position t r) d) := by
  have i0 := fun t => (places t).2.1
  have e : position t r = ⟨(grid0.coords t 0).val % 16 * 256 + r.val, by omega⟩ := Fin.ext (position_eq t r)
  rw [e]
  blk_ext [iblk, i0]

theorem saBlock (t : Fin cfg0.N) (r : Fin 256) (d : Fin 128) : iblk (F := Ideal) m c 2 t (ix2 r d) = V (F := Ideal) m c main_v28 (ix2 (position t r) d) := by
  have i0 := fun t => (places t).2.2.1
  have e : position t r = ⟨(grid0.coords t 0).val % 16 * 256 + r.val, by omega⟩ := Fin.ext (position_eq t r)
  rw [e]
  blk_ext [iblk, i0]

theorem sbBlock (t : Fin cfg0.N) (r : Fin 256) (d : Fin 128) : iblk (F := Ideal) m c 3 t (ix2 r d) = V (F := Ideal) m c main_v30 (ix2 (position t r) d) := by
  have i0 := fun t => (places t).2.2.2.1
  have e : position t r = ⟨(grid0.coords t 0).val % 16 * 256 + r.val, by omega⟩ := Fin.ext (position_eq t r)
  rw [e]
  blk_ext [iblk, i0]

/-- A column by the tables, with its two partners, is the column turned. -/
theorem turn_eq (z : Nat → EReal) (p : Fin 4096) (n : Nat) (hn : n < 128) :
    z n * (if h1 : n < 32 then cosAt p n h1 else if h2 : n < 64 then cosAt p (n - 32) (by omega) else (0 : EReal))
      + z ((n + 32) % 128) * (if h1 : n < 32 then -sinAt p n h1 else if h2 : n < 64 then (0 : EReal) else (0 : EReal))
      + z ((n + 96) % 128) * (if h1 : n < 32 then (0 : EReal) else if h2 : n < 64 then sinAt p (n - 32) (by omega) else (0 : EReal))
      = turn z p n := by
  unfold turn
  by_cases h1 : n < 32
  · have e : (n + 32) % 128 = 32 + n := by omega
    rw [dif_pos h1, dif_pos h1, dif_pos h1, dif_pos h1, mul_zero, add_zero, mul_neg, sub_eq_add_neg, e]
  rw [dif_neg h1, dif_neg h1, dif_neg h1, dif_neg h1]
  by_cases h2 : n < 64
  · have e : (n + 96) % 128 = n - 32 := by omega
    rw [dif_pos h2, dif_pos h2, dif_pos h2, dif_pos h2, mul_zero, add_zero, e]
  · rw [dif_neg h2, dif_neg h2, dif_neg h2, dif_neg h2, mul_zero, mul_zero, mul_zero, add_zero, add_zero]

/-- The reference's result, of the kernel's arguments. -/
abbrev goal : FVec Ideal S8192x128 .bf16 :=
  Cert.ReferenceKiIdeal.Read.val_main_v36 (F := Ideal) (m ((c : Thread nD τ).loc main_arg0))

/-- The array the kernel leaves is the reference's result. -/
theorem final : (dats m 0 c).arrAt 4 cfg0.N = goal m c := by
  refine (dats m 0 c).arrAt_eq_of_covers 4 _ (by decide +kernel) fun t hf y => ?_
  have i3 := fun t => (places t).2.2.2.2
  refine Eq.trans (b := (dats m 0 c).flushed 4 t y) rfl ?_
  rw [flushed4]
  obtain ⟨r, n, rfl⟩ : ∃ (r : Fin 256) (n : Fin 128), y = ix2 r n := ⟨_, _, eq_ix2 y⟩
  blk_simp
  refine Eq.trans (b := goal m c (ix2 (row t r) n)) ?_ (congrArg (goal m c) ?_)
  · rw [goal, refAt]
    refine (block _ _ _ _ r n).trans ?_
    rw [xBlock, xBlock, xBlock, cBlock, saBlock, sbBlock, tableC, tableA, tableB]
    exact turn_eq (rowOf (m ((c : Thread nD τ).loc main_arg0)) ⟨(row t r).val / 4096, by omega⟩ (position t r)) (position t r) n.val n.isLt
  · blk_ext [i3]

end Cert.KernelKiIdeal.Value

/-! ## The claims -/

namespace Cert.KiRope

open Idealize.ShloMosaic Idealize.SL.Sem

theorem reference_frame : Cert.quiescent_ReferenceKiIdeal (hReferenceKiIdeal := Cert.ReferenceKiIdeal.Gen.facts) := fun m ρ _ =>
  (θ_run Cert.ReferenceKiIdeal.defs _ _).mono (fun r h => ⟨fun c => (h c).2, sem_eq_zero_of_no_sems (by decide) r.2⟩)
    (Cert.ReferenceKiIdeal.Value.run (F := Ideal) m ρ)

theorem same_result : Cert.algebraic_KernelKiIdeal_ReferenceKiIdeal (hKernelKiIdeal := Cert.KernelKiIdeal.Gen.facts)
    (hReferenceKiIdeal := Cert.ReferenceKiIdeal.Gen.facts) := by
  intro m ρ m' ρ' hpre hagree
  refine ⟨fun c => Cert.KernelKiIdeal.Value.goal m c, (θ_run Cert.KernelKiIdeal.defs _ _).mono (fun r h c =>
    ⟨(h c).1.trans (Cert.KernelKiIdeal.Value.final m c), (h c).2⟩) (Cert.KernelKiIdeal.Value.run_blocks (F := Ideal) m ρ), ?_⟩
  refine (θ_run Cert.ReferenceKiIdeal.defs _ _).mono (fun r h c => ⟨(h c).1.trans ?_, (h c).2⟩)
    (Cert.ReferenceKiIdeal.Value.run (F := Ideal) m' ρ')
  refine (Cert.ReferenceKiIdeal.Read.val_main_v36_eq (F := Ideal) m' c).trans ?_
  rw [hagree c]

end Cert.KiRope

end
-- ==== Proof.ExCast.lean ====
module

public import proofs.«01_k».proof.Defs
public import proofs.«01_k».proof.Proof.Gen.KernelExIdeal.Value
public import proofs.«01_k».proof.Proof.Gen.ReferenceExIdeal.Read
public import proofs.«01_k».proof.Proof.Gen.ReferenceExIdeal.Run
public import Idealize.ShloMosaic.Lib.Pipeline.ValueKit
public import Idealize.ShloMosaic.Lib.Pointwise
public import Idealize.ShloMosaic.Lib.Quiescent

@[expose] public section

set_option maxRecDepth 16384

/-!
# The experts' tables of the second layer

The kernel copies the second layer of each table block by block; the reference takes the layer.
-/

noncomputable section

namespace Cert.KernelExIdeal.Value

open Cert.KernelExIdeal Cert.KernelExIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![1, (grid0.coords t 0).val, 0]
    ∧ win0_1.index t = ![1, (grid0.coords t 0).val, 0]
    ∧ win0_2.index t = ![(grid0.coords t 0).val, 0]
    ∧ win0_3.index t = ![(grid0.coords t 0).val, 0] := by
  decide +kernel

theorem coord0 (t : Fin cfg0.N) : (grid0.coords t 0).val < 64 := (grid0.coords t 0).isLt

/-- The block of the first table written, at an index. -/
theorem block2 (u v) (r : Fin 256) (n : Fin 4096) : out0_2 (F := Ideal) u v (ix2 r n) = u (ix3 0 r n) := by
  frame_out
  pointwise [k0_pay1]

/-- The block of the second table written, at an index. -/
theorem block3 (u v) (r : Fin 256) (n : Fin 4096) : out0_3 (F := Ideal) u v (ix2 r n) = v (ix3 0 r n) := by
  frame_out
  pointwise [k0_pay2]

section
open Cert.ReferenceExIdeal.Read

/-- The reference's first result, at an index. -/
theorem refAt2 (u) (i : Fin 16384) (n : Fin 4096) : val_main_v2 (F := Ideal) u (ix2 i n) = u (ix3 1 i n) := by
  pointwise [val_main_v2, val_main_v1, val_main_v0]

/-- The reference's second result, at an index. -/
theorem refAt3 (v) (i : Fin 16384) (n : Fin 4096) : val_main_v5 (F := Ideal) v (ix2 i n) = v (ix3 1 i n) := by
  pointwise [val_main_v5, val_main_v4, val_main_v3]

end

/-- The row of the whole that a block's row is. -/
abbrev row (t : Fin cfg0.N) (r : Fin 256) : Fin 16384 := ⟨(grid0.coords t 0).val * 256 + r.val, by have := coord0 t; omega⟩

theorem uBlock (t : Fin cfg0.N) (r : Fin 256) (x : Fin 4096) : iblk (F := Ideal) m c 0 t (ix3 0 r x)
    = m ((c : Thread nD τ).loc main_arg0) (ix3 1 (row t r) x) := by
  have i0 := fun t => (places t).1
  refine Eq.trans (b := V (F := Ideal) m c main_arg0 (ix3 1 (row t r) x)) ?_ rfl
  blk_ext [iblk, i0]

theorem vBlock (t : Fin cfg0.N) (r : Fin 256) (x : Fin 4096) : iblk (F := Ideal) m c 1 t (ix3 0 r x)
    = m ((c : Thread nD τ).loc main_arg1) (ix3 1 (row t r) x) := by
  have i0 := fun t => (places t).2.1
  refine Eq.trans (b := V (F := Ideal) m c main_arg1 (ix3 1 (row t r) x)) ?_ rfl
  blk_ext [iblk, i0]

/-- The reference's first result, of the kernel's arguments. -/
abbrev goal2 : FVec Ideal S16384x4096 .bf16 :=
  Cert.ReferenceExIdeal.Read.val_main_v2 (F := Ideal) (m ((c : Thread nD τ).loc main_arg0))

/-- The reference's second result, of the kernel's arguments. -/
abbrev goal3 : FVec Ideal S16384x4096 .bf16 :=
  Cert.ReferenceExIdeal.Read.val_main_v5 (F := Ideal) (m ((c : Thread nD τ).loc main_arg1))

/-- The first array the kernel leaves is the reference's first result. -/
theorem left2 : (dats m 0 c).arrAt 2 cfg0.N = goal2 m c := by
  refine (dats m 0 c).arrAt_eq_of_covers 2 _ (by decide +kernel) fun t hf y => ?_
  have i3 := fun t => (places t).2.2.1
  refine Eq.trans (b := (dats m 0 c).flushed 2 t y) rfl ?_
  rw [flushed2]
  obtain ⟨r, n, rfl⟩ : ∃ (r : Fin 256) (n : Fin 4096), y = ix2 r n := ⟨_, _, eq_ix2 y⟩
  blk_simp
  refine Eq.trans (b := goal2 m c (ix2 (row t r) n)) ?_ (congrArg (goal2 m c) ?_)
  · rw [goal2, refAt2]
    exact (block2 _ _ r n).trans (uBlock m c t r n)
  · blk_ext [i3]

/-- The second array the kernel leaves is the reference's second result. -/
theorem left3 : (dats m 0 c).arrAt 3 cfg0.N = goal3 m c := by
  refine (dats m 0 c).arrAt_eq_of_covers 3 _ (by decide +kernel) fun t hf y => ?_
  have i3 := fun t => (places t).2.2.2
  refine Eq.trans (b := (dats m 0 c).flushed 3 t y) rfl ?_
  rw [flushed3]
  obtain ⟨r, n, rfl⟩ : ∃ (r : Fin 256) (n : Fin 4096), y = ix2 r n := ⟨_, _, eq_ix2 y⟩
  blk_simp
  refine Eq.trans (b := goal3 m c (ix2 (row t r) n)) ?_ (congrArg (goal3 m c) ?_)
  · rw [goal3, refAt3]
    exact (block3 _ _ r n).trans (vBlock m c t r n)
  · blk_ext [i3]

end Cert.KernelExIdeal.Value

/-! ## The claims -/

namespace Cert.ExCast

open Idealize.ShloMosaic Idealize.SL.Sem

theorem reference_frame : Cert.quiescent_ReferenceExIdeal (hReferenceExIdeal := Cert.ReferenceExIdeal.Gen.facts) := fun m ρ _ =>
  (θ_run Cert.ReferenceExIdeal.defs _ _).mono (fun r h => ⟨fun c => (h c).2.2, sem_eq_zero_of_no_sems (by decide) r.2⟩)
    (Cert.ReferenceExIdeal.Value.run (F := Ideal) m ρ)

theorem same_result : Cert.algebraic_KernelExIdeal_ReferenceExIdeal (hKernelExIdeal := Cert.KernelExIdeal.Gen.facts)
    (hReferenceExIdeal := Cert.ReferenceExIdeal.Gen.facts) := by
  intro m ρ m' ρ' hpre hagree
  refine ⟨fun c => Cert.KernelExIdeal.Value.goal2 m c, fun c => Cert.KernelExIdeal.Value.goal3 m c,
    (θ_run Cert.KernelExIdeal.defs _ _).mono (fun r h c =>
      ⟨(h c).1.trans (Cert.KernelExIdeal.Value.left2 m c), (h c).2.1.trans (Cert.KernelExIdeal.Value.left3 m c), (h c).2.2⟩)
      (Cert.KernelExIdeal.Value.run_blocks (F := Ideal) m ρ), ?_⟩
  refine (θ_run Cert.ReferenceExIdeal.defs _ _).mono (fun r h c => ⟨(h c).1.trans ?_, (h c).2.1.trans ?_, (h c).2.2⟩)
    (Cert.ReferenceExIdeal.Value.run (F := Ideal) m' ρ')
  · refine (Cert.ReferenceExIdeal.Read.val_main_v2_eq (F := Ideal) _).trans ?_
    rw [(hagree c).1]
  · refine (Cert.ReferenceExIdeal.Read.val_main_v5_eq (F := Ideal) _).trans ?_
    rw [(hagree c).2]

end Cert.ExCast

end
-- ==== Proof.EyCast.lean ====
module

public import proofs.«01_k».proof.Defs
public import proofs.«01_k».proof.Proof.Gen.KernelEyIdeal.Value
public import proofs.«01_k».proof.Proof.Gen.ReferenceEyIdeal.Read
public import proofs.«01_k».proof.Proof.Gen.ReferenceEyIdeal.Run
public import Idealize.ShloMosaic.Lib.Pipeline.ValueKit
public import Idealize.ShloMosaic.Lib.Pointwise
public import Idealize.ShloMosaic.Lib.Quiescent

@[expose] public section

set_option maxRecDepth 16384

/-!
# The experts' tables of the first layer

The kernel copies the first layer of each table block by block; the reference takes the layer.
-/

noncomputable section

namespace Cert.KernelEyIdeal.Value

open Cert.KernelEyIdeal Cert.KernelEyIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![0, (grid0.coords t 0).val, 0]
    ∧ win0_1.index t = ![0, (grid0.coords t 0).val, 0]
    ∧ win0_2.index t = ![(grid0.coords t 0).val, 0]
    ∧ win0_3.index t = ![(grid0.coords t 0).val, 0] := by
  decide +kernel

theorem coord0 (t : Fin cfg0.N) : (grid0.coords t 0).val < 64 := (grid0.coords t 0).isLt

/-- The block of the first table written, at an index. -/
theorem block2 (u v) (r : Fin 256) (n : Fin 4096) : out0_2 (F := Ideal) u v (ix2 r n) = u (ix3 0 r n) := by
  frame_out
  pointwise [k0_pay1]

/-- The block of the second table written, at an index. -/
theorem block3 (u v) (r : Fin 256) (n : Fin 4096) : out0_3 (F := Ideal) u v (ix2 r n) = v (ix3 0 r n) := by
  frame_out
  pointwise [k0_pay2]

section
open Cert.ReferenceEyIdeal.Read

/-- The reference's first result, at an index. -/
theorem refAt2 (u) (i : Fin 16384) (n : Fin 4096) : val_main_v2 (F := Ideal) u (ix2 i n) = u (ix3 0 i n) := by
  pointwise [val_main_v2, val_main_v1, val_main_v0]

/-- The reference's second result, at an index. -/
theorem refAt3 (v) (i : Fin 16384) (n : Fin 4096) : val_main_v5 (F := Ideal) v (ix2 i n) = v (ix3 0 i n) := by
  pointwise [val_main_v5, val_main_v4, val_main_v3]

end

/-- The row of the whole that a block's row is. -/
abbrev row (t : Fin cfg0.N) (r : Fin 256) : Fin 16384 := ⟨(grid0.coords t 0).val * 256 + r.val, by have := coord0 t; omega⟩

theorem uBlock (t : Fin cfg0.N) (r : Fin 256) (x : Fin 4096) : iblk (F := Ideal) m c 0 t (ix3 0 r x)
    = m ((c : Thread nD τ).loc main_arg0) (ix3 0 (row t r) x) := by
  have i0 := fun t => (places t).1
  refine Eq.trans (b := V (F := Ideal) m c main_arg0 (ix3 0 (row t r) x)) ?_ rfl
  blk_ext [iblk, i0]

theorem vBlock (t : Fin cfg0.N) (r : Fin 256) (x : Fin 4096) : iblk (F := Ideal) m c 1 t (ix3 0 r x)
    = m ((c : Thread nD τ).loc main_arg1) (ix3 0 (row t r) x) := by
  have i0 := fun t => (places t).2.1
  refine Eq.trans (b := V (F := Ideal) m c main_arg1 (ix3 0 (row t r) x)) ?_ rfl
  blk_ext [iblk, i0]

/-- The reference's first result, of the kernel's arguments. -/
abbrev goal2 : FVec Ideal S16384x4096 .bf16 :=
  Cert.ReferenceEyIdeal.Read.val_main_v2 (F := Ideal) (m ((c : Thread nD τ).loc main_arg0))

/-- The reference's second result, of the kernel's arguments. -/
abbrev goal3 : FVec Ideal S16384x4096 .bf16 :=
  Cert.ReferenceEyIdeal.Read.val_main_v5 (F := Ideal) (m ((c : Thread nD τ).loc main_arg1))

/-- The first array the kernel leaves is the reference's first result. -/
theorem left2 : (dats m 0 c).arrAt 2 cfg0.N = goal2 m c := by
  refine (dats m 0 c).arrAt_eq_of_covers 2 _ (by decide +kernel) fun t hf y => ?_
  have i3 := fun t => (places t).2.2.1
  refine Eq.trans (b := (dats m 0 c).flushed 2 t y) rfl ?_
  rw [flushed2]
  obtain ⟨r, n, rfl⟩ : ∃ (r : Fin 256) (n : Fin 4096), y = ix2 r n := ⟨_, _, eq_ix2 y⟩
  blk_simp
  refine Eq.trans (b := goal2 m c (ix2 (row t r) n)) ?_ (congrArg (goal2 m c) ?_)
  · rw [goal2, refAt2]
    exact (block2 _ _ r n).trans (uBlock m c t r n)
  · blk_ext [i3]

/-- The second array the kernel leaves is the reference's second result. -/
theorem left3 : (dats m 0 c).arrAt 3 cfg0.N = goal3 m c := by
  refine (dats m 0 c).arrAt_eq_of_covers 3 _ (by decide +kernel) fun t hf y => ?_
  have i3 := fun t => (places t).2.2.2
  refine Eq.trans (b := (dats m 0 c).flushed 3 t y) rfl ?_
  rw [flushed3]
  obtain ⟨r, n, rfl⟩ : ∃ (r : Fin 256) (n : Fin 4096), y = ix2 r n := ⟨_, _, eq_ix2 y⟩
  blk_simp
  refine Eq.trans (b := goal3 m c (ix2 (row t r) n)) ?_ (congrArg (goal3 m c) ?_)
  · rw [goal3, refAt3]
    exact (block3 _ _ r n).trans (vBlock m c t r n)
  · blk_ext [i3]

end Cert.KernelEyIdeal.Value

/-! ## The claims -/

namespace Cert.EyCast

open Idealize.ShloMosaic Idealize.SL.Sem

theorem reference_frame : Cert.quiescent_ReferenceEyIdeal (hReferenceEyIdeal := Cert.ReferenceEyIdeal.Gen.facts) := fun m ρ _ =>
  (θ_run Cert.ReferenceEyIdeal.defs _ _).mono (fun r h => ⟨fun c => (h c).2.2, sem_eq_zero_of_no_sems (by decide) r.2⟩)
    (Cert.ReferenceEyIdeal.Value.run (F := Ideal) m ρ)

theorem same_result : Cert.algebraic_KernelEyIdeal_ReferenceEyIdeal (hKernelEyIdeal := Cert.KernelEyIdeal.Gen.facts)
    (hReferenceEyIdeal := Cert.ReferenceEyIdeal.Gen.facts) := by
  intro m ρ m' ρ' hpre hagree
  refine ⟨fun c => Cert.KernelEyIdeal.Value.goal2 m c, fun c => Cert.KernelEyIdeal.Value.goal3 m c,
    (θ_run Cert.KernelEyIdeal.defs _ _).mono (fun r h c =>
      ⟨(h c).1.trans (Cert.KernelEyIdeal.Value.left2 m c), (h c).2.1.trans (Cert.KernelEyIdeal.Value.left3 m c), (h c).2.2⟩)
      (Cert.KernelEyIdeal.Value.run_blocks (F := Ideal) m ρ), ?_⟩
  refine (θ_run Cert.ReferenceEyIdeal.defs _ _).mono (fun r h c => ⟨(h c).1.trans ?_, (h c).2.1.trans ?_, (h c).2.2⟩)
    (Cert.ReferenceEyIdeal.Value.run (F := Ideal) m' ρ')
  · refine (Cert.ReferenceEyIdeal.Read.val_main_v2_eq (F := Ideal) _).trans ?_
    rw [(hagree c).1]
  · refine (Cert.ReferenceEyIdeal.Read.val_main_v5_eq (F := Ideal) _).trans ?_
    rw [(hagree c).2]

end Cert.EyCast

end
-- ==== Proof.KvHost.lean ====
module

public import Idealize.ShloMosaic.Lib.StableHlo.ReadAt
public import proofs.«01_k».proof.Defs
public import proofs.«01_k».proof.Proof.Gen.KernelKvIdeal.Value
public import Idealize.ShloMosaic.Lib.Pipeline.ValueKit
public import Idealize.ShloMosaic.Lib.Pointwise
public import Idealize.ShloMosaic.Lib.Quiescent
public import proofs.«01_k».proof.Proof.Gen.ReferenceKvIdeal.Read

@[expose] public section

set_option maxRecDepth 16384

/-!
# The rotary embedding of the indexer's keys: what the host hands the kernel

The tables hold the turn of one head of 64 in their first half and zeros in the other.
-/

noncomputable section

namespace Cert.KernelKvIdeal.Value

open Cert.KernelKvIdeal Cert.KernelKvIdeal.Gen Idealize.ShloMosaic Idealize.ShloMosaic.TcCoe Idealize.SL.Sem
open Cert.ReferenceKvIdeal.Read

variable (m : (ℓ : Loc nD τ sig) → Buf (Elt Ideal) ℓ) (c : Dev nD)

/-- The cosine of a position's angle at a pair. -/
abbrev cosAt (p : Fin 4096) (k : Nat) (h : k < 32) : EReal := val_main_v17 (F := Ideal) (ix2 p ⟨k, h⟩)
/-- The sine of a position's angle at a pair. -/
abbrev sinAt (p : Fin 4096) (k : Nat) (h : k < 32) : EReal := val_main_v19 (F := Ideal) (ix2 p ⟨k, h⟩)

/-- Three pieces of a table side by side, times one, at an index. -/
theorem three_pieces (z0 : FVec Ideal S4096x0 .f32) (A B : FVec Ideal S4096x32 .f32) (C : FVec Ideal S4096x64 .f32) (k : Fin 4096) (n : Fin 128) :
    mulf (concatenate S4096x128 1 [⟨S4096x0, z0⟩, ⟨S4096x32, A⟩, ⟨S4096x32, B⟩, ⟨S4096x64, C⟩]
        concatenates_S4096x0_S4096x32_S4096x32_S4096x64_S4096x128_d1)
      (broadcastInDim S4096x128 ![] bcast_S_S4096x128 (constant S_ FTy.f32 1065353216#32)) (ix2 k n)
    = if h1 : n.val < 32 then A (ix2 k ⟨n.val, h1⟩)
      else if h2 : n.val < 64 then B (ix2 k ⟨n.val - 32, by omega⟩)
      else C (ix2 k ⟨n.val - 64, by omega⟩) := by
  pointwise []
  by_cases h1 : n.val < 32
  · rw [dif_neg (by omega), dif_pos h1, dif_pos h1]
  by_cases h2 : n.val < 64
  · rw [dif_neg (by omega), dif_neg h1, dif_pos (by omega), dif_neg h1, dif_pos h2]
  · have e : n.val - 32 - 32 = n.val - 64 := by omega
    rw [dif_neg (by omega), dif_neg h1, dif_neg (by omega), dif_neg h1, dif_neg h2]
    simp only [e]

set_option maxHeartbeats 2000000 in
/-- The table of the cosines. -/
theorem tableC (k : Fin 4096) (n : Fin 128) : V (F := Ideal) m c main_v28 (ix2 k n)
    = if h1 : n.val < 32 then cosAt k n.val h1 else if h2 : n.val < 64 then cosAt k (n.val - 32) (by omega) else (0 : EReal) := by
  unfold V
  after_reads_simp
  all_goals try simp -implicitDefEqProofs only [StableHlo.TRef.toBuf, StableHlo.TRef.ofBuf, cast_cast, cast_eq]
  clean_types
  refine (three_pieces _ _ _ _ k n).trans ?_
  refine dite_congr rfl (fun h1 => ?_) fun h1 => dite_congr rfl (fun h2 => ?_) fun h2 => ?_
  · show StableHlo.upto _ _ _ (Proc.tc.devRef main_v17) _ = _
    after_reads_at
    unfold cosAt
    pointwise [val_main_v3, val_main_v4, val_main_cst, val_main_v5, val_main_v6, val_main_cst_0, val_main_v7, val_main_v8, val_main_cst_1,
      val_main_v9, val_main_v10, val_main_v11, val_main_v12, val_main_v13, val_main_v14, val_main_v15, val_main_v16, val_main_v17]
  · show StableHlo.upto _ _ _ (Proc.tc.devRef main_v17) _ = _
    after_reads_at
    unfold cosAt
    pointwise [val_main_v3, val_main_v4, val_main_cst, val_main_v5, val_main_v6, val_main_cst_0, val_main_v7, val_main_v8, val_main_cst_1,
      val_main_v9, val_main_v10, val_main_v11, val_main_v12, val_main_v13, val_main_v14, val_main_v15, val_main_v16, val_main_v17]
  · show StableHlo.upto _ _ _ (Proc.tc.devRef main_v19) _ = _
    after_reads_at

set_option maxHeartbeats 2000000 in
/-- The table of the sines that the head's first half takes, negated. -/
theorem tableA (k : Fin 4096) (n : Fin 128) : V (F := Ideal) m c main_v30 (ix2 k n)
    = if h1 : n.val < 32 then -sinAt k n.val h1 else if h2 : n.val < 64 then (0 : EReal) else (0 : EReal) := by
  unfold V
  after_reads_simp
  all_goals try simp -implicitDefEqProofs only [StableHlo.TRef.toBuf, StableHlo.TRef.ofBuf, cast_cast, cast_eq]
  clean_types
  refine (three_pieces _ _ _ _ k n).trans ?_
  refine dite_congr rfl (fun h1 => ?_) fun h1 => dite_congr rfl (fun h2 => ?_) fun h2 => ?_
  · show StableHlo.upto _ _ _ (Proc.tc.devRef main_v24) _ = _
    after_reads_at
    unfold sinAt
    pointwise [val_main_v3, val_main_v4, val_main_cst, val_main_v5, val_main_v6, val_main_cst_0, val_main_v7, val_main_v8, val_main_cst_1,
      val_main_v9, val_main_v10, val_main_v11, val_main_v12, val_main_v13, val_main_v14, val_main_v15, val_main_v16, val_main_v19]
  · show StableHlo.upto _ _ _ (Proc.tc.devRef main_v22) _ = _
    after_reads_at
  · show StableHlo.upto _ _ _ (Proc.tc.devRef main_v19) _ = _
    after_reads_at

set_option maxHeartbeats 2000000 in
/-- The table of the sines that the head's second half takes. -/
theorem tableB (k : Fin 4096) (n : Fin 128) : V (F := Ideal) m c main_v32 (ix2 k n)
    = if h1 : n.val < 32 then (0 : EReal) else if h2 : n.val < 64 then sinAt k (n.val - 32) (by omega) else (0 : EReal) := by
  unfold V
  after_reads_simp
  all_goals try simp -implicitDefEqProofs only [StableHlo.TRef.toBuf, StableHlo.TRef.ofBuf, cast_cast, cast_eq]
  clean_types
  refine (three_pieces _ _ _ _ k n).trans ?_
  refine dite_congr rfl (fun h1 => ?_) fun h1 => dite_congr rfl (fun h2 => ?_) fun h2 => ?_
  · show StableHlo.upto _ _ _ (Proc.tc.devRef main_v22) _ = _
    after_reads_at
  · show StableHlo.upto _ _ _ (Proc.tc.devRef main_v18) _ = _
    after_reads_at
    unfold sinAt
    pointwise [val_main_v3, val_main_v4, val_main_cst, val_main_v5, val_main_v6, val_main_cst_0, val_main_v7, val_main_v8, val_main_cst_1,
      val_main_v9, val_main_v10, val_main_v11, val_main_v12, val_main_v13, val_main_v14, val_main_v15, val_main_v16, val_main_v19]
  · show StableHlo.upto _ _ _ (Proc.tc.devRef main_v19) _ = _
    after_reads_at

/-- The projected keys and values that the kernel takes: the two sequences one under the other. -/
theorem xHost (i : Fin 8192) (k : Fin 4096) : V (F := Ideal) m c main_v1 (ix2 i k)
    = m ((c : Thread nD τ).loc main_arg0) (ix3 ⟨i.val / 4096, by omega⟩ ⟨i.val % 4096, by omega⟩ k) := by
  unfold V
  after_reads_at

/-- The latents that the kernel takes. -/
theorem lHost (i : Fin 8192) (k : Fin 2560) : V (F := Ideal) m c main_v2 (ix2 i k)
    = m ((c : Thread nD τ).loc main_arg1) (ix3 ⟨i.val / 4096, by omega⟩ ⟨i.val % 4096, by omega⟩ k) := by
  unfold V
  after_reads_at

end Cert.KernelKvIdeal.Value

end
-- ==== Proof.KvBlock.lean ====
module

public import proofs.«01_k».proof.Defs
public import proofs.«01_k».proof.Proof.Gen.KernelKvIdeal.Value
public import Idealize.ShloMosaic.Lib.Pipeline.ValueKit
public import Idealize.ShloMosaic.Lib.Pointwise

@[expose] public section

set_option maxRecDepth 16384

/-!
# The keys and values of mixer B: one block of the kernel

Sixteen heads; a head's keys are its own 128 columns and the 128 of the rotary part, its values 128 columns.
-/

noncomputable section

namespace Cert.KernelKvIdeal.Value

open Cert.KernelKvIdeal Cert.KernelKvIdeal.Gen Idealize.ShloMosaic Idealize.ShloMosaic.TcCoe Idealize.SL.Sem

/-- The rotary part by the three tables, at an index. -/
def rotary (l p q u : Vec Ideal S256x128 .f32) (r : Fin 256) (d : Nat) (hd : d < 128) : EReal :=
  l (ix2 r ⟨d, hd⟩) * p (ix2 r ⟨d, hd⟩) + l (ix2 r ⟨(d + 32) % 128, by omega⟩) * q (ix2 r ⟨d, hd⟩)
    + l (ix2 r ⟨(d + 96) % 128, by omega⟩) * u (ix2 r ⟨d, hd⟩)

variable (x : Vec Ideal S256x4096 .bf16) (l p q u : Vec Ideal S256x128 .f32) (r : Fin 256)

/-- A whole buffer read is the buffer. -/
theorem ldT {F} [FloatOps F] (v : Vec F S256x128 .f32) : View.ld v r0_0 = v :=
  View.ld_unit_zero (funext fun a => match a with | ⟨0, _⟩ => rfl | ⟨1, _⟩ => rfl) inb_S256x128_S256x128_0_0 v

theorem pay6 (d : Fin 128) : k0_pay6 (F := Ideal) l p q u (ix2 r d) = rotary l p q u r d.val d.isLt := by
  pointwise [k0_pay6]
  unfold rotary
  have e2 : (d.val + 32) % 128 = (d.val + 128 - 96) % 128 := by omega
  have e3 : (d.val + 96) % 128 = (d.val + 128 - 32) % 128 := by omega
  simp only [e2, e3]

/-- The rotary part stored, at a column of the block. -/
theorem stored_rotary (n : Fin 4096) (z : S256x128.Idx) (h0 : (z 0).val = r.val) (h1 : (z 1).val = n.val % 256 - 128)
    (hn : ¬ n.val % 256 < 128) : k0_pay6 (F := Ideal) (View.ld l r0_0) (View.ld p r0_0) (View.ld q r0_0) (View.ld u r0_0) z
      = rotary l p q u r (n.val % 256 - 128) (by omega) := by
  rw [ldT, ldT, ldT, ldT]
  have e : z = ix2 r ⟨n.val % 256 - 128, by omega⟩ := funext fun a => Fin.ext (match a with | ⟨0, _⟩ => h0 | ⟨1, _⟩ => h1)
  rw [e]
  exact pay6 l p q u r _

/-- A piece loaded and stored as it is, at an index. -/
theorem stored (o : Nat) (inb) (z : S256x128.Idx) (n : Fin 4096) (h0 : (z 0).val = r.val) (h1 : n.val = o + (z 1).val) :
    shapeCast S256x128 (View.ld x (Rect.unit (s := S256x4096) ![0, o] S256x128.size inb)) shapeCasts_S256x128_S256x128 z = x (ix2 r n) := by
  obtain ⟨a, b, rfl⟩ : ∃ (a : Fin 256) (b : Fin 128), z = ix2 a b := ⟨_, _, eq_ix2 z⟩
  refine Eq.trans (b := View.ld x (Rect.unit (s := S256x4096) ![0, o] S256x128.size inb) (ix2 a b)) (by pointwise []) ?_
  refine View.ld_unit_apply_of x _ _ _ _ _ (Fin.forall_fin_two.mpr ⟨?_, ?_⟩)
  · exact h0.symm.trans (Nat.zero_add _).symm
  · exact h1

/-- A block of the keys written, at an index. -/
theorem block5 (n : Fin 4096) : out0_5 (F := Ideal) x l p q u (ix2 r n)
    = if h : n.val % 256 < 128 then x (ix2 r n) else rotary l p q u r (n.val % 256 - 128) (by omega) := by
  canon_tiles z h
  all_goals
    have g0 : r.val = (z 0).val := h0
    have g2 : n.val = _ := h1
    have g3 : (z 1).val < 128 := (z 1).isLt
    clear h0 h1
    first
    | have g1 : n.val % 256 < 128 := by omega
      rw [dif_pos g1]
      refine stored x r _ _ z n g0.symm (?_ : n.val = _)
      omega
    | have g1 : ¬ n.val % 256 < 128 := by omega
      rw [dif_neg g1]
      exact stored_rotary l p q u r n z g0.symm (by omega) g1

/-- A block of the values written, at an index. -/
theorem block6 (n : Fin 2048) : out0_6 (F := Ideal) x l p q u (ix2 r n)
    = x (ix2 r ⟨n.val / 128 * 256 + (128 + n.val % 128), by omega⟩) := by
  canon_tiles z h
  all_goals
    have g0 : r.val = (z 0).val := h0
    have g2 : (z 1).val < 128 := (z 1).isLt
    have g1 : n.val = _ := h1
    clear h0 h1
    refine stored x r _ _ z _ g0.symm (?_ : n.val / 128 * 256 + (128 + n.val % 128) = _)
    omega

end Cert.KernelKvIdeal.Value

end
-- ==== Proof.KvAssemble.lean ====
module

public import proofs.«01_k».proof.Defs
public import proofs.«01_k».proof.Proof.Gen.KernelKvIdeal.Value
public import proofs.«01_k».proof.Proof.Gen.ReferenceKvIdeal.Read
public import proofs.«01_k».proof.Proof.Gen.ReferenceKvIdeal.Run
public import proofs.«01_k».proof.Proof.KvHost
public import proofs.«01_k».proof.Proof.KvBlock
public import Idealize.ShloMosaic.Lib.Pipeline.ValueKit
public import Idealize.ShloMosaic.Lib.Pointwise
public import Idealize.ShloMosaic.Lib.Quiescent

@[expose] public section

set_option maxRecDepth 16384

/-!
# The keys and values of mixer B

The kernel copies a head's own columns and the rotary part that all heads share, turned by tables that are zero where
the part of 64 ends; the reference joins the parts head by head and fills up with zeros.
-/

noncomputable section

namespace Cert.KernelKvIdeal.Value

open Cert.KernelKvIdeal Cert.KernelKvIdeal.Gen Idealize.ShloMosaic Idealize.ShloMosaic.TcCoe Idealize.SL.Sem

variable (m : (ℓ : Loc nD τ sig) → Buf (Elt Ideal) ℓ) (c : Dev nD)

theorem places : ∀ t : Fin cfg0.N, win0_0.index t = ![(grid0.coords t 0).val, 0]
    ∧ win0_1.index t = ![(grid0.coords t 0).val, 16]
    ∧ win0_2.index t = ![(grid0.coords t 0).val % 16, 0]
    ∧ win0_3.index t = ![(grid0.coords t 0).val % 16, 0]
    ∧ win0_4.index t = ![(grid0.coords t 0).val % 16, 0]
    ∧ win0_5.index t = ![(grid0.coords t 0).val, 0]
    ∧ win0_6.index t = ![(grid0.coords t 0).val, 0] := by
  decide +kernel

theorem coord0 (t : Fin cfg0.N) : (grid0.coords t 0).val < 32 := (grid0.coords t 0).isLt

/-- A row's columns turned: the first half of the head, the second half, and zeros after it. -/
def turn (z : Nat → EReal) (p : Fin 4096) (n : Nat) : EReal :=
  if h1 : n < 32 then z n * cosAt p n h1 - z (32 + n) * sinAt p n h1
  else if h2 : n < 64 then z n * cosAt p (n - 32) (by omega) + z (n - 32) * sinAt p (n - 32) (by omega)
  else 0

section
open Cert.ReferenceKvIdeal.Read

/-- A row of the latents, by the number of the column from where the rotary part begins. -/
def rowOf (a : FVec Ideal S2x4096x2560 .f32) (b : Fin 2) (p : Fin 4096) (n : Nat) : EReal :=
  if h : n < 512 then a (ix3 b p ⟨2048 + n, by omega⟩) else 0

theorem rowOf_lt (a b p n) (h : n < 512) : rowOf a b p n = a (ix3 b p ⟨2048 + n, by omega⟩) := dif_pos h

/-- The word that the padding is made of is zero. -/
theorem word : FloatOps.sitofp (F := Ideal) FTy.f32 0#32 = (0 : EReal) := by
  simp [FloatOps.sitofp]

set_option maxHeartbeats 2000000 in
/-- The rotary part of the reference's keys, at an index. -/
theorem turnedAt (a) (b : Fin 2) (p : Fin 4096) (n : Fin 64) : val_main_v33 (F := Ideal) a (ix4 b p 0 n)
    = turn (rowOf a b p) p n.val := by
  pointwise [val_main_v33, val_main_v32, val_main_v31, val_main_v30, val_main_v29, val_main_v28,
    val_main_v27, val_main_v26, val_main_v25, val_main_v24, val_main_v23, val_main_v22, val_main_v21, val_main_v20,
    val_main_v18, val_main_v2, val_main_v1]
  have hn := n.isLt
  unfold turn
  by_cases h1 : n.val < 32
  · refine (dif_pos h1).trans (Eq.trans ?_ (dif_pos h1).symm)
    have r1 := rowOf_lt a b p n.val (by omega)
    have r2 := rowOf_lt a b p (32 + n.val) (by omega)
    simp only [r1, r2]
  · refine (dif_neg h1).trans (Eq.trans ?_ ((dif_neg h1).trans (dif_pos hn)).symm)
    have e : 32 + (n.val - 32) = n.val := by omega
    have r1 := rowOf_lt a b p n.val (by omega)
    have r2 := rowOf_lt a b p (n.val - 32) (by omega)
    simp only [r1, r2, e]

set_option maxHeartbeats 2000000 in
/-- The reference's keys, at an index. -/
theorem refAt5 (x a) (i : Fin 8192) (n : Fin 4096) : val_main_v39 (F := Ideal) x a (ix2 i n)
    = if h : n.val % 256 < 128 then x (ix3 ⟨i.val / 4096, by omega⟩ ⟨i.val % 4096, by omega⟩ n)
      else turn (rowOf a ⟨i.val / 4096, by omega⟩ ⟨i.val % 4096, by omega⟩) ⟨i.val % 4096, by omega⟩ (n.val % 256 - 128) := by
  pointwise [val_main_v39, val_main_v38, val_main_v37, val_main_v36, val_main_v35, val_main_v34, val_main_v0, val_main_call0_v0, val_main_c]
  have hi : i.val / 4096 < 2 := by omega
  have hp : i.val % 4096 < 4096 := by omega
  have hg : n.val / 256 < 16 := by omega
  by_cases h1 : n.val % 256 < 128
  · refine (dif_pos ⟨hi, hp, hg, by omega⟩).trans (Eq.trans ?_ (dif_pos h1).symm)
    refine (dif_pos h1).trans ?_
    have e : n.val / 256 * 256 + n.val % 256 = n.val := by omega
    simp only [e]
  by_cases h2 : n.val % 256 < 192
  · refine (dif_pos ⟨hi, hp, hg, h2⟩).trans (Eq.trans ?_ (dif_neg h1).symm)
    exact (dif_neg h1).trans (turnedAt a _ _ ⟨n.val % 256 - 128, by omega⟩)
  · refine (dif_neg fun e => h2 e.2.2.2).trans (word.trans ?_)
    refine Eq.trans ?_ (dif_neg h1).symm
    have g1 : ¬ n.val % 256 - 128 < 32 := by omega
    have g2 : ¬ n.val % 256 - 128 < 64 := by omega
    unfold turn
    exact ((dif_neg g1).trans (dif_neg g2)).symm

/-- The reference's values, at an index. -/
theorem refAt6 (x) (i : Fin 8192) (n : Fin 2048) : val_main_v42 (F := Ideal) x (ix2 i n)
    = x (ix3 ⟨i.val / 4096, by omega⟩ ⟨i.val % 4096, by omega⟩ ⟨n.val / 128 * 256 + (128 + n.val % 128), by omega⟩) := by
  pointwise [val_main_v42, val_main_v41, val_main_v40, val_main_v0]

end

/-- The row of the whole that a block's row is. -/
abbrev row (t : Fin cfg0.N) (r : Fin 256) : Fin 8192 := ⟨(grid0.coords t 0).val * 256 + r.val, by have := coord0 t; omega⟩
/-- The position of a block's row. -/
abbrev position (t : Fin cfg0.N) (r : Fin 256) : Fin 4096 := ⟨(row t r).val % 4096, by omega⟩

theorem position_eq (t : Fin cfg0.N) (r : Fin 256) : (position t r).val = (grid0.coords t 0).val % 16 * 256 + r.val := by
  have := coord0 t
  show ((grid0.coords t 0).val * 256 + r.val) % 4096 = _
  omega

theorem xBlock (t : Fin cfg0.N) (r : Fin 256) (x : Fin 4096) : iblk (F := Ideal) m c 0 t (ix2 r x)
    = m ((c : Thread nD τ).loc main_arg0) (ix3 ⟨(row t r).val / 4096, by omega⟩ (position t r) x) := by
  have i0 := fun t => (places t).1
  refine Eq.trans (b := V (F := Ideal) m c main_v1 (ix2 (row t r) x)) ?_ (xHost m c (row t r) _)
  blk_ext [iblk, i0]

theorem lBlock (t : Fin cfg0.N) (r : Fin 256) (x : Fin 128) : iblk (F := Ideal) m c 1 t (ix2 r x)
    = rowOf (m ((c : Thread nD τ).loc main_arg1)) ⟨(row t r).val / 4096, by omega⟩ (position t r) x.val := by
  have i0 := fun t => (places t).2.1
  refine Eq.trans ?_ (rowOf_lt _ _ _ x.val (by omega)).symm
  refine Eq.trans (b := V (F := Ideal) m c main_v2 (ix2 (row t r) ⟨2048 + x.val, by omega⟩)) ?_ (lHost m c (row t r) _)
  blk_ext [iblk, i0]

theorem cBlock (t : Fin cfg0.N) (r : Fin 256) (d : Fin 128) : iblk (F := Ideal) m c 2 t (ix2 r d) = V (F := Ideal) m c main_v28 (ix2 (position t r) d) := by
  have i0 := fun t => (places t).2.2.1
  have e : position t r = ⟨(grid0.coords t 0).val % 16 * 256 + r.val, by omega⟩ := Fin.ext (position_eq t r)
  rw [e]
  blk_ext [iblk, i0]

theorem saBlock (t : Fin cfg0.N) (r : Fin 256) (d : Fin 128) : iblk (F := Ideal) m c 3 t (ix2 r d) = V (F := Ideal) m c main_v30 (ix2 (position t r) d) := by
  have i0 := fun t => (places t).2.2.2.1
  have e : position t r = ⟨(grid0.coords t 0).val % 16 * 256 + r.val, by omega⟩ := Fin.ext (position_eq t r)
  rw [e]
  blk_ext [iblk, i0]

theorem sbBlock (t : Fin cfg0.N) (r : Fin 256) (d : Fin 128) : iblk (F := Ideal) m c 4 t (ix2 r d) = V (F := Ideal) m c main_v32 (ix2 (position t r) d) := by
  have i0 := fun t => (places t).2.2.2.2.1
  have e : position t r = ⟨(grid0.coords t 0).val % 16 * 256 + r.val, by omega⟩ := Fin.ext (position_eq t r)
  rw [e]
  blk_ext [iblk, i0]

/-- A column by the tables, with its two partners, is the column turned. -/
theorem turn_eq (z : Nat → EReal) (p : Fin 4096) (n : Nat) (hn : n < 128) :
    z n * (if h1 : n < 32 then cosAt p n h1 else if h2 : n < 64 then cosAt p (n - 32) (by omega) else (0 : EReal))
      + z ((n + 32) % 128) * (if h1 : n < 32 then -sinAt p n h1 else if h2 : n < 64 then (0 : EReal) else (0 : EReal))
      + z ((n + 96) % 128) * (if h1 : n < 32 then (0 : EReal) else if h2 : n < 64 then sinAt p (n - 32) (by omega) else (0 : EReal))
      = turn z p n := by
  unfold turn
  by_cases h1 : n < 32
  · have e : (n + 32) % 128 = 32 + n := by omega
    rw [dif_pos h1, dif_pos h1, dif_pos h1, dif_pos h1, mul_zero, add_zero, mul_neg, sub_eq_add_neg, e]
  rw [dif_neg h1, dif_neg h1, dif_neg h1, dif_neg h1]
  by_cases h2 : n < 64
  · have e : (n + 96) % 128 = n - 32 := by omega
    rw [dif_pos h2, dif_pos h2, dif_pos h2, dif_pos h2, mul_zero, add_zero, e]
  · rw [dif_neg h2, dif_neg h2, dif_neg h2, dif_neg h2, mul_zero, mul_zero, mul_zero, add_zero, add_zero]

/-- The reference's keys, of the kernel's arguments. -/
abbrev goal5 : FVec Ideal S8192x4096 .bf16 :=
  Cert.ReferenceKvIdeal.Read.val_main_v39 (F := Ideal) (m ((c : Thread nD τ).loc main_arg0)) (m ((c : Thread nD τ).loc main_arg1))

/-- The reference's values, of the kernel's arguments. -/
abbrev goal6 : FVec Ideal S8192x2048 .bf16 :=
  Cert.ReferenceKvIdeal.Read.val_main_v42 (F := Ideal) (m ((c : Thread nD τ).loc main_arg0))

theorem rotary_eq (t : Fin cfg0.N) (r : Fin 256) (d : Nat) (hd : d < 128) :
    rotary (iblk (F := Ideal) m c 1 t) (iblk (F := Ideal) m c 2 t) (iblk (F := Ideal) m c 3 t) (iblk (F := Ideal) m c 4 t) r d hd
    = turn (rowOf (m ((c : Thread nD τ).loc main_arg1)) ⟨(row t r).val / 4096, by omega⟩ (position t r)) (position t r) d := by
  unfold rotary
  rw [lBlock, lBlock, lBlock, cBlock, saBlock, sbBlock, tableC, tableA, tableB]
  exact turn_eq (rowOf (m ((c : Thread nD τ).loc main_arg1)) ⟨(row t r).val / 4096, by omega⟩ (position t r)) (position t r) d hd

/-- The keys the kernel leaves are the reference's. -/
theorem left5 : (dats m 0 c).arrAt 5 cfg0.N = goal5 m c := by
  refine (dats m 0 c).arrAt_eq_of_covers 5 _ (by decide +kernel) fun t hf y => ?_
  have i3 := fun t => (places t).2.2.2.2.2.1
  refine Eq.trans (b := (dats m 0 c).flushed 5 t y) rfl ?_
  rw [flushed5]
  obtain ⟨r, n, rfl⟩ : ∃ (r : Fin 256) (n : Fin 4096), y = ix2 r n := ⟨_, _, eq_ix2 y⟩
  blk_simp
  refine Eq.trans (b := goal5 m c (ix2 (row t r) n)) ?_ (congrArg (goal5 m c) ?_)
  · rw [goal5, refAt5]
    refine (block5 _ _ _ _ _ r n).trans ?_
    exact dite_congr rfl (fun h => xBlock m c t r n) fun h => rotary_eq m c t r _ _
  · blk_ext [i3]

/-- The values the kernel leaves are the reference's. -/
theorem left6 : (dats m 0 c).arrAt 6 cfg0.N = goal6 m c := by
  refine (dats m 0 c).arrAt_eq_of_covers 6 _ (by decide +kernel) fun t hf y => ?_
  have i3 := fun t => (places t).2.2.2.2.2.2
  refine Eq.trans (b := (dats m 0 c).flushed 6 t y) rfl ?_
  rw [flushed6]
  obtain ⟨r, n, rfl⟩ : ∃ (r : Fin 256) (n : Fin 2048), y = ix2 r n := ⟨_, _, eq_ix2 y⟩
  blk_simp
  refine Eq.trans (b := goal6 m c (ix2 (row t r) n)) ?_ (congrArg (goal6 m c) ?_)
  · rw [goal6, refAt6]
    exact (block6 _ _ _ _ _ r n).trans (xBlock m c t r _)
  · blk_ext [i3]

end Cert.KernelKvIdeal.Value

/-! ## The claims -/

namespace Cert.KvAssemble

open Idealize.ShloMosaic Idealize.SL.Sem

theorem reference_frame : Cert.quiescent_ReferenceKvIdeal (hReferenceKvIdeal := Cert.ReferenceKvIdeal.Gen.facts) := fun m ρ _ =>
  (θ_run Cert.ReferenceKvIdeal.defs _ _).mono (fun r h => ⟨fun c => (h c).2.2, sem_eq_zero_of_no_sems (by decide) r.2⟩)
    (Cert.ReferenceKvIdeal.Value.run (F := Ideal) m ρ)

theorem same_result : Cert.algebraic_KernelKvIdeal_ReferenceKvIdeal (hKernelKvIdeal := Cert.KernelKvIdeal.Gen.facts)
    (hReferenceKvIdeal := Cert.ReferenceKvIdeal.Gen.facts) := by
  intro m ρ m' ρ' hpre hagree
  refine ⟨fun c => Cert.KernelKvIdeal.Value.goal5 m c, fun c => Cert.KernelKvIdeal.Value.goal6 m c,
    (θ_run Cert.KernelKvIdeal.defs _ _).mono (fun r h c =>
      ⟨(h c).1.trans (Cert.KernelKvIdeal.Value.left5 m c), (h c).2.1.trans (Cert.KernelKvIdeal.Value.left6 m c), (h c).2.2⟩)
      (Cert.KernelKvIdeal.Value.run_blocks (F := Ideal) m ρ), ?_⟩
  refine (θ_run Cert.ReferenceKvIdeal.defs _ _).mono (fun r h c => ⟨(h c).1.trans ?_, (h c).2.1.trans ?_, (h c).2.2⟩)
    (Cert.ReferenceKvIdeal.Value.run (F := Ideal) m' ρ')
  · refine (Cert.ReferenceKvIdeal.Read.val_main_v39_eq (F := Ideal) m' c).trans ?_
    rw [(hagree c).1, (hagree c).2]
  · refine (Cert.ReferenceKvIdeal.Read.val_main_v42_eq (F := Ideal) _).trans ?_
    rw [(hagree c).1]

end Cert.KvAssemble

end
-- ==== Proof.lean ====
/-
  Nineteen calls of the version leave what the reference leaves, each element the same at exact arithmetic: the memory
  cross-attention (for finite inputs), the projections around the attentions, and two norms, the last of
  which gives the layer's result, and calls that turn, lay out or cast without a product (for all inputs).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite
public import proofs.«01_k».proof.Proof.Gen.KernelQkv
public import proofs.«01_k».proof.Proof.Gen.KernelQkv.Frame
public import proofs.«01_k».proof.Proof.Gen.KernelQkvIdeal
public import proofs.«01_k».proof.Proof.Gen.KernelQkvIdeal.Frame
public import proofs.«01_k».proof.Proof.Gen.KernelQkvIdeal.Value
public import proofs.«01_k».proof.Proof.Gen.ReferenceQkvIdeal
public import proofs.«01_k».proof.Proof.Gen.ReferenceQkvIdeal.Run
public import proofs.«01_k».proof.Proof.Gen.ReferenceQkvIdeal.Read
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelCd
public import proofs.«01_k».proof.Proof.Gen.KernelCd.Frame
public import proofs.«01_k».proof.Proof.Gen.KernelCdIdeal
public import proofs.«01_k».proof.Proof.Gen.KernelCdIdeal.Frame
public import proofs.«01_k».proof.Proof.Gen.KernelCdIdeal.Value
public import proofs.«01_k».proof.Proof.Gen.ReferenceCdIdeal
public import proofs.«01_k».proof.Proof.Gen.ReferenceCdIdeal.Run
public import proofs.«01_k».proof.Proof.Gen.ReferenceCdIdeal.Read
public import proofs.«01_k».proof.Proof.Gen.KernelQt
public import proofs.«01_k».proof.Proof.Gen.KernelQt.Frame
public import proofs.«01_k».proof.Proof.Gen.KernelQtIdeal
public import proofs.«01_k».proof.Proof.Gen.KernelQtIdeal.Frame
public import proofs.«01_k».proof.Proof.Gen.KernelQtIdeal.Value
public import proofs.«01_k».proof.Proof.Gen.ReferenceQtIdeal
public import proofs.«01_k».proof.Proof.Gen.ReferenceQtIdeal.Run
public import proofs.«01_k».proof.Proof.Gen.ReferenceQtIdeal.Read
public import proofs.«01_k».proof.Proof.Gen.KernelLat
public import proofs.«01_k».proof.Proof.Gen.KernelLat.Frame
public import proofs.«01_k».proof.Proof.Gen.KernelLatIdeal
public import proofs.«01_k».proof.Proof.Gen.KernelLatIdeal.Frame
public import proofs.«01_k».proof.Proof.Gen.KernelLatIdeal.Value
public import proofs.«01_k».proof.Proof.Gen.ReferenceLatIdeal
public import proofs.«01_k».proof.Proof.Gen.ReferenceLatIdeal.Run
public import proofs.«01_k».proof.Proof.Gen.ReferenceLatIdeal.Read
public import proofs.«01_k».proof.Proof.Gen.KernelUkv
public import proofs.«01_k».proof.Proof.Gen.KernelUkv.Frame
public import proofs.«01_k».proof.Proof.Gen.KernelUkvIdeal
public import proofs.«01_k».proof.Proof.Gen.KernelUkvIdeal.Frame
public import proofs.«01_k».proof.Proof.Gen.KernelUkvIdeal.Value
public import proofs.«01_k».proof.Proof.Gen.ReferenceUkvIdeal
public import proofs.«01_k».proof.Proof.Gen.ReferenceUkvIdeal.Run
public import proofs.«01_k».proof.Proof.Gen.ReferenceUkvIdeal.Read
public import proofs.«01_k».proof.Proof.Gen.KernelMq
public import proofs.«01_k».proof.Proof.Gen.KernelMq.Frame
public import proofs.«01_k».proof.Proof.Gen.KernelMqIdeal
public import proofs.«01_k».proof.Proof.Gen.KernelMqIdeal.Frame
public import proofs.«01_k».proof.Proof.Gen.KernelMqIdeal.Value
public import proofs.«01_k».proof.Proof.Gen.ReferenceMqIdeal
public import proofs.«01_k».proof.Proof.Gen.ReferenceMqIdeal.Run
public import proofs.«01_k».proof.Proof.Gen.ReferenceMqIdeal.Read
public import proofs.«01_k».proof.Proof.Gen.KernelMkv
public import proofs.«01_k».proof.Proof.Gen.KernelMkv.Frame
public import proofs.«01_k».proof.Proof.Gen.KernelMkvIdeal
public import proofs.«01_k».proof.Proof.Gen.KernelMkvIdeal.Frame
public import proofs.«01_k».proof.Proof.Gen.KernelMkvIdeal.Value
public import proofs.«01_k».proof.Proof.Gen.ReferenceMkvIdeal
public import proofs.«01_k».proof.Proof.Gen.ReferenceMkvIdeal.Run
public import proofs.«01_k».proof.Proof.Gen.ReferenceMkvIdeal.Read
public import proofs.«01_k».proof.Proof.Gen.KernelQi
public import proofs.«01_k».proof.Proof.Gen.KernelQi.Frame
public import proofs.«01_k».proof.Proof.Gen.KernelQiIdeal
public import proofs.«01_k».proof.Proof.Gen.KernelQiIdeal.Frame
public import proofs.«01_k».proof.Proof.Gen.KernelQiIdeal.Value
public import proofs.«01_k».proof.Proof.Gen.ReferenceQiIdeal
public import proofs.«01_k».proof.Proof.Gen.ReferenceQiIdeal.Run
public import proofs.«01_k».proof.Proof.Gen.ReferenceQiIdeal.Read
public import proofs.«01_k».proof.Proof.Gen.KernelMo
public import proofs.«01_k».proof.Proof.Gen.KernelMo.Frame
public import proofs.«01_k».proof.Proof.Gen.KernelMoIdeal
public import proofs.«01_k».proof.Proof.Gen.KernelMoIdeal.Frame
public import proofs.«01_k».proof.Proof.Gen.KernelMoIdeal.Value
public import proofs.«01_k».proof.Proof.Gen.ReferenceMoIdeal
public import proofs.«01_k».proof.Proof.Gen.ReferenceMoIdeal.Run
public import proofs.«01_k».proof.Proof.Gen.ReferenceMoIdeal.Read
public import proofs.«01_k».proof.Proof.Gen.KernelLn
public import proofs.«01_k».proof.Proof.Gen.KernelLn.Frame
public import proofs.«01_k».proof.Proof.Gen.KernelLnIdeal
public import proofs.«01_k».proof.Proof.Gen.KernelLnIdeal.Frame
public import proofs.«01_k».proof.Proof.Gen.KernelLnIdeal.Value
public import proofs.«01_k».proof.Proof.Gen.ReferenceLnIdeal
public import proofs.«01_k».proof.Proof.Gen.ReferenceLnIdeal.Run
public import proofs.«01_k».proof.Proof.Gen.ReferenceLnIdeal.Read
public import proofs.«01_k».proof.Proof.Gen.KernelUq
public import proofs.«01_k».proof.Proof.Gen.KernelUq.Frame
public import proofs.«01_k».proof.Proof.Gen.KernelUqIdeal
public import proofs.«01_k».proof.Proof.Gen.KernelUqIdeal.Frame
public import proofs.«01_k».proof.Proof.Gen.KernelUqIdeal.Value
public import proofs.«01_k».proof.Proof.Gen.ReferenceUqIdeal
public import proofs.«01_k».proof.Proof.Gen.ReferenceUqIdeal.Run
public import proofs.«01_k».proof.Proof.Gen.ReferenceUqIdeal.Read
public import proofs.«01_k».proof.Proof.Gen.KernelPb
public import proofs.«01_k».proof.Proof.Gen.KernelPb.Frame
public import proofs.«01_k».proof.Proof.Gen.KernelPbIdeal
public import proofs.«01_k».proof.Proof.Gen.KernelPbIdeal.Frame
public import proofs.«01_k».proof.Proof.Gen.KernelPbIdeal.Value
public import proofs.«01_k».proof.Proof.Gen.ReferencePbIdeal
public import proofs.«01_k».proof.Proof.Gen.ReferencePbIdeal.Run
public import proofs.«01_k».proof.Proof.Gen.ReferencePbIdeal.Read
public import proofs.«01_k».proof.Proof.Gen.KernelRk
public import proofs.«01_k».proof.Proof.Gen.KernelRk.Frame
public import proofs.«01_k».proof.Proof.Gen.KernelRkIdeal
public import proofs.«01_k».proof.Proof.Gen.KernelRkIdeal.Frame
public import proofs.«01_k».proof.Proof.Gen.KernelRkIdeal.Value
public import proofs.«01_k».proof.Proof.Gen.ReferenceRkIdeal
public import proofs.«01_k».proof.Proof.Gen.ReferenceRkIdeal.Run
public import proofs.«01_k».proof.Proof.Gen.ReferenceRkIdeal.Read
public import Idealize.ShloMosaic.Adequacy
public import Idealize.ShloMosaic.Init
public import Idealize.ShloMosaic.Lib.Quiescent
public import proofs.«01_k».proof.Proof.MemFinal
public import proofs.«01_k».proof.Proof.Finite
public import proofs.«01_k».proof.Proof.QkvMatmul
public import proofs.«01_k».proof.Proof.OutMatmul
public import proofs.«01_k».proof.Proof.CdMatmul
public import proofs.«01_k».proof.Proof.QtMatmul
public import proofs.«01_k».proof.Proof.LatMatmul
public import proofs.«01_k».proof.Proof.UkvMatmul
public import proofs.«01_k».proof.Proof.MqMatmul
public import proofs.«01_k».proof.Proof.MkvMatmul
public import proofs.«01_k».proof.Proof.QiMatmul
public import proofs.«01_k».proof.Proof.MoMatmul
public import proofs.«01_k».proof.Proof.LnNorm
public import proofs.«01_k».proof.Proof.UqMatmul
public import proofs.«01_k».proof.Proof.PbMatmul
public import proofs.«01_k».proof.Proof.RkNorm
public import proofs.«01_k».proof.Proof.Gen.KernelKi
public import proofs.«01_k».proof.Proof.Gen.KernelKi.Frame
public import proofs.«01_k».proof.Proof.Gen.KernelKiIdeal
public import proofs.«01_k».proof.Proof.Gen.KernelKiIdeal.Frame
public import proofs.«01_k».proof.Proof.Gen.KernelKiIdeal.Value
public import proofs.«01_k».proof.Proof.Gen.ReferenceKiIdeal
public import proofs.«01_k».proof.Proof.Gen.ReferenceKiIdeal.Run
public import proofs.«01_k».proof.Proof.Gen.ReferenceKiIdeal.Read
public import proofs.«01_k».proof.Proof.Gen.KernelEx
public import proofs.«01_k».proof.Proof.Gen.KernelEx.Frame
public import proofs.«01_k».proof.Proof.Gen.KernelExIdeal
public import proofs.«01_k».proof.Proof.Gen.KernelExIdeal.Frame
public import proofs.«01_k».proof.Proof.Gen.KernelExIdeal.Value
public import proofs.«01_k».proof.Proof.Gen.ReferenceExIdeal
public import proofs.«01_k».proof.Proof.Gen.ReferenceExIdeal.Run
public import proofs.«01_k».proof.Proof.Gen.ReferenceExIdeal.Read
public import proofs.«01_k».proof.Proof.Gen.KernelEy
public import proofs.«01_k».proof.Proof.Gen.KernelEy.Frame
public import proofs.«01_k».proof.Proof.Gen.KernelEyIdeal
public import proofs.«01_k».proof.Proof.Gen.KernelEyIdeal.Frame
public import proofs.«01_k».proof.Proof.Gen.KernelEyIdeal.Value
public import proofs.«01_k».proof.Proof.Gen.ReferenceEyIdeal
public import proofs.«01_k».proof.Proof.Gen.ReferenceEyIdeal.Run
public import proofs.«01_k».proof.Proof.Gen.ReferenceEyIdeal.Read
public import proofs.«01_k».proof.Proof.Gen.KernelKv
public import proofs.«01_k».proof.Proof.Gen.KernelKv.Frame
public import proofs.«01_k».proof.Proof.Gen.KernelKvIdeal
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.KiRope
public import proofs.«01_k».proof.Proof.ExCast
public import proofs.«01_k».proof.Proof.EyCast
public import proofs.«01_k».proof.Proof.KvAssemble

@[expose] public section

noncomputable section

namespace Cert.Proof

open Idealize.ShloMosaic Idealize.SL.Sem

/-- The reference runs and leaves its arguments. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs leave the same result. -/
theorem same_result : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  have hm : ∀ c, Cert.KernelIdeal.Value.Real m c := fun c => ⟨Cert.Finite.fn_fst _ _ (hpre c).1, Cert.Finite.fn_snd _ _ (hpre c).2⟩
  refine ⟨fun c => Cert.KernelIdeal.Value.goal m c, (θ_run Cert.KernelIdeal.defs _ _).mono (fun r h c =>
    ⟨(h c).1.trans (Cert.KernelIdeal.Value.final m c (hm c)), (h c).2⟩) (Cert.KernelIdeal.Value.run_blocks (F := Ideal) m ρ), ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v23_eq (F := Ideal) _ _).trans ?_
  rw [(hagree c).1, (hagree c).2]

theorem claim : Cert.Claim := ⟨Cert.Kernel.Gen.facts, Cert.KernelIdeal.Gen.facts, Cert.ReferenceIdeal.Gen.facts, Cert.KernelQkv.Gen.facts, Cert.KernelQkvIdeal.Gen.facts, Cert.ReferenceQkvIdeal.Gen.facts, Cert.KernelOut.Gen.facts, Cert.KernelOutIdeal.Gen.facts, Cert.ReferenceOutIdeal.Gen.facts, Cert.KernelCd.Gen.facts, Cert.KernelCdIdeal.Gen.facts, Cert.ReferenceCdIdeal.Gen.facts, Cert.KernelQt.Gen.facts, Cert.KernelQtIdeal.Gen.facts, Cert.ReferenceQtIdeal.Gen.facts, Cert.KernelLat.Gen.facts, Cert.KernelLatIdeal.Gen.facts, Cert.ReferenceLatIdeal.Gen.facts, Cert.KernelUkv.Gen.facts, Cert.KernelUkvIdeal.Gen.facts, Cert.ReferenceUkvIdeal.Gen.facts, Cert.KernelMq.Gen.facts, Cert.KernelMqIdeal.Gen.facts, Cert.ReferenceMqIdeal.Gen.facts, Cert.KernelMkv.Gen.facts, Cert.KernelMkvIdeal.Gen.facts, Cert.ReferenceMkvIdeal.Gen.facts, Cert.KernelQi.Gen.facts, Cert.KernelQiIdeal.Gen.facts, Cert.ReferenceQiIdeal.Gen.facts, Cert.KernelMo.Gen.facts, Cert.KernelMoIdeal.Gen.facts, Cert.ReferenceMoIdeal.Gen.facts, Cert.KernelLn.Gen.facts, Cert.KernelLnIdeal.Gen.facts, Cert.ReferenceLnIdeal.Gen.facts, Cert.KernelUq.Gen.facts, Cert.KernelUqIdeal.Gen.facts, Cert.ReferenceUqIdeal.Gen.facts, Cert.KernelPb.Gen.facts, Cert.KernelPbIdeal.Gen.facts, Cert.ReferencePbIdeal.Gen.facts, Cert.KernelRk.Gen.facts, Cert.KernelRkIdeal.Gen.facts, Cert.ReferenceRkIdeal.Gen.facts, Cert.KernelKi.Gen.facts, Cert.KernelKiIdeal.Gen.facts, Cert.ReferenceKiIdeal.Gen.facts, Cert.KernelEx.Gen.facts, Cert.KernelExIdeal.Gen.facts, Cert.ReferenceExIdeal.Gen.facts, Cert.KernelEy.Gen.facts, Cert.KernelEyIdeal.Gen.facts, Cert.ReferenceEyIdeal.Gen.facts, Cert.KernelKv.Gen.facts, Cert.KernelKvIdeal.Gen.facts, Cert.ReferenceKvIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.KernelQkv.Gen.frame m ρ,
  fun m ρ _ => Cert.KernelQkvIdeal.Gen.frame m ρ,
  Cert.QkvMatmul.reference_frame,
  fun m ρ _ => Cert.KernelOut.Gen.frame m ρ,
  fun m ρ _ => Cert.KernelOutIdeal.Gen.frame m ρ,
  Cert.OutMatmul.reference_frame,
  fun m ρ _ => Cert.KernelCd.Gen.frame m ρ,
  fun m ρ _ => Cert.KernelCdIdeal.Gen.frame m ρ,
  Cert.CdMatmul.reference_frame,
  fun m ρ _ => Cert.KernelQt.Gen.frame m ρ,
  fun m ρ _ => Cert.KernelQtIdeal.Gen.frame m ρ,
  Cert.QtMatmul.reference_frame,
  fun m ρ _ => Cert.KernelLat.Gen.frame m ρ,
  fun m ρ _ => Cert.KernelLatIdeal.Gen.frame m ρ,
  Cert.LatMatmul.reference_frame,
  fun m ρ _ => Cert.KernelUkv.Gen.frame m ρ,
  fun m ρ _ => Cert.KernelUkvIdeal.Gen.frame m ρ,
  Cert.UkvMatmul.reference_frame,
  fun m ρ _ => Cert.KernelMq.Gen.frame m ρ,
  fun m ρ _ => Cert.KernelMqIdeal.Gen.frame m ρ,
  Cert.MqMatmul.reference_frame,
  fun m ρ _ => Cert.KernelMkv.Gen.frame m ρ,
  fun m ρ _ => Cert.KernelMkvIdeal.Gen.frame m ρ,
  Cert.MkvMatmul.reference_frame,
  fun m ρ _ => Cert.KernelQi.Gen.frame m ρ,
  fun m ρ _ => Cert.KernelQiIdeal.Gen.frame m ρ,
  Cert.QiMatmul.reference_frame,
  fun m ρ _ => Cert.KernelMo.Gen.frame m ρ,
  fun m ρ _ => Cert.KernelMoIdeal.Gen.frame m ρ,
  Cert.MoMatmul.reference_frame,
  fun m ρ _ => Cert.KernelLn.Gen.frame m ρ,
  fun m ρ _ => Cert.KernelLnIdeal.Gen.frame m ρ,
  Cert.LnNorm.reference_frame,
  fun m ρ _ => Cert.KernelUq.Gen.frame m ρ,
  fun m ρ _ => Cert.KernelUqIdeal.Gen.frame m ρ,
  Cert.UqMatmul.reference_frame,
  fun m ρ _ => Cert.KernelPb.Gen.frame m ρ,
  fun m ρ _ => Cert.KernelPbIdeal.Gen.frame m ρ,
  Cert.PbMatmul.reference_frame,
  fun m ρ _ => Cert.KernelRk.Gen.frame m ρ,
  fun m ρ _ => Cert.KernelRkIdeal.Gen.frame m ρ,
  Cert.RkNorm.reference_frame,
  fun m ρ _ => Cert.KernelKi.Gen.frame m ρ,
  fun m ρ _ => Cert.KernelKiIdeal.Gen.frame m ρ,
  Cert.KiRope.reference_frame,
  fun m ρ _ => Cert.KernelEx.Gen.frame m ρ,
  fun m ρ _ => Cert.KernelExIdeal.Gen.frame m ρ,
  Cert.ExCast.reference_frame,
  fun m ρ _ => Cert.KernelEy.Gen.frame m ρ,
  fun m ρ _ => Cert.KernelEyIdeal.Gen.frame m ρ,
  Cert.EyCast.reference_frame,
  fun m ρ _ => Cert.KernelKv.Gen.frame m ρ,
  fun m ρ _ => Cert.KernelKvIdeal.Gen.frame m ρ,
  Cert.KvAssemble.reference_frame,
  IdealRules.named_const.statement Cert.KernelIdeal.κ "scale" .f32 0x3E0293EE#32 (((11863283 / 134217728) * (Real.log 2)⁻¹ : ℝ) : EReal) rfl,
  same_result,
  trivial,
  Cert.QkvMatmul.same_result,
  trivial,
  Cert.OutMatmul.same_result,
  trivial,
  Cert.CdMatmul.same_result,
  trivial,
  Cert.QtMatmul.same_result,
  trivial,
  Cert.LatMatmul.same_result,
  trivial,
  Cert.UkvMatmul.same_result,
  trivial,
  Cert.MqMatmul.same_result,
  trivial,
  Cert.MkvMatmul.same_result,
  trivial,
  Cert.QiMatmul.same_result,
  trivial,
  Cert.MoMatmul.same_result,
  trivial,
  Cert.LnNorm.same_result,
  trivial,
  Cert.UqMatmul.same_result,
  trivial,
  Cert.PbMatmul.same_result,
  trivial,
  Cert.RkNorm.same_result,
  trivial,
  Cert.KiRope.same_result,
  trivial,
  Cert.ExCast.same_result,
  trivial,
  Cert.EyCast.same_result,
  trivial,
  Cert.KvAssemble.same_result⟩

end Cert.Proof

end
